-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_SsdS (m : (ℓ : Loc Cert.SsdS.nD Cert.SsdS.τ Cert.SsdS.sig) → Buf (Elt Bits) ℓ) : Prop :=
  True

def Pre_SsdSIdeal (m : (ℓ : Loc Cert.SsdSIdeal.nD Cert.SsdSIdeal.τ Cert.SsdSIdeal.sig) → Buf (Elt Ideal) ℓ) : Prop :=
  True

def Pre_SsdSRefIdeal (m : (ℓ : Loc Cert.SsdSRefIdeal.nD Cert.SsdSRefIdeal.τ Cert.SsdSRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3)
      ∧ r.2.mem ((c.tc : Thread Cert.MlpF.nD Cert.MlpF.τ).loc Cert.MlpF.main_arg4) = m ((c.tc : Thread Cert.MlpF.nD Cert.MlpF.τ).loc Cert.MlpF.main_arg4))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
      ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3)
      ∧ r.2.mem ((c.tc : Thread Cert.MlpFRefIdeal.nD Cert.MlpFRefIdeal.τ).loc Cert.MlpFRefIdeal.main_arg4) = m ((c.tc : Thread Cert.MlpFRefIdeal.nD Cert.MlpFRefIdeal.τ).loc Cert.MlpFRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4))
      ∧ r.2.sem = fun _ => 0)

def quiescent_SsdS [hSsdS : Cert.SsdS.Facts] : Prop :=
  ∀ (m : (ℓ : Loc Cert.SsdS.nD Cert.SsdS.τ Cert.SsdS.sig) → Buf (Elt Bits) ℓ) (g : Dev Cert.SsdS.nD → PrngReg), Pre_SsdS m →
    θ_run (Cert.SsdS.defs (F := Bits)) (onTc (τ := Cert.SsdS.τ) (Cert.SsdS.main (F := Bits))) ⟨m, fun _ => 0, g⟩ (fun r => (∀ c : Dev Cert.SsdS.nD,
      r.2.mem ((c.tc : Thread Cert.SsdS.nD Cert.SsdS.τ).loc Cert.SsdS.main_arg0) = m ((c.tc : Thread Cert.SsdS.nD Cert.SsdS.τ).loc Cert.SsdS.main_arg0)
      ∧ r.2.mem ((c.tc : Thread Cert.SsdS.nD Cert.SsdS.τ).loc Cert.SsdS.main_arg1) = m ((c.tc : Thread Cert.SsdS.nD Cert.SsdS.τ).loc Cert.SsdS.main_arg1)
      ∧ r.2.mem ((c.tc : Thread Cert.SsdS.nD Cert.SsdS.τ).loc Cert.SsdS.main_arg2) = m ((c.tc : Thread Cert.SsdS.nD Cert.SsdS.τ).loc Cert.SsdS.main_arg2)
      ∧ r.2.mem ((c.tc : Thread Cert.SsdS.nD Cert.SsdS.τ).loc Cert.SsdS.main_arg3) = m ((c.tc : Thread Cert.SsdS.nD Cert.SsdS.τ).loc Cert.SsdS.main_arg3)
      ∧ r.2.mem ((c.tc : Thread Cert.SsdS.nD Cert.SsdS.τ).loc Cert.SsdS.main_arg4) = m ((c.tc : Thread Cert.SsdS.nD Cert.SsdS.τ).loc Cert.SsdS.main_arg4)
      ∧ r.2.mem ((c.tc : Thread Cert.SsdS.nD Cert.SsdS.τ).loc Cert.SsdS.main_arg5) = m ((c.tc : Thread Cert.SsdS.nD Cert.SsdS.τ).loc Cert.SsdS.main_arg5)
      ∧ r.2.mem ((c.tc : Thread Cert.SsdS.nD Cert.SsdS.τ).loc Cert.SsdS.main_arg6) = m ((c.tc : Thread Cert.SsdS.nD Cert.SsdS.τ).loc Cert.SsdS.main_arg6)
      ∧ r.2.mem ((c.tc : Thread Cert.SsdS.nD Cert.SsdS.τ).loc Cert.SsdS.main_arg7) = m ((c.tc : Thread Cert.SsdS.nD Cert.SsdS.τ).loc Cert.SsdS.main_arg7)
      ∧ r.2.mem ((c.tc : Thread Cert.SsdS.nD Cert.SsdS.τ).loc Cert.SsdS.main_arg8) = m ((c.tc : Thread Cert.SsdS.nD Cert.SsdS.τ).loc Cert.SsdS.main_arg8)
      ∧ r.2.mem ((c.tc : Thread Cert.SsdS.nD Cert.SsdS.τ).loc Cert.SsdS.main_arg9) = m ((c.tc : Thread Cert.SsdS.nD Cert.SsdS.τ).loc Cert.SsdS.main_arg9)
      ∧ r.2.mem ((c.tc : Thread Cert.SsdS.nD Cert.SsdS.τ).loc Cert.SsdS.main_arg10) = m ((c.tc : Thread Cert.SsdS.nD Cert.SsdS.τ).loc Cert.SsdS.main_arg10))
      ∧ r.2.sem = fun _ => 0)

def quiescent_SsdSIdeal [hSsdSIdeal : Cert.SsdSIdeal.Facts] : Prop :=
  ∀ (m : (ℓ : Loc Cert.SsdSIdeal.nD Cert.SsdSIdeal.τ Cert.SsdSIdeal.sig) → Buf (Elt Ideal) ℓ) (g : Dev Cert.SsdSIdeal.nD → PrngReg), Pre_SsdSIdeal m →
    θ_run (Cert.SsdSIdeal.defs (F := Ideal)) (onTc (τ := Cert.SsdSIdeal.τ) (Cert.SsdSIdeal.main (F := Ideal))) ⟨m, fun _ => 0, g⟩ (fun r => (∀ c : Dev Cert.SsdSIdeal.nD,
      r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
      ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
      ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
      ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
      ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
      ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
      ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
      ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
      ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8)
      ∧ r.2.mem ((c.tc : Thread Cert.SsdSIdeal.nD Cert.SsdSIdeal.τ).loc Cert.SsdSIdeal.main_arg9) = m ((c.tc : Thread Cert.SsdSIdeal.nD Cert.SsdSIdeal.τ).loc Cert.SsdSIdeal.main_arg9)
      ∧ r.2.mem ((c.tc : Thread Cert.SsdSIdeal.nD Cert.SsdSIdeal.τ).loc Cert.SsdSIdeal.main_arg10) = m ((c.tc : Thread Cert.SsdSIdeal.nD Cert.SsdSIdeal.τ).loc Cert.SsdSIdeal.main_arg10))
      ∧ r.2.sem = fun _ => 0)

def quiescent_SsdSRefIdeal [hSsdSRefIdeal : Cert.SsdSRefIdeal.Facts] : Prop :=
  ∀ (m : (ℓ : Loc Cert.SsdSRefIdeal.nD Cert.SsdSRefIdeal.τ Cert.SsdSRefIdeal.sig) → Buf (Elt Ideal) ℓ) (g : Dev Cert.SsdSRefIdeal.nD → PrngReg), Pre_SsdSRefIdeal m →
    θ_run (Cert.SsdSRefIdeal.defs (F := Ideal)) (onTc (τ := Cert.SsdSRefIdeal.τ) (Cert.SsdSRefIdeal.main (F := Ideal))) ⟨m, fun _ => 0, g⟩ (fun r => (∀ c : Dev Cert.SsdSRefIdeal.nD,
      r.2.mem ((c.tc : Thread Cert.SsdSRefIdeal.nD Cert.SsdSRefIdeal.τ).loc Cert.SsdSRefIdeal.main_arg0) = m ((c.tc : Thread Cert.SsdSRefIdeal.nD Cert.SsdSRefIdeal.τ).loc Cert.SsdSRefIdeal.main_arg0)
      ∧ r.2.mem ((c.tc : Thread Cert.SsdSRefIdeal.nD Cert.SsdSRefIdeal.τ).loc Cert.SsdSRefIdeal.main_arg1) = m ((c.tc : Thread Cert.SsdSRefIdeal.nD Cert.SsdSRefIdeal.τ).loc Cert.SsdSRefIdeal.main_arg1)
      ∧ r.2.mem ((c.tc : Thread Cert.SsdSRefIdeal.nD Cert.SsdSRefIdeal.τ).loc Cert.SsdSRefIdeal.main_arg2) = m ((c.tc : Thread Cert.SsdSRefIdeal.nD Cert.SsdSRefIdeal.τ).loc Cert.SsdSRefIdeal.main_arg2)
      ∧ r.2.mem ((c.tc : Thread Cert.SsdSRefIdeal.nD Cert.SsdSRefIdeal.τ).loc Cert.SsdSRefIdeal.main_arg3) = m ((c.tc : Thread Cert.SsdSRefIdeal.nD Cert.SsdSRefIdeal.τ).loc Cert.SsdSRefIdeal.main_arg3)
      ∧ r.2.mem ((c.tc : Thread Cert.SsdSRefIdeal.nD Cert.SsdSRefIdeal.τ).loc Cert.SsdSRefIdeal.main_arg4) = m ((c.tc : Thread Cert.SsdSRefIdeal.nD Cert.SsdSRefIdeal.τ).loc Cert.SsdSRefIdeal.main_arg4)
      ∧ r.2.mem ((c.tc : Thread Cert.SsdSRefIdeal.nD Cert.SsdSRefIdeal.τ).loc Cert.SsdSRefIdeal.main_arg5) = m ((c.tc : Thread Cert.SsdSRefIdeal.nD Cert.SsdSRefIdeal.τ).loc Cert.SsdSRefIdeal.main_arg5)
      ∧ r.2.mem ((c.tc : Thread Cert.SsdSRefIdeal.nD Cert.SsdSRefIdeal.τ).loc Cert.SsdSRefIdeal.main_arg6) = m ((c.tc : Thread Cert.SsdSRefIdeal.nD Cert.SsdSRefIdeal.τ).loc Cert.SsdSRefIdeal.main_arg6)
      ∧ r.2.mem ((c.tc : Thread Cert.SsdSRefIdeal.nD Cert.SsdSRefIdeal.τ).loc Cert.SsdSRefIdeal.main_arg7) = m ((c.tc : Thread Cert.SsdSRefIdeal.nD Cert.SsdSRefIdeal.τ).loc Cert.SsdSRefIdeal.main_arg7)
      ∧ r.2.mem ((c.tc : Thread Cert.SsdSRefIdeal.nD Cert.SsdSRefIdeal.τ).loc Cert.SsdSRefIdeal.main_arg8) = m ((c.tc : Thread Cert.SsdSRefIdeal.nD Cert.SsdSRefIdeal.τ).loc Cert.SsdSRefIdeal.main_arg8)
      ∧ r.2.mem ((c.tc : Thread Cert.SsdSRefIdeal.nD Cert.SsdSRefIdeal.τ).loc Cert.SsdSRefIdeal.main_arg9) = m ((c.tc : Thread Cert.SsdSRefIdeal.nD Cert.SsdSRefIdeal.τ).loc Cert.SsdSRefIdeal.main_arg9)
      ∧ r.2.mem ((c.tc : Thread Cert.SsdSRefIdeal.nD Cert.SsdSRefIdeal.τ).loc Cert.SsdSRefIdeal.main_arg10) = m ((c.tc : Thread Cert.SsdSRefIdeal.nD Cert.SsdSRefIdeal.τ).loc Cert.SsdSRefIdeal.main_arg10))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)) (v3 : (c : Dev Cert.ProjIdeal.nD) → Buf (Elt Ideal) ((c.tc : Thread Cert.ProjIdeal.nD Cert.ProjIdeal.τ).loc Cert.ProjIdeal.main_v15_3)) (v4 : (c : Dev Cert.ProjIdeal.nD) → Buf (Elt Ideal) ((c.tc : Thread Cert.ProjIdeal.nD Cert.ProjIdeal.τ).loc Cert.ProjIdeal.main_v15_4)) (v5 : (c : Dev Cert.ProjIdeal.nD) → Buf (Elt Ideal) ((c.tc : Thread Cert.ProjIdeal.nD Cert.ProjIdeal.τ).loc Cert.ProjIdeal.main_v15_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_v15_3) = v3 c
          ∧ r.2.mem ((c.tc : Thread Cert.ProjIdeal.nD Cert.ProjIdeal.τ).loc Cert.ProjIdeal.main_v15_4) = v4 c
          ∧ r.2.mem ((c.tc : Thread Cert.ProjIdeal.nD Cert.ProjIdeal.τ).loc Cert.ProjIdeal.main_v15_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v21) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v24) = v3 c
          ∧ r.2.mem ((c.tc : Thread Cert.ProjRefIdeal.nD Cert.ProjRefIdeal.τ).loc Cert.ProjRefIdeal.main_v25) = v4 c
          ∧ r.2.mem ((c.tc : Thread Cert.ProjRefIdeal.nD Cert.ProjRefIdeal.τ).loc Cert.ProjRefIdeal.main_v26) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v6_0)) (v1 : (c : Dev Cert.MemKvIdeal.nD) → Buf (Elt Ideal) ((c.tc : Thread Cert.MemKvIdeal.nD Cert.MemKvIdeal.τ).loc Cert.MemKvIdeal.main_v6_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6_0) = v0 c
          ∧ r.2.mem ((c.tc : Thread Cert.MemKvIdeal.nD Cert.MemKvIdeal.τ).loc Cert.MemKvIdeal.main_v6_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v17) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MlpF_MlpFIdeal : Prop :=
  True

def algebraic_MlpFIdeal_MlpFRefIdeal [hMlpFIdeal : Cert.MlpFIdeal.Facts] [hMlpFRefIdeal : Cert.MlpFRefIdeal.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)
      ∧ m' ((c.tc : Thread Cert.MlpFRefIdeal.nD Cert.MlpFRefIdeal.τ).loc Cert.MlpFRefIdeal.main_arg4) = m ((c.tc : Thread Cert.MlpFIdeal.nD Cert.MlpFIdeal.τ).loc Cert.MlpFIdeal.main_arg4)) →
    ∃ (v0 : (c : Dev Cert.MlpFIdeal.nD) → Buf (Elt Ideal) ((c.tc : Thread Cert.MlpFIdeal.nD Cert.MlpFIdeal.τ).loc Cert.MlpFIdeal.main_v4)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v4) = v0 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3)
          ∧ r.2.mem ((c.tc : Thread Cert.MlpFIdeal.nD Cert.MlpFIdeal.τ).loc Cert.MlpFIdeal.main_arg4) = m ((c.tc : Thread Cert.MlpFIdeal.nD Cert.MlpFIdeal.τ).loc Cert.MlpFIdeal.main_arg4))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v30) = v0 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3)
          ∧ r.2.mem ((c.tc : Thread Cert.MlpFRefIdeal.nD Cert.MlpFRefIdeal.τ).loc Cert.MlpFRefIdeal.main_arg4) = m' ((c.tc : Thread Cert.MlpFRefIdeal.nD Cert.MlpFRefIdeal.τ).loc Cert.MlpFRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v21_0)) (v1 : (c : Dev Cert.SsdIdeal.nD) → Buf (Elt Ideal) ((c.tc : Thread Cert.SsdIdeal.nD Cert.SsdIdeal.τ).loc Cert.SsdIdeal.main_v21_1)) (v2 : (c : Dev Cert.SsdIdeal.nD) → Buf (Elt Ideal) ((c.tc : Thread Cert.SsdIdeal.nD Cert.SsdIdeal.τ).loc Cert.SsdIdeal.main_v21_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v21_0) = v0 c
          ∧ r.2.mem ((c.tc : Thread Cert.SsdIdeal.nD Cert.SsdIdeal.τ).loc Cert.SsdIdeal.main_v21_1) = v1 c
          ∧ r.2.mem ((c.tc : Thread Cert.SsdIdeal.nD Cert.SsdIdeal.τ).loc Cert.SsdIdeal.main_v21_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v268) = v0 c
          ∧ r.2.mem ((c.tc : Thread Cert.SsdRefIdeal.nD Cert.SsdRefIdeal.τ).loc Cert.SsdRefIdeal.main_v38) = v1 c
          ∧ r.2.mem ((c.tc : Thread Cert.SsdRefIdeal.nD Cert.SsdRefIdeal.τ).loc Cert.SsdRefIdeal.main_v269) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v15_0)) (v1 : (c : Dev Cert.ProjSIdeal.nD) → Buf (Elt Ideal) ((c.tc : Thread Cert.ProjSIdeal.nD Cert.ProjSIdeal.τ).loc Cert.ProjSIdeal.main_v15_1)) (v2 : (c : Dev Cert.ProjSIdeal.nD) → Buf (Elt Ideal) ((c.tc : Thread Cert.ProjSIdeal.nD Cert.ProjSIdeal.τ).loc Cert.ProjSIdeal.main_v15_2)) (v3 : (c : Dev Cert.ProjSIdeal.nD) → Buf (Elt Ideal) ((c.tc : Thread Cert.ProjSIdeal.nD Cert.ProjSIdeal.τ).loc Cert.ProjSIdeal.main_v15_3)) (v4 : (c : Dev Cert.ProjSIdeal.nD) → Buf (Elt Ideal) ((c.tc : Thread Cert.ProjSIdeal.nD Cert.ProjSIdeal.τ).loc Cert.ProjSIdeal.main_v15_4)) (v5 : (c : Dev Cert.ProjSIdeal.nD) → Buf (Elt Ideal) ((c.tc : Thread Cert.ProjSIdeal.nD Cert.ProjSIdeal.τ).loc Cert.ProjSIdeal.main_v15_5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v15_0) = v0 c
          ∧ r.2.mem ((c.tc : Thread Cert.ProjSIdeal.nD Cert.ProjSIdeal.τ).loc Cert.ProjSIdeal.main_v15_1) = v1 c
          ∧ r.2.mem ((c.tc : Thread Cert.ProjSIdeal.nD Cert.ProjSIdeal.τ).loc Cert.ProjSIdeal.main_v15_2) = v2 c
          ∧ r.2.mem ((c.tc : Thread Cert.ProjSIdeal.nD Cert.ProjSIdeal.τ).loc Cert.ProjSIdeal.main_v15_3) = v3 c
          ∧ r.2.mem ((c.tc : Thread Cert.ProjSIdeal.nD Cert.ProjSIdeal.τ).loc Cert.ProjSIdeal.main_v15_4) = v4 c
          ∧ r.2.mem ((c.tc : Thread Cert.ProjSIdeal.nD Cert.ProjSIdeal.τ).loc Cert.ProjSIdeal.main_v15_5) = v5 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v21) = v0 c
          ∧ r.2.mem ((c.tc : Thread Cert.ProjSRefIdeal.nD Cert.ProjSRefIdeal.τ).loc Cert.ProjSRefIdeal.main_v22) = v1 c
          ∧ r.2.mem ((c.tc : Thread Cert.ProjSRefIdeal.nD Cert.ProjSRefIdeal.τ).loc Cert.ProjSRefIdeal.main_v23) = v2 c
          ∧ r.2.mem ((c.tc : Thread Cert.ProjSRefIdeal.nD Cert.ProjSRefIdeal.τ).loc Cert.ProjSRefIdeal.main_v24) = v3 c
          ∧ r.2.mem ((c.tc : Thread Cert.ProjSRefIdeal.nD Cert.ProjSRefIdeal.τ).loc Cert.ProjSRefIdeal.main_v25) = v4 c
          ∧ r.2.mem ((c.tc : Thread Cert.ProjSRefIdeal.nD Cert.ProjSRefIdeal.τ).loc Cert.ProjSRefIdeal.main_v26) = v5 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)) →
    ∃ (v0 : (c : Dev Cert.MlpSIdeal.nD) → Buf (Elt Ideal) ((c.tc : Thread Cert.MlpSIdeal.nD Cert.MlpSIdeal.τ).loc Cert.MlpSIdeal.main_v4)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v4) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v30) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4))

def preserves_SsdS_SsdSIdeal : Prop :=
  True

def algebraic_SsdSIdeal_SsdSRefIdeal [hSsdSIdeal : Cert.SsdSIdeal.Facts] [hSsdSRefIdeal : Cert.SsdSRefIdeal.Facts] : Prop :=
  ∀ (m : (ℓ : Loc Cert.SsdSIdeal.nD Cert.SsdSIdeal.τ Cert.SsdSIdeal.sig) → Buf (Elt Ideal) ℓ) (g : Dev Cert.SsdSIdeal.nD → PrngReg)
    (m' : (ℓ : Loc Cert.SsdSRefIdeal.nD Cert.SsdSRefIdeal.τ Cert.SsdSRefIdeal.sig) → Buf (Elt Ideal) ℓ) (g' : Dev Cert.SsdSRefIdeal.nD → PrngReg), Pre_SsdSIdeal m →
    (∀ c : Dev Cert.SsdSIdeal.nD,
      m' ((c.tc : Thread Cert.SsdSRefIdeal.nD Cert.SsdSRefIdeal.τ).loc Cert.SsdSRefIdeal.main_arg0) = m ((c.tc : Thread Cert.SsdSIdeal.nD Cert.SsdSIdeal.τ).loc Cert.SsdSIdeal.main_arg0)
      ∧ m' ((c.tc : Thread Cert.SsdSRefIdeal.nD Cert.SsdSRefIdeal.τ).loc Cert.SsdSRefIdeal.main_arg1) = m ((c.tc : Thread Cert.SsdSIdeal.nD Cert.SsdSIdeal.τ).loc Cert.SsdSIdeal.main_arg1)
      ∧ m' ((c.tc : Thread Cert.SsdSRefIdeal.nD Cert.SsdSRefIdeal.τ).loc Cert.SsdSRefIdeal.main_arg2) = m ((c.tc : Thread Cert.SsdSIdeal.nD Cert.SsdSIdeal.τ).loc Cert.SsdSIdeal.main_arg2)
      ∧ m' ((c.tc : Thread Cert.SsdSRefIdeal.nD Cert.SsdSRefIdeal.τ).loc Cert.SsdSRefIdeal.main_arg3) = m ((c.tc : Thread Cert.SsdSIdeal.nD Cert.SsdSIdeal.τ).loc Cert.SsdSIdeal.main_arg3)
      ∧ m' ((c.tc : Thread Cert.SsdSRefIdeal.nD Cert.SsdSRefIdeal.τ).loc Cert.SsdSRefIdeal.main_arg4) = m ((c.tc : Thread Cert.SsdSIdeal.nD Cert.SsdSIdeal.τ).loc Cert.SsdSIdeal.main_arg4)
      ∧ m' ((c.tc : Thread Cert.SsdSRefIdeal.nD Cert.SsdSRefIdeal.τ).loc Cert.SsdSRefIdeal.main_arg5) = m ((c.tc : Thread Cert.SsdSIdeal.nD Cert.SsdSIdeal.τ).loc Cert.SsdSIdeal.main_arg5)
      ∧ m' ((c.tc : Thread Cert.SsdSRefIdeal.nD Cert.SsdSRefIdeal.τ).loc Cert.SsdSRefIdeal.main_arg6) = m ((c.tc : Thread Cert.SsdSIdeal.nD Cert.SsdSIdeal.τ).loc Cert.SsdSIdeal.main_arg6)
      ∧ m' ((c.tc : Thread Cert.SsdSRefIdeal.nD Cert.SsdSRefIdeal.τ).loc Cert.SsdSRefIdeal.main_arg7) = m ((c.tc : Thread Cert.SsdSIdeal.nD Cert.SsdSIdeal.τ).loc Cert.SsdSIdeal.main_arg7)
      ∧ m' ((c.tc : Thread Cert.SsdSRefIdeal.nD Cert.SsdSRefIdeal.τ).loc Cert.SsdSRefIdeal.main_arg8) = m ((c.tc : Thread Cert.SsdSIdeal.nD Cert.SsdSIdeal.τ).loc Cert.SsdSIdeal.main_arg8)
      ∧ m' ((c.tc : Thread Cert.SsdSRefIdeal.nD Cert.SsdSRefIdeal.τ).loc Cert.SsdSRefIdeal.main_arg9) = m ((c.tc : Thread Cert.SsdSIdeal.nD Cert.SsdSIdeal.τ).loc Cert.SsdSIdeal.main_arg9)
      ∧ m' ((c.tc : Thread Cert.SsdSRefIdeal.nD Cert.SsdSRefIdeal.τ).loc Cert.SsdSRefIdeal.main_arg10) = m ((c.tc : Thread Cert.SsdSIdeal.nD Cert.SsdSIdeal.τ).loc Cert.SsdSIdeal.main_arg10)) →
    ∃ (v0 : (c : Dev Cert.SsdSIdeal.nD) → Buf (Elt Ideal) ((c.tc : Thread Cert.SsdSIdeal.nD Cert.SsdSIdeal.τ).loc Cert.SsdSIdeal.main_v22_1)) (v1 : (c : Dev Cert.SsdSIdeal.nD) → Buf (Elt Ideal) ((c.tc : Thread Cert.SsdSIdeal.nD Cert.SsdSIdeal.τ).loc Cert.SsdSIdeal.main_v22_2)),
      θ_run (Cert.SsdSIdeal.defs (F := Ideal)) (onTc (τ := Cert.SsdSIdeal.τ) (Cert.SsdSIdeal.main (F := Ideal))) ⟨m, fun _ => 0, g⟩ (fun r => ∀ c : Dev Cert.SsdSIdeal.nD,
          r.2.mem ((c.tc : Thread Cert.SsdSIdeal.nD Cert.SsdSIdeal.τ).loc Cert.SsdSIdeal.main_v22_1) = v0 c
          ∧ r.2.mem ((c.tc : Thread Cert.SsdSIdeal.nD Cert.SsdSIdeal.τ).loc Cert.SsdSIdeal.main_v22_2) = v1 c
          ∧ r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
          ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
          ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
          ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
          ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
          ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
          ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
          ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
          ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8)
          ∧ r.2.mem ((c.tc : Thread Cert.SsdSIdeal.nD Cert.SsdSIdeal.τ).loc Cert.SsdSIdeal.main_arg9) = m ((c.tc : Thread Cert.SsdSIdeal.nD Cert.SsdSIdeal.τ).loc Cert.SsdSIdeal.main_arg9)
          ∧ r.2.mem ((c.tc : Thread Cert.SsdSIdeal.nD Cert.SsdSIdeal.τ).loc Cert.SsdSIdeal.main_arg10) = m ((c.tc : Thread Cert.SsdSIdeal.nD Cert.SsdSIdeal.τ).loc Cert.SsdSIdeal.main_arg10))
      ∧ θ_run (Cert.SsdSRefIdeal.defs (F := Ideal)) (onTc (τ := Cert.SsdSRefIdeal.τ) (Cert.SsdSRefIdeal.main (F := Ideal))) ⟨m', fun _ => 0, g'⟩ (fun r => ∀ c : Dev Cert.SsdSRefIdeal.nD,
          r.2.mem ((c.tc : Thread Cert.SsdSRefIdeal.nD Cert.SsdSRefIdeal.τ).loc Cert.SsdSRefIdeal.main_v36) = v0 c
          ∧ r.2.mem ((c.tc : Thread Cert.SsdSRefIdeal.nD Cert.SsdSRefIdeal.τ).loc Cert.SsdSRefIdeal.main_v129) = v1 c
          ∧ r.2.mem ((c.tc : Thread Cert.SsdSRefIdeal.nD Cert.SsdSRefIdeal.τ).loc Cert.SsdSRefIdeal.main_arg0) = m' ((c.tc : Thread Cert.SsdSRefIdeal.nD Cert.SsdSRefIdeal.τ).loc Cert.SsdSRefIdeal.main_arg0)
          ∧ r.2.mem ((c.tc : Thread Cert.SsdSRefIdeal.nD Cert.SsdSRefIdeal.τ).loc Cert.SsdSRefIdeal.main_arg1) = m' ((c.tc : Thread Cert.SsdSRefIdeal.nD Cert.SsdSRefIdeal.τ).loc Cert.SsdSRefIdeal.main_arg1)
          ∧ r.2.mem ((c.tc : Thread Cert.SsdSRefIdeal.nD Cert.SsdSRefIdeal.τ).loc Cert.SsdSRefIdeal.main_arg2) = m' ((c.tc : Thread Cert.SsdSRefIdeal.nD Cert.SsdSRefIdeal.τ).loc Cert.SsdSRefIdeal.main_arg2)
          ∧ r.2.mem ((c.tc : Thread Cert.SsdSRefIdeal.nD Cert.SsdSRefIdeal.τ).loc Cert.SsdSRefIdeal.main_arg3) = m' ((c.tc : Thread Cert.SsdSRefIdeal.nD Cert.SsdSRefIdeal.τ).loc Cert.SsdSRefIdeal.main_arg3)
          ∧ r.2.mem ((c.tc : Thread Cert.SsdSRefIdeal.nD Cert.SsdSRefIdeal.τ).loc Cert.SsdSRefIdeal.main_arg4) = m' ((c.tc : Thread Cert.SsdSRefIdeal.nD Cert.SsdSRefIdeal.τ).loc Cert.SsdSRefIdeal.main_arg4)
          ∧ r.2.mem ((c.tc : Thread Cert.SsdSRefIdeal.nD Cert.SsdSRefIdeal.τ).loc Cert.SsdSRefIdeal.main_arg5) = m' ((c.tc : Thread Cert.SsdSRefIdeal.nD Cert.SsdSRefIdeal.τ).loc Cert.SsdSRefIdeal.main_arg5)
          ∧ r.2.mem ((c.tc : Thread Cert.SsdSRefIdeal.nD Cert.SsdSRefIdeal.τ).loc Cert.SsdSRefIdeal.main_arg6) = m' ((c.tc : Thread Cert.SsdSRefIdeal.nD Cert.SsdSRefIdeal.τ).loc Cert.SsdSRefIdeal.main_arg6)
          ∧ r.2.mem ((c.tc : Thread Cert.SsdSRefIdeal.nD Cert.SsdSRefIdeal.τ).loc Cert.SsdSRefIdeal.main_arg7) = m' ((c.tc : Thread Cert.SsdSRefIdeal.nD Cert.SsdSRefIdeal.τ).loc Cert.SsdSRefIdeal.main_arg7)
          ∧ r.2.mem ((c.tc : Thread Cert.SsdSRefIdeal.nD Cert.SsdSRefIdeal.τ).loc Cert.SsdSRefIdeal.main_arg8) = m' ((c.tc : Thread Cert.SsdSRefIdeal.nD Cert.SsdSRefIdeal.τ).loc Cert.SsdSRefIdeal.main_arg8)
          ∧ r.2.mem ((c.tc : Thread Cert.SsdSRefIdeal.nD Cert.SsdSRefIdeal.τ).loc Cert.SsdSRefIdeal.main_arg9) = m' ((c.tc : Thread Cert.SsdSRefIdeal.nD Cert.SsdSRefIdeal.τ).loc Cert.SsdSRefIdeal.main_arg9)
          ∧ r.2.mem ((c.tc : Thread Cert.SsdSRefIdeal.nD Cert.SsdSRefIdeal.τ).loc Cert.SsdSRefIdeal.main_arg10) = m' ((c.tc : Thread Cert.SsdSRefIdeal.nD Cert.SsdSRefIdeal.τ).loc Cert.SsdSRefIdeal.main_arg10))

def Claim : Prop :=
  ∃ (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hMlpF : Cert.MlpF.Facts) (hMlpFIdeal : Cert.MlpFIdeal.Facts) (hMlpFRefIdeal : Cert.MlpFRefIdeal.Facts) (hMix : Cert.Mix.Facts) (hMixIdeal : Cert.MixIdeal.Facts) (hMixRefIdeal : Cert.MixRefIdeal.Facts) (hSsd : Cert.Ssd.Facts) (hSsdIdeal : Cert.SsdIdeal.Facts) (hSsdRefIdeal : Cert.SsdRefIdeal.Facts) (hProjS : Cert.ProjS.Facts) (hProjSIdeal : Cert.ProjSIdeal.Facts) (hProjSRefIdeal : Cert.ProjSRefIdeal.Facts) (hMlpS : Cert.MlpS.Facts) (hMlpSIdeal : Cert.MlpSIdeal.Facts) (hMlpSRefIdeal : Cert.MlpSRefIdeal.Facts) (hSsdS : Cert.SsdS.Facts) (hSsdSIdeal : Cert.SsdSIdeal.Facts) (hSsdSRefIdeal : Cert.SsdSRefIdeal.Facts),
    quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MlpF (hMlpF := hMlpF)
    ∧ quiescent_MlpFIdeal (hMlpFIdeal := hMlpFIdeal)
    ∧ quiescent_MlpFRefIdeal (hMlpFRefIdeal := hMlpFRefIdeal)
    ∧ quiescent_Mix (hMix := hMix)
    ∧ quiescent_MixIdeal (hMixIdeal := hMixIdeal)
    ∧ quiescent_MixRefIdeal (hMixRefIdeal := hMixRefIdeal)
    ∧ quiescent_Ssd (hSsd := hSsd)
    ∧ quiescent_SsdIdeal (hSsdIdeal := hSsdIdeal)
    ∧ quiescent_SsdRefIdeal (hSsdRefIdeal := hSsdRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_SsdS (hSsdS := hSsdS)
    ∧ quiescent_SsdSIdeal (hSsdSIdeal := hSsdSIdeal)
    ∧ quiescent_SsdSRefIdeal (hSsdSRefIdeal := hSsdSRefIdeal)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
    ∧ preserves_MlpF_MlpFIdeal
    ∧ algebraic_MlpFIdeal_MlpFRefIdeal (hMlpFIdeal := hMlpFIdeal) (hMlpFRefIdeal := hMlpFRefIdeal)
    ∧ preserves_Mix_MixIdeal
    ∧ algebraic_MixIdeal_MixRefIdeal (hMixIdeal := hMixIdeal) (hMixRefIdeal := hMixRefIdeal)
    ∧ preserves_Ssd_SsdIdeal
    ∧ algebraic_SsdIdeal_SsdRefIdeal (hSsdIdeal := hSsdIdeal) (hSsdRefIdeal := hSsdRefIdeal)
    ∧ preserves_ProjS_ProjSIdeal
    ∧ algebraic_ProjSIdeal_ProjSRefIdeal (hProjSIdeal := hProjSIdeal) (hProjSRefIdeal := hProjSRefIdeal)
    ∧ preserves_MlpS_MlpSIdeal
    ∧ algebraic_MlpSIdeal_MlpSRefIdeal (hMlpSIdeal := hMlpSIdeal) (hMlpSRefIdeal := hMlpSRefIdeal)
    ∧ preserves_SsdS_SsdSIdeal
    ∧ algebraic_SsdSIdeal_SsdSRefIdeal (hSsdSIdeal := hSsdSIdeal) (hSsdSRefIdeal := hSsdSRefIdeal)
-- ==== Proj.lean ====
abbrev S8x2048x1024 : Shape := ⟨3, ![8, 2048, 1024]⟩
abbrev S1024 : Shape := ⟨1, ![1024]⟩
abbrev S1024x4112 : Shape := ⟨2, ![1024, 4112]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x1536 : Shape := ⟨2, ![16384, 1536]⟩
abbrev S16384x128 : Shape := ⟨2, ![16384, 128]⟩
abbrev S16384x512 : Shape := ⟨2, ![16384, 512]⟩
abbrev S512x1024 : Shape := ⟨2, ![512, 1024]⟩
abbrev S512x1536 : Shape := ⟨2, ![512, 1536]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4112, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x128, .f32⟩
  | .hbm, ⟨11, _⟩ => ⟨S16384x1024, .f32⟩
  | .hbm, ⟨12, _⟩ => ⟨S1024x1024, .bf16⟩
  | .hbm, ⟨13, _⟩ => ⟨S1024x1536, .bf16⟩
  | .hbm, ⟨14, _⟩ => ⟨S1024x128, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1x1024, .f32⟩
  | .hbm, ⟨19, _⟩ => ⟨S16384x1024, .f32⟩
  | .hbm, ⟨20, _⟩ => ⟨S16384x1536, .f32⟩
  | .hbm, ⟨21, _⟩ => ⟨S16384x128, .f32⟩
  | .hbm, ⟨22, _⟩ => ⟨S16384x512, .f32⟩
  | .hbm, ⟨23, _⟩ => ⟨S16384x512, .f32⟩
  | .hbm, ⟨24, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x1024, .f32⟩
  | .local _ .vmem, ⟨10, _⟩ => ⟨S512x1024, .f32⟩
  | .local _ .vmem, ⟨11, _⟩ => ⟨S512x1536, .f32⟩
  | .local _ .vmem, ⟨12, _⟩ => ⟨S512x1536, .f32⟩
  | .local _ .vmem, ⟨13, _⟩ => ⟨S512x128, .f32⟩
  | .local _ .vmem, ⟨14, _⟩ => ⟨S512x128, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev main_v15_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S8x2048x1024 : Shape := ⟨3, ![8, 2048, 1024]⟩
abbrev S1024 : Shape := ⟨1, ![1024]⟩
abbrev S1024x4112 : Shape := ⟨2, ![1024, 4112]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4112 : Shape := ⟨3, ![8, 2048, 4112]⟩
abbrev S8x2048x1536 : Shape := ⟨3, ![8, 2048, 1536]⟩
abbrev S8x2048x16 : Shape := ⟨3, ![8, 2048, 16]⟩
abbrev S8x2048x512 : Shape := ⟨3, ![8, 2048, 512]⟩
abbrev S8x2048x128 : Shape := ⟨3, ![8, 2048, 128]⟩
abbrev S16384x1024 : Shape := ⟨2, ![16384, 1024]⟩
abbrev S16384x1536 : Shape := ⟨2, ![16384, 1536]⟩
abbrev S16384x128 : Shape := ⟨2, ![16384, 128]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4112, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x4112, .f32⟩
  | .hbm, ⟨20, _⟩ => ⟨S8x2048x1024, .f32⟩
  | .hbm, ⟨21, _⟩ => ⟨S8x2048x1536, .f32⟩
  | .hbm, ⟨22, _⟩ => ⟨S8x2048x16, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S_, .f32⟩
  | .hbm, ⟨27, _⟩ => ⟨S8x2048x128, .f32⟩
  | .hbm, ⟨28, _⟩ => ⟨S16384x1024, .f32⟩
  | .hbm, ⟨29, _⟩ => ⟨S16384x1536, .f32⟩
  | .hbm, ⟨30, _⟩ => ⟨S16384x128, .f32⟩
  | .hbm, ⟨31, _⟩ => ⟨S16384x512, .f32⟩
  | .hbm, ⟨32, _⟩ => ⟨S16384x512, .f32⟩
  | .hbm, ⟨33, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1024x512 : Shape := ⟨2, ![1024, 512]⟩
abbrev S1x1024 : Shape := ⟨2, ![1, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x512, .bf16⟩
  | .hbm, ⟨8, _⟩ => ⟨S1x1024, .f32⟩
  | .hbm, ⟨9, _⟩ => ⟨S2048x512, .f32⟩
  | .hbm, ⟨10, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S2048x512 : Shape := ⟨2, ![2048, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S2048x512, .f32⟩
  | .hbm, ⟨23, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MlpF.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S8x256x512 : Shape := ⟨3, ![8, 256, 512]⟩
abbrev S1536x1024 : Shape := ⟨2, ![1536, 1024]⟩
abbrev S1024 : Shape := ⟨1, ![1024]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S1x256x512 : Shape := ⟨3, ![1, 256, 512]⟩
abbrev S512 : Shape := ⟨1, ![512]⟩
abbrev S512x1 : Shape := ⟨2, ![512, 1]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 17
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S8x256x512, .f32⟩
  | .hbm, ⟨4, _⟩ => ⟨S8x256x512, .f32⟩
  | .hbm, ⟨5, _⟩ => ⟨S1536x1024, .f32⟩
  | .hbm, ⟨6, _⟩ => ⟨S1024, .f32⟩
  | .hbm, ⟨7, _⟩ => ⟨S1024x512, .f32⟩
  | .hbm, ⟨8, _⟩ => ⟨S512x1024, .f32⟩
  | .hbm, ⟨9, _⟩ => ⟨S1024x1024, .f32⟩
  | .hbm, ⟨10, _⟩ => ⟨S1024x1024, .bf16⟩
  | .hbm, ⟨11, _⟩ => ⟨S512x1024, .f32⟩
  | .hbm, ⟨12, _⟩ => ⟨S512x1024, .bf16⟩
  | .hbm, ⟨13, _⟩ => ⟨S1024x512, .bf16⟩
  | .hbm, ⟨14, _⟩ => ⟨S512x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1024x1024, .bf16⟩
  | .local _ .vmem, ⟨11, _⟩ => ⟨S512x1024, .bf16⟩
  | .local _ .vmem, ⟨12, _⟩ => ⟨S1x1024, .f32⟩
  | .local _ .vmem, ⟨13, _⟩ => ⟨S1024x512, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S16384x1024 : Shape := ⟨2, ![16384, 1024]⟩
abbrev S16384x512 : Shape := ⟨2, ![16384, 512]⟩
abbrev S8x256x512 : Shape := ⟨3, ![8, 256, 512]⟩
abbrev S1536x1024 : Shape := ⟨2, ![1536, 1024]⟩
abbrev S1024 : Shape := ⟨1, ![1024]⟩
abbrev S1024x512 : Shape := ⟨2, ![1024, 512]⟩
abbrev S512x1024 : Shape := ⟨2, ![512, 1024]⟩
abbrev S8x2048x1024 : Shape := ⟨3, ![8, 2048, 1024]⟩
abbrev S8x2048x512 : Shape := ⟨3, ![8, 2048, 512]⟩
abbrev S8x2048x1536 : Shape := ⟨3, ![8, 2048, 1536]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x4x128 : Shape := ⟨4, ![8, 256, 4, 128]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S8x256x512, .f32⟩
  | .hbm, ⟨4, _⟩ => ⟨S8x256x512, .f32⟩
  | .hbm, ⟨5, _⟩ => ⟨S1536x1024, .f32⟩
  | .hbm, ⟨6, _⟩ => ⟨S1024, .f32⟩
  | .hbm, ⟨7, _⟩ => ⟨S1024x512, .f32⟩
  | .hbm, ⟨8, _⟩ => ⟨S512x1024, .f32⟩
  | .hbm, ⟨9, _⟩ => ⟨S8x2048x1024, .f32⟩
  | .hbm, ⟨10, _⟩ => ⟨S8x2048x1024, .f32⟩
  | .hbm, ⟨11, _⟩ => ⟨S8x2048x512, .f32⟩
  | .hbm, ⟨12, _⟩ => ⟨S8x2048x1536, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x256x4x128, .f32⟩
  | .hbm, ⟨32, _⟩ => ⟨S8x256x4x128, .f32⟩
  | .hbm, ⟨33, _⟩ => ⟨S8x2048x512, .f32⟩
  | .hbm, ⟨34, _⟩ => ⟨S8x2048x4x128, .f32⟩
  | .hbm, ⟨35, _⟩ => ⟨S8x4x2048x256, .f32⟩
  | .hbm, ⟨36, _⟩ => ⟨S_, .f32⟩
  | .hbm, ⟨37, _⟩ => ⟨S8x4x2048x256, .f32⟩
  | .hbm, ⟨38, _⟩ => ⟨S8x4x2048x256, .f32⟩
  | .hbm, ⟨39, _⟩ => ⟨S_, .f32⟩
  | .hbm, ⟨40, _⟩ => ⟨S8x4x2048, .f32⟩
  | .hbm, ⟨41, _⟩ => ⟨S_, .f32⟩
  | .hbm, ⟨42, _⟩ => ⟨S8x4x2048, .f32⟩
  | .hbm, ⟨43, _⟩ => ⟨S8x4x2048, .f32⟩
  | .hbm, ⟨44, _⟩ => ⟨S8x4x2048x1, .f32⟩
  | .hbm, ⟨45, _⟩ => ⟨S8x4x2048x256, .f32⟩
  | .hbm, ⟨46, _⟩ => ⟨S8x4x2048x256, .f32⟩
  | .hbm, ⟨47, _⟩ => ⟨S8x4x2048x256, .f32⟩
  | .hbm, ⟨48, _⟩ => ⟨S_, .f32⟩
  | .hbm, ⟨49, _⟩ => ⟨S8x4x2048, .f32⟩
  | .hbm, ⟨50, _⟩ => ⟨S8x4x2048x1, .f32⟩
  | .hbm, ⟨51, _⟩ => ⟨S8x4x2048x256, .f32⟩
  | .hbm, ⟨52, _⟩ => ⟨S8x4x2048x256, .f32⟩
  | .hbm, ⟨53, _⟩ => ⟨S8x4x128x2048, .f32⟩
  | .hbm, ⟨54, _⟩ => ⟨S8x2048x4x128, .f32⟩
  | .hbm, ⟨55, _⟩ => ⟨S8x2048x512, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Ssd.lean ====
abbrev S16384x1536 : Shape := ⟨2, ![16384, 1536]⟩
abbrev S16384x1024 : Shape := ⟨2, ![16384, 1024]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x3x1536 : Shape := ⟨3, ![8, 3, 1536]⟩
abbrev S8x16x64x128 : Shape := ⟨4, ![8, 16, 64, 128]⟩
abbrev S8x1024x128 : Shape := ⟨3, ![8, 1024, 128]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x1024 : Shape := ⟨2, ![128, 1024]⟩
abbrev S8x2048x1536 : Shape := ⟨3, ![8, 2048, 1536]⟩
abbrev S8x2048x1024 : Shape := ⟨3, ![8, 2048, 1024]⟩
abbrev S8x2048x128 : Shape := ⟨3, ![8, 2048, 128]⟩
abbrev S1x1536 : Shape := ⟨2, ![1, 1536]⟩
abbrev S1x128x1536 : Shape := ⟨3, ![1, 128, 1536]⟩
abbrev S1x128x1024 : Shape := ⟨3, ![1, 128, 1024]⟩
abbrev S1x128x128 : Shape := ⟨3, ![1, 128, 128]⟩
abbrev S1x3x1536 : Shape := ⟨3, ![1, 3, 1536]⟩
abbrev S1x1024x128 : Shape := ⟨3, ![1, 1024, 128]⟩
abbrev S136x1536 : Shape := ⟨2, ![136, 1536]⟩
abbrev S8x1536 : Shape := ⟨2, ![8, 1536]⟩
abbrev S128x1536 : Shape := ⟨2, ![128, 1536]⟩
abbrev S3x1536 : Shape := ⟨2, ![3, 1536]⟩
abbrev S128x128 : Shape := ⟨2, ![128, 128]⟩
abbrev S8x128 : Shape := ⟨2, ![8, 128]⟩
abbrev S8x1024 : Shape := ⟨2, ![8, 1024]⟩
abbrev S256x128 : Shape := ⟨2, ![256, 128]⟩
abbrev S128x1 : Shape := ⟨2, ![128, 1]⟩
abbrev S128x256 : Shape := ⟨2, ![128, 256]⟩
abbrev S128x512 : Shape := ⟨2, ![128, 512]⟩
abbrev S1x512 : Shape := ⟨2, ![1, 512]⟩

abbrev nBuf : Space → Nat
  | .hbm => 38
  | .vmem => 25
  | .smem => 0
  | _ => 0

abbrev bufTy : (tb : Table) → Fin (tcTables nBuf tb) → BufTy
  | .hbm, ⟨0, _⟩ => ⟨S16384x1536, .f32⟩
  | .hbm, ⟨1, _⟩ => ⟨S16384x1024, .f32⟩
  | .hbm, ⟨2, _⟩ => ⟨S16384x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S_, .f32⟩
  | .hbm, ⟨10, _⟩ => ⟨S8x3x1536, .f32⟩
  | .hbm, ⟨11, _⟩ => ⟨S_, .f32⟩
  | .hbm, ⟨12, _⟩ => ⟨S8x16x64x128, .f32⟩
  | .hbm, ⟨13, _⟩ => ⟨S8x1024x128, .f32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S128x1024, .i32⟩
  | .hbm, ⟨24, _⟩ => ⟨S_, .i32⟩
  | .hbm, ⟨25, _⟩ => ⟨S128x1024, .i32⟩
  | .hbm, ⟨26, _⟩ => ⟨S128x1024, .i32⟩
  | .hbm, ⟨27, _⟩ => ⟨S128x1024, .i32⟩
  | .hbm, ⟨28, _⟩ => ⟨S128x1024, .i1⟩
  | .hbm, ⟨29, _⟩ => ⟨S128x1024, .f32⟩
  | .hbm, ⟨30, _⟩ => ⟨S8x2048x1536, .f32⟩
  | .hbm, ⟨31, _⟩ => ⟨S8x2048x1024, .f32⟩
  | .hbm, ⟨32, _⟩ => ⟨S8x2048x128, .f32⟩
  | .hbm, ⟨33, _⟩ => ⟨S1x1536, .f32⟩
  | .hbm, ⟨34, _⟩ => ⟨S1x1024, .f32⟩
  | .hbm, ⟨35, _⟩ => ⟨S8x2048x1024, .f32⟩
  | .hbm, ⟨36, _⟩ => ⟨S8x3x1536, .f32⟩
  | .hbm, ⟨37, _⟩ => ⟨S8x1024x128, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1024, .f32⟩
  | .local _ .vmem, ⟨3, _⟩ => ⟨S1x128x1024, .f32⟩
  | .local _ .vmem, ⟨4, _⟩ => ⟨S1x128x128, .f32⟩
  | .local _ .vmem, ⟨5, _⟩ => ⟨S1x128x128, .f32⟩
  | .local _ .vmem, ⟨6, _⟩ => ⟨S1x3x1536, .f32⟩
  | .local _ .vmem, ⟨7, _⟩ => ⟨S1x3x1536, .f32⟩
  | .local _ .vmem, ⟨8, _⟩ => ⟨S1x1024x128, .f32⟩
  | .local _ .vmem, ⟨9, _⟩ => ⟨S1x1024x128, .f32⟩
  | .local _ .vmem, ⟨10, _⟩ => ⟨S4x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x3x1536, .f32⟩
  | .local _ .vmem, ⟨20, _⟩ => ⟨S1x3x1536, .f32⟩
  | .local _ .vmem, ⟨21, _⟩ => ⟨S1x1024x128, .f32⟩
  | .local _ .vmem, ⟨22, _⟩ => ⟨S1x1024x128, .f32⟩
  | .local _ .vmem, ⟨23, _⟩ => ⟨S136x1536, .f32⟩
  | .local _ .vmem, ⟨24, _⟩ => ⟨S128x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_19 : BitVec 32 := 0#32
  let v42 : BitVec 1 := Scalar.cmpi .ne v41 c0_i32_19
  v42

def k0_cond3 (i : grid0.Coords) : BitVec 1 :=
  let arg1 : BitVec 32 := BitVec.ofNat 32 (i 1).val
  let c15_i32_123 : BitVec 32 := 15#32
  let v587 : BitVec 1 := Scalar.cmpi .eq arg1 c15_i32_123
  let v588 : BitVec 32 := Scalar.extui v587
  let c0_i32_124 : BitVec 32 := 0#32
  let v589 : BitVec 1 := Scalar.cmpi .ne v588 c0_i32_124
  v589

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== SsdRefIdeal.lean ====
abbrev S16384x1536 : Shape := ⟨2, ![16384, 1536]⟩
abbrev S16384x1024 : Shape := ⟨2, ![16384, 1024]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S8x2048x1024 : Shape := ⟨3, ![8, 2048, 1024]⟩
abbrev S8x2048x1536 : Shape := ⟨3, ![8, 2048, 1536]⟩
abbrev S8x2048x128 : Shape := ⟨3, ![8, 2048, 128]⟩
abbrev S8x2048x16 : Shape := ⟨3, ![8, 2048, 16]⟩
abbrev S_ : Shape := ⟨0, ![]⟩
abbrev S8x3x1536 : Shape := ⟨3, ![8, 3, 1536]⟩
abbrev S8x16x64x128 : Shape := ⟨4, ![8, 16, 64, 128]⟩
abbrev S8x2051x1536 : Shape := ⟨3, ![8, 2051, 1536]⟩
abbrev S1x1536 : Shape := ⟨2, ![1, 1536]⟩
abbrev S1x1x1536 : Shape := ⟨3, ![1, 1, 1536]⟩
abbrev S8x2048x16x64 : Shape := ⟨4, ![8, 2048, 16, 64]⟩
abbrev S8x2048x256 : Shape := ⟨3, ![8, 2048, 256]⟩
abbrev S8x2048x2x128 : Shape := ⟨4, ![8, 2048, 2, 128]⟩
abbrev S8x2048x2x8x128 : Shape := ⟨5, ![8, 2048, 2, 8, 128]⟩
abbrev S8x2048x16x128 : Shape := ⟨4, ![8, 2048, 16, 128]⟩
abbrev S1x1x16 : Shape := ⟨3, ![1, 1, 16]⟩
abbrev S8x16x128x16x64 : Shape := ⟨5, ![8, 16, 128, 16, 64]⟩
abbrev S8x16x128x16 : Shape := ⟨4, ![8, 16, 128, 16]⟩
abbrev S8x16x128x16x128 : Shape := ⟨5, ![8, 16, 128, 16, 128]⟩
abbrev S1x1x1x16 : Shape := ⟨4, ![1, 1, 1, 16]⟩
abbrev S128x128 : Shape := ⟨2, ![128, 128]⟩
abbrev S1x1x128x128x1 : Shape := ⟨5, ![1, 1, 128, 128, 1]⟩
abbrev S8x16x128x1x16 : Shape := ⟨5, ![8, 16, 128, 1, 16]⟩
abbrev S8x16x1x128x16 : Shape := ⟨5, ![8, 16, 1, 128, 16]⟩
abbrev S8x16x128x128x16 : Shape := ⟨5, ![8, 16, 128, 128, 16]⟩
abbrev S8x16x16x128x128 : Shape := ⟨5, ![8, 16, 16, 128, 128]⟩
abbrev S8x16x128x16x1 : Shape := ⟨5, ![8, 16, 128, 16, 1]⟩
abbrev S8x16x16x64x128 : Shape := ⟨5, ![8, 16, 16, 64, 128]⟩
abbrev S8x16x1x16 : Shape := ⟨4, ![8, 16, 1, 16]⟩
abbrev S8x16x16 : Shape := ⟨3, ![8, 16, 16]⟩
abbrev S8x1x16 : Shape := ⟨3, ![8, 1, 16]⟩
abbrev S8x16 : Shape := ⟨2, ![8, 16]⟩
abbrev S8x1x16x64x128 : Shape := ⟨5, ![8, 1, 16, 64, 128]⟩
abbrev S8x16x1x1 : Shape := ⟨4, ![8, 16, 1, 1]⟩
abbrev S1x8x16x64x128 : Shape := ⟨5, ![1, 8, 16, 64, 128]⟩
abbrev S16x8x16x64x128 : Shape := ⟨5, ![16, 8, 16, 64, 128]⟩
abbrev S16x1 : Shape := ⟨2, ![16, 1]⟩
abbrev S1x1x16x1 : Shape := ⟨4, ![1, 1, 16, 1]⟩
abbrev S8x2048 : Shape := ⟨2, ![8, 2048]⟩
abbrev S8x2048x1 : Shape := ⟨3, ![8, 2048, 1]⟩
abbrev S1x1x1024 : Shape := ⟨3, ![1, 1, 1024]⟩
abbrev S8x1024x128 : Shape := ⟨3, ![8, 1024, 128]⟩

abbrev nBuf : Space → Nat
  | .hbm => 332
  | .vmem => 0
  | .smem => 0
  | _ => 0

abbrev hbmTy0_0 (i : Nat) : BufTy := match i % 128 with
  | 0 => ⟨S16384x1536, .f32⟩
  | 1 => ⟨S16384x1024, .f32⟩
  | 2 => ⟨S16384x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S8x2048x1024, .f32⟩
  | 10 => ⟨S8x2048x1536, .f32⟩
  | 11 => ⟨S8x2048x128, .f32⟩
  | 12 => ⟨S8x2048x16, .f32⟩
  | 13 => ⟨S_, .f32⟩
  | 14 => ⟨S8x3x1536, .f32⟩
  | 15 => ⟨S_, .f32⟩
  | 16 => ⟨S8x16x64x128, .f32⟩
  | 17 => ⟨S8x2051x1536, .f32⟩
  | 18 => ⟨S8x2048x1536, .f32⟩
  | 19 => ⟨S1x1536, .f32⟩
  | 20 => ⟨S1536, .f32⟩
  | 21 => ⟨S1x1x1536, .f32⟩
  | 22 => ⟨S8x2048x1536, .f32⟩
  | 23 => ⟨S8x2048x1536, .f32⟩
  | 24 => ⟨S1x1x1536, .f32⟩
  | 25 => ⟨S8x2048x1536, .f32⟩
  | 26 => ⟨S8x2048x1536, .f32⟩
  | 27 => ⟨S8x2048x1536, .f32⟩
  | 28 => ⟨S1x1536, .f32⟩
  | 29 => ⟨S1536, .f32⟩
  | 30 => ⟨S1x1x1536, .f32⟩
  | 31 => ⟨S8x2048x1536, .f32⟩
  | 32 => ⟨S8x2048x1536, .f32⟩
  | 33 => ⟨S8x2048x1536, .f32⟩
  | 34 => ⟨S8x2048x1536, .f32⟩
  | 35 => ⟨S1x1536, .f32⟩
  | 36 => ⟨S1536, .f32⟩
  | 37 => ⟨S1x1x1536, .f32⟩
  | 38 => ⟨S8x2048x1536, .f32⟩
  | 39 => ⟨S8x2048x1536, .f32⟩
  | 40 => ⟨S8x2048x1536, .f32⟩
  | 41 => ⟨S8x2048x1536, .f32⟩
  | 42 => ⟨S1x1536, .f32⟩
  | 43 => ⟨S1536, .f32⟩
  | 44 => ⟨S1x1x1536, .f32⟩
  | 45 => ⟨S8x2048x1536, .f32⟩
  | 46 => ⟨S8x2048x1536, .f32⟩
  | 47 => ⟨S8x2048x1536, .f32⟩
  | 48 => ⟨S8x2048x1536, .f32⟩
  | 49 => ⟨S8x2048x1536, .f32⟩
  | 50 => ⟨S_, .f32⟩
  | 51 => ⟨S8x2048x1536, .f32⟩
  | 52 => ⟨S8x2048x1536, .f32⟩
  | 53 => ⟨S_, .f32⟩
  | 54 => ⟨S8x2048x1536, .f32⟩
  | 55 => ⟨S8x2048x1536, .f32⟩
  | 56 => ⟨S8x2048x1536, .f32⟩
  | 57 => ⟨S8x3x1536, .f32⟩
  | 58 => ⟨S8x2048x1024, .f32⟩
  | 59 => ⟨S8x2048x16x64, .f32⟩
  | 60 => ⟨S8x2048x256, .f32⟩
  | 61 => ⟨S8x2048x2x128, .f32⟩
  | 62 => ⟨S8x2048x2x8x128, .f32⟩
  | 63 => ⟨S8x2048x16x128, .f32⟩
  | 64 => ⟨S8x2048x256, .f32⟩
  | 65 => ⟨S8x2048x2x128, .f32⟩
  | 66 => ⟨S8x2048x2x8x128, .f32⟩
  | 67 => ⟨S8x2048x16x128, .f32⟩
  | 68 => ⟨S1x1x16, .f32⟩
  | 69 => ⟨S8x2048x16, .f32⟩
  | 70 => ⟨S8x2048x16, .f32⟩
  | 71 => ⟨S_, .f32⟩
  | 72 => ⟨S8x2048x16, .f32⟩
  | 73 => ⟨S8x2048x16, .f32⟩
  | 74 => ⟨S8x2048x16, .f32⟩
  | 75 => ⟨S8x2048x16, .f32⟩
  | 76 => ⟨S8x2048x16, .i1⟩
  | 77 => ⟨S8x2048x16, .f32⟩
  | 78 => ⟨S8x2048x16, .f32⟩
  | 79 => ⟨S8x2048x16, .f32⟩
  | 80 => ⟨S8x2048x16, .f32⟩
  | 81 => ⟨S8x2048x16, .f32⟩
  | 82 => ⟨S8x2048x16, .f32⟩
  | 83 => ⟨S8x2048x16, .f32⟩
  | 84 => ⟨S8x2048x16, .f32⟩
  | 85 => ⟨S16, .f32⟩
  | 86 => ⟨S16, .f32⟩
  | 87 => ⟨S8x16x128x16x64, .f32⟩
  | 88 => ⟨S8x16x128x16, .f32⟩
  | 89 => ⟨S8x16x128x16x128, .f32⟩
  | 90 => ⟨S8x16x128x16x128, .f32⟩
  | 91 => ⟨S1x1x1x16, .f32⟩
  | 92 => ⟨S8x16x128x16, .f32⟩
  | 93 => ⟨S8x16x128x16, .f32⟩
  | 94 => ⟨S_, .f32⟩
  | 95 => ⟨S_, .f32⟩
  | 96 => ⟨S8x16x128x16, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x1x128x128x1, .i1⟩
  | 109 => ⟨S8x16x128x1x16, .f32⟩
  | 110 => ⟨S8x16x1x128x16, .f32⟩
  | 111 => ⟨S8x16x128x128x16, .f32⟩
  | 112 => ⟨S8x16x128x128x16, .f32⟩
  | 113 => ⟨S8x16x128x128x16, .f32⟩
  | 114 => ⟨S_, .f32⟩
  | 115 => ⟨S_, .f32⟩
  | 116 => ⟨S8x16x128x128x16, .i1⟩
  | 117 => ⟨S8x16x128x128x16, .f32⟩
  | 118 => ⟨S8x16x128x128x16, .f32⟩
  | 119 => ⟨S8x16x128x128x16, .f32⟩
  | 120 => ⟨S_, .f32⟩
  | 121 => ⟨S_, .f32⟩
  | 122 => ⟨S8x16x128x128x16, .i1⟩
  | 123 => ⟨S8x16x128x128x16, .f32⟩
  | 124 => ⟨S8x16x128x128x16, .f32⟩
  | 125 => ⟨S8x16x16x128x128, .f32⟩
  | 126 => ⟨S8x16x128x128x16, .f32⟩
  | 127 => ⟨S8x16x128x128x16, .f32⟩
  | _ => ⟨S16384x1536, .f32⟩

abbrev hbmTy0_1 (i : Nat) : BufTy := match i % 128 with
  | 0 => ⟨S8x16x128x16x1, .f32⟩
  | 1 => ⟨S8x16x128x16x64, .f32⟩
  | 2 => ⟨S8x16x128x16x64, .f32⟩
  | 3 => ⟨S8x16x16x64x128, .f32⟩
  | 4 => ⟨S8x16x128x16x64, .f32⟩
  | 5 => ⟨S8x16x1x16, .f32⟩
  | 6 => ⟨S8x16x128x16, .f32⟩
  | 7 => ⟨S8x16x128x16, .f32⟩
  | 8 => ⟨S8x16x128x16, .f32⟩
  | 9 => ⟨S8x16x128x16, .f32⟩
  | 10 => ⟨S8x16x128x16x1, .f32⟩
  | 11 => ⟨S8x16x128x16x64, .f32⟩
  | 12 => ⟨S8x16x128x16x64, .f32⟩
  | 13 => ⟨S8x16x16x64x128, .f32⟩
  | 14 => ⟨S8x16x1x16, .f32⟩
  | 15 => ⟨S8x16x16, .f32⟩
  | 16 => ⟨S8x16x16, .f32⟩
  | 17 => ⟨S8x1x16, .f32⟩
  | 18 => ⟨S8x16, .f32⟩
  | 19 => ⟨S8x1x16x64x128, .f32⟩
  | 20 => ⟨S8x16x64x128, .f32⟩
  | 21 => ⟨S8x16x1x1, .f32⟩
  | 22 => ⟨S8x16x64x128, .f32⟩
  | 23 => ⟨S8x16x64x128, .f32⟩
  | 24 => ⟨S8x16x64x128, .f32⟩
  | 25 => ⟨S8x1x16, .f32⟩
  | 26 => ⟨S8x16, .f32⟩
  | 27 => ⟨S8x1x16x64x128, .f32⟩
  | 28 => ⟨S8x16x64x128, .f32⟩
  | 29 => ⟨S8x16x1x1, .f32⟩
  | 30 => ⟨S8x16x64x128, .f32⟩
  | 31 => ⟨S8x16x64x128, .f32⟩
  | 32 => ⟨S8x16x64x128, .f32⟩
  | 33 => ⟨S8x1x16, .f32⟩
  | 34 => ⟨S8x16, .f32⟩
  | 35 => ⟨S8x1x16x64x128, .f32⟩
  | 36 => ⟨S8x16x64x128, .f32⟩
  | 37 => ⟨S8x16x1x1, .f32⟩
  | 38 => ⟨S8x16x64x128, .f32⟩
  | 39 => ⟨S8x16x64x128, .f32⟩
  | 40 => ⟨S8x16x64x128, .f32⟩
  | 41 => ⟨S8x1x16, .f32⟩
  | 42 => ⟨S8x16, .f32⟩
  | 43 => ⟨S8x1x16x64x128, .f32⟩
  | 44 => ⟨S8x16x64x128, .f32⟩
  | 45 => ⟨S8x16x1x1, .f32⟩
  | 46 => ⟨S8x16x64x128, .f32⟩
  | 47 => ⟨S8x16x64x128, .f32⟩
  | 48 => ⟨S8x16x64x128, .f32⟩
  | 49 => ⟨S8x1x16, .f32⟩
  | 50 => ⟨S8x16, .f32⟩
  | 51 => ⟨S8x1x16x64x128, .f32⟩
  | 52 => ⟨S8x16x64x128, .f32⟩
  | 53 => ⟨S8x16x1x1, .f32⟩
  | 54 => ⟨S8x16x64x128, .f32⟩
  | 55 => ⟨S8x16x64x128, .f32⟩
  | 56 => ⟨S8x16x64x128, .f32⟩
  | 57 => ⟨S8x1x16, .f32⟩
  | 58 => ⟨S8x16, .f32⟩
  | 59 => ⟨S8x1x16x64x128, .f32⟩
  | 60 => ⟨S8x16x64x128, .f32⟩
  | 61 => ⟨S8x16x1x1, .f32⟩
  | 62 => ⟨S8x16x64x128, .f32⟩
  | 63 => ⟨S8x16x64x128, .f32⟩
  | 64 => ⟨S8x16x64x128, .f32⟩
  | 65 => ⟨S8x1x16, .f32⟩
  | 66 => ⟨S8x16, .f32⟩
  | 67 => ⟨S8x1x16x64x128, .f32⟩
  | 68 => ⟨S8x16x64x128, .f32⟩
  | 69 => ⟨S8x16x1x1, .f32⟩
  | 70 => ⟨S8x16x64x128, .f32⟩
  | 71 => ⟨S8x16x64x128, .f32⟩
  | 72 => ⟨S8x16x64x128, .f32⟩
  | 73 => ⟨S8x1x16, .f32⟩
  | 74 => ⟨S8x16, .f32⟩
  | 75 => ⟨S8x1x16x64x128, .f32⟩
  | 76 => ⟨S8x16x64x128, .f32⟩
  | 77 => ⟨S8x16x1x1, .f32⟩
  | 78 => ⟨S8x16x64x128, .f32⟩
  | 79 => ⟨S8x16x64x128, .f32⟩
  | 80 => ⟨S8x16x64x128, .f32⟩
  | 81 => ⟨S8x1x16, .f32⟩
  | 82 => ⟨S8x16, .f32⟩
  | 83 => ⟨S8x1x16x64x128, .f32⟩
  | 84 => ⟨S8x16x64x128, .f32⟩
  | 85 => ⟨S8x16x1x1, .f32⟩
  | 86 => ⟨S8x16x64x128, .f32⟩
  | 87 => ⟨S8x16x64x128, .f32⟩
  | 88 => ⟨S8x16x64x128, .f32⟩
  | 89 => ⟨S8x1x16, .f32⟩
  | 90 => ⟨S8x16, .f32⟩
  | 91 => ⟨S8x1x16x64x128, .f32⟩
  | 92 => ⟨S8x16x64x128, .f32⟩
  | 93 => ⟨S8x16x1x1, .f32⟩
  | 94 => ⟨S8x16x64x128, .f32⟩
  | 95 => ⟨S8x16x64x128, .f32⟩
  | 96 => ⟨S8x16x64x128, .f32⟩
  | 97 => ⟨S8x1x16, .f32⟩
  | 98 => ⟨S8x16, .f32⟩
  | 99 => ⟨S8x1x16x64x128, .f32⟩
  | 100 => ⟨S8x16x64x128, .f32⟩
  | 101 => ⟨S8x16x1x1, .f32⟩
  | 102 => ⟨S8x16x64x128, .f32⟩
  | 103 => ⟨S8x16x64x128, .f32⟩
  | 104 => ⟨S8x16x64x128, .f32⟩
  | 105 => ⟨S8x1x16, .f32⟩
  | 106 => ⟨S8x16, .f32⟩
  | 107 => ⟨S8x1x16x64x128, .f32⟩
  | 108 => ⟨S8x16x64x128, .f32⟩
  | 109 => ⟨S8x16x1x1, .f32⟩
  | 110 => ⟨S8x16x64x128, .f32⟩
  | 111 => ⟨S8x16x64x128, .f32⟩
  | 112 => ⟨S8x16x64x128, .f32⟩
  | 113 => ⟨S8x1x16, .f32⟩
  | 114 => ⟨S8x16, .f32⟩
  | 115 => ⟨S8x1x16x64x128, .f32⟩
  | 116 => ⟨S8x16x64x128, .f32⟩
  | 117 => ⟨S8x16x1x1, .f32⟩
  | 118 => ⟨S8x16x64x128, .f32⟩
  | 119 => ⟨S8x16x64x128, .f32⟩
  | 120 => ⟨S8x16x64x128, .f32⟩
  | 121 => ⟨S8x1x16, .f32⟩
  | 122 => ⟨S8x16, .f32⟩
  | 123 => ⟨S8x1x16x64x128, .f32⟩
  | 124 => ⟨S8x16x64x128, .f32⟩
  | 125 => ⟨S8x16x1x1, .f32⟩
  | 126 => ⟨S8x16x64x128, .f32⟩
  | 127 => ⟨S8x16x64x128, .f32⟩
  | _ => ⟨S16384x1536, .f32⟩

abbrev hbmTy0_2 (i : Nat) : BufTy := match i % 128 with
  | 0 => ⟨S8x16x64x128, .f32⟩
  | 1 => ⟨S8x1x16, .f32⟩
  | 2 => ⟨S8x16, .f32⟩
  | 3 => ⟨S8x1x16x64x128, .f32⟩
  | 4 => ⟨S8x16x64x128, .f32⟩
  | 5 => ⟨S8x16x1x1, .f32⟩
  | 6 => ⟨S8x16x64x128, .f32⟩
  | 7 => ⟨S8x16x64x128, .f32⟩
  | 8 => ⟨S8x16x64x128, .f32⟩
  | 9 => ⟨S8x1x16, .f32⟩
  | 10 => ⟨S8x16, .f32⟩
  | 11 => ⟨S8x1x16x64x128, .f32⟩
  | 12 => ⟨S8x16x64x128, .f32⟩
  | 13 => ⟨S8x16x1x1, .f32⟩
  | 14 => ⟨S8x16x64x128, .f32⟩
  | 15 => ⟨S8x16x64x128, .f32⟩
  | 16 => ⟨S8x16x64x128, .f32⟩
  | 17 => ⟨S1x8x16x64x128, .f32⟩
  | 18 => ⟨S1x8x16x64x128, .f32⟩
  | 19 => ⟨S1x8x16x64x128, .f32⟩
  | 20 => ⟨S1x8x16x64x128, .f32⟩
  | 21 => ⟨S1x8x16x64x128, .f32⟩
  | 22 => ⟨S1x8x16x64x128, .f32⟩
  | 23 => ⟨S1x8x16x64x128, .f32⟩
  | 24 => ⟨S1x8x16x64x128, .f32⟩
  | 25 => ⟨S1x8x16x64x128, .f32⟩
  | 26 => ⟨S1x8x16x64x128, .f32⟩
  | 27 => ⟨S1x8x16x64x128, .f32⟩
  | 28 => ⟨S1x8x16x64x128, .f32⟩
  | 29 => ⟨S1x8x16x64x128, .f32⟩
  | 30 => ⟨S1x8x16x64x128, .f32⟩
  | 31 => ⟨S1x8x16x64x128, .f32⟩
  | 32 => ⟨S1x8x16x64x128, .f32⟩
  | 33 => ⟨S16x8x16x64x128, .f32⟩
  | 34 => ⟨S8x16x16x64x128, .f32⟩
  | 35 => ⟨S8x16x128x16, .f32⟩
  | 36 => ⟨S8x16x128x16x1, .f32⟩
  | 37 => ⟨S8x16x128x16x128, .f32⟩
  | 38 => ⟨S8x16x128x16x128, .f32⟩
  | 39 => ⟨S8x16x16x64x128, .f32⟩
  | 40 => ⟨S8x16x128x16x64, .f32⟩
  | 41 => ⟨S8x16x128x16x64, .f32⟩
  | 42 => ⟨S8x2048x16x64, .f32⟩
  | 43 => ⟨S16x1, .f32⟩
  | 44 => ⟨S1x1x16x1, .f32⟩
  | 45 => ⟨S8x2048x16x64, .f32⟩
  | 46 => ⟨S8x2048x16x64, .f32⟩
  | 47 => ⟨S8x2048x16x64, .f32⟩
  | 48 => ⟨S8x2048x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S_, .f32⟩
  | 61 => ⟨S8x2048, .f32⟩
  | 62 => ⟨S8x2048x1, .f32⟩
  | 63 => ⟨S_, .f32⟩
  | 64 => ⟨S8x2048x1, .f32⟩
  | 65 => ⟨S8x2048x1, .f32⟩
  | 66 => ⟨S_, .f32⟩
  | 67 => ⟨S8x2048x1, .f32⟩
  | 68 => ⟨S8x2048x1, .f32⟩
  | 69 => ⟨S8x2048x1, .f32⟩
  | 70 => ⟨S8x2048x1024, .f32⟩
  | 71 => ⟨S8x2048x1024, .f32⟩
  | 72 => ⟨S1x1x1024, .f32⟩
  | 73 => ⟨S8x2048x1024, .f32⟩
  | 74 => ⟨S8x2048x1024, .f32⟩
  | 75 => ⟨S8x1024x128, .f32⟩
  | _ => ⟨S16384x1536, .f32⟩

abbrev hbmTy (i : Nat) : BufTy := match i / 128 with
  | 0 => hbmTy0_0 i
  | 1 => hbmTy0_1 i
  | 2 => hbmTy0_2 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_call0_cst : Ref sig .tc := ⟨.hbm, 94, rfl⟩
abbrev main_call2_call0_v0 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_0 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_1 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v71 : Ref sig .tc := ⟨.hbm, 118, rfl⟩
abbrev main_v72 : Ref sig .tc := ⟨.hbm, 119, rfl⟩
abbrev main_cst_2 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_call6_v0 : Ref sig .tc := ⟨.hbm, 305, rfl⟩
abbrev main_call6_v1 : Ref sig .tc := ⟨.hbm, 306, rfl⟩
abbrev main_call6_cst : Ref sig .tc := ⟨.hbm, 307, rfl⟩
abbrev main_call6_v2 : Ref sig .tc := ⟨.hbm, 308, rfl⟩
abbrev main_call6_v3 : Ref sig .tc := ⟨.hbm, 309, rfl⟩
abbrev main_call6_cst_0 : Ref sig .tc := ⟨.hbm, 310, rfl⟩
abbrev main_call6_v4 : Ref sig .tc := ⟨.hbm, 311, rfl⟩
abbrev main_call6_v5 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_3 : Ref sig .tc := ⟨.hbm, 316, rfl⟩
abbrev main_v257 : Ref sig .tc := ⟨.hbm, 317, rfl⟩
abbrev main_v258 : Ref sig .tc := ⟨.hbm, 318, rfl⟩
abbrev main_cst_4 : Ref sig .tc := ⟨.hbm, 319, rfl⟩
abbrev main_v259 : Ref sig .tc := ⟨.hbm, 320, rfl⟩
abbrev main_v260 : Ref sig .tc := ⟨.hbm, 321, rfl⟩
abbrev main_cst_5 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩

abbrev nD : Nat := 1
abbrev τ : Topo := Topo.v7x

variable {F : FTy → Type} [FloatOps F]
-- ==== ProjS.lean ====
abbrev S32x4x1024 : Shape := ⟨3, ![32, 4, 1024]⟩
abbrev S1024 : Shape := ⟨1, ![1024]⟩
abbrev S1024x4112 : Shape := ⟨2, ![1024, 4112]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S128x1024 : Shape := ⟨2, ![128, 1024]⟩
abbrev S1x1024 : Shape := ⟨2, ![1, 1024]⟩
abbrev S128x1536 : Shape := ⟨2, ![128, 1536]⟩
abbrev S128x128 : Shape := ⟨2, ![128, 128]⟩
abbrev S128x512 : Shape := ⟨2, ![128, 512]⟩
abbrev S128 : Shape := ⟨1, ![128]⟩
abbrev S128x1 : Shape := ⟨2, ![128, 1]⟩

abbrev nBuf : Space → Nat
  | .hbm => 25
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4112, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x128, .f32⟩
  | .hbm, ⟨11, _⟩ => ⟨S128x1024, .f32⟩
  | .hbm, ⟨12, _⟩ => ⟨S1024x1024, .bf16⟩
  | .hbm, ⟨13, _⟩ => ⟨S1024x1536, .bf16⟩
  | .hbm, ⟨14, _⟩ => ⟨S1024x128, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1x1024, .f32⟩
  | .hbm, ⟨19, _⟩ => ⟨S128x1024, .f32⟩
  | .hbm, ⟨20, _⟩ => ⟨S128x1536, .f32⟩
  | .hbm, ⟨21, _⟩ => ⟨S128x128, .f32⟩
  | .hbm, ⟨22, _⟩ => ⟨S128x512, .f32⟩
  | .hbm, ⟨23, _⟩ => ⟨S128x512, .f32⟩
  | .hbm, ⟨24, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x128, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S128x1024, .f32⟩
  | .local _ .vmem, ⟨9, _⟩ => ⟨S128x1536, .f32⟩
  | .local _ .vmem, ⟨10, _⟩ => ⟨S128x128, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev main_v15_5 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjSRefIdeal.lean ====
abbrev S32x4x1024 : Shape := ⟨3, ![32, 4, 1024]⟩
abbrev S1024 : Shape := ⟨1, ![1024]⟩
abbrev S1024x4112 : Shape := ⟨2, ![1024, 4112]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4112 : Shape := ⟨3, ![32, 4, 4112]⟩
abbrev S32x4x1536 : Shape := ⟨3, ![32, 4, 1536]⟩
abbrev S32x4x16 : Shape := ⟨3, ![32, 4, 16]⟩
abbrev S32x4x512 : Shape := ⟨3, ![32, 4, 512]⟩
abbrev S32x4x128 : Shape := ⟨3, ![32, 4, 128]⟩
abbrev S128x1024 : Shape := ⟨2, ![128, 1024]⟩
abbrev S128x1536 : Shape := ⟨2, ![128, 1536]⟩
abbrev S128x128 : Shape := ⟨2, ![128, 128]⟩
abbrev S128x512 : Shape := ⟨2, ![128, 512]⟩

abbrev nBuf : Space → Nat
  | .hbm => 34
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4112, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x4112, .f32⟩
  | .hbm, ⟨20, _⟩ => ⟨S32x4x1024, .f32⟩
  | .hbm, ⟨21, _⟩ => ⟨S32x4x1536, .f32⟩
  | .hbm, ⟨22, _⟩ => ⟨S32x4x16, .f32⟩
  | .hbm, ⟨23, _⟩ => ⟨S32x4x512, .f32⟩
  | .hbm, ⟨24, _⟩ => ⟨S32x4x512, .f32⟩
  | .hbm, ⟨25, _⟩ => ⟨S32x4x512, .f32⟩
  | .hbm, ⟨26, _⟩ => ⟨S_, .f32⟩
  | .hbm, ⟨27, _⟩ => ⟨S32x4x128, .f32⟩
  | .hbm, ⟨28, _⟩ => ⟨S128x1024, .f32⟩
  | .hbm, ⟨29, _⟩ => ⟨S128x1536, .f32⟩
  | .hbm, ⟨30, _⟩ => ⟨S128x128, .f32⟩
  | .hbm, ⟨31, _⟩ => ⟨S128x512, .f32⟩
  | .hbm, ⟨32, _⟩ => ⟨S128x512, .f32⟩
  | .hbm, ⟨33, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MlpS.lean ====
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSRefIdeal.lean ====
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x4096, .f32⟩
  | .hbm, ⟨22, _⟩ => ⟨S_, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S1x1024, .f32⟩
  | .hbm, ⟨42, _⟩ => ⟨S128x1024, .f32⟩
  | .hbm, ⟨43, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== SsdS.lean ====
abbrev S128x1536 : Shape := ⟨2, ![128, 1536]⟩
abbrev S128x1024 : Shape := ⟨2, ![128, 1024]⟩
abbrev S128x128 : Shape := ⟨2, ![128, 128]⟩
abbrev S32x3x1536 : Shape := ⟨3, ![32, 3, 1536]⟩
abbrev S32x16x64x128 : Shape := ⟨4, ![32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32x1024x128 : Shape := ⟨3, ![32, 1024, 128]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S32x4x1536 : Shape := ⟨3, ![32, 4, 1536]⟩
abbrev S32x4x1024 : Shape := ⟨3, ![32, 4, 1024]⟩
abbrev S32x4x128 : Shape := ⟨3, ![32, 4, 128]⟩
abbrev S32x128x1536 : Shape := ⟨3, ![32, 128, 1536]⟩
abbrev S32x128x1024 : Shape := ⟨3, ![32, 128, 1024]⟩
abbrev S32x128x128 : Shape := ⟨3, ![32, 128, 128]⟩
abbrev S1x1536 : Shape := ⟨2, ![1, 1536]⟩
abbrev S1x128x1536 : Shape := ⟨3, ![1, 128, 1536]⟩
abbrev S1x128x1024 : Shape := ⟨3, ![1, 128, 1024]⟩
abbrev S1x128x128 : Shape := ⟨3, ![1, 128, 128]⟩
abbrev S1x3x1536 : Shape := ⟨3, ![1, 3, 1536]⟩
abbrev S1x1024x128 : Shape := ⟨3, ![1, 1024, 128]⟩
abbrev S136x1536 : Shape := ⟨2, ![136, 1536]⟩
abbrev S8x1536 : Shape := ⟨2, ![8, 1536]⟩
abbrev S3x1536 : Shape := ⟨2, ![3, 1536]⟩
abbrev S8x128 : Shape := ⟨2, ![8, 128]⟩
abbrev S8x1024 : Shape := ⟨2, ![8, 1024]⟩
abbrev S256x128 : Shape := ⟨2, ![256, 128]⟩
abbrev S128x1 : Shape := ⟨2, ![128, 1]⟩
abbrev S128x256 : Shape := ⟨2, ![128, 256]⟩
abbrev S128x512 : Shape := ⟨2, ![128, 512]⟩
abbrev S1x512 : Shape := ⟨2, ![1, 512]⟩

abbrev nBuf : Space → Nat
  | .hbm => 42
  | .vmem => 25
  | .smem => 0
  | _ => 0

abbrev bufTy : (tb : Table) → Fin (tcTables nBuf tb) → BufTy
  | .hbm, ⟨0, _⟩ => ⟨S128x1536, .f32⟩
  | .hbm, ⟨1, _⟩ => ⟨S128x1024, .f32⟩
  | .hbm, ⟨2, _⟩ => ⟨S128x128, .f32⟩
  | .hbm, ⟨3, _⟩ => ⟨S32x3x1536, .f32⟩
  | .hbm, ⟨4, _⟩ => ⟨S32x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S32x1024x128, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S16x64, .f32⟩
  | .hbm, ⟨19, _⟩ => ⟨S1024, .f32⟩
  | .hbm, ⟨20, _⟩ => ⟨S1x1024, .f32⟩
  | .hbm, ⟨21, _⟩ => ⟨S128x1024, .i32⟩
  | .hbm, ⟨22, _⟩ => ⟨S_, .i32⟩
  | .hbm, ⟨23, _⟩ => ⟨S128x1024, .i32⟩
  | .hbm, ⟨24, _⟩ => ⟨S128x1024, .i32⟩
  | .hbm, ⟨25, _⟩ => ⟨S128x1024, .i32⟩
  | .hbm, ⟨26, _⟩ => ⟨S128x1024, .i1⟩
  | .hbm, ⟨27, _⟩ => ⟨S128x1024, .f32⟩
  | .hbm, ⟨28, _⟩ => ⟨S32x4x1536, .f32⟩
  | .hbm, ⟨29, _⟩ => ⟨S32x4x1024, .f32⟩
  | .hbm, ⟨30, _⟩ => ⟨S32x4x128, .f32⟩
  | .hbm, ⟨31, _⟩ => ⟨S_, .f32⟩
  | .hbm, ⟨32, _⟩ => ⟨S32x128x1536, .f32⟩
  | .hbm, ⟨33, _⟩ => ⟨S_, .f32⟩
  | .hbm, ⟨34, _⟩ => ⟨S32x128x1024, .f32⟩
  | .hbm, ⟨35, _⟩ => ⟨S_, .f32⟩
  | .hbm, ⟨36, _⟩ => ⟨S32x128x128, .f32⟩
  | .hbm, ⟨37, _⟩ => ⟨S1x1536, .f32⟩
  | .hbm, ⟨38, _⟩ => ⟨S1x1024, .f32⟩
  | .hbm, ⟨39, _⟩ => ⟨S32x128x1024, .f32⟩
  | .hbm, ⟨40, _⟩ => ⟨S32x3x1536, .f32⟩
  | .hbm, ⟨41, _⟩ => ⟨S32x1024x128, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1024, .f32⟩
  | .local _ .vmem, ⟨3, _⟩ => ⟨S1x128x1024, .f32⟩
  | .local _ .vmem, ⟨4, _⟩ => ⟨S1x128x128, .f32⟩
  | .local _ .vmem, ⟨5, _⟩ => ⟨S1x128x128, .f32⟩
  | .local _ .vmem, ⟨6, _⟩ => ⟨S1x3x1536, .f32⟩
  | .local _ .vmem, ⟨7, _⟩ => ⟨S1x3x1536, .f32⟩
  | .local _ .vmem, ⟨8, _⟩ => ⟨S1x1024x128, .f32⟩
  | .local _ .vmem, ⟨9, _⟩ => ⟨S1x1024x128, .f32⟩
  | .local _ .vmem, ⟨10, _⟩ => ⟨S4x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x3x1536, .f32⟩
  | .local _ .vmem, ⟨20, _⟩ => ⟨S1x3x1536, .f32⟩
  | .local _ .vmem, ⟨21, _⟩ => ⟨S1x1024x128, .f32⟩
  | .local _ .vmem, ⟨22, _⟩ => ⟨S1x1024x128, .f32⟩
  | .local _ .vmem, ⟨23, _⟩ => ⟨S136x1536, .f32⟩
  | .local _ .vmem, ⟨24, _⟩ => ⟨S128x1024, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_19 : BitVec 32 := 0#32
  let v40 : BitVec 1 := Scalar.cmpi .eq arg1 c0_i32_19
  let v41 : BitVec 32 := Scalar.extui v40
  let c0_i32_20 : BitVec 32 := 0#32
  let v42 : BitVec 1 := Scalar.cmpi .ne v41 c0_i32_20
  v42

def k0_cond3 (i : grid0.Coords) : BitVec 1 :=
  let arg1 : BitVec 32 := BitVec.ofNat 32 (i 1).val
  let c0_i32_125 : BitVec 32 := 0#32
  let v592 : BitVec 1 := Scalar.cmpi .eq arg1 c0_i32_125
  let v593 : BitVec 32 := Scalar.extui v592
  let c0_i32_126 : BitVec 32 := 0#32
  let v594 : BitVec 1 := Scalar.cmpi .ne v593 c0_i32_126
  v594

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== SsdSRefIdeal.lean ====
abbrev S128x1536 : Shape := ⟨2, ![128, 1536]⟩
abbrev S128x1024 : Shape := ⟨2, ![128, 1024]⟩
abbrev S128x128 : Shape := ⟨2, ![128, 128]⟩
abbrev S32x3x1536 : Shape := ⟨3, ![32, 3, 1536]⟩
abbrev S32x16x64x128 : Shape := ⟨4, ![32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32x4x1024 : Shape := ⟨3, ![32, 4, 1024]⟩
abbrev S32x4x1536 : Shape := ⟨3, ![32, 4, 1536]⟩
abbrev S32x4x128 : Shape := ⟨3, ![32, 4, 128]⟩
abbrev S32x4x16 : Shape := ⟨3, ![32, 4, 16]⟩
abbrev S32x7x1536 : Shape := ⟨3, ![32, 7, 1536]⟩
abbrev S1x1536 : Shape := ⟨2, ![1, 1536]⟩
abbrev S1x1x1536 : Shape := ⟨3, ![1, 1, 1536]⟩
abbrev S_ : Shape := ⟨0, ![]⟩
abbrev S32x4x16x64 : Shape := ⟨4, ![32, 4, 16, 64]⟩
abbrev S32x4x256 : Shape := ⟨3, ![32, 4, 256]⟩
abbrev S32x4x2x128 : Shape := ⟨4, ![32, 4, 2, 128]⟩
abbrev S32x4x2x8x128 : Shape := ⟨5, ![32, 4, 2, 8, 128]⟩
abbrev S32x4x16x128 : Shape := ⟨4, ![32, 4, 16, 128]⟩
abbrev S1x1x16 : Shape := ⟨3, ![1, 1, 16]⟩
abbrev S32x1x4x16x64 : Shape := ⟨5, ![32, 1, 4, 16, 64]⟩
abbrev S32x1x4x16 : Shape := ⟨4, ![32, 1, 4, 16]⟩
abbrev S32x1x4x16x128 : Shape := ⟨5, ![32, 1, 4, 16, 128]⟩
abbrev S1x1x1x16 : Shape := ⟨4, ![1, 1, 1, 16]⟩
abbrev S4x4 : Shape := ⟨2, ![4, 4]⟩
abbrev S1x1x4x4x1 : Shape := ⟨5, ![1, 1, 4, 4, 1]⟩
abbrev S32x1x4x1x16 : Shape := ⟨5, ![32, 1, 4, 1, 16]⟩
abbrev S32x1x1x4x16 : Shape := ⟨5, ![32, 1, 1, 4, 16]⟩
abbrev S32x1x4x4x16 : Shape := ⟨5, ![32, 1, 4, 4, 16]⟩
abbrev S32x1x16x4x4 : Shape := ⟨5, ![32, 1, 16, 4, 4]⟩
abbrev S32x1x4x16x1 : Shape := ⟨5, ![32, 1, 4, 16, 1]⟩
abbrev S32x1x16x64x4 : Shape := ⟨5, ![32, 1, 16, 64, 4]⟩
abbrev S32x1x1x16 : Shape := ⟨4, ![32, 1, 1, 16]⟩
abbrev S32x1x16x64x128 : Shape := ⟨5, ![32, 1, 16, 64, 128]⟩
abbrev S32x1x16 : Shape := ⟨3, ![32, 1, 16]⟩
abbrev S32x16 : Shape := ⟨2, ![32, 16]⟩
abbrev S32x16x1x1 : Shape := ⟨4, ![32, 16, 1, 1]⟩
abbrev S1x32x16x64x128 : Shape := ⟨5, ![1, 32, 16, 64, 128]⟩
abbrev S16x1 : Shape := ⟨2, ![16, 1]⟩
abbrev S1x1x16x1 : Shape := ⟨4, ![1, 1, 16, 1]⟩
abbrev S32x4 : Shape := ⟨2, ![32, 4]⟩
abbrev S32x4x1 : Shape := ⟨3, ![32, 4, 1]⟩
abbrev S1x1x1024 : Shape := ⟨3, ![1, 1, 1024]⟩
abbrev S32x1024x128 : Shape := ⟨3, ![32, 1024, 128]⟩

abbrev nBuf : Space → Nat
  | .hbm => 192
  | .vmem => 0
  | .smem => 0
  | _ => 0

abbrev hbmTy0_0 (i : Nat) : BufTy := match i % 128 with
  | 0 => ⟨S128x1536, .f32⟩
  | 1 => ⟨S128x1024, .f32⟩
  | 2 => ⟨S128x128, .f32⟩
  | 3 => ⟨S32x3x1536, .f32⟩
  | 4 => ⟨S32x16x64x128, .f32⟩
  | 5 => ⟨S4x1536, .f32⟩
  | 6 => ⟨S1536, .f32⟩
  | 7 => ⟨S16, .f32⟩
  | 8 => ⟨S16, .f32⟩
  | 9 => ⟨S16, .f32⟩
  | 10 => ⟨S1024, .f32⟩
  | 11 => ⟨S32x4x1024, .f32⟩
  | 12 => ⟨S32x4x1536, .f32⟩
  | 13 => ⟨S32x4x128, .f32⟩
  | 14 => ⟨S32x4x16, .f32⟩
  | 15 => ⟨S32x7x1536, .f32⟩
  | 16 => ⟨S32x4x1536, .f32⟩
  | 17 => ⟨S1x1536, .f32⟩
  | 18 => ⟨S1536, .f32⟩
  | 19 => ⟨S1x1x1536, .f32⟩
  | 20 => ⟨S32x4x1536, .f32⟩
  | 21 => ⟨S32x4x1536, .f32⟩
  | 22 => ⟨S1x1x1536, .f32⟩
  | 23 => ⟨S32x4x1536, .f32⟩
  | 24 => ⟨S32x4x1536, .f32⟩
  | 25 => ⟨S32x4x1536, .f32⟩
  | 26 => ⟨S1x1536, .f32⟩
  | 27 => ⟨S1536, .f32⟩
  | 28 => ⟨S1x1x1536, .f32⟩
  | 29 => ⟨S32x4x1536, .f32⟩
  | 30 => ⟨S32x4x1536, .f32⟩
  | 31 => ⟨S32x4x1536, .f32⟩
  | 32 => ⟨S32x4x1536, .f32⟩
  | 33 => ⟨S1x1536, .f32⟩
  | 34 => ⟨S1536, .f32⟩
  | 35 => ⟨S1x1x1536, .f32⟩
  | 36 => ⟨S32x4x1536, .f32⟩
  | 37 => ⟨S32x4x1536, .f32⟩
  | 38 => ⟨S32x4x1536, .f32⟩
  | 39 => ⟨S32x4x1536, .f32⟩
  | 40 => ⟨S1x1536, .f32⟩
  | 41 => ⟨S1536, .f32⟩
  | 42 => ⟨S1x1x1536, .f32⟩
  | 43 => ⟨S32x4x1536, .f32⟩
  | 44 => ⟨S32x4x1536, .f32⟩
  | 45 => ⟨S32x4x1536, .f32⟩
  | 46 => ⟨S32x4x1536, .f32⟩
  | 47 => ⟨S32x4x1536, .f32⟩
  | 48 => ⟨S_, .f32⟩
  | 49 => ⟨S32x4x1536, .f32⟩
  | 50 => ⟨S32x4x1536, .f32⟩
  | 51 => ⟨S_, .f32⟩
  | 52 => ⟨S32x4x1536, .f32⟩
  | 53 => ⟨S32x4x1536, .f32⟩
  | 54 => ⟨S32x4x1536, .f32⟩
  | 55 => ⟨S32x3x1536, .f32⟩
  | 56 => ⟨S32x4x1024, .f32⟩
  | 57 => ⟨S32x4x16x64, .f32⟩
  | 58 => ⟨S32x4x256, .f32⟩
  | 59 => ⟨S32x4x2x128, .f32⟩
  | 60 => ⟨S32x4x2x8x128, .f32⟩
  | 61 => ⟨S32x4x16x128, .f32⟩
  | 62 => ⟨S32x4x256, .f32⟩
  | 63 => ⟨S32x4x2x128, .f32⟩
  | 64 => ⟨S32x4x2x8x128, .f32⟩
  | 65 => ⟨S32x4x16x128, .f32⟩
  | 66 => ⟨S1x1x16, .f32⟩
  | 67 => ⟨S32x4x16, .f32⟩
  | 68 => ⟨S32x4x16, .f32⟩
  | 69 => ⟨S_, .f32⟩
  | 70 => ⟨S32x4x16, .f32⟩
  | 71 => ⟨S32x4x16, .f32⟩
  | 72 => ⟨S32x4x16, .f32⟩
  | 73 => ⟨S32x4x16, .f32⟩
  | 74 => ⟨S32x4x16, .i1⟩
  | 75 => ⟨S32x4x16, .f32⟩
  | 76 => ⟨S32x4x16, .f32⟩
  | 77 => ⟨S32x4x16, .f32⟩
  | 78 => ⟨S32x4x16, .f32⟩
  | 79 => ⟨S32x4x16, .f32⟩
  | 80 => ⟨S32x4x16, .f32⟩
  | 81 => ⟨S32x4x16, .f32⟩
  | 82 => ⟨S32x4x16, .f32⟩
  | 83 => ⟨S16, .f32⟩
  | 84 => ⟨S16, .f32⟩
  | 85 => ⟨S32x1x4x16x64, .f32⟩
  | 86 => ⟨S32x1x4x16, .f32⟩
  | 87 => ⟨S32x1x4x16x128, .f32⟩
  | 88 => ⟨S32x1x4x16x128, .f32⟩
  | 89 => ⟨S1x1x1x16, .f32⟩
  | 90 => ⟨S32x1x4x16, .f32⟩
  | 91 => ⟨S32x1x4x16, .f32⟩
  | 92 => ⟨S_, .f32⟩
  | 93 => ⟨S_, .f32⟩
  | 94 => ⟨S32x1x4x16, .f32⟩
  | 95 => ⟨S_, .i1⟩
  | 96 => ⟨S4x4, .i1⟩
  | 97 => ⟨S4x4, .i32⟩
  | 98 => ⟨S_, .i32⟩
  | 99 => ⟨S4x4, .i32⟩
  | 100 => ⟨S4x4, .i32⟩
  | 101 => ⟨S4x4, .i32⟩
  | 102 => ⟨S4x4, .i1⟩
  | 103 => ⟨S_, .i1⟩
  | 104 => ⟨S4x4, .i1⟩
  | 105 => ⟨S4x4, .i1⟩
  | 106 => ⟨S1x1x4x4x1, .i1⟩
  | 107 => ⟨S32x1x4x1x16, .f32⟩
  | 108 => ⟨S32x1x1x4x16, .f32⟩
  | 109 => ⟨S32x1x4x4x16, .f32⟩
  | 110 => ⟨S32x1x4x4x16, .f32⟩
  | 111 => ⟨S32x1x4x4x16, .f32⟩
  | 112 => ⟨S_, .f32⟩
  | 113 => ⟨S_, .f32⟩
  | 114 => ⟨S32x1x4x4x16, .i1⟩
  | 115 => ⟨S32x1x4x4x16, .f32⟩
  | 116 => ⟨S32x1x4x4x16, .f32⟩
  | 117 => ⟨S32x1x4x4x16, .f32⟩
  | 118 => ⟨S_, .f32⟩
  | 119 => ⟨S_, .f32⟩
  | 120 => ⟨S32x1x4x4x16, .i1⟩
  | 121 => ⟨S32x1x4x4x16, .f32⟩
  | 122 => ⟨S32x1x4x4x16, .f32⟩
  | 123 => ⟨S32x1x16x4x4, .f32⟩
  | 124 => ⟨S32x1x4x4x16, .f32⟩
  | 125 => ⟨S32x1x4x4x16, .f32⟩
  | 126 => ⟨S32x1x4x16x1, .f32⟩
  | 127 => ⟨S32x1x4x16x64, .f32⟩
  | _ => ⟨S128x1536, .f32⟩

abbrev hbmTy0_1 (i : Nat) : BufTy := match i % 128 with
  | 0 => ⟨S32x1x4x16x64, .f32⟩
  | 1 => ⟨S32x1x16x64x4, .f32⟩
  | 2 => ⟨S32x1x4x16x64, .f32⟩
  | 3 => ⟨S32x1x1x16, .f32⟩
  | 4 => ⟨S32x1x4x16, .f32⟩
  | 5 => ⟨S32x1x4x16, .f32⟩
  | 6 => ⟨S32x1x4x16, .f32⟩
  | 7 => ⟨S32x1x4x16, .f32⟩
  | 8 => ⟨S32x1x4x16x1, .f32⟩
  | 9 => ⟨S32x1x4x16x64, .f32⟩
  | 10 => ⟨S32x1x4x16x64, .f32⟩
  | 11 => ⟨S32x1x16x64x128, .f32⟩
  | 12 => ⟨S32x1x1x16, .f32⟩
  | 13 => ⟨S32x1x16, .f32⟩
  | 14 => ⟨S32x1x16, .f32⟩
  | 15 => ⟨S32x16, .f32⟩
  | 16 => ⟨S32x16x64x128, .f32⟩
  | 17 => ⟨S32x16x1x1, .f32⟩
  | 18 => ⟨S32x16x64x128, .f32⟩
  | 19 => ⟨S32x16x64x128, .f32⟩
  | 20 => ⟨S32x16x64x128, .f32⟩
  | 21 => ⟨S1x32x16x64x128, .f32⟩
  | 22 => ⟨S32x1x16x64x128, .f32⟩
  | 23 => ⟨S32x1x4x16, .f32⟩
  | 24 => ⟨S32x1x4x16x1, .f32⟩
  | 25 => ⟨S32x1x4x16x128, .f32⟩
  | 26 => ⟨S32x1x4x16x128, .f32⟩
  | 27 => ⟨S32x1x16x64x4, .f32⟩
  | 28 => ⟨S32x1x4x16x64, .f32⟩
  | 29 => ⟨S32x1x4x16x64, .f32⟩
  | 30 => ⟨S32x4x16x64, .f32⟩
  | 31 => ⟨S16x1, .f32⟩
  | 32 => ⟨S1x1x16x1, .f32⟩
  | 33 => ⟨S32x4x16x64, .f32⟩
  | 34 => ⟨S32x4x16x64, .f32⟩
  | 35 => ⟨S32x4x16x64, .f32⟩
  | 36 => ⟨S32x4x1024, .f32⟩
  | 37 => ⟨S32x4x1024, .f32⟩
  | 38 => ⟨S32x4x1024, .f32⟩
  | 39 => ⟨S_, .f32⟩
  | 40 => ⟨S32x4x1024, .f32⟩
  | 41 => ⟨S32x4x1024, .f32⟩
  | 42 => ⟨S_, .f32⟩
  | 43 => ⟨S32x4x1024, .f32⟩
  | 44 => ⟨S32x4x1024, .f32⟩
  | 45 => ⟨S32x4x1024, .f32⟩
  | 46 => ⟨S32x4x1024, .f32⟩
  | 47 => ⟨S32x4x1024, .f32⟩
  | 48 => ⟨S_, .f32⟩
  | 49 => ⟨S32x4, .f32⟩
  | 50 => ⟨S32x4x1, .f32⟩
  | 51 => ⟨S_, .f32⟩
  | 52 => ⟨S32x4x1, .f32⟩
  | 53 => ⟨S32x4x1, .f32⟩
  | 54 => ⟨S_, .f32⟩
  | 55 => ⟨S32x4x1, .f32⟩
  | 56 => ⟨S32x4x1, .f32⟩
  | 57 => ⟨S32x4x1, .f32⟩
  | 58 => ⟨S32x4x1024, .f32⟩
  | 59 => ⟨S32x4x1024, .f32⟩
  | 60 => ⟨S1x1x1024, .f32⟩
  | 61 => ⟨S32x4x1024, .f32⟩
  | 62 => ⟨S32x4x1024, .f32⟩
  | 63 => ⟨S32x1024x128, .f32⟩
  | _ => ⟨S128x1536, .f32⟩

abbrev hbmTy (i : Nat) : BufTy := match i / 128 with
  | 0 => hbmTy0_0 i
  | 1 => hbmTy0_1 i
  | _ => ⟨S128x1536, .f32⟩

abbrev bufTy : (tb : Table) → Fin (tcTables nBuf tb) → BufTy
  | .hbm, ⟨i, _⟩ => hbmTy i
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_call0_cst : Ref sig .tc := ⟨.hbm, 92, rfl⟩
abbrev main_call2_call0_v0 : Ref sig .tc := ⟨.hbm, 93, rfl⟩
abbrev main_v60 : Ref sig .tc := ⟨.hbm, 94, rfl⟩
abbrev main_c : Ref sig .tc := ⟨.hbm, 95, rfl⟩
abbrev main_v61 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_0 : Ref sig .tc := ⟨.hbm, 103, rfl⟩
abbrev main_call3_v5 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v69 : Ref sig .tc := ⟨.hbm, 116, rfl⟩
abbrev main_v70 : Ref sig .tc := ⟨.hbm, 117, rfl⟩
abbrev main_cst_0 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call6_v0 : Ref sig .tc := ⟨.hbm, 165, rfl⟩
abbrev main_call6_v1 : Ref sig .tc := ⟨.hbm, 166, rfl⟩
abbrev main_call6_cst : Ref sig .tc := ⟨.hbm, 167, rfl⟩
abbrev main_call6_v2 : Ref sig .tc := ⟨.hbm, 168, rfl⟩
abbrev main_call6_v3 : Ref sig .tc := ⟨.hbm, 169, rfl⟩
abbrev main_call6_cst_0 : Ref sig .tc := ⟨.hbm, 170, rfl⟩
abbrev main_call6_v4 : Ref sig .tc := ⟨.hbm, 171, rfl⟩
abbrev main_call6_v5 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_1 : Ref sig .tc := ⟨.hbm, 176, rfl⟩
abbrev main_v117 : Ref sig .tc := ⟨.hbm, 177, rfl⟩
abbrev main_v118 : Ref sig .tc := ⟨.hbm, 178, rfl⟩
abbrev main_cst_2 : Ref sig .tc := ⟨.hbm, 179, rfl⟩
abbrev main_v119 : Ref sig .tc := ⟨.hbm, 180, rfl⟩
abbrev main_v120 : Ref sig .tc := ⟨.hbm, 181, rfl⟩
abbrev main_cst_3 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩

abbrev nD : Nat := 1
abbrev τ : Topo := Topo.v7x

variable {F : FTy → Type} [FloatOps F]
-- ==== Proof.Norm.lean ====
/- The mathematics the programs share, written once over plain rows of extended reals: the root-mean-square
   normalisation of a row. -/
module

public import Idealize.ShloMosaic.Lib.Pointwise

@[expose] public section

noncomputable section

namespace Cert.Spec

open Idealize.ShloMosaic

/-- The normalised row: entry `k` divided by the root of the row's mean square (plus the small constant), times its
    gain. -/
def nrm (x g : Fin 1024 → EReal) (k : Fin 1024) : EReal :=
  x k * Ideal.rsqrt (Ideal.div (∑ j, x j * x j) (Ideal.ofBits .f32 0x44800000#32) + Ideal.ofBits .f32 0x3727C5AC#32) * g k

/-- A normalised row times a matrix, at one column. -/
def nrmDot (x g w : Fin 1024 → EReal) : EReal := ∑ k, nrm x g k * w k

/-- Equal rows, gains and columns give equal products. -/
theorem nrmDot_congr {x x' g g' w w' : Fin 1024 → EReal} (hx : ∀ k, x k = x' k) (hg : ∀ k, g k = g' k)
    (hw : ∀ k, w k = w' k) : nrmDot x g w = nrmDot x' g' w' := by
  rw [funext hx, funext hg, funext hw]

/-- One hidden unit of the MLP: the square of the positive part of a row times a column. -/
def act (x w : Fin 1024 → EReal) : EReal := max (∑ k, x k * w k) 0 * max (∑ k, x k * w k) 0

/-- The contribution of 1024 hidden units to one entry of the MLP's output. -/
def chunk (x : Fin 1024 → EReal) (wu wd : Fin 1024 → Fin 1024 → EReal) (l : Fin 1024) : EReal :=
  ∑ f, act x (fun k => wu k f) * wd f l

/-- Equal rows and weights give equal contributions. -/
theorem chunk_congr {x x' : Fin 1024 → EReal} {wu wu' wd wd' : Fin 1024 → Fin 1024 → EReal} {l : Fin 1024}
    (hx : ∀ k, x k = x' k) (hu : ∀ k f, wu k f = wu' k f) (hd : ∀ f k, wd f k = wd' f k) :
    chunk x wu wd l = chunk x' wu' wd' l := by
  rw [funext hx, funext fun k => funext (hu k), funext fun f => funext (hd f)]

/-- A row after the MLP: the row plus what all 4096 hidden units contribute. -/
def mlpRow (h g : Fin 1024 → EReal) (wu : Fin 1024 → Fin 4096 → EReal) (wd : Fin 4096 → Fin 1024 → EReal)
    (l : Fin 1024) : EReal :=
  h l + ∑ f, act (nrm h g) (fun k => wu k f) * wd f l

/-- The hidden units taken 1024 at a time give the same row. -/
theorem mlpRow_chunks (h g : Fin 1024 → EReal) (wu : Fin 1024 → Fin 4096 → EReal) (wd : Fin 4096 → Fin 1024 → EReal)
    (l : Fin 1024) :
    mlpRow h g wu wd l = h l
      + chunk (nrm h g) (fun k f => wu k ⟨0 + f.val, by omega⟩) (fun f k => wd ⟨0 + f.val, by omega⟩ k) l
      + chunk (nrm h g) (fun k f => wu k ⟨1024 + f.val, by omega⟩) (fun f k => wd ⟨1024 + f.val, by omega⟩ k) l
      + chunk (nrm h g) (fun k f => wu k ⟨2048 + f.val, by omega⟩) (fun f k => wd ⟨2048 + f.val, by omega⟩ k) l
      + chunk (nrm h g) (fun k f => wu k ⟨3072 + f.val, by omega⟩) (fun f k => wd ⟨3072 + f.val, by omega⟩ k) l := by
  unfold mlpRow chunk
  rw [Fin.sum_univ_tiles 4 1024 rfl, Fin.sum_univ_four, ← add_assoc, ← add_assoc, ← add_assoc]
  rfl

/-- A row after the MLP and the final normalisation. -/
def mlpOut (h g : Fin 1024 → EReal) (wu : Fin 1024 → Fin 4096 → EReal) (wd : Fin 4096 → Fin 1024 → EReal)
    (gf : Fin 1024 → EReal) (l : Fin 1024) : EReal := nrm (mlpRow h g wu wd) gf l

/-- Equal rows, gains, weights and columns give equal outputs. -/
theorem mlpOut_congr {h h' g g' gf gf' : Fin 1024 → EReal} {wu wu' : Fin 1024 → Fin 4096 → EReal}
    {wd wd' : Fin 4096 → Fin 1024 → EReal} {l l' : Fin 1024} (hh : ∀ k, h k = h' k) (hg : ∀ k, g k = g' k)
    (hu : ∀ k f, wu k f = wu' k f) (hd : ∀ f k, wd f k = wd' f k) (hf : ∀ k, gf k = gf' k) (hl : l = l') :
    mlpOut h g wu wd gf l = mlpOut h' g' wu' wd' gf' l' := by
  rw [funext hh, funext hg, funext fun k => funext (hu k), funext fun f => funext (hd f), funext hf, hl]

end Cert.Spec

end
-- ==== Proof.ProjVal.lean ====
/- The in-projection: the kernel's six results are the reference's. -/
module

public import proofs.«01_k».proof.Defs
public import proofs.«01_k».proof.Proof.Norm
public import proofs.«01_k».proof.Proof.Gen.ProjIdeal.Value
public import proofs.«01_k».proof.Proof.Gen.ProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen Cert.Spec

variable (m : (ℓ : Loc nD τ sig) → Buf (Elt Ideal) ℓ)

/-- The result whose columns are the in-projection's columns from `off` on, as one function of the arguments. -/
def cols (off n : Nat) (hn : off + n ≤ 4112) (x : FVec Ideal S8x2048x1024 .f32) (g : FVec Ideal S1024 .f32)
    (w : FVec Ideal S1024x4112 .f32) : FVec Ideal ⟨2, ![16384, n]⟩ .f32 :=
  fun j => nrmDot (fun k => x (ix3 ⟨(j 0).val / 2048, by have h : (j 0).val < 16384 := (j 0).isLt; omega⟩
      ⟨(j 0).val % 2048, by omega⟩ k)) (fun k => g (ix1 k))
    (fun k => w (ix2 k ⟨off + (j 1).val, by have h : (j 1).val < n := (j 1).isLt; omega⟩))

/-- The step-size result: sixteen columns of the in-projection, then zeros up to a full row of lanes. -/
def steps (x : FVec Ideal S8x2048x1024 .f32) (g : FVec Ideal S1024 .f32)
    (w : FVec Ideal S1024x4112 .f32) : FVec Ideal S16384x128 .f32 :=
  fun j => if h : (j 1).val < 16 then cols 2560 16 (by omega) x g w (ix2 ⟨(j 0).val, (j 0).isLt⟩ ⟨(j 1).val, h⟩) else 0

/-- Where each window's block sits at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- The row block of the layer's input, read at its place in the argument. -/
theorem blk0 (c : Dev nD) (t : Fin cfg0.N) (r : Fin 512) (k : Fin 1024) :
    (iblk m c 0 t : Vec Ideal S512x1024 .f32) (ix2 r k)
      = m ((c : Thread nD τ).loc main_arg0) (ix3 (n0 := 8) (n1 := 2048) ⟨(t.val * 512 + r.val) / 2048, by have h : t.val < 32 := t.isLt; omega⟩
          ⟨(t.val * 512 + r.val) % 2048, by omega⟩ k) := by
  blk_simp [iblk, idx t]
  entry_read
  pointwise
  blk_ext [idx t]

/-- The gains' block is the gains. -/
theorem blk1 (c : Dev nD) (t : Fin cfg0.N) (k : Fin 1024) :
    (iblk m c 1 t : Vec Ideal S1x1024 .f32) (ix2 0 k) = m ((c : Thread nD τ).loc main_arg1) (ix1 (n0 := 1024) k) := by
  blk_simp [iblk, idx t]
  entry_read
  pointwise
  blk_ext [idx t]

/-- The normalised block, as the last three results name it. -/
theorem pay9 (x0 : Vec Ideal S512x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) :
    k0_pay9 x0 x1 x2 x3 x4 x5 x6 x7 = k0_pay4 x0 x1 := by
  unfold k0_pay9
  rw [View.ld_unit_lit, View.ld_unit_lit] <;> (intro a; fin_cases a <;> rfl)

/-- The normalised block, at an index. -/
theorem norm_at (v0 : Vec Ideal S512x1024 .f32) (v2 : Vec Ideal S1x1024 .f32) (r : Fin 512) (k : Fin 1024) :
    k0_pay4 v0 v2 (ix2 r k) = nrm (fun k => v0 (ix2 r k)) (fun k => v2 (ix2 0 k)) k := by
  pointwise [k0_pay4, nrm]

/-- What the kernel stores in result 1 at an index of a block. -/
theorem pay8_at (v0 : Vec Ideal S512x1024 .f32) (v2 : Vec Ideal S1x1024 .f32) (v17 : Vec Ideal S1024x1024 .bf16) (r : Fin 512) (l : Fin 1024) :
    k0_pay5 v0 v2 v17 (ix2 r l) = nrmDot (fun k => v0 (ix2 r k)) (fun k => v2 (ix2 0 k)) (fun k => v17 (ix2 k l)) := by
  pointwise [k0_pay5, k0_pay8, k0_pay4, nrmDot, nrm]

/-- The weight columns of result 1. -/
theorem blk2 (c : Dev nD) (t : Fin cfg0.N) (k : Fin 1024) (l : Fin 1024) :
    (iblk m c 2 t : Vec Ideal S1024x1024 .bf16) (ix2 k l)
      = m ((c : Thread nD τ).loc main_arg2) (ix2 (n0 := 1024) (n1 := 4112) k ⟨0 + l.val, by omega⟩) := by
  blk_simp [iblk, idx t]
  entry_read
  pointwise
  blk_ext [idx t]

/-- One grid point's block of result 1 is that block of the whole. -/
theorem point8 (c : Dev nD) (t : Fin cfg0.N) (y : S512x1024.Idx) :
    k0_pay5 (iblk m c 0 t) (iblk m c 1 t) (iblk m c 2 t) y
      = cols 0 1024 (by omega) (m ((c : Thread nD τ).loc main_arg0)) (m ((c : Thread nD τ).loc main_arg1)) (m ((c : Thread nD τ).loc main_arg2)) (((cfg0.win 8).blk t).view.emb y) := by
  refine (congrArg _ (eq_ix2 y)).trans ((pay8_at _ _ _ _ _).trans ?_)
  refine nrmDot_congr (fun k => (blk0 m c t _ k).trans ?_) (fun k => blk1 m c t k) (fun k => (blk2 m c t k _).trans ?_)
  all_goals blk_ext [idx t]

/-- The whole array of result 1 the kernel leaves. -/
theorem final8 (c : Dev nD) : (dats m 0 c).arrAt 8 (cfgs 0).N
    = cols 0 1024 (by omega) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  exact point8 m c t y

/-- What the kernel stores in result 2 at an index of a block. -/
theorem pay9_at (v0 : Vec Ideal S512x1024 .f32) (v2 : Vec Ideal S1x1024 .f32) (v17 : Vec Ideal S1024x1536 .bf16) (r : Fin 512) (l : Fin 1536) :
    k0_pay6 v0 v2 v17 (ix2 r l) = nrmDot (fun k => v0 (ix2 r k)) (fun k => v2 (ix2 0 k)) (fun k => v17 (ix2 k l)) := by
  pointwise [k0_pay6, k0_pay8, k0_pay4, nrmDot, nrm]

/-- The weight columns of result 2. -/
theorem blk3 (c : Dev nD) (t : Fin cfg0.N) (k : Fin 1024) (l : Fin 1536) :
    (iblk m c 3 t : Vec Ideal S1024x1536 .bf16) (ix2 k l)
      = m ((c : Thread nD τ).loc main_arg2) (ix2 (n0 := 1024) (n1 := 4112) k ⟨1024 + l.val, by omega⟩) := by
  blk_simp [iblk, idx t]
  entry_read
  pointwise
  blk_ext [idx t]

/-- One grid point's block of result 2 is that block of the whole. -/
theorem point9 (c : Dev nD) (t : Fin cfg0.N) (y : S512x1536.Idx) :
    k0_pay6 (iblk m c 0 t) (iblk m c 1 t) (iblk m c 3 t) y
      = cols 1024 1536 (by omega) (m ((c : Thread nD τ).loc main_arg0)) (m ((c : Thread nD τ).loc main_arg1)) (m ((c : Thread nD τ).loc main_arg2)) (((cfg0.win 9).blk t).view.emb y) := by
  refine (congrArg _ (eq_ix2 y)).trans ((pay9_at _ _ _ _ _).trans ?_)
  refine nrmDot_congr (fun k => (blk0 m c t _ k).trans ?_) (fun k => blk1 m c t k) (fun k => (blk3 m c t k _).trans ?_)
  all_goals blk_ext [idx t]

/-- The whole array of result 2 the kernel leaves. -/
theorem final9 (c : Dev nD) : (dats m 0 c).arrAt 9 (cfgs 0).N
    = cols 1024 1536 (by omega) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  exact point9 m c t y

/-- What the kernel stores in result 3 at an index of a block. -/
theorem pay10_at (v0 : Vec Ideal S512x1024 .f32) (v2 : Vec Ideal S1x1024 .f32) (v17 : Vec Ideal S1024x128 .bf16) (r : Fin 512) (l : Fin 128) :
    k0_pay7 v0 v2 v17 (ix2 r l) = nrmDot (fun k => v0 (ix2 r k)) (fun k => v2 (ix2 0 k)) (fun k => v17 (ix2 k l)) := by
  pointwise [k0_pay7, k0_pay8, k0_pay4, nrmDot, nrm]

/-- A padded weight read at a multi-index whose coordinates are known. -/
theorem dt_read (w : FVec Ideal S1024x4112 .f32) (e : S1024x128.Idx) (k : Fin 1024) (l : Fin 128)
    (h0 : (e 0).val = k.val) (h1 : (e 1).val = l.val) :
    (if h : (e 1).val < 16 then w (ix2 (e 0) ⟨2560 + (e 1).val, by omega⟩) else (0 : EReal))
      = if h : l.val < 16 then w (ix2 k ⟨2560 + l.val, by omega⟩) else 0 := by
  have he : e = ix2 k l := by funext a; fin_cases a <;> exact Fin.ext ‹_›
  subst he
  rfl

/-- The weight columns of result 3, zero past the sixteenth. -/
theorem blk4 (c : Dev nD) (t : Fin cfg0.N) (k : Fin 1024) (l : Fin 128) :
    (iblk m c 4 t : Vec Ideal S1024x128 .bf16) (ix2 k l)
      = if h : l.val < 16 then m ((c : Thread nD τ).loc main_arg2) (ix2 (n0 := 1024) (n1 := 4112) k ⟨2560 + l.val, by omega⟩) else (0 : EReal) := by
  blk_simp [iblk, idx t]
  entry_read
  pointwise
  exact dt_read _ _ _ _ (by blk_simp [idx t]) (by blk_simp [idx t])

/-- One grid point's block of result 3 is that block of the whole. -/
theorem point10 (c : Dev nD) (t : Fin cfg0.N) (y : S512x128.Idx) :
    k0_pay7 (iblk m c 0 t) (iblk m c 1 t) (iblk m c 4 t) y
      = steps (m ((c : Thread nD τ).loc main_arg0)) (m ((c : Thread nD τ).loc main_arg1)) (m ((c : Thread nD τ).loc main_arg2)) (((cfg0.win 10).blk t).view.emb y) := by
  refine (congrArg _ (eq_ix2 y)).trans ((pay10_at _ _ _ _ _).trans ?_)
  refine (nrmDot_congr (fun k => blk0 m c t _ k) (fun k => blk1 m c t k) (fun k => blk4 m c t k _)).trans ?_
  have e1 : ((((cfg0.win 10).blk t).view.emb y) 1).val = (y 1).val := by blk_simp [idx t]
  unfold steps
  by_cases h : (y 1).val < 16
  · rw [dif_pos (e1.trans_lt h)]
    refine nrmDot_congr (fun k => ?_) (fun k => rfl) (fun k => (dif_pos h).trans ?_)
    all_goals blk_ext [idx t]
  · rw [dif_neg (fun h' => h (e1.symm.trans_lt h'))]
    exact Finset.sum_eq_zero fun k _ => (congrArg _ (dif_neg h)).trans (mul_zero _)

/-- The whole array of result 3 the kernel leaves. -/
theorem final10 (c : Dev nD) : (dats m 0 c).arrAt 10 (cfgs 0).N
    = steps (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  frame_out
  exact point10 m c t y

/-- What the kernel stores in result 4 at an index of a block. -/
theorem pay11_at (v0 : Vec Ideal S512x1024 .f32) (v2 : Vec Ideal S1x1024 .f32) (v17 : Vec Ideal S1024x512 .bf16) (r : Fin 512) (l : Fin 512) :
    k0_pay1 (k0_pay4 v0 v2) (k0_pay8 v17) (constant S512x512 .f32 0x00000000#32) (ix2 r l) = nrmDot (fun k => v0 (ix2 r k)) (fun k => v2 (ix2 0 k)) (fun k => v17 (ix2 k l)) := by
  pointwise [k0_pay1, k0_pay8, k0_pay4, nrmDot, nrm]

/-- The same, over all the blocks the kernel holds. -/
theorem all11_at (x0 : Vec Ideal S512x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r l : Fin 512) :
    k0_pay1 (k0_pay9 x0 x1 x2 x3 x4 x5 x6 x7) (k0_pay8 x5) (constant S512x512 .f32 0x00000000#32) (ix2 r l)
      = nrmDot (fun k => x0 (ix2 r k)) (fun k => x1 (ix2 0 k)) (fun k => x5 (ix2 k l)) := by
  rw [pay9]
  exact pay11_at x0 x1 x5 r l

/-- The weight columns of result 4. -/
theorem blk5 (c : Dev nD) (t : Fin cfg0.N) (k : Fin 1024) (l : Fin 512) :
    (iblk m c 5 t : Vec Ideal S1024x512 .bf16) (ix2 k l)
      = m ((c : Thread nD τ).loc main_arg2) (ix2 (n0 := 1024) (n1 := 4112) k ⟨2576 + l.val, by omega⟩) := by
  blk_simp [iblk, idx t]
  entry_read
  pointwise
  blk_ext [idx t]

/-- One grid point's block of result 4 is that block of the whole. -/
theorem point11 (c : Dev nD) (t : Fin cfg0.N) (y : S512x512.Idx) :
    k0_pay1 (k0_pay9 (iblk m c 0 t) (iblk m c 1 t) (iblk m c 2 t) (iblk m c 3 t) (iblk m c 4 t) (iblk m c 5 t) (iblk m c 6 t)
        (iblk m c 7 t)) (k0_pay8 (iblk m c 5 t)) (constant S512x512 .f32 0x00000000#32) y
      = cols 2576 512 (by omega) (m ((c : Thread nD τ).loc main_arg0)) (m ((c : Thread nD τ).loc main_arg1)) (m ((c : Thread nD τ).loc main_arg2)) (((cfg0.win 11).blk t).view.emb y) := by
  refine (congrArg _ (eq_ix2 y)).trans ((all11_at _ _ _ _ _ _ _ _ _ _).trans ?_)
  refine nrmDot_congr (fun k => (blk0 m c t _ k).trans ?_) (fun k => blk1 m c t k) (fun k => (blk5 m c t k _).trans ?_)
  all_goals blk_ext [idx t]

/-- The whole array of result 4 the kernel leaves. -/
theorem final11 (c : Dev nD) : (dats m 0 c).arrAt 11 (cfgs 0).N
    = cols 2576 512 (by omega) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  frame_out
  exact point11 m c t y

/-- What the kernel stores in result 5 at an index of a block. -/
theorem pay12_at (v0 : Vec Ideal S512x1024 .f32) (v2 : Vec Ideal S1x1024 .f32) (v17 : Vec Ideal S1024x512 .bf16) (r : Fin 512) (l : Fin 512) :
    k0_pay2 (k0_pay4 v0 v2) v17 (ix2 r l) = nrmDot (fun k => v0 (ix2 r k)) (fun k => v2 (ix2 0 k)) (fun k => v17 (ix2 k l)) := by
  pointwise [k0_pay2, k0_pay8, k0_pay4, nrmDot, nrm]

/-- The same, over all the blocks the kernel holds. -/
theorem all12_at (x0 : Vec Ideal S512x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r l : Fin 512) :
    k0_pay2 (k0_pay9 x0 x1 x2 x3 x4 x5 x6 x7) x6 (ix2 r l)
      = nrmDot (fun k => x0 (ix2 r k)) (fun k => x1 (ix2 0 k)) (fun k => x6 (ix2 k l)) := by
  rw [pay9]
  exact pay12_at x0 x1 x6 r l

/-- The weight columns of result 5. -/
theorem blk6 (c : Dev nD) (t : Fin cfg0.N) (k : Fin 1024) (l : Fin 512) :
    (iblk m c 6 t : Vec Ideal S1024x512 .bf16) (ix2 k l)
      = m ((c : Thread nD τ).loc main_arg2) (ix2 (n0 := 1024) (n1 := 4112) k ⟨3088 + l.val, by omega⟩) := by
  blk_simp [iblk, idx t]
  entry_read
  pointwise
  blk_ext [idx t]

/-- One grid point's block of result 5 is that block of the whole. -/
theorem point12 (c : Dev nD) (t : Fin cfg0.N) (y : S512x512.Idx) :
    k0_pay2 (k0_pay9 (iblk m c 0 t) (iblk m c 1 t) (iblk m c 2 t) (iblk m c 3 t) (iblk m c 4 t) (iblk m c 5 t) (iblk m c 6 t)
        (iblk m c 7 t)) (iblk m c 6 t) y
      = cols 3088 512 (by omega) (m ((c : Thread nD τ).loc main_arg0)) (m ((c : Thread nD τ).loc main_arg1)) (m ((c : Thread nD τ).loc main_arg2)) (((cfg0.win 12).blk t).view.emb y) := by
  refine (congrArg _ (eq_ix2 y)).trans ((all12_at _ _ _ _ _ _ _ _ _ _).trans ?_)
  refine nrmDot_congr (fun k => (blk0 m c t _ k).trans ?_) (fun k => blk1 m c t k) (fun k => (blk6 m c t k _).trans ?_)
  all_goals blk_ext [idx t]

/-- The whole array of result 5 the kernel leaves. -/
theorem final12 (c : Dev nD) : (dats m 0 c).arrAt 12 (cfgs 0).N
    = cols 3088 512 (by omega) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  frame_out
  exact point12 m c t y

/-- What the kernel stores in result 6 at an index of a block. -/
theorem pay13_at (v0 : Vec Ideal S512x1024 .f32) (v2 : Vec Ideal S1x1024 .f32) (v17 : Vec Ideal S1024x512 .bf16) (r : Fin 512) (l : Fin 512) :
    k0_pay3 (k0_pay4 v0 v2) v17 (ix2 r l) = nrmDot (fun k => v0 (ix2 r k)) (fun k => v2 (ix2 0 k)) (fun k => v17 (ix2 k l)) := by
  pointwise [k0_pay3, k0_pay8, k0_pay4, nrmDot, nrm]

/-- The same, over all the blocks the kernel holds. -/
theorem all13_at (x0 : Vec Ideal S512x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r l : Fin 512) :
    k0_pay3 (k0_pay9 x0 x1 x2 x3 x4 x5 x6 x7) x7 (ix2 r l)
      = nrmDot (fun k => x0 (ix2 r k)) (fun k => x1 (ix2 0 k)) (fun k => x7 (ix2 k l)) := by
  rw [pay9]
  exact pay13_at x0 x1 x7 r l

/-- The weight columns of result 6. -/
theorem blk7 (c : Dev nD) (t : Fin cfg0.N) (k : Fin 1024) (l : Fin 512) :
    (iblk m c 7 t : Vec Ideal S1024x512 .bf16) (ix2 k l)
      = m ((c : Thread nD τ).loc main_arg2) (ix2 (n0 := 1024) (n1 := 4112) k ⟨3600 + l.val, by omega⟩) := by
  blk_simp [iblk, idx t]
  entry_read
  pointwise
  blk_ext [idx t]

/-- One grid point's block of result 6 is that block of the whole. -/
theorem point13 (c : Dev nD) (t : Fin cfg0.N) (y : S512x512.Idx) :
    k0_pay3 (k0_pay9 (iblk m c 0 t) (iblk m c 1 t) (iblk m c 2 t) (iblk m c 3 t) (iblk m c 4 t) (iblk m c 5 t) (iblk m c 6 t)
        (iblk m c 7 t)) (iblk m c 7 t) y
      = cols 3600 512 (by omega) (m ((c : Thread nD τ).loc main_arg0)) (m ((c : Thread nD τ).loc main_arg1)) (m ((c : Thread nD τ).loc main_arg2)) (((cfg0.win 13).blk t).view.emb y) := by
  refine (congrArg _ (eq_ix2 y)).trans ((all13_at _ _ _ _ _ _ _ _ _ _).trans ?_)
  refine nrmDot_congr (fun k => (blk0 m c t _ k).trans ?_) (fun k => blk1 m c t k) (fun k => (blk7 m c t k _).trans ?_)
  all_goals blk_ext [idx t]

/-- The whole array of result 6 the kernel leaves. -/
theorem final13 (c : Dev nD) : (dats m 0 c).arrAt 13 (cfgs 0).N
    = cols 3600 512 (by omega) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  frame_out
  exact point13 m c t y

end Cert.ProjIdeal.Hand

namespace Cert.ProjRefIdeal.Hand

open Cert.ProjRefIdeal Cert.ProjRefIdeal.Gen Cert.ProjRefIdeal.Read Cert.Spec

/-- The reference's result 1 is the same function. -/
theorem ref8 (x : FVec Ideal S8x2048x1024 .f32) (g : FVec Ideal S1024 .f32) (w : FVec Ideal S1024x4112 .f32) :
    val_main_v21 (F := Ideal) x g w = Cert.ProjIdeal.Hand.cols 0 1024 (by omega) x g w := by
  funext j
  pointwise [val_main_v21, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]

/-- The reference's result 2 is the same function. -/
theorem ref9 (x : FVec Ideal S8x2048x1024 .f32) (g : FVec Ideal S1024 .f32) (w : FVec Ideal S1024x4112 .f32) :
    val_main_v22 (F := Ideal) x g w = Cert.ProjIdeal.Hand.cols 1024 1536 (by omega) x g w := by
  funext j
  pointwise [val_main_v22, val_main_v15, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]

/-- Two conditionals that differ by conditions that hold. -/
theorem dite_and {A B C : Prop} [Decidable (A ∧ B ∧ C)] [Decidable C] (ha : A) (hb : B) (f : A ∧ B ∧ C → EReal)
    (f' : C → EReal) (hf : ∀ h h', f h = f' h') : dite (A ∧ B ∧ C) f (fun _ => 0) = dite C f' (fun _ => 0) := by
  by_cases h : C
  · rw [dif_pos h, dif_pos ⟨ha, hb, h⟩, hf]
  · rw [dif_neg h, dif_neg fun H => h H.2.2]

/-- The reference's result 3 is the same function. -/
theorem ref10 (x : FVec Ideal S8x2048x1024 .f32) (g : FVec Ideal S1024 .f32) (w : FVec Ideal S1024x4112 .f32) :
    val_main_v23 (F := Ideal) x g w = Cert.ProjIdeal.Hand.steps x g w := by
  funext j
  pointwise [val_main_v23, val_main_v16, val_main_v20, val_main_cst_2, Cert.ProjIdeal.Hand.steps, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]
  have h0 : (j 0).val / 2048 < 8 := Nat.div_lt_of_lt_mul (j 0).isLt
  exact dite_and h0 (Nat.mod_lt _ (by decide)) _ _ fun _ _ => rfl

/-- The reference's result 4 is the same function. -/
theorem ref11 (x : FVec Ideal S8x2048x1024 .f32) (g : FVec Ideal S1024 .f32) (w : FVec Ideal S1024x4112 .f32) :
    val_main_v24 (F := Ideal) x g w = Cert.ProjIdeal.Hand.cols 2576 512 (by omega) x g w := by
  funext j
  pointwise [val_main_v24, val_main_v17, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]

/-- The reference's result 5 is the same function. -/
theorem ref12 (x : FVec Ideal S8x2048x1024 .f32) (g : FVec Ideal S1024 .f32) (w : FVec Ideal S1024x4112 .f32) :
    val_main_v25 (F := Ideal) x g w = Cert.ProjIdeal.Hand.cols 3088 512 (by omega) x g w := by
  funext j
  pointwise [val_main_v25, val_main_v18, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]

/-- The reference's result 6 is the same function. -/
theorem ref13 (x : FVec Ideal S8x2048x1024 .f32) (g : FVec Ideal S1024 .f32) (w : FVec Ideal S1024x4112 .f32) :
    val_main_v26 (F := Ideal) x g w = Cert.ProjIdeal.Hand.cols 3600 512 (by omega) x g w := by
  funext j
  pointwise [val_main_v26, val_main_v19, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjIdeal.Hand.cols, nrmDot, nrm]

end Cert.ProjRefIdeal.Hand

namespace Cert.Proof

/-- Over the extended reals the in-projection's six results are the reference's. -/
theorem algebraic_Proj : Cert.algebraic_ProjIdeal_ProjRefIdeal := by
  pair_intro
  · run_from Cert.ProjIdeal.Value.run_blocks m g
  · run_from Cert.ProjRefIdeal.Value.run m' g'
    · exact (Cert.ProjRefIdeal.Read.val_main_v21_eq _ _ _).trans
        ((Cert.ProjRefIdeal.Hand.ref8 _ _ _).trans (Cert.ProjIdeal.Hand.final8 m c).symm)
    · exact (Cert.ProjRefIdeal.Read.val_main_v22_eq _ _ _).trans
        ((Cert.ProjRefIdeal.Hand.ref9 _ _ _).trans (Cert.ProjIdeal.Hand.final9 m c).symm)
    · exact (Cert.ProjRefIdeal.Read.val_main_v23_eq _ _ _).trans
        ((Cert.ProjRefIdeal.Hand.ref10 _ _ _).trans (Cert.ProjIdeal.Hand.final10 m c).symm)
    · exact (Cert.ProjRefIdeal.Read.val_main_v24_eq _ _ _).trans
        ((Cert.ProjRefIdeal.Hand.ref11 _ _ _).trans (Cert.ProjIdeal.Hand.final11 m c).symm)
    · exact (Cert.ProjRefIdeal.Read.val_main_v25_eq _ _ _).trans
        ((Cert.ProjRefIdeal.Hand.ref12 _ _ _).trans (Cert.ProjIdeal.Hand.final12 m c).symm)
    · exact (Cert.ProjRefIdeal.Read.val_main_v26_eq _ _ _).trans
        ((Cert.ProjRefIdeal.Hand.ref13 _ _ _).trans (Cert.ProjIdeal.Hand.final13 m c).symm)

end Cert.Proof

end
-- ==== Proof.MemKvVal.lean ====
/- The memory key/value projection: the kernel's two results are the reference's. -/
module

public import proofs.«01_k».proof.Defs
public import proofs.«01_k».proof.Proof.Norm
public import proofs.«01_k».proof.Proof.Gen.MemKvIdeal.Value
public import proofs.«01_k».proof.Proof.Gen.MemKvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Hand

open Cert.MemKvIdeal Cert.MemKvIdeal.Gen Cert.Spec

variable (m : (ℓ : Loc nD τ sig) → Buf (Elt Ideal) ℓ)

/-- Keys: what the kernel stores at row `r`, lane `l` of a block is the normalised row times the weight column. -/
theorem pay2_at (v0 : Vec Ideal S512x1024 .f32) (v2 : Vec Ideal S1x1024 .f32) (v17 : Vec Ideal S1024x512 .bf16)
    (r : Fin 512) (l : Fin 512) :
    k0_pay2 v0 v2 v17 (ix2 r l) = nrmDot (fun k => v0 (ix2 r k)) (fun k => v2 (ix2 0 k)) (fun k => v17 (ix2 k l)) := by
  pointwise [k0_pay2, k0_pay1, nrmDot, nrm]

/-- Values: the same, with the other half of the weight. -/
theorem pay3_at (v0 : Vec Ideal S512x1024 .f32) (v2 : Vec Ideal S1x1024 .f32) (v21 : Vec Ideal S1024x512 .bf16)
    (r : Fin 512) (l : Fin 512) :
    k0_pay3 v0 v2 v21 (ix2 r l) = nrmDot (fun k => v0 (ix2 r k)) (fun k => v2 (ix2 0 k)) (fun k => v21 (ix2 k l)) := by
  pointwise [k0_pay3, k0_pay1, nrmDot, nrm]

/-- The key result as one function of the arguments. -/
def keys (x : FVec Ideal S8x256x1024 .f32) (g : FVec Ideal S1024 .f32) (w : FVec Ideal S1024x1024 .f32) : FVec Ideal S2048x512 .f32 :=
  fun j => nrmDot (fun k => x (ix3 ⟨(j 0).val / 256, by have h : (j 0).val < 2048 := (j 0).isLt; omega⟩
      ⟨(j 0).val % 256, by omega⟩ k)) (fun k => g (ix1 k))
    (fun k => w (ix2 k ⟨(j 1).val, by have h : (j 1).val < 512 := (j 1).isLt; omega⟩))

/-- The value result as one function of the arguments. -/
def vals (x : FVec Ideal S8x256x1024 .f32) (g : FVec Ideal S1024 .f32) (w : FVec Ideal S1024x1024 .f32) : FVec Ideal S2048x512 .f32 :=
  fun j => nrmDot (fun k => x (ix3 ⟨(j 0).val / 256, by have h : (j 0).val < 2048 := (j 0).isLt; omega⟩
      ⟨(j 0).val % 256, by omega⟩ k)) (fun k => g (ix1 k))
    (fun k => w (ix2 k ⟨512 + (j 1).val, by have h : (j 1).val < 512 := (j 1).isLt; omega⟩))

/-- Where each window's block sits at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The row block of the memory, read at its place in the argument. -/
theorem blk0 (c : Dev nD) (t : Fin cfg0.N) (r : Fin 512) (k : Fin 1024) :
    (iblk m c 0 t : Vec Ideal S512x1024 .f32) (ix2 r k)
      = m ((c : Thread nD τ).loc main_arg0) (ix3 (n0 := 8) (n1 := 256) ⟨(t.val * 512 + r.val) / 256, by have h : t.val < 4 := t.isLt; omega⟩
          ⟨(t.val * 512 + r.val) % 256, by omega⟩ k) := by
  blk_simp [iblk, idx t]
  entry_read
  pointwise
  blk_ext [idx t]

/-- The gains' block is the gains. -/
theorem blk1 (c : Dev nD) (t : Fin cfg0.N) (k : Fin 1024) :
    (iblk m c 1 t : Vec Ideal S1x1024 .f32) (ix2 0 k) = m ((c : Thread nD τ).loc main_arg1) (ix1 (n0 := 1024) k) := by
  blk_simp [iblk, idx t]
  entry_read
  pointwise
  blk_ext [idx t]

/-- The key half of the weight. -/
theorem blk2 (c : Dev nD) (t : Fin cfg0.N) (k : Fin 1024) (l : Fin 512) :
    (iblk m c 2 t : Vec Ideal S1024x512 .bf16) (ix2 k l)
      = m ((c : Thread nD τ).loc main_arg2) (ix2 (n0 := 1024) (n1 := 1024) k ⟨l.val, by omega⟩) := by
  blk_simp [iblk, idx t]
  entry_read
  pointwise
  blk_ext [idx t]

/-- The value half of the weight. -/
theorem blk3 (c : Dev nD) (t : Fin cfg0.N) (k : Fin 1024) (l : Fin 512) :
    (iblk m c 3 t : Vec Ideal S1024x512 .bf16) (ix2 k l)
      = m ((c : Thread nD τ).loc main_arg2) (ix2 (n0 := 1024) (n1 := 1024) k ⟨512 + l.val, by omega⟩) := by
  blk_simp [iblk, idx t]
  entry_read
  pointwise
  blk_ext [idx t]

/-- One grid point's block of keys is that block of the whole key result. -/
theorem point4 (c : Dev nD) (t : Fin cfg0.N) (y : S512x512.Idx) :
    k0_pay2 (iblk m c 0 t) (iblk m c 1 t) (iblk m c 2 t) y
      = keys (m ((c : Thread nD τ).loc main_arg0)) (m ((c : Thread nD τ).loc main_arg1)) (m ((c : Thread nD τ).loc main_arg2))
          (((cfg0.win 4).blk t).view.emb y) := by
  refine (congrArg _ (eq_ix2 y)).trans ((pay2_at _ _ _ _ _).trans ?_)
  refine nrmDot_congr (fun k => (blk0 m c t _ k).trans ?_) (fun k => blk1 m c t k) (fun k => (blk2 m c t k _).trans ?_)
  all_goals blk_ext [idx t]

/-- One grid point's block of values is that block of the whole value result. -/
theorem point5 (c : Dev nD) (t : Fin cfg0.N) (y : S512x512.Idx) :
    k0_pay3 (iblk m c 0 t) (iblk m c 1 t) (iblk m c 3 t) y
      = vals (m ((c : Thread nD τ).loc main_arg0)) (m ((c : Thread nD τ).loc main_arg1)) (m ((c : Thread nD τ).loc main_arg2))
          (((cfg0.win 5).blk t).view.emb y) := by
  refine (congrArg _ (eq_ix2 y)).trans ((pay3_at _ _ _ _ _).trans ?_)
  refine nrmDot_congr (fun k => (blk0 m c t _ k).trans ?_) (fun k => blk1 m c t k) (fun k => (blk3 m c t k _).trans ?_)
  all_goals blk_ext [idx t]

/-- The whole key array the kernel leaves. -/
theorem final4 (c : Dev nD) : (dats m 0 c).arrAt 4 (cfgs 0).N
    = keys (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point4 m c t y

/-- The whole value array the kernel leaves. -/
theorem final5 (c : Dev nD) : (dats m 0 c).arrAt 5 (cfgs 0).N
    = vals (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

end Cert.MemKvIdeal.Hand

namespace Cert.MemKvRefIdeal.Hand

open Cert.MemKvRefIdeal Cert.MemKvRefIdeal.Gen Cert.MemKvRefIdeal.Read Cert.Spec

/-- The reference's key result is the same function. -/
theorem ref_keys (x : FVec Ideal S8x256x1024 .f32) (g : FVec Ideal S1024 .f32) (w : FVec Ideal S1024x1024 .f32) :
    val_main_v16 (F := Ideal) x g w = Cert.MemKvIdeal.Hand.keys x g w := by
  funext j
  pointwise [val_main_v16, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, Cert.MemKvIdeal.Hand.keys, nrmDot, nrm]

/-- The reference's value result is the same function. -/
theorem ref_vals (x : FVec Ideal S8x256x1024 .f32) (g : FVec Ideal S1024 .f32) (w : FVec Ideal S1024x1024 .f32) :
    val_main_v17 (F := Ideal) x g w = Cert.MemKvIdeal.Hand.vals x g w := by
  funext j
  pointwise [val_main_v17, val_main_v15, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, Cert.MemKvIdeal.Hand.vals, nrmDot, nrm]

end Cert.MemKvRefIdeal.Hand

namespace Cert.Proof

/-- Over the extended reals the memory projection's keys and values are the reference's. -/
theorem algebraic_MemKv : Cert.algebraic_MemKvIdeal_MemKvRefIdeal := by
  pair_intro
  · run_from Cert.MemKvIdeal.Gen.run_main m g
  · run_from Cert.MemKvRefIdeal.Value.run m' g'
    · exact (Cert.MemKvRefIdeal.Read.val_main_v16_eq _ _ _).trans
        ((Cert.MemKvRefIdeal.Hand.ref_keys _ _ _).trans (Cert.MemKvIdeal.Hand.final4 m c).symm)
    · exact (Cert.MemKvRefIdeal.Read.val_main_v17_eq _ _ _).trans
        ((Cert.MemKvRefIdeal.Hand.ref_vals _ _ _).trans (Cert.MemKvIdeal.Hand.final5 m c).symm)

end Cert.Proof

end
-- ==== Proof.MlpFVal.lean ====
/- The MLP with the final normalisation: the kernel's result is the reference's. -/
module

public import proofs.«01_k».proof.Defs
public import proofs.«01_k».proof.Proof.Norm
public import proofs.«01_k».proof.Proof.Gen.MlpFIdeal.Value
public import proofs.«01_k».proof.Proof.Gen.MlpFRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpFIdeal.Hand

open Cert.MlpFIdeal Cert.MlpFIdeal.Gen Cert.Spec

variable (m : (ℓ : Loc nD τ sig) → Buf (Elt Ideal) ℓ)

/-- The normalised block, at an index. -/
theorem pay1_at (v0 : Vec Ideal S512x1024 .f32) (v1 : Vec Ideal S1x1024 .f32) (r : Fin 512) (k : Fin 1024) :
    k0_pay1 v0 v1 (ix2 r k) = nrm (fun k => v0 (ix2 r k)) (fun k => v1 (ix2 0 k)) k := by
  pointwise [k0_pay1, nrm]

/-- The row plus the first half of the hidden units' contributions. -/
theorem pay2_at (v0 : Vec Ideal S512x1024 .f32) (v1 : Vec Ideal S1x1024 .f32) (a b a' b' : Vec Ideal S1024x1024 .bf16)
    (r : Fin 512) (l : Fin 1024) :
    k0_pay2 v0 v1 a b a' b' (ix2 r l) = v0 (ix2 r l)
      + chunk (fun k => k0_pay1 v0 v1 (ix2 r k)) (fun k f => a (ix2 k f)) (fun f k => b (ix2 f k)) l
      + chunk (fun k => k0_pay1 v0 v1 (ix2 r k)) (fun k f => a' (ix2 k f)) (fun f k => b' (ix2 f k)) l := by
  pointwise [k0_pay2, chunk, act]

/-- The second half added, and the sum normalised. -/
theorem pay3_at (n : FVec Ideal S512x1024 .bf16) (v : FVec Ideal S512x1024 .f32) (a b a' b' : Vec Ideal S1024x1024 .bf16)
    (gf : Vec Ideal S1x1024 .f32) (r : Fin 512) (l : Fin 1024) :
    k0_pay3 n v a b a' b' gf (ix2 r l) = nrm (fun l => v (ix2 r l)
      + chunk (fun k => n (ix2 r k)) (fun k f => a (ix2 k f)) (fun f k => b (ix2 f k)) l
      + chunk (fun k => n (ix2 r k)) (fun k f => a' (ix2 k f)) (fun f k => b' (ix2 f k)) l) (fun k => gf (ix2 0 k)) l := by
  pointwise [k0_pay3, chunk, act, nrm]

/-- A piece of the first weight, read in the whole. -/
theorem ld2 (x : Vec Ideal S1024x4096 .bf16) (k f : Fin 1024) :
    (View.ld x r0_2 : Vec Ideal S1024x1024 .bf16) (ix2 k f) = x (ix2 (n0 := 1024) (n1 := 4096) k ⟨0 + f.val, by omega⟩) :=
  View.ld_unit_apply_of x _ _ _ _ _ (by intro a; fin_cases a <;> simp)

/-- A piece of the second weight, read in the whole. -/
theorem ld3 (x : Vec Ideal S4096x1024 .bf16) (k f : Fin 1024) :
    (View.ld x r0_3 : Vec Ideal S1024x1024 .bf16) (ix2 k f) = x (ix2 (n0 := 4096) (n1 := 1024) ⟨0 + k.val, by omega⟩ f) :=
  View.ld_unit_apply_of x _ _ _ _ _ (by intro a; fin_cases a <;> simp)

/-- A piece of the first weight, read in the whole. -/
theorem ld4 (x : Vec Ideal S1024x4096 .bf16) (k f : Fin 1024) :
    (View.ld x r0_4 : Vec Ideal S1024x1024 .bf16) (ix2 k f) = x (ix2 (n0 := 1024) (n1 := 4096) k ⟨1024 + f.val, by omega⟩) :=
  View.ld_unit_apply_of x _ _ _ _ _ (by intro a; fin_cases a <;> simp)

/-- A piece of the second weight, read in the whole. -/
theorem ld5 (x : Vec Ideal S4096x1024 .bf16) (k f : Fin 1024) :
    (View.ld x r0_5 : Vec Ideal S1024x1024 .bf16) (ix2 k f) = x (ix2 (n0 := 4096) (n1 := 1024) ⟨1024 + k.val, by omega⟩ f) :=
  View.ld_unit_apply_of x _ _ _ _ _ (by intro a; fin_cases a <;> simp)

/-- A piece of the first weight, read in the whole. -/
theorem ld6 (x : Vec Ideal S1024x4096 .bf16) (k f : Fin 1024) :
    (View.ld x r0_6 : Vec Ideal S1024x1024 .bf16) (ix2 k f) = x (ix2 (n0 := 1024) (n1 := 4096) k ⟨2048 + f.val, by omega⟩) :=
  View.ld_unit_apply_of x _ _ _ _ _ (by intro a; fin_cases a <;> simp)

/-- A piece of the second weight, read in the whole. -/
theorem ld7 (x : Vec Ideal S4096x1024 .bf16) (k f : Fin 1024) :
    (View.ld x r0_7 : Vec Ideal S1024x1024 .bf16) (ix2 k f) = x (ix2 (n0 := 4096) (n1 := 1024) ⟨2048 + k.val, by omega⟩ f) :=
  View.ld_unit_apply_of x _ _ _ _ _ (by intro a; fin_cases a <;> simp)

/-- A piece of the first weight, read in the whole. -/
theorem ld8 (x : Vec Ideal S1024x4096 .bf16) (k f : Fin 1024) :
    (View.ld x r0_8 : Vec Ideal S1024x1024 .bf16) (ix2 k f) = x (ix2 (n0 := 1024) (n1 := 4096) k ⟨3072 + f.val, by omega⟩) :=
  View.ld_unit_apply_of x _ _ _ _ _ (by intro a; fin_cases a <;> simp)

/-- A piece of the second weight, read in the whole. -/
theorem ld9 (x : Vec Ideal S4096x1024 .bf16) (k f : Fin 1024) :
    (View.ld x r0_9 : Vec Ideal S1024x1024 .bf16) (ix2 k f) = x (ix2 (n0 := 4096) (n1 := 1024) ⟨3072 + k.val, by omega⟩ f) :=
  View.ld_unit_apply_of x _ _ _ _ _ (by intro a; fin_cases a <;> simp)

/-- What the kernel stores at an index of a block is the MLP's output for that row. -/
theorem whole_at (x0 : Vec Ideal S512x1024 .f32) (x1 : Vec Ideal S1x1024 .f32) (x2 : Vec Ideal S1024x4096 .bf16)
    (x3 : Vec Ideal S4096x1024 .bf16) (x4 : Vec Ideal S1x1024 .f32) (r : Fin 512) (l : Fin 1024) :
    k0_pay3 (k0_pay1 x0 x1) (k0_pay2 x0 x1 (View.ld x2 r0_2) (View.ld x3 r0_3) (View.ld x2 r0_4) (View.ld x3 r0_5))
        (View.ld x2 r0_6) (View.ld x3 r0_7) (View.ld x2 r0_8) (View.ld x3 r0_9) x4 (ix2 r l)
      = mlpOut (fun k => x0 (ix2 r k)) (fun k => x1 (ix2 0 k)) (fun k f => x2 (ix2 k f)) (fun f k => x3 (ix2 f k))
          (fun k => x4 (ix2 0 k)) l := by
  rw [pay3_at]
  refine congrArg (fun v => nrm v (fun k => x4 (ix2 0 k)) l) (funext fun l => ?_)
  rw [pay2_at, mlpRow_chunks]
  exact congrArg₂ (· + ·) (congrArg₂ (· + ·) (congrArg₂ (· + ·) (congrArg₂ (· + ·) rfl
    (chunk_congr (pay1_at _ _ _) (ld2 _) (ld3 _))) (chunk_congr (pay1_at _ _ _) (ld4 _) (ld5 _)))
    (chunk_congr (pay1_at _ _ _) (ld6 _) (ld7 _))) (chunk_congr (pay1_at _ _ _) (ld8 _) (ld9 _))

/-- The result as one function of the arguments. -/
def res (x : FVec Ideal S16384x1024 .f32) (g : FVec Ideal S1024 .f32) (wu : FVec Ideal S1024x4096 .f32)
    (wd : FVec Ideal S4096x1024 .f32) (gf : FVec Ideal S1024 .f32) : FVec Ideal S16384x1024 .f32 :=
  fun j => mlpOut (fun k => x (ix2 ⟨(j 0).val, (j 0).isLt⟩ k)) (fun k => g (ix1 k)) (fun k f => wu (ix2 k f))
    (fun f k => wd (ix2 f k)) (fun k => gf (ix1 k)) ⟨(j 1).val, (j 1).isLt⟩

/-- Where each window's block sits at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row block, read at its place in the argument. -/
theorem blk0 (c : Dev nD) (t : Fin cfg0.N) (r : Fin 512) (k : Fin 1024) :
    (iblk m c 0 t : Vec Ideal S512x1024 .f32) (ix2 r k)
      = m ((c : Thread nD τ).loc main_arg0) (ix2 (n0 := 16384) (n1 := 1024) ⟨t.val * 512 + r.val, by have h : t.val < 32 := t.isLt; omega⟩ k) := by
  blk_simp [iblk, idx t]
  entry_read
  pointwise
  blk_ext [idx t]

/-- The gains' block is the gains. -/
theorem blk1 (c : Dev nD) (t : Fin cfg0.N) (k : Fin 1024) :
    (iblk m c 1 t : Vec Ideal S1x1024 .f32) (ix2 0 k) = m ((c : Thread nD τ).loc main_arg1) (ix1 (n0 := 1024) k) := by
  blk_simp [iblk, idx t]
  entry_read
  pointwise
  blk_ext [idx t]

/-- The first weight's block is the whole weight. -/
theorem blk2 (c : Dev nD) (t : Fin cfg0.N) (k : Fin 1024) (f : Fin 4096) :
    (iblk m c 2 t : Vec Ideal S1024x4096 .bf16) (ix2 k f) = m ((c : Thread nD τ).loc main_arg2) (ix2 (n0 := 1024) (n1 := 4096) k f) := by
  blk_simp [iblk, idx t]
  entry_read
  pointwise
  blk_ext [idx t]

/-- The second weight's block is the whole weight. -/
theorem blk3 (c : Dev nD) (t : Fin cfg0.N) (f : Fin 4096) (k : Fin 1024) :
    (iblk m c 3 t : Vec Ideal S4096x1024 .bf16) (ix2 f k) = m ((c : Thread nD τ).loc main_arg3) (ix2 (n0 := 4096) (n1 := 1024) f k) := by
  blk_simp [iblk, idx t]
  entry_read
  pointwise
  blk_ext [idx t]

/-- The final gains' block is the final gains. -/
theorem blk4 (c : Dev nD) (t : Fin cfg0.N) (k : Fin 1024) :
    (iblk m c 4 t : Vec Ideal S1x1024 .f32) (ix2 0 k) = m ((c : Thread nD τ).loc main_arg4) (ix1 (n0 := 1024) k) := by
  blk_simp [iblk, idx t]
  entry_read
  pointwise
  blk_ext [idx t]

/-- One grid point's block is that block of the whole result. -/
theorem point5 (c : Dev nD) (t : Fin cfg0.N) (y : S512x1024.Idx) :
    k0_pay3 (k0_pay1 (iblk m c 0 t) (iblk m c 1 t)) (k0_pay2 (iblk m c 0 t) (iblk m c 1 t) (View.ld (iblk m c 2 t) r0_2)
        (View.ld (iblk m c 3 t) r0_3) (View.ld (iblk m c 2 t) r0_4) (View.ld (iblk m c 3 t) r0_5))
        (View.ld (iblk m c 2 t) r0_6) (View.ld (iblk m c 3 t) r0_7) (View.ld (iblk m c 2 t) r0_8)
        (View.ld (iblk m c 3 t) r0_9) (iblk m c 4 t) y
      = res (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  refine (congrArg _ (eq_ix2 y)).trans ((whole_at _ _ _ _ _ _ _).trans ?_)
  refine mlpOut_congr (fun k => (blk0 m c t _ k).trans ?_) (fun k => blk1 m c t k) (fun k f => blk2 m c t k f)
    (fun f k => blk3 m c t f k) (fun k => blk4 m c t k) ?_
  · blk_ext [idx t]
  · exact Fin.ext (by blk_simp [idx t])

/-- The whole array the kernel leaves. -/
theorem final5 (c : Dev nD) : (dats m 0 c).arrAt 5 (cfgs 0).N
    = res (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point5 m c t y

end Cert.MlpFIdeal.Hand

namespace Cert.MlpFRefIdeal.Hand

open Cert.MlpFRefIdeal Cert.MlpFRefIdeal.Gen Cert.MlpFRefIdeal.Read Cert.Spec

/-- The reference's result is the same function. -/
theorem ref_res (x : FVec Ideal S16384x1024 .f32) (g : FVec Ideal S1024 .f32) (wu : FVec Ideal S1024x4096 .f32)
    (wd : FVec Ideal S4096x1024 .f32) (gf : FVec Ideal S1024 .f32) :
    val_main_v30 (F := Ideal) x g wu wd gf = Cert.MlpFIdeal.Hand.res x g wu wd gf := by
  funext j
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst,
    val_main_cst_0, val_main_cst_1, val_main_cst_2, val_main_cst_3, val_main_cst_4, Cert.MlpFIdeal.Hand.res, mlpOut, mlpRow, act, nrm]

end Cert.MlpFRefIdeal.Hand

namespace Cert.Proof

/-- Over the extended reals the MLP's result is the reference's. -/
theorem algebraic_MlpF : Cert.algebraic_MlpFIdeal_MlpFRefIdeal := by
  pair_intro
  · run_from Cert.MlpFIdeal.Gen.run_main m g
  · run_from Cert.MlpFRefIdeal.Value.run m' g'
    obtain ⟨h0, h1, h2, h3, h4⟩ := hagree c
    refine (Cert.MlpFRefIdeal.Read.val_main_v30_eq m' c).trans ?_
    rw [h0, h1, h2, h3, h4]
    exact (Cert.MlpFRefIdeal.Hand.ref_res _ _ _ _ _).trans (Cert.MlpFIdeal.Hand.final5 m c).symm

end Cert.Proof

end
-- ==== Proof.Attn.lean ====
/- The mixing of the two branches and the cross-attention, at one row: the functions both sides compute. -/
module

public import proofs.«01_k».proof.Proof.Norm
public import Idealize.ShloMosaic.Lib.Pipeline.ValueKit
public import Idealize.ShloMosaic.Lib.Claim

@[expose] public section

noncomputable section

namespace Cert.Spec

open Idealize.ShloMosaic

/-- The row of the stream plus the two branches' projections. -/
def mixRow (h ys : Fin 1024 → EReal) (ya : Fin 512 → EReal) (w : Fin 1536 → Fin 1024 → EReal) (l : Fin 1024) : EReal :=
  h l + ∑ k, ys k * w ⟨k.val, by omega⟩ l + ∑ k, ya k * w ⟨1024 + k.val, by omega⟩ l

/-- The values averaged with the softmax of the logits. -/
def softAvg (f v : Fin 256 → EReal) : EReal :=
  ∑ m, Ideal.div (Ideal.exp (f m - Finset.fold max (Ideal.ofBits .f32 0xFF800000#32) f Finset.univ))
      (∑ m', Ideal.exp (f m' - Finset.fold max (Ideal.ofBits .f32 0xFF800000#32) f Finset.univ)) * v m

/-- Lane `d` of head `hd`. -/
def lane (hd : Fin 4) (d : Fin 128) : Fin 512 := ⟨hd.val * 128 + d.val, by omega⟩

/-- One head's output at one of its lanes, from the scaled queries. -/
def headOut (q : Fin 512 → EReal) (mk mv : Fin 256 → Fin 512 → EReal) (hd : Fin 4) (d : Fin 128) : EReal :=
  softAvg (fun m => ∑ d', q (lane hd d') * mk m (lane hd d')) (fun m => mv m (lane hd d))

/-- The scaled query. -/
def query (row g : Fin 1024 → EReal) (wq : Fin 1024 → Fin 512 → EReal) (c : Fin 512) : EReal :=
  nrmDot row g (fun k => wq k c) * Ideal.ofBits .f32 0x3DB504F3#32

/-- The row plus the projected heads. -/
def caOut (row : Fin 1024 → EReal) (q : Fin 512 → EReal) (mk mv : Fin 256 → Fin 512 → EReal)
    (wco : Fin 512 → Fin 1024 → EReal) (l : Fin 1024) : EReal :=
  row l + ∑ hd, ∑ d, headOut q mk mv hd d * wco (lane hd d) l

/-- The whole step at one row. -/
def mixOut (h ys : Fin 1024 → EReal) (ya : Fin 512 → EReal) (mk mv : Fin 256 → Fin 512 → EReal)
    (w : Fin 1536 → Fin 1024 → EReal) (g : Fin 1024 → EReal) (wq : Fin 1024 → Fin 512 → EReal)
    (wco : Fin 512 → Fin 1024 → EReal) (l : Fin 1024) : EReal :=
  caOut (mixRow h ys ya w) (query (mixRow h ys ya w) g wq) mk mv wco l

/-- Equal inputs give equal outputs. -/
theorem mixOut_congr {h h' ys ys' g g' : Fin 1024 → EReal} {ya ya' : Fin 512 → EReal} {mk mk' mv mv' : Fin 256 → Fin 512 → EReal}
    {w w' : Fin 1536 → Fin 1024 → EReal} {wq wq' : Fin 1024 → Fin 512 → EReal} {wco wco' : Fin 512 → Fin 1024 → EReal}
    {l l' : Fin 1024} (eh : ∀ k, h k = h' k) (ey : ∀ k, ys k = ys' k) (ea : ∀ k, ya k = ya' k)
    (ek : ∀ m c, mk m c = mk' m c) (ev : ∀ m c, mv m c = mv' m c) (ew : ∀ k l, w k l = w' k l) (eg : ∀ k, g k = g' k)
    (eq : ∀ k c, wq k c = wq' k c) (eo : ∀ c l, wco c l = wco' c l) (el : l = l') :
    mixOut h ys ya mk mv w g wq wco l = mixOut h' ys' ya' mk' mv' w' g' wq' wco' l' := by
  rw [funext eh, funext ey, funext ea, funext fun m => funext (ek m), funext fun m => funext (ev m),
    funext fun k => funext (ew k), funext eg, funext fun k => funext (eq k), funext fun k => funext (eo k), el]

/-- Four pieces of 128 lanes side by side, times a column of 512: the sum piece by piece. -/
theorem four_pieces (a : Fin 4 → Fin 128 → EReal) (w : Fin 512 → EReal) :
    ∑ x : Fin 512, (if h : x.val < 128 then a 0 ⟨x.val, h⟩ else if h : x.val - 128 < 128 then a 1 ⟨x.val - 128, h⟩
        else if h : x.val - 128 - 128 < 128 then a 2 ⟨x.val - 128 - 128, h⟩
        else a 3 ⟨x.val - 128 - 128 - 128, by omega⟩) * w x
      = ∑ hd, ∑ d, a hd d * w (lane hd d) := by
  rw [Fin.sum_univ_tiles 4 128 rfl]
  refine Finset.sum_congr rfl fun hd _ => Finset.sum_congr rfl fun d _ => ?_
  refine congrArg₂ (· * ·) ?_ rfl
  match hd with
  | 0 => exact (dif_pos (show 0 * 128 + d.val < 128 by omega)).trans (congrArg (a 0) (Fin.ext (show 0 * 128 + d.val = d.val by omega)))
  | 1 =>
    exact (dif_neg (show ¬ 1 * 128 + d.val < 128 by omega)).trans ((dif_pos (show 1 * 128 + d.val - 128 < 128 by omega)).trans
      (congrArg (a 1) (Fin.ext (show 1 * 128 + d.val - 128 = d.val by omega))))
  | 2 =>
    exact (dif_neg (show ¬ 2 * 128 + d.val < 128 by omega)).trans ((dif_neg (show ¬ 2 * 128 + d.val - 128 < 128 by omega)).trans
      ((dif_pos (show 2 * 128 + d.val - 128 - 128 < 128 by omega)).trans
        (congrArg (a 2) (Fin.ext (show 2 * 128 + d.val - 128 - 128 = d.val by omega)))))
  | 3 =>
    exact (dif_neg (show ¬ 3 * 128 + d.val < 128 by omega)).trans ((dif_neg (show ¬ 3 * 128 + d.val - 128 < 128 by omega)).trans
      ((dif_neg (show ¬ 3 * 128 + d.val - 128 - 128 < 128 by omega)).trans
        (congrArg (a 3) (Fin.ext (show 3 * 128 + d.val - 128 - 128 - 128 = d.val by omega)))))

/-- The scale is a real number, not negative. -/
theorem scale_real : ∃ r : ℝ, 0 ≤ r ∧ Ideal.ofBits .f32 0x3DB504F3#32 = (r : EReal) := by
  refine ⟨_, ?_, by simp [Ideal.ofBits, Ideal.ieee, -EReal.coe_mul]; rfl⟩
  positivity

/-- A factor that is a real number, not negative, moves into a sum. -/
theorem sum_mul_real {n : Nat} (r : ℝ) (hr : 0 ≤ r) (f : Fin n → EReal) : (∑ k, f k) * (r : EReal) = ∑ k, f k * (r : EReal) := by
  induction n with
  | zero => simp
  | succ n ih =>
    rw [Fin.sum_univ_succ, Fin.sum_univ_succ, ← ih,
      EReal.right_distrib_of_nonneg_of_ne_top (EReal.coe_nonneg.2 hr) (EReal.coe_ne_top r)]

/-- The scale multiplied into the queries instead of the logits. -/
theorem logit_scale (q k : Fin 128 → EReal) :
    (∑ d, q d * k d) * Ideal.ofBits .f32 0x3DB504F3#32 = ∑ d, q d * Ideal.ofBits .f32 0x3DB504F3#32 * k d := by
  obtain ⟨r, hr, e⟩ := scale_real
  rw [e, sum_mul_real r hr]
  exact Finset.sum_congr rfl fun d _ => by rw [mul_assoc, mul_comm (k d), ← mul_assoc]

/-- A maximum taken from a value is not below it. -/
theorem max_fold {n : Nat} (b : EReal) (f : Fin n → EReal) : max b (Finset.fold max b f Finset.univ) = Finset.fold max b f Finset.univ :=
  max_eq_right ((Finset.le_fold_max _).2 (.inl le_rfl))

end Cert.Spec

end
-- ==== Proof.MixKer.lean ====
/- The mixing of the two branches and the cross-attention: what the kernel leaves. -/
module

public import proofs.«01_k».proof.Defs
public import proofs.«01_k».proof.Proof.Attn
public import proofs.«01_k».proof.Proof.Gen.MixIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Hand

open Cert.MixIdeal Cert.MixIdeal.Gen Cert.Spec

variable (m : (ℓ : Loc nD τ sig) → Buf (Elt Ideal) ℓ)

/-- The stream's row with the two branches added, at an index. -/
theorem pay2_at (v0 v1 : Vec Ideal S512x1024 .f32) (v3 : Vec Ideal S1024x1024 .bf16) (v7 : Vec Ideal S512x512 .f32)
    (v9 : Vec Ideal S512x1024 .bf16) (r : Fin 512) (l : Fin 1024) :
    k0_pay2 v0 v1 v3 v7 v9 (ix2 r l)
      = v0 (ix2 r l) + ∑ k, v1 (ix2 r k) * v3 (ix2 k l) + ∑ k, v7 (ix2 r k) * v9 (ix2 k l) := by
  pointwise [k0_pay2]

/-- The scaled queries, at an index. -/
theorem pay3_at (v0 v1 : Vec Ideal S512x1024 .f32) (v3 : Vec Ideal S1024x1024 .bf16) (v7 : Vec Ideal S512x512 .f32)
    (v9 : Vec Ideal S512x1024 .bf16) (v13 : Vec Ideal S1x1024 .f32) (v28 : Vec Ideal S1024x512 .bf16) (r : Fin 512) (c : Fin 512) :
    k0_pay3 v0 v1 v3 v7 v9 v13 v28 (ix2 r c)
      = query (fun l => k0_pay2 v0 v1 v3 v7 v9 (ix2 r l)) (fun k => v13 (ix2 0 k)) (fun k c => v28 (ix2 k c)) c := by
  pointwise [k0_pay3, query, nrmDot, nrm]

/-- The first head, at an index. -/
theorem pay6_at (q : FVec Ideal S512x512 .f32) (k : FVec Ideal S256x512 .f32) (v : Vec Ideal S1x256x512 .f32)
    (r : Fin 512) (d : Fin 128) :
    k0_pay6 q k v (ix2 r d) = headOut (fun c => q (ix2 r c)) (fun m c => k (ix2 m c)) (fun m c => v (ix3 0 m c)) 0 d := by
  pointwise [k0_pay6, k0_pay5, headOut, softAvg, lane]

/-- The second head, at an index. -/
theorem pay7_at (q : FVec Ideal S512x512 .f32) (k : FVec Ideal S256x512 .f32) (v : Vec Ideal S1x256x512 .f32)
    (r : Fin 512) (d : Fin 128) :
    k0_pay7 q k v (ix2 r d) = headOut (fun c => q (ix2 r c)) (fun m c => k (ix2 m c)) (fun m c => v (ix3 0 m c)) 1 d := by
  pointwise [k0_pay7, k0_pay5, headOut, softAvg, lane]

/-- The whole block, at an index. -/
theorem pay1_at (row : FVec Ideal S512x1024 .f32) (q : FVec Ideal S512x512 .f32) (k : FVec Ideal S256x512 .f32)
    (v : Vec Ideal S1x256x512 .f32) (o : Vec Ideal S512x1024 .bf16) (r : Fin 512) (l : Fin 1024) :
    k0_pay1 row q k (k0_pay5 v) (k0_pay6 q k v) (k0_pay7 q k v) (k0_pay8 q k) o (ix2 r l)
      = caOut (fun l => row (ix2 r l)) (fun c => q (ix2 r c)) (fun m c => k (ix2 m c)) (fun m c => v (ix3 0 m c))
          (fun c l => o (ix2 c l)) l := by
  refine Eq.trans (b := row (ix2 r l) + ∑ x : Fin 512, (if h : x.val < 128 then k0_pay6 q k v (ix2 r ⟨x.val, h⟩)
        else if h : x.val - 128 < 128 then k0_pay7 q k v (ix2 r ⟨x.val - 128, h⟩)
        else if h : x.val - 128 - 128 < 128 then headOut (fun c => q (ix2 r c)) (fun m c => k (ix2 m c)) (fun m c => v (ix3 0 m c)) 2 ⟨x.val - 128 - 128, h⟩
        else headOut (fun c => q (ix2 r c)) (fun m c => k (ix2 m c)) (fun m c => v (ix3 0 m c)) 3 ⟨x.val - 128 - 128 - 128, by omega⟩) * o (ix2 x l)) ?_ ?_
  · pointwise [k0_pay1, k0_pay8, k0_pay5, headOut, softAvg, lane]
  · simp only [pay6_at, pay7_at]
    exact congrArg (row (ix2 r l) + ·)
      (four_pieces (headOut (fun c => q (ix2 r c)) (fun m c => k (ix2 m c)) (fun m c => v (ix3 0 m c))) (fun x => o (ix2 x l)))

/-- What one grid point leaves, over any blocks. -/
theorem point_at (x0 x1 : Vec Ideal S512x1024 .f32) (x2 : Vec Ideal S512x512 .f32) (x3 x4 : Vec Ideal S1x256x512 .f32)
    (x5 : Vec Ideal S1024x1024 .bf16) (x6 : Vec Ideal S512x1024 .bf16) (x7 : Vec Ideal S1x1024 .f32) (x8 : Vec Ideal S1024x512 .bf16)
    (x9 : Vec Ideal S512x1024 .bf16) (w : Fin 1536 → Fin 1024 → EReal)
    (h5 : ∀ k l, x5 (ix2 k l) = w ⟨k.val, by omega⟩ l) (h6 : ∀ k l, x6 (ix2 k l) = w ⟨1024 + k.val, by omega⟩ l)
    (r : Fin 512) (l : Fin 1024) :
    k0_pay1 (k0_pay2 x0 x1 x5 x2 x6) (k0_pay3 x0 x1 x5 x2 x6 x7 x8) (k0_pay4 x3) (k0_pay5 x4)
        (k0_pay6 (k0_pay3 x0 x1 x5 x2 x6 x7 x8) (k0_pay4 x3) x4) (k0_pay7 (k0_pay3 x0 x1 x5 x2 x6 x7 x8) (k0_pay4 x3) x4)
        (k0_pay8 (k0_pay3 x0 x1 x5 x2 x6 x7 x8) (k0_pay4 x3)) x9 (ix2 r l)
      = mixOut (fun k => x0 (ix2 r k)) (fun k => x1 (ix2 r k)) (fun k => x2 (ix2 r k)) (fun m c => x3 (ix3 0 m c))
          (fun m c => x4 (ix3 0 m c)) w (fun k => x7 (ix2 0 k)) (fun k c => x8 (ix2 k c)) (fun c l => x9 (ix2 c l)) l := by
  have e2 : (fun l => k0_pay2 x0 x1 x5 x2 x6 (ix2 r l)) = mixRow (fun k => x0 (ix2 r k)) (fun k => x1 (ix2 r k)) (fun k => x2 (ix2 r k)) w := by
    funext l
    rw [pay2_at]
    simp only [h5, h6]
    rfl
  have e4 : ∀ m c, k0_pay4 x3 (ix2 m c) = x3 (ix3 0 m c) := by
    intro m c
    pointwise [k0_pay4]
  rw [pay1_at, e2]
  simp only [pay3_at, e2, e4]
  rfl

/-- Where each window's block lies, at every grid point. -/
theorem idx : ∀ t : Fin cfg0.N, win0_0.index t = ![t.val, 0] ∧ win0_1.index t = ![t.val, 0] ∧ win0_2.index t = ![t.val, 0]
    ∧ win0_3.index t = ![t.val / 4, 0, 0] ∧ win0_4.index t = ![t.val / 4, 0, 0] ∧ win0_5.index t = ![0, 0] ∧ win0_6.index t = ![0, 0]
    ∧ win0_7.index t = ![0, 0] ∧ win0_8.index t = ![0, 0] ∧ win0_9.index t = ![0, 0] ∧ win0_10.index t = ![t.val, 0] := by
  decide +kernel

/-- The scaled queries the kernel holds, over all its blocks. -/
theorem pay9 (x0 x1 : Vec Ideal S512x1024 .f32) (x2 : Vec Ideal S512x512 .f32) (x3 x4 : Vec Ideal S1x256x512 .f32)
    (x5 : Vec Ideal S1024x1024 .bf16) (x6 : Vec Ideal S512x1024 .bf16) (x7 : Vec Ideal S1x1024 .f32) (x8 : Vec Ideal S1024x512 .bf16)
    (x9 : Vec Ideal S512x1024 .bf16) :
    k0_pay9 x0 x1 x2 x3 x4 x5 x6 x7 x8 x9 = k0_pay3 x0 x1 x5 x2 x6 x7 x8 := by
  unfold k0_pay9
  rw [View.ld_unit_lit, View.ld_unit_lit, View.ld_unit_lit, View.ld_unit_lit, View.ld_unit_lit, View.ld_unit_lit, View.ld_unit_lit] <;> (intro a; fin_cases a <;> rfl)

/-- The keys the kernel holds, over all its blocks. -/
theorem pay10 (x0 x1 : Vec Ideal S512x1024 .f32) (x2 : Vec Ideal S512x512 .f32) (x3 x4 : Vec Ideal S1x256x512 .f32)
    (x5 : Vec Ideal S1024x1024 .bf16) (x6 : Vec Ideal S512x1024 .bf16) (x7 : Vec Ideal S1x1024 .f32) (x8 : Vec Ideal S1024x512 .bf16)
    (x9 : Vec Ideal S512x1024 .bf16) :
    k0_pay10 x0 x1 x2 x3 x4 x5 x6 x7 x8 x9 = k0_pay4 x3 := by
  unfold k0_pay10
  rw [View.ld_unit_lit] <;> (intro a; fin_cases a <;> rfl)

/-- What one grid point leaves, over all the blocks the kernel holds. -/
theorem all_at (x0 x1 : Vec Ideal S512x1024 .f32) (x2 : Vec Ideal S512x512 .f32) (x3 x4 : Vec Ideal S1x256x512 .f32)
    (x5 : Vec Ideal S1024x1024 .bf16) (x6 : Vec Ideal S512x1024 .bf16) (x7 : Vec Ideal S1x1024 .f32) (x8 : Vec Ideal S1024x512 .bf16)
    (x9 : Vec Ideal S512x1024 .bf16) (w : Fin 1536 → Fin 1024 → EReal)
    (h5 : ∀ k l, x5 (ix2 k l) = w ⟨k.val, by omega⟩ l) (h6 : ∀ k l, x6 (ix2 k l) = w ⟨1024 + k.val, by omega⟩ l)
    (r : Fin 512) (l : Fin 1024) :
    k0_pay1 (k0_pay2 x0 x1 x5 x2 x6) (k0_pay9 x0 x1 x2 x3 x4 x5 x6 x7 x8 x9)
        (k0_pay10 x0 x1 x2 x3 x4 x5 x6 x7 x8 x9) (k0_pay5 x4)
        (k0_pay6 (k0_pay9 x0 x1 x2 x3 x4 x5 x6 x7 x8 x9) (k0_pay10 x0 x1 x2 x3 x4 x5 x6 x7 x8 x9) x4)
        (k0_pay7 (k0_pay9 x0 x1 x2 x3 x4 x5 x6 x7 x8 x9) (k0_pay10 x0 x1 x2 x3 x4 x5 x6 x7 x8 x9) x4)
        (k0_pay8 (k0_pay9 x0 x1 x2 x3 x4 x5 x6 x7 x8 x9) (k0_pay10 x0 x1 x2 x3 x4 x5 x6 x7 x8 x9)) x9 (ix2 r l)
      = mixOut (fun k => x0 (ix2 r k)) (fun k => x1 (ix2 r k)) (fun k => x2 (ix2 r k)) (fun m c => x3 (ix3 0 m c))
          (fun m c => x4 (ix3 0 m c)) w (fun k => x7 (ix2 0 k)) (fun k c => x8 (ix2 k c)) (fun c l => x9 (ix2 c l)) l := by
  rw [pay9, pay10]
  exact point_at x0 x1 x2 x3 x4 x5 x6 x7 x8 x9 w h5 h6 r l

/-- The whole result, from the call's arguments. -/
def mixed (h ys : FVec Ideal S16384x1024 .f32) (ya : FVec Ideal S16384x512 .f32) (mk mv : FVec Ideal S8x256x512 .f32)
    (w : FVec Ideal S1536x1024 .f32) (g : FVec Ideal S1024 .f32) (wq : FVec Ideal S1024x512 .f32) (wco : FVec Ideal S512x1024 .f32)
    (j : S16384x1024.Idx) : EReal :=
  mixOut (fun k => h (ix2 (j 0) k)) (fun k => ys (ix2 (j 0) k)) (fun k => ya (ix2 (j 0) k))
    (fun m c => mk (ix3 (n0 := 8) ⟨(j 0).val / 2048, by have h : (j 0).val < 16384 := (j 0).isLt; omega⟩ m c))
    (fun m c => mv (ix3 (n0 := 8) ⟨(j 0).val / 2048, by have h : (j 0).val < 16384 := (j 0).isLt; omega⟩ m c))
    (fun k l => w (ix2 k l)) (fun k => g (ix1 k)) (fun k c => wq (ix2 k c)) (fun c l => wco (ix2 c l)) (j 1)

/-- A row block, read at its place in the argument. -/
theorem blk0 (c : Dev nD) (t : Fin cfg0.N) (r : Fin 512) (k : Fin 1024) :
    (iblk m c 0 t : Vec Ideal S512x1024 .f32) (ix2 r k)
      = m ((c : Thread nD τ).loc main_arg0) (ix2 (n0 := 16384) (n1 := 1024) ⟨t.val * 512 + r.val, by have h : t.val < 32 := t.isLt; omega⟩ k) := by
  blk_simp [iblk, idx t]
  entry_read
  pointwise
  blk_ext [idx t]

/-- A row block, read at its place in the argument. -/
theorem blk1 (c : Dev nD) (t : Fin cfg0.N) (r : Fin 512) (k : Fin 1024) :
    (iblk m c 1 t : Vec Ideal S512x1024 .f32) (ix2 r k)
      = m ((c : Thread nD τ).loc main_arg1) (ix2 (n0 := 16384) (n1 := 1024) ⟨t.val * 512 + r.val, by have h : t.val < 32 := t.isLt; omega⟩ k) := by
  blk_simp [iblk, idx t]
  entry_read
  pointwise
  blk_ext [idx t]

/-- A row block, read at its place in the argument. -/
theorem blk2 (c : Dev nD) (t : Fin cfg0.N) (r : Fin 512) (k : Fin 512) :
    (iblk m c 2 t : Vec Ideal S512x512 .f32) (ix2 r k)
      = m ((c : Thread nD τ).loc main_arg2) (ix2 (n0 := 16384) (n1 := 512) ⟨t.val * 512 + r.val, by have h : t.val < 32 := t.isLt; omega⟩ k) := by
  blk_simp [iblk, idx t]
  entry_read
  pointwise
  blk_ext [idx t]

/-- The sequence's block of memory, read at its place in the argument. -/
theorem blk3 (c : Dev nD) (t : Fin cfg0.N) (k : Fin 256) (l : Fin 512) :
    (iblk m c 3 t : Vec Ideal S1x256x512 .f32) (ix3 0 k l)
      = m ((c : Thread nD τ).loc main_arg3) (ix3 (n0 := 8) (n1 := 256) (n2 := 512) ⟨t.val / 4, by have h : t.val < 32 := t.isLt; omega⟩ k l) := by
  blk_simp [iblk, idx t]
  entry_read
  pointwise
  blk_ext [idx t]

/-- The sequence's block of memory, read at its place in the argument. -/
theorem blk4 (c : Dev nD) (t : Fin cfg0.N) (k : Fin 256) (l : Fin 512) :
    (iblk m c 4 t : Vec Ideal S1x256x512 .f32) (ix3 0 k l)
      = m ((c : Thread nD τ).loc main_arg4) (ix3 (n0 := 8) (n1 := 256) (n2 := 512) ⟨t.val / 4, by have h : t.val < 32 := t.isLt; omega⟩ k l) := by
  blk_simp [iblk, idx t]
  entry_read
  pointwise
  blk_ext [idx t]

/-- The first branch's rows of the weight. -/
theorem blk5 (c : Dev nD) (t : Fin cfg0.N) (k l : Fin 1024) :
    (iblk m c 5 t : Vec Ideal S1024x1024 .bf16) (ix2 k l)
      = m ((c : Thread nD τ).loc main_arg5) (ix2 (n0 := 1536) (n1 := 1024) ⟨k.val, by omega⟩ l) := by
  blk_simp [iblk, idx t]
  entry_read
  pointwise
  blk_ext [idx t]

/-- The second branch's rows of the weight. -/
theorem blk6 (c : Dev nD) (t : Fin cfg0.N) (k : Fin 512) (l : Fin 1024) :
    (iblk m c 6 t : Vec Ideal S512x1024 .bf16) (ix2 k l)
      = m ((c : Thread nD τ).loc main_arg5) (ix2 (n0 := 1536) (n1 := 1024) ⟨1024 + k.val, by omega⟩ l) := by
  blk_simp [iblk, idx t]
  entry_read
  pointwise
  blk_ext [idx t]

/-- The gains. -/
theorem blk7 (c : Dev nD) (t : Fin cfg0.N) (k : Fin 1024) :
    (iblk m c 7 t : Vec Ideal S1x1024 .f32) (ix2 0 k)
      = m ((c : Thread nD τ).loc main_arg6) (ix1 (n0 := 1024) k) := by
  blk_simp [iblk, idx t]
  entry_read
  pointwise
  blk_ext [idx t]

/-- The query weight. -/
theorem blk8 (c : Dev nD) (t : Fin cfg0.N) (k : Fin 1024) (l : Fin 512) :
    (iblk m c 8 t : Vec Ideal S1024x512 .bf16) (ix2 k l)
      = m ((c : Thread nD τ).loc main_arg7) (ix2 (n0 := 1024) (n1 := 512) k l) := by
  blk_simp [iblk, idx t]
  entry_read
  pointwise
  blk_ext [idx t]

/-- The output weight. -/
theorem blk9 (c : Dev nD) (t : Fin cfg0.N) (k : Fin 512) (l : Fin 1024) :
    (iblk m c 9 t : Vec Ideal S512x1024 .bf16) (ix2 k l)
      = m ((c : Thread nD τ).loc main_arg8) (ix2 (n0 := 512) (n1 := 1024) k l) := by
  blk_simp [iblk, idx t]
  entry_read
  pointwise
  blk_ext [idx t]

/-- One grid point's block of the result is that block of the whole. -/
theorem point10 (c : Dev nD) (t : Fin cfg0.N) (y : S512x1024.Idx) :
    k0_pay1 (k0_pay2 (iblk m c 0 t) (iblk m c 1 t) (iblk m c 5 t) (iblk m c 2 t) (iblk m c 6 t)) (k0_pay9 (iblk m c 0 t) (iblk m c 1 t) (iblk m c 2 t) (iblk m c 3 t) (iblk m c 4 t) (iblk m c 5 t) (iblk m c 6 t) (iblk m c 7 t) (iblk m c 8 t) (iblk m c 9 t))
        (k0_pay10 (iblk m c 0 t) (iblk m c 1 t) (iblk m c 2 t) (iblk m c 3 t) (iblk m c 4 t) (iblk m c 5 t) (iblk m c 6 t) (iblk m c 7 t) (iblk m c 8 t) (iblk m c 9 t)) (k0_pay5 (iblk m c 4 t))
        (k0_pay6 (k0_pay9 (iblk m c 0 t) (iblk m c 1 t) (iblk m c 2 t) (iblk m c 3 t) (iblk m c 4 t) (iblk m c 5 t) (iblk m c 6 t) (iblk m c 7 t) (iblk m c 8 t) (iblk m c 9 t)) (k0_pay10 (iblk m c 0 t) (iblk m c 1 t) (iblk m c 2 t) (iblk m c 3 t) (iblk m c 4 t) (iblk m c 5 t) (iblk m c 6 t) (iblk m c 7 t) (iblk m c 8 t) (iblk m c 9 t)) (iblk m c 4 t))
        (k0_pay7 (k0_pay9 (iblk m c 0 t) (iblk m c 1 t) (iblk m c 2 t) (iblk m c 3 t) (iblk m c 4 t) (iblk m c 5 t) (iblk m c 6 t) (iblk m c 7 t) (iblk m c 8 t) (iblk m c 9 t)) (k0_pay10 (iblk m c 0 t) (iblk m c 1 t) (iblk m c 2 t) (iblk m c 3 t) (iblk m c 4 t) (iblk m c 5 t) (iblk m c 6 t) (iblk m c 7 t) (iblk m c 8 t) (iblk m c 9 t)) (iblk m c 4 t))
        (k0_pay8 (k0_pay9 (iblk m c 0 t) (iblk m c 1 t) (iblk m c 2 t) (iblk m c 3 t) (iblk m c 4 t) (iblk m c 5 t) (iblk m c 6 t) (iblk m c 7 t) (iblk m c 8 t) (iblk m c 9 t)) (k0_pay10 (iblk m c 0 t) (iblk m c 1 t) (iblk m c 2 t) (iblk m c 3 t) (iblk m c 4 t) (iblk m c 5 t) (iblk m c 6 t) (iblk m c 7 t) (iblk m c 8 t) (iblk m c 9 t))) (iblk m c 9 t) y
      = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  refine (congrArg _ (eq_ix2 y)).trans ((all_at _ _ _ _ _ _ _ _ _ _ (fun k l => (m ((c : Thread nD τ).loc main_arg5)) (ix2 k l)) (fun k l => blk5 m c t k l) (fun k l => blk6 m c t k l) _ _).trans ?_)
  refine mixOut_congr (fun k => (blk0 m c t _ k).trans ?_) (fun k => (blk1 m c t _ k).trans ?_) (fun k => (blk2 m c t _ k).trans ?_)
    (fun k l => (blk3 m c t k l).trans ?_) (fun k l => (blk4 m c t k l).trans ?_) (fun k l => rfl) (fun k => blk7 m c t k)
    (fun k l => blk8 m c t k l) (fun k l => blk9 m c t k l) (Fin.ext (by blk_simp [idx t]))
  all_goals blk_ext [idx t]

/-- The whole array the kernel leaves. -/
theorem final10 (c : Dev nD) : (dats m 0 c).arrAt 10 (cfgs 0).N = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  exact point10 m c t y

end Cert.MixIdeal.Hand

end
-- ==== Proof.MixVal.lean ====
/- The mixing of the two branches and the cross-attention: the kernel's result is the reference's. -/
module

public import proofs.«01_k».proof.Defs
public import proofs.«01_k».proof.Proof.MixKer
public import proofs.«01_k».proof.Proof.Gen.MixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixRefIdeal.Hand

open Cert.MixRefIdeal Cert.MixRefIdeal.Gen Cert.MixRefIdeal.Read Cert.Spec

/-- The flat row of position `s` of sequence `b`. -/
def flat (b : Fin 8) (s : Fin 2048) : Fin 16384 := ⟨b.val * 2048 + s.val, by omega⟩

/-- The reference's stream with the branches added, at an index. -/
theorem v5_at (x0 x1 : FVec Ideal S16384x1024 .f32) (x2 : FVec Ideal S16384x512 .f32) (x5 : FVec Ideal S1536x1024 .f32) (b : Fin 8) (s : Fin 2048) (l : Fin 1024) :
    val_main_v5 (F := Ideal) x0 x1 x2 x5 (ix3 b s l)
      = mixRow (fun k => x0 (ix2 (flat b s) k)) (fun k => x1 (ix2 (flat b s) k)) (fun k => x2 (ix2 (flat b s) k)) (fun k l => x5 (ix2 k l)) l := by
  pointwise [val_main_v5, val_main_v4, val_main_v3, val_main_v2, val_main_v1, val_main_v0, mixRow, flat]
  exact (add_assoc _ _ _).symm

/-- The reference's normalised row, at an index. -/
theorem v21_at (x0 x1 : FVec Ideal S16384x1024 .f32) (x2 : FVec Ideal S16384x512 .f32) (x5 : FVec Ideal S1536x1024 .f32) (x6 : FVec Ideal S1024 .f32) (x7 : FVec Ideal S1024x512 .f32) (b : Fin 8) (s : Fin 2048) (c : Fin 512) :
    val_main_v21 (F := Ideal) x0 x1 x2 x5 x6 x7 (ix3 b s c)
      = nrmDot (fun l => val_main_v5 (F := Ideal) x0 x1 x2 x5 (ix3 b s l)) (fun k => x6 (ix1 k)) (fun k => x7 (ix2 k c)) := by
  pointwise [val_main_v21, val_main_v18, val_main_v17, val_main_v16, val_main_v15, val_main_v14, val_main_v13, val_main_v12, val_main_v11,
    val_main_v10, val_main_v9, val_main_v8, val_main_v7, val_main_v6, val_main_cst, val_main_cst_0, val_main_cst_1, nrmDot, nrm]

/-- The reference's logits are the kernel's. -/
theorem v25_at (x0 x1 : FVec Ideal S16384x1024 .f32) (x2 : FVec Ideal S16384x512 .f32) (x3 : FVec Ideal S8x256x512 .f32) (x5 : FVec Ideal S1536x1024 .f32) (x6 : FVec Ideal S1024 .f32) (x7 : FVec Ideal S1024x512 .f32) (b : Fin 8) (hd : Fin 4) (s : Fin 2048) (m : Fin 256) :
    val_main_v25 (F := Ideal) x0 x1 x2 x3 x5 x6 x7 (ix4 b hd s m)
      = ∑ d, (query (mixRow (fun k => x0 (ix2 (flat b s) k)) (fun k => x1 (ix2 (flat b s) k)) (fun k => x2 (ix2 (flat b s) k)) (fun k l => x5 (ix2 k l))) (fun k => x6 (ix1 k)) (fun k c => x7 (ix2 k c))) (lane hd d) * x3 (ix3 b m (lane hd d)) := by
  refine Eq.trans ?_ (logit_scale (fun d => nrmDot (mixRow (fun k => x0 (ix2 (flat b s) k)) (fun k => x1 (ix2 (flat b s) k)) (fun k => x2 (ix2 (flat b s) k)) (fun k l => x5 (ix2 k l))) (fun k => x6 (ix1 k)) (fun k => x7 (ix2 k (lane hd d))))
    (fun d => x3 (ix3 b m (lane hd d))))
  refine Eq.trans (b := (∑ d, val_main_v21 (F := Ideal) x0 x1 x2 x5 x6 x7 (ix3 b s (lane hd d)) * x3 (ix3 b m (lane hd d))) * Ideal.ofBits .f32 0x3DB504F3#32) ?_ ?_
  · pointwise [val_main_v25, val_main_v24, val_main_v23, val_main_v22, val_main_v19, val_main_cst_2, lane]
  · simp only [v21_at, v5_at]

/-- The greatest logit of a row. -/
theorem max_at (y : FVec Ideal S8x4x2048x256 .f32) (b : Fin 8) (hd : Fin 4) (s : Fin 2048) :
    Host.reduce FloatOps.maximumf y (val_main_cst_3 (F := Ideal)) reducesTo_S8x4x2048x256_S8x4x2048_d3 h_S_ (ix3 b hd s)
      = Finset.fold max (Ideal.ofBits .f32 0xFF800000#32) (fun x => y (ix4 b hd s x)) Finset.univ := by
  pointwise [val_main_cst_3]

/-- The same, as the reference takes it. -/
theorem v28_at (x0 x1 : FVec Ideal S16384x1024 .f32) (x2 : FVec Ideal S16384x512 .f32) (x3 : FVec Ideal S8x256x512 .f32) (x5 : FVec Ideal S1536x1024 .f32) (x6 : FVec Ideal S1024 .f32) (x7 : FVec Ideal S1024x512 .f32) (b : Fin 8) (hd : Fin 4) (s : Fin 2048) :
    val_main_v28 (F := Ideal) x0 x1 x2 x3 x5 x6 x7 (ix3 b hd s)
      = Finset.fold max (Ideal.ofBits .f32 0xFF800000#32) (fun x => val_main_v25 (F := Ideal) x0 x1 x2 x3 x5 x6 x7 (ix4 b hd s x)) Finset.univ := by
  refine Eq.trans ?_ (max_fold _ _)
  refine Eq.trans ?_ (congrArg (max (Ideal.ofBits .f32 0xFF800000#32)) (max_at (val_main_v25 (F := Ideal) x0 x1 x2 x3 x5 x6 x7) b hd s))
  rw [val_main_v28_apply]
  refine congrArg₂ max ?_ rfl
  pointwise [val_main_v27, val_main_cst_4]

/-- The exponentials, from the logits and their greatest. -/
theorem v32_at (x0 x1 : FVec Ideal S16384x1024 .f32) (x2 : FVec Ideal S16384x512 .f32) (x3 : FVec Ideal S8x256x512 .f32) (x5 : FVec Ideal S1536x1024 .f32) (x6 : FVec Ideal S1024 .f32) (x7 : FVec Ideal S1024x512 .f32) (b : Fin 8) (hd : Fin 4) (s : Fin 2048) (m : Fin 256) :
    val_main_v32 (F := Ideal) x0 x1 x2 x3 x5 x6 x7 (ix4 b hd s m)
      = Ideal.exp (val_main_v25 (F := Ideal) x0 x1 x2 x3 x5 x6 x7 (ix4 b hd s m) - val_main_v28 (F := Ideal) x0 x1 x2 x3 x5 x6 x7 (ix3 b hd s)) := by
  pointwise [val_main_v32, val_main_v31, val_main_v30, val_main_v29]

/-- The softmax, from the exponentials. -/
theorem v36_at (x0 x1 : FVec Ideal S16384x1024 .f32) (x2 : FVec Ideal S16384x512 .f32) (x3 : FVec Ideal S8x256x512 .f32) (x5 : FVec Ideal S1536x1024 .f32) (x6 : FVec Ideal S1024 .f32) (x7 : FVec Ideal S1024x512 .f32) (b : Fin 8) (hd : Fin 4) (s : Fin 2048) (m : Fin 256) :
    val_main_v36 (F := Ideal) x0 x1 x2 x3 x5 x6 x7 (ix4 b hd s m)
      = Ideal.div (val_main_v32 (F := Ideal) x0 x1 x2 x3 x5 x6 x7 (ix4 b hd s m)) (∑ m', val_main_v32 (F := Ideal) x0 x1 x2 x3 x5 x6 x7 (ix4 b hd s m')) := by
  pointwise [val_main_v36, val_main_v35, val_main_v34, val_main_v33, val_main_cst_5]

/-- The average of the values, from the softmax. -/
theorem avg_at (x0 x1 : FVec Ideal S16384x1024 .f32) (x2 : FVec Ideal S16384x512 .f32) (x3 x4 : FVec Ideal S8x256x512 .f32) (x5 : FVec Ideal S1536x1024 .f32) (x6 : FVec Ideal S1024 .f32) (x7 : FVec Ideal S1024x512 .f32) (b : Fin 8) (hd : Fin 4) (d : Fin 128) (s : Fin 2048) :
    val_main_v37 (F := Ideal) x0 x1 x2 x3 x4 x5 x6 x7 (ix4 b hd d s)
      = ∑ m, x4 (ix3 b m (lane hd d)) * val_main_v36 (F := Ideal) x0 x1 x2 x3 x5 x6 x7 (ix4 b hd s m) := by
  pointwise [val_main_v37, val_main_v20, lane]

/-- The reference's softmax and average, from its logits. -/
theorem soft_at (x0 x1 : FVec Ideal S16384x1024 .f32) (x2 : FVec Ideal S16384x512 .f32) (x3 x4 : FVec Ideal S8x256x512 .f32) (x5 : FVec Ideal S1536x1024 .f32) (x6 : FVec Ideal S1024 .f32) (x7 : FVec Ideal S1024x512 .f32) (b : Fin 8) (hd : Fin 4) (d : Fin 128) (s : Fin 2048) :
    val_main_v37 (F := Ideal) x0 x1 x2 x3 x4 x5 x6 x7 (ix4 b hd d s)
      = softAvg (fun m => val_main_v25 (F := Ideal) x0 x1 x2 x3 x5 x6 x7 (ix4 b hd s m)) (fun m => x4 (ix3 b m (lane hd d))) := by
  rw [avg_at]
  unfold softAvg
  refine Finset.sum_congr rfl fun m _ => (mul_comm _ _).trans ?_
  rw [v36_at]
  simp only [v32_at, v28_at]

/-- The reference's heads are the kernel's. -/
theorem v37_at (x0 x1 : FVec Ideal S16384x1024 .f32) (x2 : FVec Ideal S16384x512 .f32) (x3 x4 : FVec Ideal S8x256x512 .f32) (x5 : FVec Ideal S1536x1024 .f32) (x6 : FVec Ideal S1024 .f32) (x7 : FVec Ideal S1024x512 .f32) (b : Fin 8) (hd : Fin 4) (d : Fin 128) (s : Fin 2048) :
    val_main_v37 (F := Ideal) x0 x1 x2 x3 x4 x5 x6 x7 (ix4 b hd d s)
      = headOut (query (mixRow (fun k => x0 (ix2 (flat b s) k)) (fun k => x1 (ix2 (flat b s) k)) (fun k => x2 (ix2 (flat b s) k)) (fun k l => x5 (ix2 k l))) (fun k => x6 (ix1 k)) (fun k c => x7 (ix2 k c))) (fun m c => x3 (ix3 b m c)) (fun m c => x4 (ix3 b m c)) hd d := by
  refine (soft_at x0 x1 x2 x3 x4 x5 x6 x7 b hd d s).trans ?_
  unfold headOut
  exact congrArg (fun f => softAvg f (fun m => x4 (ix3 b m (lane hd d)))) (funext fun m => v25_at x0 x1 x2 x3 x5 x6 x7 b hd s m)

/-- The reference's result is the same function. -/
theorem ref_mixed (x0 x1 : FVec Ideal S16384x1024 .f32) (x2 : FVec Ideal S16384x512 .f32) (x3 x4 : FVec Ideal S8x256x512 .f32) (x5 : FVec Ideal S1536x1024 .f32) (x6 : FVec Ideal S1024 .f32) (x7 : FVec Ideal S1024x512 .f32) (x8 : FVec Ideal S512x1024 .f32) :
    val_main_v42 (F := Ideal) x0 x1 x2 x3 x4 x5 x6 x7 x8 = Cert.MixIdeal.Hand.mixed x0 x1 x2 x3 x4 x5 x6 x7 x8 := by
  have e : ∀ (b : Fin 8) (s : Fin 2048) (l : Fin 1024), val_main_v41 (F := Ideal) x0 x1 x2 x3 x4 x5 x6 x7 x8 (ix3 b s l)
      = caOut (mixRow (fun k => x0 (ix2 (flat b s) k)) (fun k => x1 (ix2 (flat b s) k)) (fun k => x2 (ix2 (flat b s) k)) (fun k l => x5 (ix2 k l))) (query (mixRow (fun k => x0 (ix2 (flat b s) k)) (fun k => x1 (ix2 (flat b s) k)) (fun k => x2 (ix2 (flat b s) k)) (fun k l => x5 (ix2 k l))) (fun k => x6 (ix1 k)) (fun k c => x7 (ix2 k c))) (fun m c => x3 (ix3 b m c)) (fun m c => x4 (ix3 b m c)) (fun c l => x8 (ix2 c l)) l := by
    intro b s l
    refine Eq.trans (b := val_main_v5 (F := Ideal) x0 x1 x2 x5 (ix3 b s l) + ∑ c : Fin 512, val_main_v37 (F := Ideal) x0 x1 x2 x3 x4 x5 x6 x7
      (ix4 b ⟨c.val / 128, by omega⟩ ⟨c.val % 128, by omega⟩ s) * x8 (ix2 c l)) ?_ ?_
    · pointwise [val_main_v41, val_main_v40, val_main_v39, val_main_v38]
    · unfold caOut
      rw [v5_at, Fin.sum_univ_tiles 4 128 rfl]
      simp only [v37_at]
      refine congrArg (_ + ·) (Finset.sum_congr rfl fun hd _ => Finset.sum_congr rfl fun d _ => congrArg₂ (· * ·) ?_ rfl)
      refine congrArg₂ (headOut _ _ _) (Fin.ext ?_) (Fin.ext ?_)
      · show (hd.val * 128 + d.val) / 128 = hd.val
        omega
      · show (hd.val * 128 + d.val) % 128 = d.val
        omega
  funext j
  refine Eq.trans (b := val_main_v41 (F := Ideal) x0 x1 x2 x3 x4 x5 x6 x7 x8 (ix3 ⟨(j 0).val / 2048, by have h : (j 0).val < 16384 := (j 0).isLt; omega⟩
    ⟨(j 0).val % 2048, by omega⟩ (j 1))) ?_ ?_
  · pointwise [val_main_v42]
  · refine (e _ _ _).trans ?_
    have hj : flat ⟨(j 0).val / 2048, by have h : (j 0).val < 16384 := (j 0).isLt; omega⟩ ⟨(j 0).val % 2048, by omega⟩ = j 0 :=
      Fin.ext (by show (j 0).val / 2048 * 2048 + (j 0).val % 2048 = (j 0).val; omega)
    exact congrArg (fun n : Fin 16384 => mixOut (fun k => x0 (ix2 n k)) (fun k => x1 (ix2 n k)) (fun k => x2 (ix2 n k))
      (fun m c => x3 (ix3 (n0 := 8) ⟨(j 0).val / 2048, by have h : (j 0).val < 16384 := (j 0).isLt; omega⟩ m c))
      (fun m c => x4 (ix3 (n0 := 8) ⟨(j 0).val / 2048, by have h : (j 0).val < 16384 := (j 0).isLt; omega⟩ m c))
      (fun k l => x5 (ix2 k l)) (fun k => x6 (ix1 k)) (fun k c => x7 (ix2 k c)) (fun c l => x8 (ix2 c l)) (j 1)) hj

end Cert.MixRefIdeal.Hand

namespace Cert.Proof

/-- The mixing and the cross-attention: kernel and reference end with the same result. -/
theorem algebraic_Mix : Cert.algebraic_MixIdeal_MixRefIdeal := by
  pair_intro
  · run_from Cert.MixIdeal.Value.run_blocks m g
  · run_from Cert.MixRefIdeal.Value.run m' g'
    obtain ⟨h0, h1, h2, h3, h4, h5, h6, h7, h8⟩ := hagree c
    refine (Cert.MixRefIdeal.Read.val_main_v42_eq m' c).trans ?_
    rw [h0, h1, h2, h3, h4, h5, h6, h7, h8]
    exact (Cert.MixRefIdeal.Hand.ref_mixed _ _ _ _ _ _ _ _ _).trans (Cert.MixIdeal.Hand.final10 m c).symm

end Cert.Proof

end
-- ==== Proof.SsdSpec.lean ====
/- The state-space recurrence, one chunk and one lane at a time: the functions both sides compute. -/
module

public import proofs.«01_k».proof.Proof.Norm
public import Idealize.ShloMosaic.Lib.Pipeline.ValueKit
public import Idealize.ShloMosaic.Lib.Claim

@[expose] public section

noncomputable section

namespace Cert.Spec

open Idealize.ShloMosaic

/-- Whether place `j` is not after place `i`, as a bit. -/
def causal (i j : Fin 128) : BitVec 1 := if j.val ≤ i.val then 1#1 else 0#1

/-- The decay from place `j` to place `i` of a chunk, from the running sums of the log-decays: nothing where the mask is
    off. -/
def decay (μ : Fin 128 → Fin 128 → BitVec 1) (A A' : Fin 128 → EReal) (i j : Fin 128) : EReal :=
  Scalar.select (μ i j) (Ideal.exp (Scalar.select (μ i j) (A i - A' j) 0)) 0

/-- One lane of one head's output at place `i`: what the chunk's own places contribute, and what the state from before does. -/
def headSum (μ : Fin 128 → Fin 128 → BitVec 1) (A A' D E : Fin 128 → EReal) (S C : Fin 128 → Fin 128 → EReal)
    (x s : Fin 128 → EReal) (i : Fin 128) : EReal :=
  ∑ j, (decay μ A A' i j * S i j * D j) * x j + ∑ n, (C i n * E i) * s n

/-- The same from the head's own running sums, step sizes and input and output directions. -/
def chunkOut (A D : Fin 128 → EReal) (B C : Fin 128 → Fin 128 → EReal) (x s : Fin 128 → EReal) (i : Fin 128) : EReal :=
  headSum causal A A D (fun j => Ideal.exp (A j)) (fun i j => ∑ n, C i n * B j n) C x s i

/-- One lane of one head's state after the chunk, at state entry `n`. -/
def chunkState (A D : Fin 128 → EReal) (B : Fin 128 → Fin 128 → EReal) (x s : Fin 128 → EReal) (n : Fin 128) : EReal :=
  s n * Ideal.exp (A 127) + ∑ j, B j n * (x j * (Ideal.exp (A 127 - A j) * D j))

/-- The state after a chunk, over parts that agree. -/
theorem chunkState_congr {A A' D D' x x' s s' : Fin 128 → EReal} {B B' : Fin 128 → Fin 128 → EReal} (hA : ∀ j, A j = A' j)
    (hD : ∀ j, D j = D' j) (hB : ∀ j n, B j n = B' j n) (hx : ∀ j, x j = x' j) (hs : ∀ n, s n = s' n) (n : Fin 128) :
    chunkState A D B x s n = chunkState A' D' B' x' s' n := by
  rw [funext hA, funext hD, funext fun j => funext (hB j), funext hx, funext hs]

/-- A chunk's output, over parts that agree. -/
theorem chunkOut_congr {A A' D D' x x' s s' : Fin 128 → EReal} {B B' C C' : Fin 128 → Fin 128 → EReal} (hA : ∀ j, A j = A' j)
    (hD : ∀ j, D j = D' j) (hB : ∀ j n, B j n = B' j n) (hC : ∀ j n, C j n = C' j n) (hx : ∀ j, x j = x' j)
    (hs : ∀ n, s n = s' n) (i : Fin 128) : chunkOut A D B C x s i = chunkOut A' D' B' C' x' s' i := by
  rw [funext hA, funext hD, funext fun j => funext (hB j), funext fun j => funext (hC j), funext hx, funext hs]

/-- The running sum of a chunk's log-decays. -/
def runSum (d : Fin 128 → EReal) (i : Fin 128) : EReal := ∑ j, Scalar.select (causal i j) 1 0 * d j

/-- The step size. -/
def softp (x : EReal) : EReal := max x 0 + Ideal.log1p (Ideal.exp (0 - max x (-x)))

/-- An entry times its logistic. -/
def silu (x : EReal) : EReal := x * Ideal.div 1 (1 + Ideal.exp (0 - x))

/-- A choice with its bit set. -/
theorem select_one {α : Type} (a b : α) : Scalar.select 1#1 a b = a := rfl

/-- A choice with its bit clear. -/
theorem select_zero {α : Type} (a b : α) : Scalar.select 0#1 a b = b := rfl

/-- The same head, from the parts the head's sum is made of. -/
theorem headSum_eq {μ : Fin 128 → Fin 128 → BitVec 1} {A A' D E a d : Fin 128 → EReal} {S C b c : Fin 128 → Fin 128 → EReal}
    {x s x' s' : Fin 128 → EReal} (hμ : ∀ i j, μ i j = causal i j) (hA : ∀ j, A j = a j) (hA' : ∀ j, A' j = a j)
    (hD : ∀ j, D j = d j) (hE : ∀ j, E j = Ideal.exp (a j)) (hS : ∀ i j, S i j = ∑ n, c i n * b j n)
    (hC : ∀ i n, C i n = c i n) (hx : ∀ j, x j = x' j) (hs : ∀ n, s n = s' n) (i : Fin 128) :
    headSum μ A A' D E S C x s i = chunkOut a d b c x' s' i := by
  rw [funext fun i => funext (hμ i), funext hA, funext hA', funext hD, funext hE, funext fun i => funext (hS i),
    funext fun i => funext (hC i), funext hx, funext hs]
  rfl

/-- What the recurrence of one sequence is made from: the rows, the raw step sizes, the filter and its bias, the step
    sizes' bias and the heads' log-rates. -/
structure Seq where
  /-- The rows. -/
  X : Nat → Fin 1536 → EReal
  /-- The raw step sizes. -/
  dt : Nat → Fin 16 → EReal
  /-- The filter. -/
  w : Fin 4 → Fin 1536 → EReal
  /-- The filter's bias. -/
  cb : Fin 1536 → EReal
  /-- The step sizes' bias. -/
  dtb : Fin 16 → EReal
  /-- The heads' log-rates. -/
  al : Fin 16 → EReal

namespace Seq

variable (P : Seq)

/-- The rows with three rows of zeros before them. -/
def tap (r : Nat) (q : Fin 1536) : EReal := if r < 3 then 0 else P.X (r - 3) q

/-- The convolution at a place. -/
def conv (s : Nat) (q : Fin 1536) : EReal :=
  P.cb q + P.tap s q * P.w 0 q + P.tap (s + 1) q * P.w 1 q + P.tap (s + 2) q * P.w 2 q + P.tap (s + 3) q * P.w 3 q

/-- The convolution after its nonlinearity. -/
def xc (s : Nat) (q : Fin 1536) : EReal := silu (P.conv s q)

/-- The step size. -/
def step (s : Nat) (h : Fin 16) : EReal := softp (P.dt s h + P.dtb h)

/-- The log-decay. -/
def logd (s : Nat) (h : Fin 16) : EReal := P.step s h * (0 - Ideal.exp (P.al h))

/-- The running sums of the log-decays in a chunk. -/
def A (c : Nat) (h : Fin 16) : Fin 128 → EReal := runSum fun j => P.logd (128 * c + j.val) h

/-- The step sizes in a chunk. -/
def D (c : Nat) (h : Fin 16) (j : Fin 128) : EReal := P.step (128 * c + j.val) h

/-- The input directions in a chunk. -/
def B (c : Nat) (g : Fin 2) (j n : Fin 128) : EReal := P.xc (128 * c + j.val) ⟨1024 + 128 * g.val + n.val, by omega⟩

/-- The output directions in a chunk. -/
def C (c : Nat) (g : Fin 2) (j n : Fin 128) : EReal := P.xc (128 * c + j.val) ⟨1280 + 128 * g.val + n.val, by omega⟩

/-- A lane's inputs in a chunk. -/
def x (c : Nat) (q : Fin 1024) (j : Fin 128) : EReal := P.xc (128 * c + j.val) ⟨q.val, by omega⟩

/-- The head a lane belongs to. -/
def hd (q : Fin 1024) : Fin 16 := ⟨q.val / 64, by omega⟩

/-- The group a lane belongs to. -/
def gr (q : Fin 1024) : Fin 2 := ⟨q.val / 512, by omega⟩

/-- A lane's state before chunk `c`. -/
def state (q : Fin 1024) : Nat → Fin 128 → EReal
  | 0 => fun _ => 0
  | c + 1 => chunkState (P.A c (hd q)) (P.D c (hd q)) (P.B c (gr q)) (P.x c q) (state q c)

/-- A lane's output of the recurrence, in a chunk. -/
def out (c : Nat) (i : Fin 128) (q : Fin 1024) : EReal :=
  chunkOut (P.A c (hd q)) (P.D c (hd q)) (P.B c (gr q)) (P.C c (gr q)) (P.x c q) (P.state q c) i

/-- The same with the skipped input and the gate. -/
def gated (dk : Fin 16 → EReal) (z : Fin 1024 → EReal) (c : Nat) (i : Fin 128) (q : Fin 1024) : EReal :=
  (P.out c i q + P.x c q i * dk (hd q)) * silu (z q)

end Seq

/-- The flat row of place `s` of sequence `b`. -/
def flat (b : Fin 8) (s : Nat) : Fin 16384 := ⟨b.val * 2048 + s % 2048, by omega⟩

/-- What the recurrence of sequence `b` is made from, in the arrays that hold it. -/
def seqOf (x0 : (⟨2, ![16384, 1536]⟩ : Shape).Idx → EReal) (x2 : (⟨2, ![16384, 128]⟩ : Shape).Idx → EReal)
    (x3 : (⟨2, ![4, 1536]⟩ : Shape).Idx → EReal) (x4 : (⟨1, ![1536]⟩ : Shape).Idx → EReal) (x5 x6 : (⟨1, ![16]⟩ : Shape).Idx → EReal)
    (b : Fin 8) : Seq where
  X s q := x0 (ix2 (flat b s) q)
  dt s h := x2 (ix2 (flat b s) ⟨h.val, by omega⟩)
  w k q := x3 (ix2 k q)
  cb q := x4 (ix1 q)
  dtb h := x5 (ix1 h)
  al h := x6 (ix1 h)

/-- The rows the recurrence leaves. -/
def rowsAll (x0 : (⟨2, ![16384, 1536]⟩ : Shape).Idx → EReal) (x1 : (⟨2, ![16384, 1024]⟩ : Shape).Idx → EReal) (x2 : (⟨2, ![16384, 128]⟩ : Shape).Idx → EReal)
    (x3 : (⟨2, ![4, 1536]⟩ : Shape).Idx → EReal) (x4 : (⟨1, ![1536]⟩ : Shape).Idx → EReal) (x5 x6 x7 : (⟨1, ![16]⟩ : Shape).Idx → EReal)
    (x8 : (⟨1, ![1024]⟩ : Shape).Idx → EReal) (y : (⟨3, ![8, 2048, 1024]⟩ : Shape).Idx) : EReal :=
  nrm ((seqOf x0 x2 x3 x4 x5 x6 (y 0)).gated (fun h => x7 (ix1 h)) (fun q => x1 (ix2 (flat (y 0) (y 1).val) q)) ((y 1).val / 128)
    ⟨(y 1).val % 128, Nat.mod_lt _ (by decide)⟩) (fun q => x8 (ix1 q)) (y 2)

/-- The last rows the recurrence hands on. -/
def tailAll (x0 : (⟨2, ![16384, 1536]⟩ : Shape).Idx → EReal) (y : (⟨3, ![8, 3, 1536]⟩ : Shape).Idx) : EReal :=
  x0 (ix2 (flat (y 0) (2045 + (y 1).val)) (y 2))

/-- The state the recurrence hands on. -/
def stateAll (x0 : (⟨2, ![16384, 1536]⟩ : Shape).Idx → EReal) (x2 : (⟨2, ![16384, 128]⟩ : Shape).Idx → EReal)
    (x3 : (⟨2, ![4, 1536]⟩ : Shape).Idx → EReal) (x4 : (⟨1, ![1536]⟩ : Shape).Idx → EReal) (x5 x6 : (⟨1, ![16]⟩ : Shape).Idx → EReal)
    (y : (⟨3, ![8, 1024, 128]⟩ : Shape).Idx) : EReal :=
  (seqOf x0 x2 x3 x4 x5 x6 (y 0)).state (y 1) 16 (y 2)

end Cert.Spec

end
-- ==== Proof.SsdPair.lean ====
/- The state-space recurrence: what the kernel's payloads compute, at an index. -/
module

public import proofs.«01_k».proof.Defs
public import proofs.«01_k».proof.Proof.SsdSpec
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

/-- The bit saying that a lane belongs to the first head of a pair. -/
theorem pay29_at (i l : Fin 128) : k0_pay29 (ix2 i l) = if l.val < 64 then 1#1 else 0#1 := by
  pointwise [k0_pay29]
  have h : ∀ l : Fin 128, IntOp.cmpi CmpIPredicate.slt (BitVec.ofNat 32 l.val) 64#32 = if l.val < 64 then 1#1 else 0#1 := by
    decide +kernel
  exact h l

/-- The causal mask. -/
theorem pay21_at (i j : Fin 128) :
    k0_pay21 (iota .tc S128x128 32 [0] iota_S128x128_d0_w32) (iota .tc S128x128 32 [1] iota_S128x128_d1_w32) (ix2 i j)
      = causal i j := by
  pointwise [k0_pay21]
  have h : ∀ i j : Fin 128, IntOp.cmpi CmpIPredicate.sge (BitVec.ofNat 32 i.val) (BitVec.ofNat 32 j.val) = causal i j := by
    decide +kernel
  exact h i j

/-- Heads 2 and 3, side by side, at an index. -/
theorem pair1 (v70 v91 : IVec S128x128 1) (v74 v75 v76 v78 v93 v97 : FVec Ideal S128x128 .f32) (v46 : FVec Ideal S128x1024 .f32) (st : Vec Ideal S128x128 .f32) (i l : Fin 128) :
    k0_pay42 v70 v74 v75 v76 v78 v91 v93 v97 (k0_pay40 v46 st) (k0_pay41 v70 v74 v75 v76 v97) (ix2 i l)
      = Scalar.select (v91 (ix2 i l))
          (headSum (fun i j => v70 (ix2 i j)) (fun i => v74 (ix2 i 2)) (fun j => v75 (ix2 2 j)) (fun j => v76 (ix2 2 j)) (fun i => v78 (ix2 i 2)) (fun i j => v97 (ix2 i j)) (fun i n => v93 (ix2 i n)) (fun j => v46 (ix2 j ⟨128 + l.val, by omega⟩)) (fun n => st (ix2 n l)) i)
          (headSum (fun i j => v70 (ix2 i j)) (fun i => v74 (ix2 i 3)) (fun j => v75 (ix2 3 j)) (fun j => v76 (ix2 3 j)) (fun i => v78 (ix2 i 3)) (fun i j => v97 (ix2 i j)) (fun i n => v93 (ix2 i n)) (fun j => v46 (ix2 j ⟨128 + l.val, by omega⟩)) (fun n => st (ix2 n l)) i) := by
  pointwise [k0_pay42, k0_pay40, k0_pay39, k0_pay41, headSum, decay]

/-- Heads 4 and 5, side by side, at an index. -/
theorem pair2 (v70 v91 : IVec S128x128 1) (v74 v75 v76 v78 v93 v97 : FVec Ideal S128x128 .f32) (v46 : FVec Ideal S128x1024 .f32) (st : Vec Ideal S128x128 .f32) (i l : Fin 128) :
    k0_pay48 v70 v74 v75 v76 v78 v91 v93 v97 (k0_pay45 v46 st) (k0_pay46 v70 v74 v75 v97) (k0_pay47 v76) (ix2 i l)
      = Scalar.select (v91 (ix2 i l))
          (headSum (fun i j => v70 (ix2 i j)) (fun i => v74 (ix2 i 4)) (fun j => v75 (ix2 4 j)) (fun j => v76 (ix2 4 j)) (fun i => v78 (ix2 i 4)) (fun i j => v97 (ix2 i j)) (fun i n => v93 (ix2 i n)) (fun j => v46 (ix2 j ⟨256 + l.val, by omega⟩)) (fun n => st (ix2 n l)) i)
          (headSum (fun i j => v70 (ix2 i j)) (fun i => v74 (ix2 i 5)) (fun j => v75 (ix2 5 j)) (fun j => v76 (ix2 5 j)) (fun i => v78 (ix2 i 5)) (fun i j => v97 (ix2 i j)) (fun i n => v93 (ix2 i n)) (fun j => v46 (ix2 j ⟨256 + l.val, by omega⟩)) (fun n => st (ix2 n l)) i) := by
  pointwise [k0_pay48, k0_pay46, k0_pay45, k0_pay44, k0_pay47, headSum, decay]

/-- Heads 6 and 7, side by side, at an index. -/
theorem pair3 (v70 v91 : IVec S128x128 1) (v74 v75 v76 v78 v93 v97 : FVec Ideal S128x128 .f32) (v46 : FVec Ideal S128x1024 .f32) (st : Vec Ideal S128x128 .f32) (i l : Fin 128) :
    k0_pay54 v70 v74 v75 v76 v78 v91 v93 v97 (k0_pay51 v46 st) (k0_pay52 v70 v74 v75 v97) (k0_pay53 v76) (ix2 i l)
      = Scalar.select (v91 (ix2 i l))
          (headSum (fun i j => v70 (ix2 i j)) (fun i => v74 (ix2 i 6)) (fun j => v75 (ix2 6 j)) (fun j => v76 (ix2 6 j)) (fun i => v78 (ix2 i 6)) (fun i j => v97 (ix2 i j)) (fun i n => v93 (ix2 i n)) (fun j => v46 (ix2 j ⟨384 + l.val, by omega⟩)) (fun n => st (ix2 n l)) i)
          (headSum (fun i j => v70 (ix2 i j)) (fun i => v74 (ix2 i 7)) (fun j => v75 (ix2 7 j)) (fun j => v76 (ix2 7 j)) (fun i => v78 (ix2 i 7)) (fun i j => v97 (ix2 i j)) (fun i n => v93 (ix2 i n)) (fun j => v46 (ix2 j ⟨384 + l.val, by omega⟩)) (fun n => st (ix2 n l)) i) := by
  pointwise [k0_pay54, k0_pay51, k0_pay50, k0_pay52, k0_pay53, headSum, decay]

/-- Heads 8 and 9, side by side, at an index. -/
theorem pair4 (v38 : FVec Ideal S128x1536 .f32) (v70 v91 : IVec S128x128 1) (v74 v75 v76 v78 v323 : FVec Ideal S128x128 .f32) (v46 : FVec Ideal S128x1024 .f32) (st : Vec Ideal S128x128 .f32) (i l : Fin 128) :
    k0_pay61 v38 v46 v70 v74 v75 v76 v78 v91 v323 st (ix2 i l)
      = Scalar.select (v91 (ix2 i l))
          (headSum (fun i j => v70 (ix2 i j)) (fun i => v74 (ix2 i 8)) (fun j => v75 (ix2 8 j)) (fun j => v76 (ix2 8 j)) (fun i => v78 (ix2 i 8)) (fun i j => k0_pay59 v38 v323 (ix2 i j)) (fun i n => k0_pay57 v38 (ix2 i n)) (fun j => v46 (ix2 j ⟨512 + l.val, by omega⟩)) (fun n => st (ix2 n l)) i)
          (headSum (fun i j => v70 (ix2 i j)) (fun i => v74 (ix2 i 9)) (fun j => v75 (ix2 9 j)) (fun j => v76 (ix2 9 j)) (fun i => v78 (ix2 i 9)) (fun i j => k0_pay59 v38 v323 (ix2 i j)) (fun i n => k0_pay57 v38 (ix2 i n)) (fun j => v46 (ix2 j ⟨512 + l.val, by omega⟩)) (fun n => st (ix2 n l)) i) := by
  pointwise [k0_pay61, k0_pay60, headSum, decay]

/-- Heads 10 and 11, side by side, at an index. -/
theorem pair5 (v70 v91 : IVec S128x128 1) (v74 v75 v76 v78 v93 v97 : FVec Ideal S128x128 .f32) (v46 : FVec Ideal S128x1024 .f32) (st : Vec Ideal S128x128 .f32) (i l : Fin 128) :
    k0_pay65 v46 v70 v74 v75 v76 v78 v91 v93 v97 st (ix2 i l)
      = Scalar.select (v91 (ix2 i l))
          (headSum (fun i j => v70 (ix2 i j)) (fun i => v74 (ix2 i 10)) (fun j => v75 (ix2 10 j)) (fun j => v76 (ix2 10 j)) (fun i => v78 (ix2 i 10)) (fun i j => v97 (ix2 i j)) (fun i n => v93 (ix2 i n)) (fun j => v46 (ix2 j ⟨640 + l.val, by omega⟩)) (fun n => st (ix2 n l)) i)
          (headSum (fun i j => v70 (ix2 i j)) (fun i => v74 (ix2 i 11)) (fun j => v75 (ix2 11 j)) (fun j => v76 (ix2 11 j)) (fun i => v78 (ix2 i 11)) (fun i j => v97 (ix2 i j)) (fun i n => v93 (ix2 i n)) (fun j => v46 (ix2 j ⟨640 + l.val, by omega⟩)) (fun n => st (ix2 n l)) i) := by
  pointwise [k0_pay65, k0_pay64, headSum, decay]

/-- Heads 12 and 13, side by side, at an index. -/
theorem pair6 (v70 v91 : IVec S128x128 1) (v74 v75 v76 v78 v93 v97 : FVec Ideal S128x128 .f32) (v46 : FVec Ideal S128x1024 .f32) (st : Vec Ideal S128x128 .f32) (i l : Fin 128) :
    k0_pay71 v91 (k0_pay69 v46 v70 v74 v75 v76 v78 v93 v97 st) (k0_pay70 v46 v70 v74 v75 v76 v78 v93 v97 st) (ix2 i l)
      = Scalar.select (v91 (ix2 i l))
          (headSum (fun i j => v70 (ix2 i j)) (fun i => v74 (ix2 i 12)) (fun j => v75 (ix2 12 j)) (fun j => v76 (ix2 12 j)) (fun i => v78 (ix2 i 12)) (fun i j => v97 (ix2 i j)) (fun i n => v93 (ix2 i n)) (fun j => v46 (ix2 j ⟨768 + l.val, by omega⟩)) (fun n => st (ix2 n l)) i)
          (headSum (fun i j => v70 (ix2 i j)) (fun i => v74 (ix2 i 13)) (fun j => v75 (ix2 13 j)) (fun j => v76 (ix2 13 j)) (fun i => v78 (ix2 i 13)) (fun i j => v97 (ix2 i j)) (fun i n => v93 (ix2 i n)) (fun j => v46 (ix2 j ⟨768 + l.val, by omega⟩)) (fun n => st (ix2 n l)) i) := by
  pointwise [k0_pay71, k0_pay70, k0_pay69, k0_pay68, k0_pay67, headSum, decay]

/-- Heads 14 and 15, side by side, at an index. -/
theorem pair7a (v70 v91 : IVec S128x128 1) (v74 v75 v76 v78 v93 v97 : FVec Ideal S128x128 .f32) (v46 : FVec Ideal S128x1024 .f32) (st : Vec Ideal S128x128 .f32) (i l : Fin 128) :
    k0_pay75 v46 v70 v74 v75 v76 v78 v93 v97 st (ix2 i l)
      = headSum (fun i j => v70 (ix2 i j)) (fun i => v74 (ix2 i 14)) (fun j => v75 (ix2 14 j)) (fun j => v76 (ix2 14 j)) (fun i => v78 (ix2 i 14)) (fun i j => v97 (ix2 i j)) (fun i n => v93 (ix2 i n)) (fun j => v46 (ix2 j ⟨896 + l.val, by omega⟩)) (fun n => st (ix2 n l)) i := by
  pointwise [k0_pay75, k0_pay74, k0_pay73, headSum, decay]

/-- Heads 14 and 15, side by side, at an index. -/
theorem pair7b (v70 v91 : IVec S128x128 1) (v74 v75 v76 v78 v93 v97 : FVec Ideal S128x128 .f32) (v46 : FVec Ideal S128x1024 .f32) (st : Vec Ideal S128x128 .f32) (i l : Fin 128) :
    matmul dot_S128x256_S256x128_S128x128_1_0_0_1_n_n none (k0_pay76 v70 v74 v75 v76 v78 v93 v97) (k0_pay74 v46 st) (constant (F := Ideal) S128x128 .f32 0x00000000#32) (ix2 i l)
      = headSum (fun i j => v70 (ix2 i j)) (fun i => v74 (ix2 i 15)) (fun j => v75 (ix2 15 j)) (fun j => v76 (ix2 15 j)) (fun i => v78 (ix2 i 15)) (fun i j => v97 (ix2 i j)) (fun i n => v93 (ix2 i n)) (fun j => v46 (ix2 j ⟨896 + l.val, by omega⟩)) (fun n => st (ix2 n l)) i := by
  pointwise [k0_pay76, k0_pay74, k0_pay73, headSum, decay]

/-- Heads 0 and 1, side by side, at an index. -/
theorem pair0 (v91 : IVec S128x128 1) (v38 : FVec Ideal S128x1536 .f32) (v60 v67 : FVec Ideal S128x128 .f32) (I J : IVec S128x128 32) (v46 : FVec Ideal S128x1024 .f32)
    (st : Vec Ideal S128x128 .f32) (i l : Fin 128) :
    k0_pay37 (k0_pay21 I J) (k0_pay22 v67 I J) (k0_pay23 v67 I J) (k0_pay24 v60) (k0_pay26 v67 I J) v91 (k0_pay30 v38) (k0_pay32 v38)
        (k0_pay34 v46 st) (k0_pay35 v38 v60 v67 I J) (k0_pay36 v67 I J) (ix2 i l)
      = Scalar.select (v91 (ix2 i l))
          (headSum (fun i j => k0_pay21 I J (ix2 i j)) (fun i => k0_pay22 v67 I J (ix2 i 0)) (fun j => k0_pay23 v67 I J (ix2 0 j)) (fun j => k0_pay24 v60 (ix2 0 j)) (fun i => k0_pay26 v67 I J (ix2 i 0)) (fun i j => k0_pay32 v38 (ix2 i j)) (fun i n => k0_pay30 v38 (ix2 i n)) (fun j => v46 (ix2 j ⟨0 + l.val, by omega⟩)) (fun n => st (ix2 n l)) i)
          (headSum (fun i j => k0_pay21 I J (ix2 i j)) (fun i => k0_pay22 v67 I J (ix2 i 1)) (fun j => k0_pay23 v67 I J (ix2 1 j)) (fun j => k0_pay24 v60 (ix2 1 j)) (fun i => k0_pay26 v67 I J (ix2 i 1)) (fun i j => k0_pay32 v38 (ix2 i j)) (fun i n => k0_pay30 v38 (ix2 i n)) (fun j => v46 (ix2 j ⟨0 + l.val, by omega⟩)) (fun n => st (ix2 n l)) i) := by
  pointwise [k0_pay37, k0_pay34, k0_pay33, k0_pay35, k0_pay36, headSum, decay]

end Cert.SsdIdeal.Hand

end
-- ==== Proof.SsdPay.lean ====
/- The state-space recurrence: what the kernel's payloads compute, at an index. -/
module

public import proofs.«01_k».proof.Defs
public import proofs.«01_k».proof.Proof.SsdPair
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

section
variable (I J : IVec S128x128 32)

/-- The running sums of the log-decays. -/
theorem pay22_at (hμ : ∀ i j, k0_pay21 I J (ix2 i j) = causal i j) (v67 : FVec Ideal S128x128 .f32) (i h : Fin 128) :
    k0_pay22 v67 I J (ix2 i h) = runSum (fun j => v67 (ix2 j h)) i := by
  refine Eq.trans (b := ∑ j, Scalar.select (k0_pay21 I J (ix2 i j)) 1 0 * v67 (ix2 j h)) ?_ ?_
  · pointwise [k0_pay22]
  · simp only [hμ]
    rfl

/-- The running sums, turned. -/
theorem pay23_at (v67 : FVec Ideal S128x128 .f32) (h j : Fin 128) : k0_pay23 v67 I J (ix2 h j) = k0_pay22 v67 I J (ix2 j h) := by
  pointwise [k0_pay23]

/-- The step sizes, turned. -/
theorem pay24_at (v60 : FVec Ideal S128x128 .f32) (h j : Fin 128) : k0_pay24 v60 (ix2 h j) = v60 (ix2 j h) := by
  pointwise [k0_pay24]

/-- The decay since the chunk's start. -/
theorem pay26_at (v67 : FVec Ideal S128x128 .f32) (i h : Fin 128) : k0_pay26 v67 I J (ix2 i h) = Ideal.exp (k0_pay22 v67 I J (ix2 i h)) := by
  pointwise [k0_pay26]

/-- The weight with which a place enters the state. -/
theorem pay27_at (v60 v67 : FVec Ideal S128x128 .f32) (j h : Fin 128) :
    k0_pay27 v60 v67 I J (ix2 j h)
      = Ideal.exp (k0_pay22 v67 I J (ix2 127 h) - k0_pay22 v67 I J (ix2 j h)) * v60 (ix2 j h) := by
  pointwise [k0_pay27, k0_pay25]

/-- The whole chunk's decay, spread over the lanes. -/
theorem pay28_at (v67 : FVec Ideal S128x128 .f32) (e : Vec Ideal S128x1024 .f32) (q : Fin 1024) :
    k0_pay28 v67 I J e (ix2 0 q) = Ideal.exp (∑ k, k0_pay22 v67 I J (ix2 127 k) * e (ix2 k q)) := by
  pointwise [k0_pay28, k0_pay25]

end

/-- The output directions of the first group. -/
theorem pay30_at (v : FVec Ideal S128x1536 .f32) (i n : Fin 128) : k0_pay30 v (ix2 i n) = v (ix2 i ⟨1280 + n.val, by omega⟩) := by
  pointwise [k0_pay30]

/-- The input directions of the first group, turned. -/
theorem pay31_at (v : FVec Ideal S128x1536 .f32) (n j : Fin 128) : k0_pay31 v (ix2 n j) = v (ix2 j ⟨1024 + n.val, by omega⟩) := by
  pointwise [k0_pay31]

/-- The scores of the first group. -/
theorem pay32_at (v : FVec Ideal S128x1536 .f32) (i j : Fin 128) :
    k0_pay32 v (ix2 i j) = ∑ n : Fin 128, v (ix2 i ⟨1280 + n.val, by omega⟩) * v (ix2 j ⟨1024 + n.val, by omega⟩) := by
  pointwise [k0_pay32, k0_pay30, k0_pay31]

/-- The input directions of the second group. -/
theorem pay56_at (v : FVec Ideal S128x1536 .f32) (i n : Fin 128) : k0_pay56 v (ix2 i n) = v (ix2 i ⟨1152 + n.val, by omega⟩) := by
  pointwise [k0_pay56]

/-- The output directions of the second group. -/
theorem pay57_at (v : FVec Ideal S128x1536 .f32) (i n : Fin 128) : k0_pay57 v (ix2 i n) = v (ix2 i ⟨1408 + n.val, by omega⟩) := by
  pointwise [k0_pay57]

/-- The input directions, turned. -/
theorem pay58_at (v : FVec Ideal S128x128 .f32) (n j : Fin 128) : k0_pay58 v (ix2 n j) = v (ix2 j n) := by
  pointwise [k0_pay58]

/-- The scores of the second group. -/
theorem pay59_at (v : FVec Ideal S128x1536 .f32) (b : FVec Ideal S128x128 .f32) (i j : Fin 128) :
    k0_pay59 v b (ix2 i j) = ∑ n : Fin 128, v (ix2 i ⟨1408 + n.val, by omega⟩) * b (ix2 j n) := by
  pointwise [k0_pay59, k0_pay58, k0_pay57]

/-- The convolution's output after its nonlinearity. -/
theorem pay15_at (v : FVec Ideal S128x1536 .f32) (i : Fin 128) (q : Fin 1536) : k0_pay15 v (ix2 i q) = silu (v (ix2 i q)) := by
  pointwise [k0_pay15, silu]

/-- Its first 1024 lanes. -/
theorem pay18_at (v : FVec Ideal S128x1536 .f32) (i : Fin 128) (q : Fin 1024) :
    k0_pay18 v (ix2 i q) = k0_pay15 v (ix2 i ⟨q.val, by omega⟩) := by
  pointwise [k0_pay18]

/-- The convolution before its nonlinearity. -/
theorem pay14_at (b w0 w1 w2 w3 : Vec Ideal S1x1536 .f32) (x0 x1 x2 x3 : Vec Ideal S128x1536 .f32) (i : Fin 128) (q : Fin 1536) :
    k0_pay14 b x0 w0 x1 w1 x2 w2 x3 w3 (ix2 i q)
      = b (ix2 0 q) + x0 (ix2 i q) * w0 (ix2 0 q) + x1 (ix2 i q) * w1 (ix2 0 q) + x2 (ix2 i q) * w2 (ix2 0 q) + x3 (ix2 i q) * w3 (ix2 0 q) := by
  pointwise [k0_pay14]

/-- The step sizes. -/
theorem pay19_at (d : Vec Ideal S1x128x128 .f32) (b : Vec Ideal S1x128 .f32) (i h : Fin 128) :
    k0_pay19 d b (ix2 i h) = softp (d (ix3 0 i h) + b (ix2 0 h)) := by
  pointwise [k0_pay19, softp]
  rfl

/-- The log-decays. -/
theorem pay20_at (d : Vec Ideal S1x128x128 .f32) (b a : Vec Ideal S1x128 .f32) (i h : Fin 128) :
    k0_pay20 d b a (ix2 i h) = softp (d (ix3 0 i h) + b (ix2 0 h)) * (0 - Ideal.exp (a (ix2 0 h))) := by
  pointwise [k0_pay20, k0_pay19, softp]
  rfl

/-- The block's rows. -/
theorem pay13_at (v : Vec Ideal S1x128x1536 .f32) (i : Fin 128) (q : Fin 1536) : k0_pay13 v (ix2 i q) = v (ix3 0 i q) := by
  pointwise [k0_pay13]

/-- The last rows, as they are kept. -/
theorem pay17_at (v : Vec Ideal S3x1536 .f32) (i : Fin 3) (q : Fin 1536) : k0_pay17 v (ix2 i q) = v (ix2 i q) := by
  pointwise [k0_pay17]

/-- The last rows, as they are handed out. -/
theorem pay16_at (v : Vec Ideal S3x1536 .f32) (i : Fin 3) (q : Fin 1536) : k0_pay16 v (ix3 0 i q) = v (ix2 i q) := by
  pointwise [k0_pay16]

/-- The rows before the sequence are zero. -/
theorem pay11_at (i : Fin 8) (q : Fin 1536) : k0_pay11 (F := Ideal) (ix2 i q) = (0 : EReal) := by
  pointwise [k0_pay11]

/-- The state before the sequence is zero. -/
theorem pay12_at (n : Fin 128) (q : Fin 1024) : k0_pay12 (F := Ideal) (ix2 n q) = (0 : EReal) := by
  pointwise [k0_pay12]

/-- The eight pairs side by side, with the skipped input and the gate. -/
theorem pay78_at (v46 : FVec Ideal S128x1024 .f32) (v91 : IVec S128x128 1) (y0 y1 y2 y3 y4 y5 y6 : FVec Ideal S128x128 .f32)
    (a : FVec Ideal S256x128 .bf16) (y7a : FVec Ideal S128x128 .f32) (b : FVec Ideal S128x256 .bf16) (z0 : FVec Ideal S128x128 .f32)
    (dk : Vec Ideal S1x1024 .f32) (z : Vec Ideal S1x128x1024 .f32) (i : Fin 128) (q : Fin 1024) (Y : EReal)
    (hY : (if h : q.val < 128 then y0 (ix2 i ⟨q.val, h⟩) else if h : q.val - 128 < 128 then y1 (ix2 i ⟨q.val - 128, h⟩)
      else if h : q.val - 128 - 128 < 128 then y2 (ix2 i ⟨q.val - 128 - 128, h⟩)
      else if h : q.val - 128 - 128 - 128 < 128 then y3 (ix2 i ⟨q.val - 128 - 128 - 128, h⟩)
      else if h : q.val - 128 - 128 - 128 - 128 < 128 then y4 (ix2 i ⟨q.val - 128 - 128 - 128 - 128, h⟩)
      else if h : q.val - 128 - 128 - 128 - 128 - 128 < 128 then y5 (ix2 i ⟨q.val - 128 - 128 - 128 - 128 - 128, h⟩)
      else if h : q.val - 128 - 128 - 128 - 128 - 128 - 128 < 128 then y6 (ix2 i ⟨q.val - 128 - 128 - 128 - 128 - 128 - 128, h⟩)
      else Scalar.select (v91 (ix2 i ⟨q.val - 128 - 128 - 128 - 128 - 128 - 128 - 128, by omega⟩))
        (y7a (ix2 i ⟨q.val - 128 - 128 - 128 - 128 - 128 - 128 - 128, by omega⟩))
        (matmul dot_S128x256_S256x128_S128x128_1_0_0_1_n_n none b a z0 (ix2 i ⟨q.val - 128 - 128 - 128 - 128 - 128 - 128 - 128, by omega⟩))) = Y) :
    k0_pay78 v46 v91 y0 y1 y2 y3 y4 y5 y6 a y7a b z0 dk z (ix2 i q)
      = (Y + v46 (ix2 i q) * dk (ix2 0 q)) * silu (z (ix3 0 i q)) := by
  rw [← hY]
  pointwise [k0_pay78, silu]

/-- The sum of a row's squares, kept. -/
theorem pay80_at (v46 : FVec Ideal S128x1024 .f32) (v91 : IVec S128x128 1) (y0 y1 y2 y3 y4 y5 y6 : FVec Ideal S128x128 .f32)
    (a : FVec Ideal S256x128 .bf16) (y7a : FVec Ideal S128x128 .f32) (b : FVec Ideal S128x256 .bf16) (z0 : FVec Ideal S128x128 .f32)
    (dk : Vec Ideal S1x1024 .f32) (z : Vec Ideal S1x128x1024 .f32) (i : Fin 128) :
    k0_pay80 v46 v91 y0 y1 y2 y3 y4 y5 y6 a y7a b z0 dk z (ix1 i)
      = ∑ q, k0_pay78 v46 v91 y0 y1 y2 y3 y4 y5 y6 a y7a b z0 dk z (ix2 i q) * k0_pay78 v46 v91 y0 y1 y2 y3 y4 y5 y6 a y7a b z0 dk z (ix2 i q) := by
  pointwise [k0_pay80]

/-- The normalised row. -/
theorem pay1_at (v : FVec Ideal S128x1024 .f32) (g : Vec Ideal S1x1024 .f32) (s : FVec Ideal S128 .f32) (i : Fin 128)
    (q : Fin 1024) (hs : s (ix1 i) = ∑ q, v (ix2 i q) * v (ix2 i q)) :
    k0_pay1 v (k0_pay79 g) s (ix3 0 i q) = nrm (fun q => v (ix2 i q)) (fun q => g (ix2 0 q)) q := by
  unfold nrm
  rw [← hs]
  pointwise [k0_pay1, k0_pay79]

/-- Half of the state after the chunk, at an index. -/
theorem half0 (v82 v94 : FVec Ideal S128x128 .f32) (v88 : FVec Ideal S1x1024 .f32) (v91 : IVec S128x128 1) (v46 : FVec Ideal S128x1024 .f32)
    (st : Vec Ideal S128x512 .f32) (n : Fin 128) (q : Fin 512) :
    k0_pay55 v82 v88 v91 v94 (k0_pay38 v82 v91 (k0_pay33 v46)) (k0_pay43 v82 v91 (k0_pay39 v46)) (k0_pay49 v82 v91 (k0_pay44 v46)) (k0_pay50 v46) st (ix2 n q)
      = st (ix2 n q) * v88 (ix2 0 ⟨0 + q.val, by omega⟩) + ∑ j, v94 (ix2 n j) * (
          if h : q.val < 128 then v46 (ix2 j ⟨0 + (q.val), by omega⟩) * Scalar.select (v91 (ix2 j ⟨q.val, h⟩)) (v82 (ix2 j 0)) (v82 (ix2 j 1))
          else if h : q.val - 128 < 128 then v46 (ix2 j ⟨128 + (q.val - 128), by omega⟩) * Scalar.select (v91 (ix2 j ⟨q.val - 128, h⟩)) (v82 (ix2 j 2)) (v82 (ix2 j 3))
          else if h : q.val - 128 - 128 < 128 then v46 (ix2 j ⟨256 + (q.val - 128 - 128), by omega⟩) * Scalar.select (v91 (ix2 j ⟨q.val - 128 - 128, h⟩)) (v82 (ix2 j 4)) (v82 (ix2 j 5))
          else v46 (ix2 j ⟨384 + (q.val - 128 - 128 - 128), by omega⟩) * Scalar.select (v91 (ix2 j ⟨q.val - 128 - 128 - 128, by omega⟩)) (v82 (ix2 j 6)) (v82 (ix2 j 7))) := by
  pointwise [k0_pay55, k0_pay38, k0_pay33, k0_pay43, k0_pay39, k0_pay49, k0_pay44, k0_pay50]

/-- Half of the state after the chunk, at an index. -/
theorem half1 (v82 v94 : FVec Ideal S128x128 .f32) (v88 : FVec Ideal S1x1024 .f32) (v91 : IVec S128x128 1) (v46 : FVec Ideal S128x1024 .f32)
    (st : Vec Ideal S128x512 .f32) (n : Fin 128) (q : Fin 512) :
    k0_pay77 v82 v88 v91 v94 (k0_pay63 v82 v91 (k0_pay60 v46) (k0_pay62 v82)) (k0_pay66 v82 v91 (k0_pay64 v46)) (k0_pay72 v82 v91 (k0_pay67 v46)) (k0_pay73 v46) st (ix2 n q)
      = st (ix2 n q) * v88 (ix2 0 ⟨512 + q.val, by omega⟩) + ∑ j, v94 (ix2 n j) * (
          if h : q.val < 128 then v46 (ix2 j ⟨512 + (q.val), by omega⟩) * Scalar.select (v91 (ix2 j ⟨q.val, h⟩)) (v82 (ix2 j 8)) (v82 (ix2 j 9))
          else if h : q.val - 128 < 128 then v46 (ix2 j ⟨640 + (q.val - 128), by omega⟩) * Scalar.select (v91 (ix2 j ⟨q.val - 128, h⟩)) (v82 (ix2 j 10)) (v82 (ix2 j 11))
          else if h : q.val - 128 - 128 < 128 then v46 (ix2 j ⟨768 + (q.val - 128 - 128), by omega⟩) * Scalar.select (v91 (ix2 j ⟨q.val - 128 - 128, h⟩)) (v82 (ix2 j 12)) (v82 (ix2 j 13))
          else v46 (ix2 j ⟨896 + (q.val - 128 - 128 - 128), by omega⟩) * Scalar.select (v91 (ix2 j ⟨q.val - 128 - 128 - 128, by omega⟩)) (v82 (ix2 j 14)) (v82 (ix2 j 15))) := by
  pointwise [k0_pay77, k0_pay63, k0_pay60, k0_pay62, k0_pay66, k0_pay64, k0_pay72, k0_pay67, k0_pay73]

end Cert.SsdIdeal.Hand

end
-- ==== Proof.SsdCol.lean ====
/- The state-space recurrence: one chunk, from what the kernel holds. -/
module

public import proofs.«01_k».proof.Defs
public import proofs.«01_k».proof.Proof.SsdPay
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

/-- One lane of one head's output, from the arrays the kernel holds. -/
def colAt (A D : FVec Ideal S128x128 .f32) (V : FVec Ideal S128x1536 .f32) (T : FVec Ideal S128x1024 .f32) (h : Fin 128) (g : Fin 2)
    (q : Fin 1024) (i : Fin 128) : EReal :=
  chunkOut (fun j => A (ix2 j h)) (fun j => D (ix2 j h)) (fun j n => V (ix2 j ⟨1024 + 128 * g.val + n.val, by omega⟩))
    (fun j n => V (ix2 j ⟨1280 + 128 * g.val + n.val, by omega⟩)) (fun j => V (ix2 j ⟨q.val, by omega⟩)) (fun n => T (ix2 n q)) i

/-- The same with the head and the group the lane belongs to. -/
def col (A D : FVec Ideal S128x128 .f32) (V : FVec Ideal S128x1536 .f32) (T : FVec Ideal S128x1024 .f32) (i : Fin 128) (q : Fin 1024) : EReal :=
  colAt A D V T ⟨q.val / 64, by omega⟩ ⟨q.val / 512, by omega⟩ q i

/-- A lane's head and group, given. -/
theorem col_eq (A D : FVec Ideal S128x128 .f32) (V : FVec Ideal S128x1536 .f32) (T : FVec Ideal S128x1024 .f32) (i : Fin 128) (q : Fin 1024)
    (h : Fin 128) (g : Fin 2) (hh : q.val / 64 = h.val) (hg : q.val / 512 = g.val) : colAt A D V T h g q i = col A D V T i q := by
  unfold col
  congr 1
  · exact Fin.ext hh.symm
  · exact Fin.ext hg.symm

section
variable (I J : IVec S128x128 32) (hμ : ∀ i j, k0_pay21 I J (ix2 i j) = causal i j)
include hμ

/-- Heads 0 and 1, from what the kernel holds. -/
theorem cols0 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨0 + l.val, by omega⟩)) (i l : Fin 128) :
    k0_pay37 (k0_pay21 I J) (k0_pay22 V67 I J) (k0_pay23 V67 I J) (k0_pay24 V60) (k0_pay26 V67 I J) k0_pay29 (k0_pay30 (k0_pay15 V30)) (k0_pay32 (k0_pay15 V30)) (k0_pay34 (k0_pay18 V30) st) (k0_pay35 (k0_pay15 V30) V60 V67 I J) (k0_pay36 V67 I J) (ix2 i l)
      = col (k0_pay22 V67 I J) V60 (k0_pay15 V30) T i ⟨0 + l.val, by omega⟩ := by
  rw [pair0, pay29_at]
  by_cases hl : l.val < 64
  · rw [if_pos hl]
    refine (select_one _ _).trans ?_
    refine (headSum_eq hμ (fun j => rfl) (fun j => pay23_at I J V67 0 j) (fun j => pay24_at V60 0 j) (fun j => pay26_at I J V67 j 0)
      (pay32_at (k0_pay15 V30)) (pay30_at (k0_pay15 V30))
      (fun j => pay18_at V30 j ⟨0 + l.val, by omega⟩) (fun n => hst n l) i).trans ?_
    exact col_eq _ (V60) (k0_pay15 V30) T i ⟨0 + l.val, by omega⟩ 0 0 (by show (0 + l.val) / 64 = 0; omega) (by show (0 + l.val) / 512 = 0; omega)
  · rw [if_neg hl]
    refine (select_zero _ _).trans ?_
    refine (headSum_eq hμ (fun j => rfl) (fun j => pay23_at I J V67 1 j) (fun j => pay24_at V60 1 j) (fun j => pay26_at I J V67 j 1)
      (pay32_at (k0_pay15 V30)) (pay30_at (k0_pay15 V30))
      (fun j => pay18_at V30 j ⟨0 + l.val, by omega⟩) (fun n => hst n l) i).trans ?_
    exact col_eq _ (V60) (k0_pay15 V30) T i ⟨0 + l.val, by omega⟩ 1 0 (by show (0 + l.val) / 64 = 1; omega) (by show (0 + l.val) / 512 = 0; omega)

/-- Heads 2 and 3, from what the kernel holds. -/
theorem cols1 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨128 + l.val, by omega⟩)) (i l : Fin 128) :
    k0_pay42 (k0_pay21 I J) (k0_pay22 V67 I J) (k0_pay23 V67 I J) (k0_pay24 V60) (k0_pay26 V67 I J) k0_pay29 (k0_pay30 (k0_pay15 V30)) (k0_pay32 (k0_pay15 V30)) (k0_pay40 (k0_pay18 V30) st) (k0_pay41 (k0_pay21 I J) (k0_pay22 V67 I J) (k0_pay23 V67 I J) (k0_pay24 V60) (k0_pay32 (k0_pay15 V30))) (ix2 i l)
      = col (k0_pay22 V67 I J) V60 (k0_pay15 V30) T i ⟨128 + l.val, by omega⟩ := by
  rw [pair1, pay29_at]
  by_cases hl : l.val < 64
  · rw [if_pos hl]
    refine (select_one _ _).trans ?_
    refine (headSum_eq hμ (fun j => rfl) (fun j => pay23_at I J V67 2 j) (fun j => pay24_at V60 2 j) (fun j => pay26_at I J V67 j 2)
      (pay32_at (k0_pay15 V30)) (pay30_at (k0_pay15 V30))
      (fun j => pay18_at V30 j ⟨128 + l.val, by omega⟩) (fun n => hst n l) i).trans ?_
    exact col_eq _ (V60) (k0_pay15 V30) T i ⟨128 + l.val, by omega⟩ 2 0 (by show (128 + l.val) / 64 = 2; omega) (by show (128 + l.val) / 512 = 0; omega)
  · rw [if_neg hl]
    refine (select_zero _ _).trans ?_
    refine (headSum_eq hμ (fun j => rfl) (fun j => pay23_at I J V67 3 j) (fun j => pay24_at V60 3 j) (fun j => pay26_at I J V67 j 3)
      (pay32_at (k0_pay15 V30)) (pay30_at (k0_pay15 V30))
      (fun j => pay18_at V30 j ⟨128 + l.val, by omega⟩) (fun n => hst n l) i).trans ?_
    exact col_eq _ (V60) (k0_pay15 V30) T i ⟨128 + l.val, by omega⟩ 3 0 (by show (128 + l.val) / 64 = 3; omega) (by show (128 + l.val) / 512 = 0; omega)

/-- Heads 4 and 5, from what the kernel holds. -/
theorem cols2 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨256 + l.val, by omega⟩)) (i l : Fin 128) :
    k0_pay48 (k0_pay21 I J) (k0_pay22 V67 I J) (k0_pay23 V67 I J) (k0_pay24 V60) (k0_pay26 V67 I J) k0_pay29 (k0_pay30 (k0_pay15 V30)) (k0_pay32 (k0_pay15 V30)) (k0_pay45 (k0_pay18 V30) st) (k0_pay46 (k0_pay21 I J) (k0_pay22 V67 I J) (k0_pay23 V67 I J) (k0_pay32 (k0_pay15 V30))) (k0_pay47 (k0_pay24 V60)) (ix2 i l)
      = col (k0_pay22 V67 I J) V60 (k0_pay15 V30) T i ⟨256 + l.val, by omega⟩ := by
  rw [pair2, pay29_at]
  by_cases hl : l.val < 64
  · rw [if_pos hl]
    refine (select_one _ _).trans ?_
    refine (headSum_eq hμ (fun j => rfl) (fun j => pay23_at I J V67 4 j) (fun j => pay24_at V60 4 j) (fun j => pay26_at I J V67 j 4)
      (pay32_at (k0_pay15 V30)) (pay30_at (k0_pay15 V30))
      (fun j => pay18_at V30 j ⟨256 + l.val, by omega⟩) (fun n => hst n l) i).trans ?_
    exact col_eq _ (V60) (k0_pay15 V30) T i ⟨256 + l.val, by omega⟩ 4 0 (by show (256 + l.val) / 64 = 4; omega) (by show (256 + l.val) / 512 = 0; omega)
  · rw [if_neg hl]
    refine (select_zero _ _).trans ?_
    refine (headSum_eq hμ (fun j => rfl) (fun j => pay23_at I J V67 5 j) (fun j => pay24_at V60 5 j) (fun j => pay26_at I J V67 j 5)
      (pay32_at (k0_pay15 V30)) (pay30_at (k0_pay15 V30))
      (fun j => pay18_at V30 j ⟨256 + l.val, by omega⟩) (fun n => hst n l) i).trans ?_
    exact col_eq _ (V60) (k0_pay15 V30) T i ⟨256 + l.val, by omega⟩ 5 0 (by show (256 + l.val) / 64 = 5; omega) (by show (256 + l.val) / 512 = 0; omega)

/-- Heads 6 and 7, from what the kernel holds. -/
theorem cols3 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨384 + l.val, by omega⟩)) (i l : Fin 128) :
    k0_pay54 (k0_pay21 I J) (k0_pay22 V67 I J) (k0_pay23 V67 I J) (k0_pay24 V60) (k0_pay26 V67 I J) k0_pay29 (k0_pay30 (k0_pay15 V30)) (k0_pay32 (k0_pay15 V30)) (k0_pay51 (k0_pay18 V30) st) (k0_pay52 (k0_pay21 I J) (k0_pay22 V67 I J) (k0_pay23 V67 I J) (k0_pay32 (k0_pay15 V30))) (k0_pay53 (k0_pay24 V60)) (ix2 i l)
      = col (k0_pay22 V67 I J) V60 (k0_pay15 V30) T i ⟨384 + l.val, by omega⟩ := by
  rw [pair3, pay29_at]
  by_cases hl : l.val < 64
  · rw [if_pos hl]
    refine (select_one _ _).trans ?_
    refine (headSum_eq hμ (fun j => rfl) (fun j => pay23_at I J V67 6 j) (fun j => pay24_at V60 6 j) (fun j => pay26_at I J V67 j 6)
      (pay32_at (k0_pay15 V30)) (pay30_at (k0_pay15 V30))
      (fun j => pay18_at V30 j ⟨384 + l.val, by omega⟩) (fun n => hst n l) i).trans ?_
    exact col_eq _ (V60) (k0_pay15 V30) T i ⟨384 + l.val, by omega⟩ 6 0 (by show (384 + l.val) / 64 = 6; omega) (by show (384 + l.val) / 512 = 0; omega)
  · rw [if_neg hl]
    refine (select_zero _ _).trans ?_
    refine (headSum_eq hμ (fun j => rfl) (fun j => pay23_at I J V67 7 j) (fun j => pay24_at V60 7 j) (fun j => pay26_at I J V67 j 7)
      (pay32_at (k0_pay15 V30)) (pay30_at (k0_pay15 V30))
      (fun j => pay18_at V30 j ⟨384 + l.val, by omega⟩) (fun n => hst n l) i).trans ?_
    exact col_eq _ (V60) (k0_pay15 V30) T i ⟨384 + l.val, by omega⟩ 7 0 (by show (384 + l.val) / 64 = 7; omega) (by show (384 + l.val) / 512 = 0; omega)

/-- Heads 8 and 9, from what the kernel holds. -/
theorem cols4 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨512 + l.val, by omega⟩)) (i l : Fin 128) :
    k0_pay61 (k0_pay15 V30) (k0_pay18 V30) (k0_pay21 I J) (k0_pay22 V67 I J) (k0_pay23 V67 I J) (k0_pay24 V60) (k0_pay26 V67 I J) k0_pay29 (k0_pay56 (k0_pay15 V30)) st (ix2 i l)
      = col (k0_pay22 V67 I J) V60 (k0_pay15 V30) T i ⟨512 + l.val, by omega⟩ := by
  rw [pair4, pay29_at]
  by_cases hl : l.val < 64
  · rw [if_pos hl]
    refine (select_one _ _).trans ?_
    refine (headSum_eq hμ (fun j => rfl) (fun j => pay23_at I J V67 8 j) (fun j => pay24_at V60 8 j) (fun j => pay26_at I J V67 j 8)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨512 + l.val, by omega⟩) (fun n => hst n l) i).trans ?_
    exact col_eq _ (V60) (k0_pay15 V30) T i ⟨512 + l.val, by omega⟩ 8 1 (by show (512 + l.val) / 64 = 8; omega) (by show (512 + l.val) / 512 = 1; omega)
  · rw [if_neg hl]
    refine (select_zero _ _).trans ?_
    refine (headSum_eq hμ (fun j => rfl) (fun j => pay23_at I J V67 9 j) (fun j => pay24_at V60 9 j) (fun j => pay26_at I J V67 j 9)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨512 + l.val, by omega⟩) (fun n => hst n l) i).trans ?_
    exact col_eq _ (V60) (k0_pay15 V30) T i ⟨512 + l.val, by omega⟩ 9 1 (by show (512 + l.val) / 64 = 9; omega) (by show (512 + l.val) / 512 = 1; omega)

/-- Heads 10 and 11, from what the kernel holds. -/
theorem cols5 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨640 + l.val, by omega⟩)) (i l : Fin 128) :
    k0_pay65 (k0_pay18 V30) (k0_pay21 I J) (k0_pay22 V67 I J) (k0_pay23 V67 I J) (k0_pay24 V60) (k0_pay26 V67 I J) k0_pay29 (k0_pay57 (k0_pay15 V30)) (k0_pay59 (k0_pay15 V30) (k0_pay56 (k0_pay15 V30))) st (ix2 i l)
      = col (k0_pay22 V67 I J) V60 (k0_pay15 V30) T i ⟨640 + l.val, by omega⟩ := by
  rw [pair5, pay29_at]
  by_cases hl : l.val < 64
  · rw [if_pos hl]
    refine (select_one _ _).trans ?_
    refine (headSum_eq hμ (fun j => rfl) (fun j => pay23_at I J V67 10 j) (fun j => pay24_at V60 10 j) (fun j => pay26_at I J V67 j 10)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨640 + l.val, by omega⟩) (fun n => hst n l) i).trans ?_
    exact col_eq _ (V60) (k0_pay15 V30) T i ⟨640 + l.val, by omega⟩ 10 1 (by show (640 + l.val) / 64 = 10; omega) (by show (640 + l.val) / 512 = 1; omega)
  · rw [if_neg hl]
    refine (select_zero _ _).trans ?_
    refine (headSum_eq hμ (fun j => rfl) (fun j => pay23_at I J V67 11 j) (fun j => pay24_at V60 11 j) (fun j => pay26_at I J V67 j 11)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨640 + l.val, by omega⟩) (fun n => hst n l) i).trans ?_
    exact col_eq _ (V60) (k0_pay15 V30) T i ⟨640 + l.val, by omega⟩ 11 1 (by show (640 + l.val) / 64 = 11; omega) (by show (640 + l.val) / 512 = 1; omega)

/-- Heads 12 and 13, from what the kernel holds. -/
theorem cols6 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨768 + l.val, by omega⟩)) (i l : Fin 128) :
    k0_pay71 k0_pay29 (k0_pay69 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st) (k0_pay70 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st) (ix2 i l)
      = col (k0_pay22 V67 I J) V60 (k0_pay15 V30) T i ⟨768 + l.val, by omega⟩ := by
  rw [pair6, pay29_at]
  by_cases hl : l.val < 64
  · rw [if_pos hl]
    refine (select_one _ _).trans ?_
    refine (headSum_eq hμ (fun j => rfl) (fun j => pay23_at I J V67 12 j) (fun j => pay24_at V60 12 j) (fun j => pay26_at I J V67 j 12)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨768 + l.val, by omega⟩) (fun n => hst n l) i).trans ?_
    exact col_eq _ (V60) (k0_pay15 V30) T i ⟨768 + l.val, by omega⟩ 12 1 (by show (768 + l.val) / 64 = 12; omega) (by show (768 + l.val) / 512 = 1; omega)
  · rw [if_neg hl]
    refine (select_zero _ _).trans ?_
    refine (headSum_eq hμ (fun j => rfl) (fun j => pay23_at I J V67 13 j) (fun j => pay24_at V60 13 j) (fun j => pay26_at I J V67 j 13)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨768 + l.val, by omega⟩) (fun n => hst n l) i).trans ?_
    exact col_eq _ (V60) (k0_pay15 V30) T i ⟨768 + l.val, by omega⟩ 13 1 (by show (768 + l.val) / 64 = 13; omega) (by show (768 + l.val) / 512 = 1; omega)

/-- Heads 14 and 15, from what the kernel holds. -/
theorem cols7 (V30 : FVec Ideal S128x1536 .f32) (V60 V67 : FVec Ideal S128x128 .f32) (T : FVec Ideal S128x1024 .f32) (st : Vec Ideal S128x128 .f32)
    (hst : ∀ n l : Fin 128, st (ix2 n l) = T (ix2 n ⟨896 + l.val, by omega⟩)) (i l : Fin 128) :
    Scalar.select (k0_pay29 (ix2 i l)) (k0_pay75 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st (ix2 i l)) (matmul dot_S128x256_S256x128_S128x128_1_0_0_1_n_n none (k0_pay76 (k0_pay21 I J) (k0_pay22 V67 I J) (k0_pay23 V67 I J) (k0_pay24 V60) (k0_pay26 V67 I J) (k0_pay57 (k0_pay15 V30)) (k0_pay59 (k0_pay15 V30) (k0_pay56 (k0_pay15 V30)))) (k0_pay74 (k0_pay18 V30) st) (constant (F := Ideal) S128x128 .f32 0x00000000#32) (ix2 i l))
      = col (k0_pay22 V67 I J) V60 (k0_pay15 V30) T i ⟨896 + l.val, by omega⟩ := by
  rw [pair7a (v91 := k0_pay29), pair7b (v91 := k0_pay29), pay29_at]
  by_cases hl : l.val < 64
  · rw [if_pos hl]
    refine (select_one _ _).trans ?_
    refine (headSum_eq hμ (fun j => rfl) (fun j => pay23_at I J V67 14 j) (fun j => pay24_at V60 14 j) (fun j => pay26_at I J V67 j 14)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨896 + l.val, by omega⟩) (fun n => hst n l) i).trans ?_
    exact col_eq _ (V60) (k0_pay15 V30) T i ⟨896 + l.val, by omega⟩ 14 1 (by show (896 + l.val) / 64 = 14; omega) (by show (896 + l.val) / 512 = 1; omega)
  · rw [if_neg hl]
    refine (select_zero _ _).trans ?_
    refine (headSum_eq hμ (fun j => rfl) (fun j => pay23_at I J V67 15 j) (fun j => pay24_at V60 15 j) (fun j => pay26_at I J V67 j 15)
      (fun i j => (pay59_at (k0_pay15 V30) _ i j).trans (Finset.sum_congr rfl fun n _ => congrArg₂ (· * ·) rfl (pay56_at (k0_pay15 V30) j n))) (pay57_at (k0_pay15 V30))
      (fun j => pay18_at V30 j ⟨896 + l.val, by omega⟩) (fun n => hst n l) i).trans ?_
    exact col_eq _ (V60) (k0_pay15 V30) T i ⟨896 + l.val, by omega⟩ 15 1 (by show (896 + l.val) / 64 = 15; omega) (by show (896 + l.val) / 512 = 1; omega)

end

end Cert.SsdIdeal.Hand

end
-- ==== Proof.SsdStep.lean ====
/- The state-space recurrence: one chunk's rows and state, from what the kernel holds. -/
module

public import proofs.«01_k».proof.Defs
public import proofs.«01_k».proof.Proof.SsdCol
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

/-- A gated row of the chunk before its normalisation, from the arrays the kernel holds. -/
def gatedRow (A D : FVec Ideal S128x128 .f32) (V : FVec Ideal S128x1536 .f32) (T : FVec Ideal S128x1024 .f32) (dk : Vec Ideal S1x1024 .f32)
    (z : Vec Ideal S1x128x1024 .f32) (i : Fin 128) (q : Fin 1024) : EReal :=
  (col A D V T i q + V (ix2 i ⟨q.val, by omega⟩) * dk (ix2 0 q)) * silu (z (ix3 0 i q))

/-- One lane's state after the chunk, from the arrays the kernel holds. -/
def colState (A D : FVec Ideal S128x128 .f32) (V : FVec Ideal S128x1536 .f32) (T : FVec Ideal S128x1024 .f32) (n : Fin 128) (q : Fin 1024) : EReal :=
  chunkState (fun j => A (ix2 j ⟨q.val / 64, by omega⟩)) (fun j => D (ix2 j ⟨q.val / 64, by omega⟩))
    (fun j n => V (ix2 j ⟨1024 + 128 * (q.val / 512) + n.val, by omega⟩)) (fun j => V (ix2 j ⟨q.val, by omega⟩)) (fun n => T (ix2 n q)) n

section
variable (I J : IVec S128x128 32) (hμ : ∀ i j, k0_pay21 I J (ix2 i j) = causal i j)

include hμ in
/-- The gated rows. -/
theorem rows_at (V30 : FVec Ideal S128x1536 .f32) (V60 V67 : FVec Ideal S128x128 .f32) (T : FVec Ideal S128x1024 .f32) (st0 st1 st2 st3 st4 st5 st6 st7 : Vec Ideal S128x128 .f32)
    (h0 : ∀ n l : Fin 128, st0 (ix2 n l) = T (ix2 n ⟨0 + l.val, by omega⟩))
    (h1 : ∀ n l : Fin 128, st1 (ix2 n l) = T (ix2 n ⟨128 + l.val, by omega⟩))
    (h2 : ∀ n l : Fin 128, st2 (ix2 n l) = T (ix2 n ⟨256 + l.val, by omega⟩))
    (h3 : ∀ n l : Fin 128, st3 (ix2 n l) = T (ix2 n ⟨384 + l.val, by omega⟩))
    (h4 : ∀ n l : Fin 128, st4 (ix2 n l) = T (ix2 n ⟨512 + l.val, by omega⟩))
    (h5 : ∀ n l : Fin 128, st5 (ix2 n l) = T (ix2 n ⟨640 + l.val, by omega⟩))
    (h6 : ∀ n l : Fin 128, st6 (ix2 n l) = T (ix2 n ⟨768 + l.val, by omega⟩))
    (h7 : ∀ n l : Fin 128, st7 (ix2 n l) = T (ix2 n ⟨896 + l.val, by omega⟩))
    (dk : Vec Ideal S1x1024 .f32) (z : Vec Ideal S1x128x1024 .f32) (i : Fin 128) (q : Fin 1024) :
    k0_pay78 (k0_pay18 V30) k0_pay29 (k0_pay37 (k0_pay21 I J) (k0_pay22 V67 I J) (k0_pay23 V67 I J) (k0_pay24 V60) (k0_pay26 V67 I J) k0_pay29 (k0_pay30 (k0_pay15 V30)) (k0_pay32 (k0_pay15 V30)) (k0_pay34 (k0_pay18 V30) st0) (k0_pay35 (k0_pay15 V30) V60 V67 I J) (k0_pay36 V67 I J)) (k0_pay42 (k0_pay21 I J) (k0_pay22 V67 I J) (k0_pay23 V67 I J) (k0_pay24 V60) (k0_pay26 V67 I J) k0_pay29 (k0_pay30 (k0_pay15 V30)) (k0_pay32 (k0_pay15 V30)) (k0_pay40 (k0_pay18 V30) st1) (k0_pay41 (k0_pay21 I J) (k0_pay22 V67 I J) (k0_pay23 V67 I J) (k0_pay24 V60) (k0_pay32 (k0_pay15 V30)))) (k0_pay48 (k0_pay21 I J) (k0_pay22 V67 I J) (k0_pay23 V67 I J) (k0_pay24 V60) (k0_pay26 V67 I J) k0_pay29 (k0_pay30 (k0_pay15 V30)) (k0_pay32 (k0_pay15 V30)) (k0_pay45 (k0_pay18 V30) st2) (k0_pay46 (k0_pay21 I J) (k0_pay22 V67 I J) (k0_pay23 V67 I J) (k0_pay32 (k0_pay15 V30))) (k0_pay47 (k0_pay24 V60))) (k0_pay54 (k0_pay21 I J) (k0_pay22 V67 I J) (k0_pay23 V67 I J) (k0_pay24 V60) (k0_pay26 V67 I J) k0_pay29 (k0_pay30 (k0_pay15 V30)) (k0_pay32 (k0_pay15 V30)) (k0_pay51 (k0_pay18 V30) st3) (k0_pay52 (k0_pay21 I J) (k0_pay22 V67 I J) (k0_pay23 V67 I J) (k0_pay32 (k0_pay15 V30))) (k0_pay53 (k0_pay24 V60))) (k0_pay61 (k0_pay15 V30) (k0_pay18 V30) (k0_pay21 I J) (k0_pay22 V67 I J) (k0_pay23 V67 I J) (k0_pay24 V60) (k0_pay26 V67 I J) k0_pay29 (k0_pay56 (k0_pay15 V30)) st4) (k0_pay65 (k0_pay18 V30) (k0_pay21 I J) (k0_pay22 V67 I J) (k0_pay23 V67 I J) (k0_pay24 V60) (k0_pay26 V67 I J) k0_pay29 (k0_pay57 (k0_pay15 V30)) (k0_pay59 (k0_pay15 V30) (k0_pay56 (k0_pay15 V30))) st5) (k0_pay71 k0_pay29 (k0_pay69 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6) (k0_pay70 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6)) (k0_pay74 (k0_pay18 V30) st7) (k0_pay75 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st7) (k0_pay76 (k0_pay21 I J) (k0_pay22 V67 I J) (k0_pay23 V67 I J) (k0_pay24 V60) (k0_pay26 V67 I J) (k0_pay57 (k0_pay15 V30)) (k0_pay59 (k0_pay15 V30) (k0_pay56 (k0_pay15 V30)))) (constant (F := Ideal) S128x128 .f32 0x00000000#32) dk z (ix2 i q)
      = gatedRow (k0_pay22 V67 I J) V60 (k0_pay15 V30) T dk z i q := by
  refine (pay78_at _ _ _ _ _ _ _ _ _ _ _ _ _ dk z i q (col (k0_pay22 V67 I J) V60 (k0_pay15 V30) T i q) ?_).trans ?_
  rotate_left
  · rw [pay18_at]
    rfl
  by_cases g0 : q.val < 128
  · exact (dif_pos g0).trans ((cols0 I J hμ V30 V60 V67 T st0 h0 i ⟨q.val, g0⟩).trans (congrArg (col _ _ _ _ i) (Fin.ext (by show 0 + (q.val) = q.val; omega))))
  refine (dif_neg g0).trans ?_
  by_cases g1 : q.val - 128 < 128
  · exact (dif_pos g1).trans ((cols1 I J hμ V30 V60 V67 T st1 h1 i ⟨q.val - 128, g1⟩).trans (congrArg (col _ _ _ _ i) (Fin.ext (by show 128 + (q.val - 128) = q.val; omega))))
  refine (dif_neg g1).trans ?_
  by_cases g2 : q.val - 128 - 128 < 128
  · exact (dif_pos g2).trans ((cols2 I J hμ V30 V60 V67 T st2 h2 i ⟨q.val - 128 - 128, g2⟩).trans (congrArg (col _ _ _ _ i) (Fin.ext (by show 256 + (q.val - 128 - 128) = q.val; omega))))
  refine (dif_neg g2).trans ?_
  by_cases g3 : q.val - 128 - 128 - 128 < 128
  · exact (dif_pos g3).trans ((cols3 I J hμ V30 V60 V67 T st3 h3 i ⟨q.val - 128 - 128 - 128, g3⟩).trans (congrArg (col _ _ _ _ i) (Fin.ext (by show 384 + (q.val - 128 - 128 - 128) = q.val; omega))))
  refine (dif_neg g3).trans ?_
  by_cases g4 : q.val - 128 - 128 - 128 - 128 < 128
  · exact (dif_pos g4).trans ((cols4 I J hμ V30 V60 V67 T st4 h4 i ⟨q.val - 128 - 128 - 128 - 128, g4⟩).trans (congrArg (col _ _ _ _ i) (Fin.ext (by show 512 + (q.val - 128 - 128 - 128 - 128) = q.val; omega))))
  refine (dif_neg g4).trans ?_
  by_cases g5 : q.val - 128 - 128 - 128 - 128 - 128 < 128
  · exact (dif_pos g5).trans ((cols5 I J hμ V30 V60 V67 T st5 h5 i ⟨q.val - 128 - 128 - 128 - 128 - 128, g5⟩).trans (congrArg (col _ _ _ _ i) (Fin.ext (by show 640 + (q.val - 128 - 128 - 128 - 128 - 128) = q.val; omega))))
  refine (dif_neg g5).trans ?_
  by_cases g6 : q.val - 128 - 128 - 128 - 128 - 128 - 128 < 128
  · exact (dif_pos g6).trans ((cols6 I J hμ V30 V60 V67 T st6 h6 i ⟨q.val - 128 - 128 - 128 - 128 - 128 - 128, g6⟩).trans (congrArg (col _ _ _ _ i) (Fin.ext (by show 768 + (q.val - 128 - 128 - 128 - 128 - 128 - 128) = q.val; omega))))
  refine (dif_neg g6).trans ?_
  exact (cols7 I J hμ V30 V60 V67 T st7 h7 i ⟨q.val - 128 - 128 - 128 - 128 - 128 - 128 - 128, by omega⟩).trans (congrArg (col _ _ _ _ i) (Fin.ext (by show 896 + (q.val - 128 - 128 - 128 - 128 - 128 - 128 - 128) = q.val; omega)))

include hμ in
/-- The chunk's rows. -/
theorem y_at (V30 : FVec Ideal S128x1536 .f32) (V60 V67 : FVec Ideal S128x128 .f32) (T : FVec Ideal S128x1024 .f32) (st0 st1 st2 st3 st4 st5 st6 st7 : Vec Ideal S128x128 .f32)
    (h0 : ∀ n l : Fin 128, st0 (ix2 n l) = T (ix2 n ⟨0 + l.val, by omega⟩))
    (h1 : ∀ n l : Fin 128, st1 (ix2 n l) = T (ix2 n ⟨128 + l.val, by omega⟩))
    (h2 : ∀ n l : Fin 128, st2 (ix2 n l) = T (ix2 n ⟨256 + l.val, by omega⟩))
    (h3 : ∀ n l : Fin 128, st3 (ix2 n l) = T (ix2 n ⟨384 + l.val, by omega⟩))
    (h4 : ∀ n l : Fin 128, st4 (ix2 n l) = T (ix2 n ⟨512 + l.val, by omega⟩))
    (h5 : ∀ n l : Fin 128, st5 (ix2 n l) = T (ix2 n ⟨640 + l.val, by omega⟩))
    (h6 : ∀ n l : Fin 128, st6 (ix2 n l) = T (ix2 n ⟨768 + l.val, by omega⟩))
    (h7 : ∀ n l : Fin 128, st7 (ix2 n l) = T (ix2 n ⟨896 + l.val, by omega⟩))
    (dk g : Vec Ideal S1x1024 .f32) (z : Vec Ideal S1x128x1024 .f32) (i : Fin 128) (q : Fin 1024) :
    k0_pay1 (k0_pay78 (k0_pay18 V30) k0_pay29 (k0_pay37 (k0_pay21 I J) (k0_pay22 V67 I J) (k0_pay23 V67 I J) (k0_pay24 V60) (k0_pay26 V67 I J) k0_pay29 (k0_pay30 (k0_pay15 V30)) (k0_pay32 (k0_pay15 V30)) (k0_pay34 (k0_pay18 V30) st0) (k0_pay35 (k0_pay15 V30) V60 V67 I J) (k0_pay36 V67 I J)) (k0_pay42 (k0_pay21 I J) (k0_pay22 V67 I J) (k0_pay23 V67 I J) (k0_pay24 V60) (k0_pay26 V67 I J) k0_pay29 (k0_pay30 (k0_pay15 V30)) (k0_pay32 (k0_pay15 V30)) (k0_pay40 (k0_pay18 V30) st1) (k0_pay41 (k0_pay21 I J) (k0_pay22 V67 I J) (k0_pay23 V67 I J) (k0_pay24 V60) (k0_pay32 (k0_pay15 V30)))) (k0_pay48 (k0_pay21 I J) (k0_pay22 V67 I J) (k0_pay23 V67 I J) (k0_pay24 V60) (k0_pay26 V67 I J) k0_pay29 (k0_pay30 (k0_pay15 V30)) (k0_pay32 (k0_pay15 V30)) (k0_pay45 (k0_pay18 V30) st2) (k0_pay46 (k0_pay21 I J) (k0_pay22 V67 I J) (k0_pay23 V67 I J) (k0_pay32 (k0_pay15 V30))) (k0_pay47 (k0_pay24 V60))) (k0_pay54 (k0_pay21 I J) (k0_pay22 V67 I J) (k0_pay23 V67 I J) (k0_pay24 V60) (k0_pay26 V67 I J) k0_pay29 (k0_pay30 (k0_pay15 V30)) (k0_pay32 (k0_pay15 V30)) (k0_pay51 (k0_pay18 V30) st3) (k0_pay52 (k0_pay21 I J) (k0_pay22 V67 I J) (k0_pay23 V67 I J) (k0_pay32 (k0_pay15 V30))) (k0_pay53 (k0_pay24 V60))) (k0_pay61 (k0_pay15 V30) (k0_pay18 V30) (k0_pay21 I J) (k0_pay22 V67 I J) (k0_pay23 V67 I J) (k0_pay24 V60) (k0_pay26 V67 I J) k0_pay29 (k0_pay56 (k0_pay15 V30)) st4) (k0_pay65 (k0_pay18 V30) (k0_pay21 I J) (k0_pay22 V67 I J) (k0_pay23 V67 I J) (k0_pay24 V60) (k0_pay26 V67 I J) k0_pay29 (k0_pay57 (k0_pay15 V30)) (k0_pay59 (k0_pay15 V30) (k0_pay56 (k0_pay15 V30))) st5) (k0_pay71 k0_pay29 (k0_pay69 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6) (k0_pay70 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6)) (k0_pay74 (k0_pay18 V30) st7) (k0_pay75 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st7) (k0_pay76 (k0_pay21 I J) (k0_pay22 V67 I J) (k0_pay23 V67 I J) (k0_pay24 V60) (k0_pay26 V67 I J) (k0_pay57 (k0_pay15 V30)) (k0_pay59 (k0_pay15 V30) (k0_pay56 (k0_pay15 V30)))) (constant (F := Ideal) S128x128 .f32 0x00000000#32) dk z) (k0_pay79 g)
        (k0_pay80 (k0_pay18 V30) k0_pay29 (k0_pay37 (k0_pay21 I J) (k0_pay22 V67 I J) (k0_pay23 V67 I J) (k0_pay24 V60) (k0_pay26 V67 I J) k0_pay29 (k0_pay30 (k0_pay15 V30)) (k0_pay32 (k0_pay15 V30)) (k0_pay34 (k0_pay18 V30) st0) (k0_pay35 (k0_pay15 V30) V60 V67 I J) (k0_pay36 V67 I J)) (k0_pay42 (k0_pay21 I J) (k0_pay22 V67 I J) (k0_pay23 V67 I J) (k0_pay24 V60) (k0_pay26 V67 I J) k0_pay29 (k0_pay30 (k0_pay15 V30)) (k0_pay32 (k0_pay15 V30)) (k0_pay40 (k0_pay18 V30) st1) (k0_pay41 (k0_pay21 I J) (k0_pay22 V67 I J) (k0_pay23 V67 I J) (k0_pay24 V60) (k0_pay32 (k0_pay15 V30)))) (k0_pay48 (k0_pay21 I J) (k0_pay22 V67 I J) (k0_pay23 V67 I J) (k0_pay24 V60) (k0_pay26 V67 I J) k0_pay29 (k0_pay30 (k0_pay15 V30)) (k0_pay32 (k0_pay15 V30)) (k0_pay45 (k0_pay18 V30) st2) (k0_pay46 (k0_pay21 I J) (k0_pay22 V67 I J) (k0_pay23 V67 I J) (k0_pay32 (k0_pay15 V30))) (k0_pay47 (k0_pay24 V60))) (k0_pay54 (k0_pay21 I J) (k0_pay22 V67 I J) (k0_pay23 V67 I J) (k0_pay24 V60) (k0_pay26 V67 I J) k0_pay29 (k0_pay30 (k0_pay15 V30)) (k0_pay32 (k0_pay15 V30)) (k0_pay51 (k0_pay18 V30) st3) (k0_pay52 (k0_pay21 I J) (k0_pay22 V67 I J) (k0_pay23 V67 I J) (k0_pay32 (k0_pay15 V30))) (k0_pay53 (k0_pay24 V60))) (k0_pay61 (k0_pay15 V30) (k0_pay18 V30) (k0_pay21 I J) (k0_pay22 V67 I J) (k0_pay23 V67 I J) (k0_pay24 V60) (k0_pay26 V67 I J) k0_pay29 (k0_pay56 (k0_pay15 V30)) st4) (k0_pay65 (k0_pay18 V30) (k0_pay21 I J) (k0_pay22 V67 I J) (k0_pay23 V67 I J) (k0_pay24 V60) (k0_pay26 V67 I J) k0_pay29 (k0_pay57 (k0_pay15 V30)) (k0_pay59 (k0_pay15 V30) (k0_pay56 (k0_pay15 V30))) st5) (k0_pay71 k0_pay29 (k0_pay69 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6) (k0_pay70 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st6)) (k0_pay74 (k0_pay18 V30) st7) (k0_pay75 (k0_pay18 V30) (k0_pay21 I J) (k0_pay22 V67 I J) (k0_pay23 V67 I J) (k0_pay24 V60) (k0_pay26 V67 I J) (k0_pay57 (k0_pay15 V30)) (k0_pay59 (k0_pay15 V30) (k0_pay56 (k0_pay15 V30))) st7) (k0_pay76 (k0_pay21 I J) (k0_pay22 V67 I J) (k0_pay23 V67 I J) (k0_pay24 V60) (k0_pay26 V67 I J) (k0_pay57 (k0_pay15 V30)) (k0_pay59 (k0_pay15 V30) (k0_pay56 (k0_pay15 V30)))) (constant (F := Ideal) S128x128 .f32 0x00000000#32) dk z) (ix3 0 i q)
      = nrm (gatedRow (k0_pay22 V67 I J) V60 (k0_pay15 V30) T dk z i) (fun q => g (ix2 0 q)) q := by
  refine (pay1_at _ g _ i q (pay80_at _ _ _ _ _ _ _ _ _ _ _ _ _ dk z i)).trans ?_
  exact congrArg (fun f => nrm f (fun q => g (ix2 0 q)) q) (funext fun q => rows_at I J hμ V30 V60 V67 T st0 st1 st2 st3 st4 st5 st6 st7 h0 h1 h2 h3 h4 h5 h6 h7 dk z i q)

/-- The whole chunk's decay of a lane is its head's. -/
theorem decay_at (V67 : FVec Ideal S128x128 .f32) (e : Vec Ideal S128x1024 .f32)
    (he : ∀ (k : Fin 128) (q : Fin 1024), e (ix2 k q) = if k.val = q.val / 64 then 1 else 0) (q : Fin 1024) :
    k0_pay28 V67 I J e (ix2 0 q) = Ideal.exp (k0_pay22 V67 I J (ix2 127 ⟨q.val / 64, by omega⟩)) := by
  rw [pay28_at]
  refine congrArg Ideal.exp ?_
  refine (Finset.sum_eq_single (⟨q.val / 64, by omega⟩ : Fin 128) (fun k _ hk => ?_) (fun h => absurd (Finset.mem_univ _) h)).trans ?_
  · rw [he, if_neg (fun h => hk (Fin.ext h)), mul_zero]
  · rw [he, if_pos rfl, mul_one]

end

/-- A pair's weights, lane by lane, are the weights of the lane's head. -/
theorem pick (W : FVec Ideal S128x128 .f32) (j l h h1 hq : Fin 128) (e0 : l.val < 64 → hq = h) (e1 : ¬ l.val < 64 → hq = h1) :
    Scalar.select (k0_pay29 (ix2 j l)) (W (ix2 j h)) (W (ix2 j h1)) = W (ix2 j hq) := by
  rw [pay29_at]
  by_cases hl : l.val < 64
  · rw [if_pos hl, e0 hl]
    rfl
  · rw [if_neg hl, e1 hl]
    rfl

section
variable (I J : IVec S128x128 32)

/-- A lane's state after the chunk, from what the kernel adds up. -/
theorem state_of (V30 : FVec Ideal S128x1536 .f32) (V60 V67 : FVec Ideal S128x128 .f32) (T : FVec Ideal S128x1024 .f32) (e : Vec Ideal S128x1024 .f32)
    (he : ∀ (k : Fin 128) (q : Fin 1024), e (ix2 k q) = if k.val = q.val / 64 then 1 else 0) (n : Fin 128) (q : Fin 1024)
    (s d : EReal) (b f : Fin 128 → EReal) (hs : s = T (ix2 n q)) (hd : d = k0_pay28 V67 I J e (ix2 0 q))
    (hb : ∀ j, b j = k0_pay15 V30 (ix2 j ⟨1024 + 128 * (q.val / 512) + n.val, by omega⟩))
    (hf : ∀ j, f j = k0_pay18 V30 (ix2 j q) * k0_pay27 V60 V67 I J (ix2 j ⟨q.val / 64, by omega⟩)) :
    s * d + ∑ j, b j * f j = colState (k0_pay22 V67 I J) V60 (k0_pay15 V30) T n q := by
  rw [hs, hd, decay_at I J V67 e he]
  unfold colState chunkState
  refine congrArg (_ + ·) (Finset.sum_congr rfl fun j _ => ?_)
  rw [hb, hf, pay18_at, pay27_at]

/-- Half of the state after the chunk, from what the kernel holds. -/
theorem statehalf0 (V30 : FVec Ideal S128x1536 .f32) (V60 V67 : FVec Ideal S128x128 .f32) (T : FVec Ideal S128x1024 .f32) (e : Vec Ideal S128x1024 .f32)
    (he : ∀ (k : Fin 128) (q : Fin 1024), e (ix2 k q) = if k.val = q.val / 64 then 1 else 0) (st : Vec Ideal S128x512 .f32)
    (hst : ∀ (n : Fin 128) (q : Fin 512), st (ix2 n q) = T (ix2 n ⟨0 + q.val, by omega⟩)) (n : Fin 128) (q : Fin 512) :
    k0_pay55 (k0_pay27 V60 V67 I J) (k0_pay28 V67 I J e) k0_pay29 (k0_pay31 (k0_pay15 V30)) (k0_pay38 (k0_pay27 V60 V67 I J) k0_pay29 (k0_pay33 (k0_pay18 V30))) (k0_pay43 (k0_pay27 V60 V67 I J) k0_pay29 (k0_pay39 (k0_pay18 V30))) (k0_pay49 (k0_pay27 V60 V67 I J) k0_pay29 (k0_pay44 (k0_pay18 V30))) (k0_pay50 (k0_pay18 V30)) st (ix2 n q)
      = colState (k0_pay22 V67 I J) V60 (k0_pay15 V30) T n ⟨0 + q.val, by omega⟩ := by
  refine (half0 _ _ _ _ _ st n q).trans ?_
  refine state_of I J V30 V60 V67 T e he n ⟨0 + q.val, by omega⟩ _ _ _ _ (hst n q) rfl
    (fun j => (pay31_at _ n j).trans (congrArg (k0_pay15 V30) (congrArg (ix2 j) (Fin.ext (by show 1024 + n.val = 1024 + 128 * ((0 + q.val) / 512) + n.val; omega)))))
    (fun j => ?_)
  · show _ = k0_pay18 V30 (ix2 j ⟨0 + q.val, by omega⟩) * k0_pay27 V60 V67 I J (ix2 j ⟨(0 + q.val) / 64, by omega⟩)
    by_cases g0 : q.val < 128
    · exact (dif_pos g0).trans (congrArg₂ (· * ·) (congrArg (k0_pay18 V30) (congrArg (ix2 j) (Fin.ext (by show 0 + (q.val) = 0 + q.val; omega))))
        (pick _ j ⟨q.val, g0⟩ 0 1 _ (fun hl => Fin.ext (by have hl : q.val < 64 := hl; show (0 + q.val) / 64 = 0; omega)) (fun hl => Fin.ext (by have hl : ¬ q.val < 64 := hl; show (0 + q.val) / 64 = 1; omega))))
    refine (dif_neg g0).trans ?_
    by_cases g1 : q.val - 128 < 128
    · exact (dif_pos g1).trans (congrArg₂ (· * ·) (congrArg (k0_pay18 V30) (congrArg (ix2 j) (Fin.ext (by show 128 + (q.val - 128) = 0 + q.val; omega))))
        (pick _ j ⟨q.val - 128, g1⟩ 2 3 _ (fun hl => Fin.ext (by have hl : q.val - 128 < 64 := hl; show (0 + q.val) / 64 = 2; omega)) (fun hl => Fin.ext (by have hl : ¬ q.val - 128 < 64 := hl; show (0 + q.val) / 64 = 3; omega))))
    refine (dif_neg g1).trans ?_
    by_cases g2 : q.val - 128 - 128 < 128
    · exact (dif_pos g2).trans (congrArg₂ (· * ·) (congrArg (k0_pay18 V30) (congrArg (ix2 j) (Fin.ext (by show 256 + (q.val - 128 - 128) = 0 + q.val; omega))))
        (pick _ j ⟨q.val - 128 - 128, g2⟩ 4 5 _ (fun hl => Fin.ext (by have hl : q.val - 128 - 128 < 64 := hl; show (0 + q.val) / 64 = 4; omega)) (fun hl => Fin.ext (by have hl : ¬ q.val - 128 - 128 < 64 := hl; show (0 + q.val) / 64 = 5; omega))))
    refine (dif_neg g2).trans ?_
    exact congrArg₂ (· * ·) (congrArg (k0_pay18 V30) (congrArg (ix2 j) (Fin.ext (by show 384 + (q.val - 128 - 128 - 128) = 0 + q.val; omega))))
        (pick _ j ⟨q.val - 128 - 128 - 128, by omega⟩ 6 7 _ (fun hl => Fin.ext (by have hl : q.val - 128 - 128 - 128 < 64 := hl; show (0 + q.val) / 64 = 6; omega)) (fun hl => Fin.ext (by have hl : ¬ q.val - 128 - 128 - 128 < 64 := hl; show (0 + q.val) / 64 = 7; omega)))

/-- Half of the state after the chunk, from what the kernel holds. -/
theorem statehalf1 (V30 : FVec Ideal S128x1536 .f32) (V60 V67 : FVec Ideal S128x128 .f32) (T : FVec Ideal S128x1024 .f32) (e : Vec Ideal S128x1024 .f32)
    (he : ∀ (k : Fin 128) (q : Fin 1024), e (ix2 k q) = if k.val = q.val / 64 then 1 else 0) (st : Vec Ideal S128x512 .f32)
    (hst : ∀ (n : Fin 128) (q : Fin 512), st (ix2 n q) = T (ix2 n ⟨512 + q.val, by omega⟩)) (n : Fin 128) (q : Fin 512) :
    k0_pay77 (k0_pay27 V60 V67 I J) (k0_pay28 V67 I J e) k0_pay29 (k0_pay58 (k0_pay56 (k0_pay15 V30))) (k0_pay63 (k0_pay27 V60 V67 I J) k0_pay29 (k0_pay60 (k0_pay18 V30)) (k0_pay62 (k0_pay27 V60 V67 I J))) (k0_pay66 (k0_pay27 V60 V67 I J) k0_pay29 (k0_pay64 (k0_pay18 V30))) (k0_pay72 (k0_pay27 V60 V67 I J) k0_pay29 (k0_pay67 (k0_pay18 V30))) (k0_pay73 (k0_pay18 V30)) st (ix2 n q)
      = colState (k0_pay22 V67 I J) V60 (k0_pay15 V30) T n ⟨512 + q.val, by omega⟩ := by
  refine (half1 _ _ _ _ _ st n q).trans ?_
  refine state_of I J V30 V60 V67 T e he n ⟨512 + q.val, by omega⟩ _ _ _ _ (hst n q) rfl
    (fun j => (pay58_at _ n j).trans ((pay56_at _ j n).trans (congrArg (k0_pay15 V30) (congrArg (ix2 j) (Fin.ext (by show 1152 + n.val = 1024 + 128 * ((512 + q.val) / 512) + n.val; omega))))))
    (fun j => ?_)
  · show _ = k0_pay18 V30 (ix2 j ⟨512 + q.val, by omega⟩) * k0_pay27 V60 V67 I J (ix2 j ⟨(512 + q.val) / 64, by omega⟩)
    by_cases g0 : q.val < 128
    · exact (dif_pos g0).trans (congrArg₂ (· * ·) (congrArg (k0_pay18 V30) (congrArg (ix2 j) (Fin.ext (by show 512 + (q.val) = 512 + q.val; omega))))
        (pick _ j ⟨q.val, g0⟩ 8 9 _ (fun hl => Fin.ext (by have hl : q.val < 64 := hl; show (512 + q.val) / 64 = 8; omega)) (fun hl => Fin.ext (by have hl : ¬ q.val < 64 := hl; show (512 + q.val) / 64 = 9; omega))))
    refine (dif_neg g0).trans ?_
    by_cases g1 : q.val - 128 < 128
    · exact (dif_pos g1).trans (congrArg₂ (· * ·) (congrArg (k0_pay18 V30) (congrArg (ix2 j) (Fin.ext (by show 640 + (q.val - 128) = 512 + q.val; omega))))
        (pick _ j ⟨q.val - 128, g1⟩ 10 11 _ (fun hl => Fin.ext (by have hl : q.val - 128 < 64 := hl; show (512 + q.val) / 64 = 10; omega)) (fun hl => Fin.ext (by have hl : ¬ q.val - 128 < 64 := hl; show (512 + q.val) / 64 = 11; omega))))
    refine (dif_neg g1).trans ?_
    by_cases g2 : q.val - 128 - 128 < 128
    · exact (dif_pos g2).trans (congrArg₂ (· * ·) (congrArg (k0_pay18 V30) (congrArg (ix2 j) (Fin.ext (by show 768 + (q.val - 128 - 128) = 512 + q.val; omega))))
        (pick _ j ⟨q.val - 128 - 128, g2⟩ 12 13 _ (fun hl => Fin.ext (by have hl : q.val - 128 - 128 < 64 := hl; show (512 + q.val) / 64 = 12; omega)) (fun hl => Fin.ext (by have hl : ¬ q.val - 128 - 128 < 64 := hl; show (512 + q.val) / 64 = 13; omega))))
    refine (dif_neg g2).trans ?_
    exact congrArg₂ (· * ·) (congrArg (k0_pay18 V30) (congrArg (ix2 j) (Fin.ext (by show 896 + (q.val - 128 - 128 - 128) = 512 + q.val; omega))))
        (pick _ j ⟨q.val - 128 - 128 - 128, by omega⟩ 14 15 _ (fun hl => Fin.ext (by have hl : q.val - 128 - 128 - 128 < 64 := hl; show (512 + q.val) / 64 = 14; omega)) (fun hl => Fin.ext (by have hl : ¬ q.val - 128 - 128 - 128 < 64 := hl; show (512 + q.val) / 64 = 15; omega)))

end

end Cert.SsdIdeal.Hand

end
-- ==== Proof.SsdBuf.lean ====
/- Loads and stores of a rectangle of a two-dimensional block, read at an index. -/
module

public import Idealize.ShloMosaic.Lib.Pipeline.ValueKit
public import Idealize.ShloMosaic.Lib.Pipeline.ReadBack
public import Idealize.ShloMosaic.Lib.WritesUnit
public import Idealize.ShloMosaic.Lib.Claim

@[expose] public section

noncomputable section

namespace Cert.Spec

open Idealize.ShloMosaic

variable {N K n k o p : Nat}

/-- The rectangle of `n` rows from `o` and `k` columns from `p`. -/
abbrev box (inb : ∀ a, (![o, p] : Fin 2 → Nat) a + (![n, k] : Fin 2 → Nat) a ≤ (⟨2, ![N, K]⟩ : Shape).size a) : Rect (⟨2, ![N, K]⟩ : Shape) :=
  Rect.unit (s := ⟨2, ![N, K]⟩) ![o, p] ![n, k] inb

variable (inb : ∀ a, (![o, p] : Fin 2 → Nat) a + (![n, k] : Fin 2 → Nat) a ≤ (⟨2, ![N, K]⟩ : Shape).size a)

/-- Where an index of the rectangle lies in the block. -/
theorem box_emb (r : Fin N) (c : Fin K) (x : Fin n) (z : Fin k) (hr : r.val = o + x.val) (hc : c.val = p + z.val) :
    (box inb).emb (ix2 x z) = ix2 r c := by
  funext a
  refine Fin.ext ?_
  fin_cases a
  · show o + 1 * x.val = r.val
    omega
  · show p + 1 * z.val = c.val
    omega

/-- An index outside the rectangle. -/
theorem box_out (r : Fin N) (c : Fin K) (h : r.val < o ∨ o + n ≤ r.val ∨ c.val < p ∨ p + k ≤ c.val) : ix2 r c ∉ (box inb).set := by
  rw [Rect.mem_set_unit]
  intro hall
  have h0 := hall 0
  have h1 := hall 1
  have e0 : o ≤ r.val ∧ r.val < o + n := h0
  have e1 : p ≤ c.val ∧ c.val < p + k := h1
  omega

variable {e : EltTy} (w : (⟨2, ![n, k]⟩ : Shape).Idx → Elt Ideal e) (L : List (View.Piece (Elt Ideal) (⟨2, ![N, K]⟩ : Shape) e))

/-- What was stored last in a rectangle is read there. -/
theorem canon_in (r : Fin N) (c : Fin K) (x : Fin n) (z : Fin k) (hr : r.val = o + x.val) (hc : c.val = p + z.val) :
    View.canon ((⟨box inb, w⟩ : View.Piece (Elt Ideal) (⟨2, ![N, K]⟩ : Shape) e) :: L) (ix2 r c) = w (ix2 x z) := by
  rw [← box_emb inb r c x z hr hc]
  exact View.canon_cons_emb _ _ _ _

/-- Outside it, what was there before. -/
theorem canon_out (r : Fin N) (c : Fin K) (h : r.val < o ∨ o + n ≤ r.val ∨ c.val < p ∨ p + k ≤ c.val) :
    View.canon ((⟨box inb, w⟩ : View.Piece (Elt Ideal) (⟨2, ![N, K]⟩ : Shape) e) :: L) (ix2 r c) = View.canon L (ix2 r c) :=
  View.canon_cons_of_not_mem _ _ (box_out inb r c h)

/-- A load through a rectangle. -/
theorem ld_box (X : (⟨2, ![N, K]⟩ : Shape).Idx → Elt Ideal e) (r : Fin N) (c : Fin K) (x : Fin n) (z : Fin k) (hr : r.val = o + x.val)
    (hc : c.val = p + z.val) : View.ld X (box inb) (ix2 x z) = X (ix2 r c) :=
  congrArg X (box_emb inb r c x z hr hc)

section
variable {sig : RefSig} {κ : Kind} {sp : Space} (v : View sig κ sp (⟨2, ![N, K]⟩ : Shape) e)

/-- A load through a rectangle of what was stored. -/
theorem cov_box (r : Fin N) (c : Fin K) (x : Fin n) (z : Fin k) (hr : r.val = o + x.val) (hc : c.val = p + z.val) :
    v.readCov L (box inb).toLoadRect (ix2 x z) = View.canon L (ix2 r c) := by
  rw [View.readCov_eq_canon']
  exact congrArg (View.canon L) (box_emb inb r c x z hr hc)

variable (f : v.ty.Contents (Elt Ideal))

/-- What was stored last over contents is read in its rectangle. -/
theorem over_in (r : Fin N) (c : Fin K) (x : Fin n) (z : Fin k) (hr : r.val = o + x.val) (hc : c.val = p + z.val) :
    v.read (Elt Ideal) (v.writes (Elt Ideal) f ((⟨box inb, w⟩ : View.Piece (Elt Ideal) (⟨2, ![N, K]⟩ : Shape) e) :: L)) (ix2 r c) = w (ix2 x z) := by
  refine View.read_writes_cons_unit_of_mem v f inb w L (ix2 r c) (ix2 x z) rfl ?_
  intro a
  fin_cases a
  · exact hr
  · exact hc

/-- Outside it, what was there before. -/
theorem over_out (r : Fin N) (c : Fin K) (h : r.val < o ∨ o + n ≤ r.val) :
    v.read (Elt Ideal) (v.writes (Elt Ideal) f ((⟨box inb, w⟩ : View.Piece (Elt Ideal) (⟨2, ![N, K]⟩ : Shape) e) :: L)) (ix2 r c)
      = v.read (Elt Ideal) (v.writes (Elt Ideal) f L) (ix2 r c) :=
  View.read_writes_cons_unit_of_not_mem v f inb w L (ix2 r c) rfl 0 h

end

end Cert.Spec

end
-- ==== Proof.SsdBlk.lean ====
/- The state-space recurrence: what the kernel's payloads compute, at an index. -/
module

public import proofs.«01_k».proof.Defs
public import proofs.«01_k».proof.Proof.SsdStep
public import proofs.«01_k».proof.Proof.SsdBuf
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

variable (m : (ℓ : Loc nD τ sig) → Buf (Elt Ideal) ℓ)

/-- Where each window's block lies, at every grid point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 16, t.val % 16, 0] ∧ win0_13.index t = ![t.val / 16, 0, 0] ∧ win0_14.index t = ![t.val / 16, 0, 0] := by
  decide +kernel

variable (c : Dev nD) (t : Fin cfg0.N)

/-- The sequence a grid point works on. -/
def sq (t : Fin cfg0.N) : Fin 8 := ⟨t.val / 16, by have h : t.val < 128 := t.isLt; omega⟩

/-- That sequence's part of the arguments. -/
def S (t : Fin cfg0.N) : Seq :=
  seqOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (sq t)

/-- The block of rows. -/
theorem blk0 (i : Fin 128) (q : Fin 1536) :
    (iblk m c 0 t : Vec Ideal S1x128x1536 .f32) (ix3 0 i q) = (S m c t).X (128 * (t.val % 16) + i.val) q := by
  refine Eq.trans (b := m ((c : Thread nD τ).loc main_arg0) (ix2 (n0 := 16384) (n1 := 1536) ⟨2048 * (t.val / 16) + (128 * (t.val % 16) + i.val), by have h : t.val < 128 := t.isLt; omega⟩ q)) ?_ ?_
  · blk_simp [iblk, idx t]
    entry_read
    pointwise
    blk_ext [idx t]
  · exact congrArg (m ((c : Thread nD τ).loc main_arg0)) (congrArg (fun n => ix2 n q) (Fin.ext (by
      show _ = t.val / 16 * 2048 + (128 * (t.val % 16) + i.val) % 2048
      show 2048 * (t.val / 16) + (128 * (t.val % 16) + i.val) = _
      omega)))

/-- The block of the gate's rows. -/
theorem blk1 (i : Fin 128) (q : Fin 1024) :
    (iblk m c 1 t : Vec Ideal S1x128x1024 .f32) (ix3 0 i q) = m ((c : Thread nD τ).loc main_arg1) (ix2 (flat (sq t) (128 * (t.val % 16) + i.val)) q) := by
  refine Eq.trans (b := m ((c : Thread nD τ).loc main_arg1) (ix2 (n0 := 16384) (n1 := 1024) ⟨2048 * (t.val / 16) + (128 * (t.val % 16) + i.val), by have h : t.val < 128 := t.isLt; omega⟩ q)) ?_ ?_
  · blk_simp [iblk, idx t]
    entry_read
    pointwise
    blk_ext [idx t]
  · exact congrArg (m ((c : Thread nD τ).loc main_arg1)) (congrArg (fun n => ix2 n q) (Fin.ext (by
      show _ = t.val / 16 * 2048 + (128 * (t.val % 16) + i.val) % 2048
      show 2048 * (t.val / 16) + (128 * (t.val % 16) + i.val) = _
      omega)))

/-- The block of the raw step sizes. -/
theorem blk2 (i : Fin 128) (h : Fin 16) :
    (iblk m c 2 t : Vec Ideal S1x128x128 .f32) (ix3 0 i ⟨h.val, by omega⟩) = (S m c t).dt (128 * (t.val % 16) + i.val) h := by
  refine Eq.trans (b := m ((c : Thread nD τ).loc main_arg2) (ix2 (n0 := 16384) (n1 := 128) ⟨2048 * (t.val / 16) + (128 * (t.val % 16) + i.val), by have h : t.val < 128 := t.isLt; omega⟩ ⟨h.val, by omega⟩)) ?_ ?_
  · blk_simp [iblk, idx t]
    entry_read
    pointwise
    blk_ext [idx t]
  · exact congrArg (m ((c : Thread nD τ).loc main_arg2)) (congrArg (fun n => ix2 n _) (Fin.ext (by
      show _ = t.val / 16 * 2048 + (128 * (t.val % 16) + i.val) % 2048
      show 2048 * (t.val / 16) + (128 * (t.val % 16) + i.val) = _
      omega)))

/-- The filter. -/
theorem blk5 (k : Fin 4) (q : Fin 1536) : (iblk m c 5 t : Vec Ideal S4x1536 .f32) (ix2 k q) = (S m c t).w k q := by
  show _ = m ((c : Thread nD τ).loc main_arg3) (ix2 (n0 := 4) (n1 := 1536) k q)
  blk_simp [iblk, idx t]
  entry_read
  pointwise
  blk_ext [idx t]

/-- The filter's bias. -/
theorem blk6 (q : Fin 1536) : (iblk m c 6 t : Vec Ideal S1x1536 .f32) (ix2 0 q) = (S m c t).cb q := by
  show _ = m ((c : Thread nD τ).loc main_arg4) (ix1 (n0 := 1536) q)
  blk_simp [iblk, idx t]
  entry_read
  pointwise
  blk_ext [idx t]

/-- The step sizes' bias. -/
theorem blk7 (h : Fin 16) : (iblk m c 7 t : Vec Ideal S1x128 .f32) (ix2 0 ⟨h.val, by omega⟩) = (S m c t).dtb h := by
  show _ = m ((c : Thread nD τ).loc main_arg5) (ix1 (n0 := 16) h)
  blk_simp [iblk, idx t]
  entry_read
  pointwise
  have e : ∀ X : S1x128.Idx → Nat, X (((View.whole main_v4).slice (win0_7.rect t)).emb (ix2 0 ⟨h.val, by omega⟩)) = X (ix2 0 ⟨h.val, by omega⟩) := by
    intro X
    blk_ext [idx t]
  have e1 : (((View.whole main_v4).slice (win0_7.rect t)).emb (ix2 0 ⟨h.val, by omega⟩) 1).val = h.val := e fun i => (i 1).val
  rw [dif_pos (by omega)]
  exact congrArg (m ((c : Thread nD τ).loc main_arg5)) (congrArg (ix1 (n0 := 16)) (Fin.ext e1))

/-- The heads' log-rates. -/
theorem blk8 (h : Fin 16) : (iblk m c 8 t : Vec Ideal S1x128 .f32) (ix2 0 ⟨h.val, by omega⟩) = (S m c t).al h := by
  show _ = m ((c : Thread nD τ).loc main_arg6) (ix1 (n0 := 16) h)
  blk_simp [iblk, idx t]
  entry_read
  pointwise
  have e : ∀ X : S1x128.Idx → Nat, X (((View.whole main_v6).slice (win0_8.rect t)).emb (ix2 0 ⟨h.val, by omega⟩)) = X (ix2 0 ⟨h.val, by omega⟩) := by
    intro X
    blk_ext [idx t]
  have e1 : (((View.whole main_v6).slice (win0_8.rect t)).emb (ix2 0 ⟨h.val, by omega⟩) 1).val = h.val := e fun i => (i 1).val
  rw [dif_pos (by omega)]
  exact congrArg (m ((c : Thread nD τ).loc main_arg6)) (congrArg (ix1 (n0 := 16)) (Fin.ext e1))

/-- The skipped input's factors, spread over the lanes. -/
theorem blk9 (q : Fin 1024) : (iblk m c 9 t : Vec Ideal S1x1024 .f32) (ix2 0 q) = m ((c : Thread nD τ).loc main_arg7) (ix1 (n0 := 16) (Seq.hd q)) := by
  unfold Seq.hd
  blk_simp [iblk, idx t]
  entry_read
  pointwise
  blk_ext [idx t]

/-- The output norm's weights. -/
theorem blk10 (q : Fin 1024) : (iblk m c 10 t : Vec Ideal S1x1024 .f32) (ix2 0 q) = m ((c : Thread nD τ).loc main_arg8) (ix1 (n0 := 1024) q) := by
  blk_simp [iblk, idx t]
  entry_read
  pointwise
  blk_ext [idx t]

/-- A lane's head, by the machine's division. -/
theorem div_lane (q : Fin 1024) : IntOp.divsi ArithUnit.host (BitVec.ofNat 32 q.val) 64#32 = BitVec.ofNat 32 (q.val / 64) := by
  revert q
  decide +kernel

/-- Two heads compared. -/
theorem eq_lane (k : Fin 128) (h : Fin 16) :
    IntOp.cmpi CmpIPredicate.eq (BitVec.ofNat 32 k.val) (BitVec.ofNat 32 h.val) = if k.val = h.val then 1#1 else 0#1 := by
  revert k h
  decide +kernel

/-- The matrix that spreads the heads over their lanes. -/
theorem blk11 (k : Fin 128) (q : Fin 1024) : (iblk m c 11 t : Vec Ideal S128x1024 .f32) (ix2 k q) = (if k.val = q.val / 64 then 1 else 0 : EReal) := by
  blk_simp [iblk, idx t]
  entry_read
  pointwise
  have e : ∀ X : S128x1024.Idx → Nat, X (((View.whole main_v15).slice (win0_11.rect t)).emb (ix2 k q)) = X (ix2 k q) := by
    intro X
    blk_ext [idx t]
  have e0 : (((View.whole main_v15).slice (win0_11.rect t)).emb (ix2 k q) 0).val = k.val := e fun i => (i 0).val
  have e1 : (((View.whole main_v15).slice (win0_11.rect t)).emb (ix2 k q) 1).val = q.val := e fun i => (i 1).val
  rw [e0, e1, div_lane, eq_lane k ⟨q.val / 64, by omega⟩]
  by_cases h : k.val = q.val / 64
  · rw [if_pos h, if_pos h]
    show ((((1#1 : BitVec 1).toNat : ℝ)) : EReal) = 1
    norm_num
  · rw [if_neg h, if_neg h]
    show ((((0#1 : BitVec 1).toNat : ℝ)) : EReal) = 0
    norm_num

end Cert.SsdIdeal.Hand

end
-- ==== Proof.SsdRun.lean ====
/- The state-space recurrence: what the kernel's payloads compute, at an index. -/
module

public import proofs.«01_k».proof.Defs
public import proofs.«01_k».proof.Proof.SsdBlk
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

variable (m : (ℓ : Loc nD τ sig) → Buf (Elt Ideal) ℓ) (c : Dev nD) (t : Fin cfg0.N)

/-- The row numbers. -/
abbrev I0 : IVec S128x128 32 := iota .tc S128x128 32 [0] iota_S128x128_d0_w32

/-- The column numbers. -/
abbrev J0 : IVec S128x128 32 := iota .tc S128x128 32 [1] iota_S128x128_d1_w32

/-- The step sizes the kernel holds. -/
abbrev V60 : FVec Ideal S128x128 .f32 := k0_pay19 (iblk m c 2 t) (iblk m c 7 t)

/-- The log-decays the kernel holds. -/
abbrev V67 : FVec Ideal S128x128 .f32 := k0_pay20 (iblk m c 2 t) (iblk m c 7 t) (iblk m c 8 t)

/-- The step sizes are the recurrence's. -/
theorem V60_at (j : Fin 128) (h : Fin 16) : V60 m c t (ix2 j ⟨h.val, by omega⟩) = (S m c t).D (t.val % 16) h j := by
  refine (pay19_at _ _ j _).trans ?_
  rw [blk2, blk7]
  rfl

/-- The log-decays are the recurrence's. -/
theorem V67_at (j : Fin 128) (h : Fin 16) : V67 m c t (ix2 j ⟨h.val, by omega⟩) = (S m c t).logd (128 * (t.val % 16) + j.val) h := by
  refine (pay20_at _ _ _ j _).trans ?_
  rw [blk2, blk7, blk8]
  rfl

/-- Their running sums are the recurrence's. -/
theorem A_at (i : Fin 128) (h : Fin 16) : k0_pay22 (V67 m c t) I0 J0 (ix2 i ⟨h.val, by omega⟩) = (S m c t).A (t.val % 16) h i := by
  refine (pay22_at I0 J0 pay21_at _ i _).trans ?_
  rw [funext fun j => V67_at m c t j h]
  rfl

section
variable (V30 : FVec Ideal S128x1536 .f32) (hV : ∀ i q, V30 (ix2 i q) = (S m c t).conv (128 * (t.val % 16) + i.val) q)
  (T : FVec Ideal S128x1024 .f32) (hT : ∀ n q, T (ix2 n q) = (S m c t).state q (t.val % 16) n)

include hV in
/-- The convolution after its nonlinearity is the recurrence's. -/
theorem V38_at (i : Fin 128) (q : Fin 1536) : k0_pay15 V30 (ix2 i q) = (S m c t).xc (128 * (t.val % 16) + i.val) q :=
  (pay15_at _ i q).trans (congrArg silu (hV i q))

include hV hT in
/-- The state after the chunk is the recurrence's. -/
theorem colState_at (n : Fin 128) (q : Fin 1024) :
    colState (k0_pay22 (V67 m c t) I0 J0) (V60 m c t) (k0_pay15 V30) T n q = (S m c t).state q (t.val % 16 + 1) n := by
  unfold colState
  exact chunkState_congr (fun j => A_at m c t j (Seq.hd q)) (fun j => V60_at m c t j (Seq.hd q))
    (fun j n => V38_at m c t V30 hV j _) (fun j => V38_at m c t V30 hV j _) (fun n => hT n q) n

include hV hT in
/-- The gated row is the recurrence's. -/
theorem gatedRow_at (i : Fin 128) (q : Fin 1024) :
    gatedRow (k0_pay22 (V67 m c t) I0 J0) (V60 m c t) (k0_pay15 V30) T (iblk m c 9 t) (iblk m c 1 t) i q
      = (S m c t).gated (fun h => m ((c : Thread nD τ).loc main_arg7) (ix1 h))
          (fun q => m ((c : Thread nD τ).loc main_arg1) (ix2 (flat (sq t) (128 * (t.val % 16) + i.val)) q)) (t.val % 16) i q := by
  unfold gatedRow col colAt
  rw [blk1, blk9, V38_at m c t V30 hV i ⟨q.val, by omega⟩]
  refine congrArg (fun o => (o + _) * _) ?_
  exact chunkOut_congr (fun j => A_at m c t j (Seq.hd q)) (fun j => V60_at m c t j (Seq.hd q))
    (fun j n => V38_at m c t V30 hV j _) (fun j n => V38_at m c t V30 hV j _) (fun j => V38_at m c t V30 hV j _) (fun n => hT n q) i

end

/-- The convolution from the rows it is made of. -/
theorem conv_of (b w0 w1 w2 w3 : Vec Ideal S1x1536 .f32) (x0 x1 x2 x3 : Vec Ideal S128x1536 .f32) (P : Seq) (s : Nat) (i : Fin 128)
    (q : Fin 1536) (hb : b (ix2 0 q) = P.cb q) (h0 : x0 (ix2 i q) = P.tap s q) (h1 : x1 (ix2 i q) = P.tap (s + 1) q)
    (h2 : x2 (ix2 i q) = P.tap (s + 2) q) (h3 : x3 (ix2 i q) = P.tap (s + 3) q) (e0 : w0 (ix2 0 q) = P.w 0 q)
    (e1 : w1 (ix2 0 q) = P.w 1 q) (e2 : w2 (ix2 0 q) = P.w 2 q) (e3 : w3 (ix2 0 q) = P.w 3 q) :
    k0_pay14 b x0 w0 x1 w1 x2 w2 x3 w3 (ix2 i q) = P.conv s q := by
  rw [pay14_at, hb, h0, h1, h2, h3, e0, e1, e2, e3]
  rfl

/-- A row of the filter, loaded. -/
theorem wrow (o : Nat) (ho : o < 4) (inb) (q : Fin 1536) :
    View.ld (iblk m c 5 t : Vec Ideal S4x1536 .f32) (box (N := 4) (K := 1536) (n := 1) (k := 1536) (o := o) (p := 0) inb) (ix2 0 q) = (S m c t).w ⟨o, ho⟩ q :=
  (ld_box inb _ ⟨o, ho⟩ q 0 q (by show o = o + 0; omega) (by omega)).trans (blk5 m c t ⟨o, ho⟩ q)

/-- A row of the rows, three places on. -/
theorem tap_row (P : Seq) (r : Nat) (q : Fin 1536) : P.tap (r + 3) q = P.X r q := by
  unfold Seq.tap
  rw [if_neg (by omega)]
  rfl

/-- The stored rows at the first chunk, over the zeros before them. -/
theorem padA (hc : t.val % 16 = 0) (r : Fin 136) (q : Fin 1536) (k : Nat) (hk : r.val = 5 + k) (i1 i0) :
    View.canon [(⟨box (N := 136) (K := 1536) (n := 128) (k := 1536) (o := 8) (p := 0) i1, k0_pay13 (iblk m c 0 t)⟩ : View.Piece (Elt Ideal) S136x1536 .f32),
      ⟨box (N := 136) (K := 1536) (n := 8) (k := 1536) (o := 0) (p := 0) i0, k0_pay11 (F := Ideal)⟩] (ix2 r q) = (S m c t).tap k q := by
  by_cases h : k < 3
  · refine (canon_out i1 _ _ r q (.inl (by omega))).trans ?_
    refine (canon_in i0 _ _ r q ⟨r.val, by omega⟩ q (by show r.val = 0 + r.val; omega) (by omega)).trans ?_
    refine (pay11_at _ _).trans ?_
    unfold Seq.tap
    rw [if_pos h]
  · obtain ⟨k, rfl⟩ : ∃ j, k = j + 3 := ⟨k - 3, by omega⟩
    refine (canon_in i1 _ _ r q ⟨k, by omega⟩ q (by show r.val = 8 + k; omega) (by omega)).trans ?_
    rw [tap_row, pay13_at, blk0, hc, Nat.mul_zero, Nat.zero_add]

/-- The sequence does not change inside its run of points. -/
theorem S_pred (hc : ¬ t.val % 16 = 0) (h' : t.val - 1 < cfg0.N) : S m c ⟨t.val - 1, h'⟩ = S m c t := by
  unfold S
  rw [show sq ⟨t.val - 1, h'⟩ = sq t from Fin.ext (by show (t.val - 1) / 16 = t.val / 16; omega)]

/-- The stored rows after the first chunk, over what the point before left. -/
theorem padB (X : Vec Ideal S136x1536 .f32) (hX : ∀ (i : Fin 3) q, X (ix2 ⟨5 + i.val, by omega⟩ q) = (S m c t).tap (128 * (t.val % 16) + i.val) q)
    (r : Fin 136) (q : Fin 1536) (k : Nat) (hk : r.val = 5 + k) (i1) (h : (Memref.whole cc0_scratch0).IsWhole) :
    View.read (Elt Ideal) (View.whole cc0_scratch0) ((View.whole cc0_scratch0).writes (Elt Ideal) (h.unread X)
      [(⟨box (N := 136) (K := 1536) (n := 128) (k := 1536) (o := 8) (p := 0) i1, k0_pay13 (iblk m c 0 t)⟩ : View.Piece (Elt Ideal) S136x1536 .f32)]) (ix2 r q)
      = (S m c t).tap (128 * (t.val % 16) + k) q := by
  by_cases hlt : k < 3
  · refine (over_out i1 _ _ (View.whole cc0_scratch0) _ r q (.inl (by omega))).trans ?_
    refine (congrFun (read_unread_whole cc0_scratch0 h X) (ix2 r q)).trans ?_
    refine Eq.trans ?_ (hX ⟨k, hlt⟩ q)
    exact congrArg X (congrArg (fun n => ix2 n q) (Fin.ext hk))
  · obtain ⟨k, rfl⟩ : ∃ j, k = j + 3 := ⟨k - 3, by omega⟩
    refine (over_in i1 _ _ (View.whole cc0_scratch0) _ r q ⟨k, by omega⟩ q (by show r.val = 8 + k; omega) (by omega)).trans ?_
    rw [← Nat.add_assoc, tap_row, pay13_at, blk0]

/-- A load of what the point before left. -/
theorem ld_prev {n k o p : Nat} (X : Vec Ideal S128x1024 .f32) (h : (Memref.whole cc0_scratch1).IsWhole) (inb)
    (r : Fin 128) (q : Fin 1024) (x : Fin n) (z : Fin k) (hr : r.val = o + x.val) (hq : q.val = p + z.val) :
    View.ld (View.read (Elt Ideal) (View.whole cc0_scratch1) (h.unread X)) (box (N := 128) (K := 1024) (n := n) (k := k) (o := o) (p := p) inb) (ix2 x z)
      = X (ix2 r q) :=
  (ld_box inb _ r q x z hr hq).trans (congrFun (read_unread_whole cc0_scratch1 h X) (ix2 r q))

/-- The two halves of the state, stored one after the other. -/
theorem halves (P0 P1 : Vec Ideal S128x512 .f32) (L : List (View.Piece (Elt Ideal) S128x1024 .f32)) (G : Fin 128 → Fin 1024 → EReal) (i0 i1)
    (h0 : ∀ n (q : Fin 512), P0 (ix2 n q) = G n ⟨0 + q.val, by omega⟩) (h1 : ∀ n (q : Fin 512), P1 (ix2 n q) = G n ⟨512 + q.val, by omega⟩)
    (n : Fin 128) (q : Fin 1024) :
    View.canon ((⟨box (N := 128) (K := 1024) (n := 128) (k := 512) (o := 0) (p := 512) i1, P1⟩ : View.Piece (Elt Ideal) S128x1024 .f32)
      :: ⟨box (N := 128) (K := 1024) (n := 128) (k := 512) (o := 0) (p := 0) i0, P0⟩ :: L) (ix2 n q) = G n q := by
  by_cases h : q.val < 512
  · refine (canon_out i1 _ _ n q (.inr (.inr (.inl h)))).trans ?_
    refine (canon_in i0 _ _ n q n ⟨q.val, h⟩ (by omega) (by show q.val = 0 + q.val; omega)).trans ((h0 _ _).trans ?_)
    exact congrArg (G n) (Fin.ext (by show 0 + q.val = q.val; omega))
  · refine (canon_in i1 _ _ n q n ⟨q.val - 512, by omega⟩ (by omega) (by show q.val = 512 + (q.val - 512); omega)).trans ((h1 _ _).trans ?_)
    exact congrArg (G n) (Fin.ext (by show 512 + (q.val - 512) = q.val; omega))

end Cert.SsdIdeal.Hand

end
-- ==== Proof.SsdOut.lean ====
/- The state-space recurrence: what the kernel's payloads compute, at an index. -/
module

public import proofs.«01_k».proof.Defs
public import proofs.«01_k».proof.Proof.SsdRun
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

variable (m : (ℓ : Loc nD τ sig) → Buf (Elt Ideal) ℓ) (c : Dev nD) (t : Fin cfg0.N)

/-- The convolution of the first chunk. -/
theorem convA (hc : t.val % 16 = 0) (i8 i0 j0 j1 j2 j3 w0 w1 w2 w3) (i : Fin 128) (q : Fin 1536) :
    k0_pay14 (iblk m c 6 t) ((View.whole cc0_scratch0).readCov [(⟨(box (N := 136) (K := 1536) (n := 128) (k := 1536) (o := 8) (p := 0) i8), k0_pay13 (iblk m c 0 t)⟩ : View.Piece (Elt Ideal) S136x1536 .f32), ⟨(box (N := 136) (K := 1536) (n := 8) (k := 1536) (o := 0) (p := 0) i0), k0_pay11 (F := Ideal)⟩] (box (N := 136) (K := 1536) (n := 128) (k := 1536) (o := 5) (p := 0) j0).toLoadRect) (View.ld (iblk m c 5 t : Vec Ideal S4x1536 .f32) (box (N := 4) (K := 1536) (n := 1) (k := 1536) (o := 0) (p := 0) w0)) ((View.whole cc0_scratch0).readCov [(⟨(box (N := 136) (K := 1536) (n := 128) (k := 1536) (o := 8) (p := 0) i8), k0_pay13 (iblk m c 0 t)⟩ : View.Piece (Elt Ideal) S136x1536 .f32), ⟨(box (N := 136) (K := 1536) (n := 8) (k := 1536) (o := 0) (p := 0) i0), k0_pay11 (F := Ideal)⟩] (box (N := 136) (K := 1536) (n := 128) (k := 1536) (o := 6) (p := 0) j1).toLoadRect) (View.ld (iblk m c 5 t : Vec Ideal S4x1536 .f32) (box (N := 4) (K := 1536) (n := 1) (k := 1536) (o := 1) (p := 0) w1)) ((View.whole cc0_scratch0).readCov [(⟨(box (N := 136) (K := 1536) (n := 128) (k := 1536) (o := 8) (p := 0) i8), k0_pay13 (iblk m c 0 t)⟩ : View.Piece (Elt Ideal) S136x1536 .f32), ⟨(box (N := 136) (K := 1536) (n := 8) (k := 1536) (o := 0) (p := 0) i0), k0_pay11 (F := Ideal)⟩] (box (N := 136) (K := 1536) (n := 128) (k := 1536) (o := 7) (p := 0) j2).toLoadRect) (View.ld (iblk m c 5 t : Vec Ideal S4x1536 .f32) (box (N := 4) (K := 1536) (n := 1) (k := 1536) (o := 2) (p := 0) w2)) ((View.whole cc0_scratch0).readCov [(⟨(box (N := 136) (K := 1536) (n := 128) (k := 1536) (o := 8) (p := 0) i8), k0_pay13 (iblk m c 0 t)⟩ : View.Piece (Elt Ideal) S136x1536 .f32), ⟨(box (N := 136) (K := 1536) (n := 8) (k := 1536) (o := 0) (p := 0) i0), k0_pay11 (F := Ideal)⟩] (box (N := 136) (K := 1536) (n := 128) (k := 1536) (o := 8) (p := 0) j3).toLoadRect) (View.ld (iblk m c 5 t : Vec Ideal S4x1536 .f32) (box (N := 4) (K := 1536) (n := 1) (k := 1536) (o := 3) (p := 0) w3)) (ix2 i q)
      = (S m c t).conv (128 * (t.val % 16) + i.val) q := by
  rw [hc, Nat.mul_zero, Nat.zero_add]
  refine conv_of _ _ _ _ _ _ _ _ _ (S m c t) i.val i q (blk6 m c t q) ?_ ?_ ?_ ?_ (wrow m c t 0 (by omega) w0 q) (wrow m c t 1 (by omega) w1 q)
    (wrow m c t 2 (by omega) w2 q) (wrow m c t 3 (by omega) w3 q)
  · exact (cov_box j0 _ (View.whole cc0_scratch0) ⟨5 + i.val, by omega⟩ q i q rfl (by omega)).trans (padA m c t hc ⟨5 + i.val, by omega⟩ q i.val (by show 5 + i.val = 5 + i.val; omega) i8 i0)
  · exact (cov_box j1 _ (View.whole cc0_scratch0) ⟨6 + i.val, by omega⟩ q i q rfl (by omega)).trans (padA m c t hc ⟨6 + i.val, by omega⟩ q (i.val + 1) (by show 6 + i.val = 5 + (i.val + 1); omega) i8 i0)
  · exact (cov_box j2 _ (View.whole cc0_scratch0) ⟨7 + i.val, by omega⟩ q i q rfl (by omega)).trans (padA m c t hc ⟨7 + i.val, by omega⟩ q (i.val + 2) (by show 7 + i.val = 5 + (i.val + 2); omega) i8 i0)
  · exact (cov_box j3 _ (View.whole cc0_scratch0) ⟨8 + i.val, by omega⟩ q i q rfl (by omega)).trans (padA m c t hc ⟨8 + i.val, by omega⟩ q (i.val + 3) (by show 8 + i.val = 5 + (i.val + 3); omega) i8 i0)

/-- The convolution of a later chunk, over what the point before left. -/
theorem convB (X : Vec Ideal S136x1536 .f32) (hX : ∀ (i : Fin 3) q, X (ix2 ⟨5 + i.val, by omega⟩ q) = (S m c t).tap (128 * (t.val % 16) + i.val) q)
    (h : (Memref.whole cc0_scratch0).IsWhole) (i8 j0 j1 j2 j3 w0 w1 w2 w3) (i : Fin 128) (q : Fin 1536) :
    k0_pay14 (iblk m c 6 t) (View.ld (View.read (Elt Ideal) (View.whole cc0_scratch0) ((View.whole cc0_scratch0).writes (Elt Ideal) (h.unread X) [(⟨(box (N := 136) (K := 1536) (n := 128) (k := 1536) (o := 8) (p := 0) i8), k0_pay13 (iblk m c 0 t)⟩ : View.Piece (Elt Ideal) S136x1536 .f32)])) (box (N := 136) (K := 1536) (n := 128) (k := 1536) (o := 5) (p := 0) j0)) (View.ld (iblk m c 5 t : Vec Ideal S4x1536 .f32) (box (N := 4) (K := 1536) (n := 1) (k := 1536) (o := 0) (p := 0) w0)) (View.ld (View.read (Elt Ideal) (View.whole cc0_scratch0) ((View.whole cc0_scratch0).writes (Elt Ideal) (h.unread X) [(⟨(box (N := 136) (K := 1536) (n := 128) (k := 1536) (o := 8) (p := 0) i8), k0_pay13 (iblk m c 0 t)⟩ : View.Piece (Elt Ideal) S136x1536 .f32)])) (box (N := 136) (K := 1536) (n := 128) (k := 1536) (o := 6) (p := 0) j1)) (View.ld (iblk m c 5 t : Vec Ideal S4x1536 .f32) (box (N := 4) (K := 1536) (n := 1) (k := 1536) (o := 1) (p := 0) w1)) (View.ld (View.read (Elt Ideal) (View.whole cc0_scratch0) ((View.whole cc0_scratch0).writes (Elt Ideal) (h.unread X) [(⟨(box (N := 136) (K := 1536) (n := 128) (k := 1536) (o := 8) (p := 0) i8), k0_pay13 (iblk m c 0 t)⟩ : View.Piece (Elt Ideal) S136x1536 .f32)])) (box (N := 136) (K := 1536) (n := 128) (k := 1536) (o := 7) (p := 0) j2)) (View.ld (iblk m c 5 t : Vec Ideal S4x1536 .f32) (box (N := 4) (K := 1536) (n := 1) (k := 1536) (o := 2) (p := 0) w2)) ((View.whole cc0_scratch0).readCov [(⟨(box (N := 136) (K := 1536) (n := 128) (k := 1536) (o := 8) (p := 0) i8), k0_pay13 (iblk m c 0 t)⟩ : View.Piece (Elt Ideal) S136x1536 .f32)] (box (N := 136) (K := 1536) (n := 128) (k := 1536) (o := 8) (p := 0) j3).toLoadRect) (View.ld (iblk m c 5 t : Vec Ideal S4x1536 .f32) (box (N := 4) (K := 1536) (n := 1) (k := 1536) (o := 3) (p := 0) w3)) (ix2 i q)
      = (S m c t).conv (128 * (t.val % 16) + i.val) q := by
  refine conv_of _ _ _ _ _ _ _ _ _ (S m c t) _ i q (blk6 m c t q) ?_ ?_ ?_ ?_ (wrow m c t 0 (by omega) w0 q) (wrow m c t 1 (by omega) w1 q)
    (wrow m c t 2 (by omega) w2 q) (wrow m c t 3 (by omega) w3 q)
  · exact (ld_box j0 _ ⟨5 + i.val, by omega⟩ q i q rfl (by omega)).trans (padB m c t X hX ⟨5 + i.val, by omega⟩ q i.val (by show 5 + i.val = 5 + i.val; omega) i8 h)
  · exact (ld_box j1 _ ⟨6 + i.val, by omega⟩ q i q rfl (by omega)).trans (padB m c t X hX ⟨6 + i.val, by omega⟩ q (i.val + 1) (by show 6 + i.val = 5 + (i.val + 1); omega) i8 h)
  · exact (ld_box j2 _ ⟨7 + i.val, by omega⟩ q i q rfl (by omega)).trans (padB m c t X hX ⟨7 + i.val, by omega⟩ q (i.val + 2) (by show 7 + i.val = 5 + (i.val + 2); omega) i8 h)
  · refine (cov_box j3 _ (View.whole cc0_scratch0) ⟨8 + i.val, by omega⟩ q i q rfl (by omega)).trans ?_
    refine (canon_in i8 _ _ ⟨8 + i.val, by omega⟩ q i q rfl (by omega)).trans ?_
    rw [tap_row, pay13_at, blk0]

/-- The rows a point keeps for the next. -/
theorem keep (h2 : ¬ t.val % 16 = 15) (i : Fin 3) (q : Fin 1536) :
    (outsAt0 m c t.val t.isLt).2.2.2.1 (ix2 ⟨5 + i.val, by omega⟩ q) = (S m c t).tap (128 * (t.val % 16 + 1) + i.val) q := by
  by_cases h0 : t.val % 16 = 0
  · rw [outsAt0_A m c t h0 h2 h2]
    frame_out
    refine (canon_in _ _ _ _ q i q rfl (by omega)).trans ((pay17_at _ i q).trans ?_)
    refine (cov_box _ _ _ ⟨133 + i.val, by omega⟩ q i q rfl (by omega)).trans ?_
    refine (padA m c t h0 ⟨133 + i.val, by omega⟩ q (128 + i.val) (by show 133 + i.val = 5 + (128 + i.val); omega) _ _).trans ?_
    rw [h0]
  · rw [outsAt0_B m c t h0 h2 h2]
    frame_out
    refine (over_in _ _ _ _ _ _ q i q rfl (by omega)).trans ((pay17_at _ i q).trans ?_)
    refine (cov_box _ _ _ ⟨133 + i.val, by omega⟩ q i q rfl (by omega)).trans ?_
    refine (canon_in _ _ _ _ q ⟨125 + i.val, by omega⟩ q (by show 133 + i.val = 8 + (125 + i.val); omega) (by omega)).trans ?_
    rw [pay13_at, blk0, ← tap_row]
    exact congrArg (fun n => (S m c t).tap n q) (by show 128 * (t.val % 16) + (125 + i.val) + 3 = _; omega)

/-- What the point before kept. -/
theorem kept (hc : ¬ t.val % 16 = 0) (hp : t.val - 1 < cfg0.N) (i : Fin 3) (q : Fin 1536) :
    (outsAt0 m c (t.val - 1) hp).2.2.2.1 (ix2 ⟨5 + i.val, by omega⟩ q) = (S m c t).tap (128 * (t.val % 16) + i.val) q := by
  have e := keep m c ⟨t.val - 1, hp⟩ (by show ¬ (t.val - 1) % 16 = 15; omega) i q
  rw [S_pred m c t hc hp] at e
  refine e.trans ?_
  exact congrArg (fun n => (S m c t).tap (128 * n + i.val) q) (by show (t.val - 1) % 16 + 1 = t.val % 16; omega)

/-- The zero state. -/
def Z0 : FVec Ideal S128x1024 .f32 := fun _ => (0 : EReal)

/-- The state after the first chunk is the recurrence's. -/
theorem stateA (h0 : t.val % 16 = 0) (n : Fin 128) (q : Fin 1024) :
    (outsAt0 m c t.val t.isLt).2.2.2.2 (ix2 n q) = (S m c t).state q (t.val % 16 + 1) n := by
  have h2 : ¬ t.val % 16 = 15 := by omega
  · rw [outsAt0_A m c t h0 h2 h2]
    frame_out
    refine halves _ _ _ (fun n q => (S m c t).state q (t.val % 16 + 1) n) _ _ ?_ ?_ n q
    · intro n q
      refine (statehalf0 I0 J0 _ _ _ Z0 _ (blk11 m c t) _ ?_ n q).trans (colState_at m c t _ ?_ Z0 ?_ n _)
      · intro n q
        refine (cov_box _ _ _ n ⟨q.val, by omega⟩ n q (by omega) (by show q.val = 0 + q.val; omega)).trans ?_
        exact (canon_in _ _ _ n _ n ⟨q.val, by omega⟩ (by omega) (by show q.val = 0 + q.val; omega)).trans (pay12_at _ _)
      · exact convA m c t h0 _ _ _ _ _ _ _ _ _ _
      · intro n q
        rw [h0]
        rfl
    · intro n q
      refine (statehalf1 I0 J0 _ _ _ Z0 _ (blk11 m c t) _ ?_ n q).trans (colState_at m c t _ ?_ Z0 ?_ n _)
      · intro n q
        refine (cov_box _ _ _ n ⟨512 + q.val, by omega⟩ n q (by omega) rfl).trans ?_
        refine (canon_out _ _ _ n _ (.inr (.inr (.inr (by show 0 + 512 ≤ 512 + q.val; omega))))).trans ?_
        exact (canon_in _ _ _ n _ n ⟨512 + q.val, by omega⟩ (by omega) (by show 512 + q.val = 0 + (512 + q.val); omega)).trans (pay12_at _ _)
      · exact convA m c t h0 _ _ _ _ _ _ _ _ _ _
      · intro n q
        rw [h0]
        rfl

/-- The state after a later chunk is the recurrence's, if the state before it was. -/
theorem stateB (h0 : ¬ t.val % 16 = 0) (hp : t.val - 1 < cfg0.N)
    (hT : ∀ n q, (outsAt0 m c (t.val - 1) hp).2.2.2.2 (ix2 n q) = (S m c t).state q (t.val % 16) n) (n : Fin 128) (q : Fin 1024) :
    (outsAt0 m c t.val t.isLt).2.2.2.2 (ix2 n q) = (S m c t).state q (t.val % 16 + 1) n := by
  by_cases h2 : t.val % 16 = 15
  · rw [outsAt0_C m c t h0 h2 h2]
    frame_out
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ hT n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ hT n _)
      · intro n q
        exact ld_prev _ _ _ n ⟨512 + q.val, by omega⟩ n q (by omega) rfl
      · exact convB m c t _ (kept m c t h0 hp) _ _ _ _ _ _ _ _ _ _
  · rw [outsAt0_B m c t h0 h2 h2]
    frame_out
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ hT n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ hT n _)
      · intro n q
        exact ld_prev _ _ _ n ⟨512 + q.val, by omega⟩ n q (by omega) rfl
      · exact convB m c t _ (kept m c t h0 hp) _ _ _ _ _ _ _ _ _ _

/-- The state a point keeps for the next is the recurrence's. -/
theorem state_at : ∀ (k : Nat) (hk : k < cfg0.N) (n : Fin 128) (q : Fin 1024),
    (outsAt0 m c k hk).2.2.2.2 (ix2 n q) = (S m c ⟨k, hk⟩).state q (k % 16 + 1) n := by
  intro k
  induction k with
  | zero => exact fun hk => stateA m c ⟨0, hk⟩ rfl
  | succ k ih =>
    intro hk
    by_cases h0 : (k + 1) % 16 = 0
    · exact stateA m c ⟨k + 1, hk⟩ h0
    · have hp : k < cfg0.N := by omega
      refine stateB m c ⟨k + 1, hk⟩ h0 hp fun n q => (ih hp n q).trans ?_
      have e := S_pred m c ⟨k + 1, hk⟩ h0 hp
      exact congrArg₂ (fun (P : Seq) j => P.state q j n) e (by show k % 16 + 1 = (k + 1) % 16; omega)

/-- The state before a later chunk. -/
theorem before (h0 : ¬ t.val % 16 = 0) (hp : t.val - 1 < cfg0.N) (n : Fin 128) (q : Fin 1024) :
    (outsAt0 m c (t.val - 1) hp).2.2.2.2 (ix2 n q) = (S m c t).state q (t.val % 16) n :=
  (state_at m c _ hp n q).trans (congrArg₂ (fun (P : Seq) j => P.state q j n) (S_pred m c t h0 hp)
    (by show (t.val - 1) % 16 + 1 = t.val % 16; omega))

end Cert.SsdIdeal.Hand

end
-- ==== Proof.SsdFin.lean ====
/- The state-space recurrence: what the kernel's payloads compute, at an index. -/
module

public import proofs.«01_k».proof.Defs
public import proofs.«01_k».proof.Proof.SsdOut
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

variable (m : (ℓ : Loc nD τ sig) → Buf (Elt Ideal) ℓ) (c : Dev nD) (t : Fin cfg0.N)

/-- The skipped input's factors. -/
abbrev dkOf (h : Fin 16) : EReal := m ((c : Thread nD τ).loc main_arg7) (ix1 (n0 := 16) h)

/-- The gate's row of a place. -/
abbrev zOf (i : Fin 128) (q : Fin 1024) : EReal := m ((c : Thread nD τ).loc main_arg1) (ix2 (flat (sq t) (128 * (t.val % 16) + i.val)) q)

/-- The output norm's weights. -/
abbrev gOf (q : Fin 1024) : EReal := m ((c : Thread nD τ).loc main_arg8) (ix1 (n0 := 1024) q)

/-- The rows a point of the first chunk leaves. -/
theorem yA (h0 : t.val % 16 = 0) (i : Fin 128) (q : Fin 1024) :
    (outsAt0 m c t.val t.isLt).1 (ix3 0 i q) = nrm ((S m c t).gated (dkOf m c) (zOf m c t i) (t.val % 16) i) (gOf m c) q := by
  have h2 : ¬ t.val % 16 = 15 := by omega
  · rw [outsAt0_A m c t h0 h2 h2]
    frame_out
    refine (y_at I0 J0 pay21_at _ _ _ Z0 _ _ _ _ _ _ _ _ ?_ ?_ ?_ ?_ ?_ ?_ ?_ ?_ _ _ _ i q).trans ?_
    · intro n l
      exact (cov_box _ _ _ n ⟨0 + l.val, by omega⟩ n l (by omega) rfl).trans (((canon_in _ _ _ n _ n ⟨0 + l.val, by omega⟩ (by omega) (by show 0 + l.val = 0 + (0 + l.val); omega)).trans (pay12_at _ _)))
    · intro n l
      exact (cov_box _ _ _ n ⟨128 + l.val, by omega⟩ n l (by omega) rfl).trans (((canon_in _ _ _ n _ n ⟨128 + l.val, by omega⟩ (by omega) (by show 128 + l.val = 0 + (128 + l.val); omega)).trans (pay12_at _ _)))
    · intro n l
      exact (cov_box _ _ _ n ⟨256 + l.val, by omega⟩ n l (by omega) rfl).trans (((canon_in _ _ _ n _ n ⟨256 + l.val, by omega⟩ (by omega) (by show 256 + l.val = 0 + (256 + l.val); omega)).trans (pay12_at _ _)))
    · intro n l
      exact (cov_box _ _ _ n ⟨384 + l.val, by omega⟩ n l (by omega) rfl).trans (((canon_in _ _ _ n _ n ⟨384 + l.val, by omega⟩ (by omega) (by show 384 + l.val = 0 + (384 + l.val); omega)).trans (pay12_at _ _)))
    · intro n l
      exact (cov_box _ _ _ n ⟨512 + l.val, by omega⟩ n l (by omega) rfl).trans ((canon_out _ _ _ n _ (.inr (.inr (.inr (by show 0 + 512 ≤ 512 + l.val; omega))))).trans ((canon_in _ _ _ n _ n ⟨512 + l.val, by omega⟩ (by omega) (by show 512 + l.val = 0 + (512 + l.val); omega)).trans (pay12_at _ _)))
    · intro n l
      exact (cov_box _ _ _ n ⟨640 + l.val, by omega⟩ n l (by omega) rfl).trans ((canon_out _ _ _ n _ (.inr (.inr (.inr (by show 0 + 512 ≤ 640 + l.val; omega))))).trans ((canon_in _ _ _ n _ n ⟨640 + l.val, by omega⟩ (by omega) (by show 640 + l.val = 0 + (640 + l.val); omega)).trans (pay12_at _ _)))
    · intro n l
      exact (cov_box _ _ _ n ⟨768 + l.val, by omega⟩ n l (by omega) rfl).trans ((canon_out _ _ _ n _ (.inr (.inr (.inr (by show 0 + 512 ≤ 768 + l.val; omega))))).trans ((canon_in _ _ _ n _ n ⟨768 + l.val, by omega⟩ (by omega) (by show 768 + l.val = 0 + (768 + l.val); omega)).trans (pay12_at _ _)))
    · intro n l
      exact (cov_box _ _ _ n ⟨896 + l.val, by omega⟩ n l (by omega) rfl).trans ((canon_out _ _ _ n _ (.inr (.inr (.inr (by show 0 + 512 ≤ 896 + l.val; omega))))).trans ((canon_in _ _ _ n _ n ⟨896 + l.val, by omega⟩ (by omega) (by show 896 + l.val = 0 + (896 + l.val); omega)).trans (pay12_at _ _)))
    · rw [funext (gatedRow_at m c t _ (convA m c t h0 _ _ _ _ _ _ _ _ _ _) Z0 (fun n q => by rw [h0]; rfl) i), funext (blk10 m c t)]

/-- The rows a point of a chunk in the middle leaves. -/
theorem yB (h0 : ¬ t.val % 16 = 0) (h2 : ¬ t.val % 16 = 15) (hp : t.val - 1 < cfg0.N) (i : Fin 128) (q : Fin 1024) :
    (outsAt0 m c t.val t.isLt).1 (ix3 0 i q) = nrm ((S m c t).gated (dkOf m c) (zOf m c t i) (t.val % 16) i) (gOf m c) q := by
  · rw [outsAt0_B m c t h0 h2 h2]
    frame_out
    refine (y_at I0 J0 pay21_at _ _ _ (outsAt0 m c (t.val - 1) hp).2.2.2.2 _ _ _ _ _ _ _ _ ?_ ?_ ?_ ?_ ?_ ?_ ?_ ?_ _ _ _ i q).trans ?_
    · intro n l
      exact ld_prev _ _ _ n ⟨0 + l.val, by omega⟩ n l (by omega) rfl
    · intro n l
      exact ld_prev _ _ _ n ⟨128 + l.val, by omega⟩ n l (by omega) rfl
    · intro n l
      exact ld_prev _ _ _ n ⟨256 + l.val, by omega⟩ n l (by omega) rfl
    · intro n l
      exact ld_prev _ _ _ n ⟨384 + l.val, by omega⟩ n l (by omega) rfl
    · intro n l
      exact ld_prev _ _ _ n ⟨512 + l.val, by omega⟩ n l (by omega) rfl
    · intro n l
      exact ld_prev _ _ _ n ⟨640 + l.val, by omega⟩ n l (by omega) rfl
    · intro n l
      exact ld_prev _ _ _ n ⟨768 + l.val, by omega⟩ n l (by omega) rfl
    · intro n l
      exact ld_prev _ _ _ n ⟨896 + l.val, by omega⟩ n l (by omega) rfl
    · rw [funext (gatedRow_at m c t _ (convB m c t _ (kept m c t h0 hp) _ _ _ _ _ _ _ _ _ _) (outsAt0 m c (t.val - 1) hp).2.2.2.2 (before m c t h0 hp) i), funext (blk10 m c t)]

/-- The rows a point of the last chunk leaves. -/
theorem yC (h0 : ¬ t.val % 16 = 0) (h2 : t.val % 16 = 15) (hp : t.val - 1 < cfg0.N) (i : Fin 128) (q : Fin 1024) :
    (outsAt0 m c t.val t.isLt).1 (ix3 0 i q) = nrm ((S m c t).gated (dkOf m c) (zOf m c t i) (t.val % 16) i) (gOf m c) q := by
  · rw [outsAt0_C m c t h0 h2 h2]
    frame_out
    refine (y_at I0 J0 pay21_at _ _ _ (outsAt0 m c (t.val - 1) hp).2.2.2.2 _ _ _ _ _ _ _ _ ?_ ?_ ?_ ?_ ?_ ?_ ?_ ?_ _ _ _ i q).trans ?_
    · intro n l
      exact ld_prev _ _ _ n ⟨0 + l.val, by omega⟩ n l (by omega) rfl
    · intro n l
      exact ld_prev _ _ _ n ⟨128 + l.val, by omega⟩ n l (by omega) rfl
    · intro n l
      exact ld_prev _ _ _ n ⟨256 + l.val, by omega⟩ n l (by omega) rfl
    · intro n l
      exact ld_prev _ _ _ n ⟨384 + l.val, by omega⟩ n l (by omega) rfl
    · intro n l
      exact ld_prev _ _ _ n ⟨512 + l.val, by omega⟩ n l (by omega) rfl
    · intro n l
      exact ld_prev _ _ _ n ⟨640 + l.val, by omega⟩ n l (by omega) rfl
    · intro n l
      exact ld_prev _ _ _ n ⟨768 + l.val, by omega⟩ n l (by omega) rfl
    · intro n l
      exact ld_prev _ _ _ n ⟨896 + l.val, by omega⟩ n l (by omega) rfl
    · rw [funext (gatedRow_at m c t _ (convB m c t _ (kept m c t h0 hp) _ _ _ _ _ _ _ _ _ _) (outsAt0 m c (t.val - 1) hp).2.2.2.2 (before m c t h0 hp) i), funext (blk10 m c t)]

/-- The rows any point leaves. -/
theorem y_out (i : Fin 128) (q : Fin 1024) :
    (outsAt0 m c t.val t.isLt).1 (ix3 0 i q) = nrm ((S m c t).gated (dkOf m c) (zOf m c t i) (t.val % 16) i) (gOf m c) q := by
  have hp : t.val - 1 < cfg0.N := Nat.lt_of_le_of_lt (Nat.sub_le _ _) t.isLt
  by_cases h0 : t.val % 16 = 0
  · exact yA m c t h0 i q
  · by_cases h2 : t.val % 16 = 15
    · exact yC m c t h0 h2 hp i q
    · exact yB m c t h0 h2 hp i q

/-- The last rows a sequence's last point hands out. -/
theorem tail_out (h2 : t.val % 16 = 15) (i : Fin 3) (q : Fin 1536) :
    (outsAt0 m c t.val t.isLt).2.1 (ix3 0 i q) = (S m c t).X (2045 + i.val) q := by
  rw [outsAt0_C m c t (by omega) h2 h2]
  frame_out
  refine (pay16_at _ i q).trans ?_
  refine (cov_box _ _ _ ⟨133 + i.val, by omega⟩ q i q rfl (by omega)).trans ?_
  refine (canon_in _ _ _ _ q ⟨125 + i.val, by omega⟩ q (by show 133 + i.val = 8 + (125 + i.val); omega) (by omega)).trans ?_
  rw [pay13_at, blk0, h2]
  exact congrArg (fun n => (S m c t).X n q) (by show 128 * 15 + (125 + i.val) = 2045 + i.val; omega)

/-- An index of a slab of the state's block. -/
theorem slab_in {o : Nat} (inb) (w : S1x128x128.Idx → Elt Ideal .f32) (L : List (View.Piece (Elt Ideal) S1x1024x128 .f32)) (q : Fin 1024) (n : Fin 128) (x : Fin 128)
    (hx : q.val = o + x.val) :
    View.canon ((⟨Rect.unit (s := S1x1024x128) ![0, o, 0] ![1, 128, 128] inb, w⟩ : View.Piece (Elt Ideal) S1x1024x128 .f32) :: L) (ix3 0 q n) = w (ix3 0 x n) := by
  have e : (Rect.unit (s := S1x1024x128) ![0, o, 0] ![1, 128, 128] inb).emb (ix3 0 x n) = ix3 0 q n := by
    funext a
    refine Fin.ext ?_
    fin_cases a
    · rfl
    · show o + 1 * x.val = q.val
      omega
    · show 0 + 1 * n.val = n.val
      omega
  rw [← e]
  exact View.canon_cons_emb _ _ _ _

/-- An index outside a slab of the state's block. -/
theorem slab_out {o : Nat} (inb) (w : S1x128x128.Idx → Elt Ideal .f32) (L : List (View.Piece (Elt Ideal) S1x1024x128 .f32)) (q : Fin 1024) (n : Fin 128)
    (h : q.val < o ∨ o + 128 ≤ q.val) :
    View.canon ((⟨Rect.unit (s := S1x1024x128) ![0, o, 0] ![1, 128, 128] inb, w⟩ : View.Piece (Elt Ideal) S1x1024x128 .f32) :: L) (ix3 0 q n) = View.canon L (ix3 0 q n) := by
  refine View.canon_cons_of_not_mem _ _ ?_
  rw [Rect.mem_set_unit]
  intro hall
  have e0 : o ≤ q.val ∧ q.val < o + 128 := hall 1
  omega

/-- A slab of the state, turned. -/
theorem turn0 (v : Vec Ideal S128x128 .f32) (x n : Fin 128) : k0_pay5 v (ix3 0 x n) = v (ix2 n x) := by
  pointwise [k0_pay5]

/-- A slab of the state, turned. -/
theorem turn128 (v : Vec Ideal S128x128 .f32) (x n : Fin 128) : k0_pay6 v (ix3 0 x n) = v (ix2 n x) := by
  pointwise [k0_pay6]

/-- A slab of the state, turned. -/
theorem turn256 (v : Vec Ideal S128x128 .f32) (x n : Fin 128) : k0_pay7 v (ix3 0 x n) = v (ix2 n x) := by
  pointwise [k0_pay7]

/-- A slab of the state, turned. -/
theorem turn384 (v : Vec Ideal S128x128 .f32) (x n : Fin 128) : k0_pay8 v (ix3 0 x n) = v (ix2 n x) := by
  pointwise [k0_pay8]

/-- A slab of the state, turned. -/
theorem turn512 (v : Vec Ideal S128x128 .f32) (x n : Fin 128) : k0_pay9 v (ix3 0 x n) = v (ix2 n x) := by
  pointwise [k0_pay9]

/-- A slab of the state, turned. -/
theorem turn640 (v : Vec Ideal S128x128 .f32) (x n : Fin 128) : k0_pay2 (k0_pay10 v) (ix3 0 x n) = v (ix2 n x) := by
  pointwise [k0_pay2, k0_pay10]

/-- A slab of the state, turned. -/
theorem turn768 (v : Vec Ideal S128x128 .f32) (x n : Fin 128) : k0_pay3 v (ix3 0 x n) = v (ix2 n x) := by
  pointwise [k0_pay3]

/-- A slab of the state, turned. -/
theorem turn896 (v : Vec Ideal S128x128 .f32) (x n : Fin 128) : k0_pay4 v (ix3 0 x n) = v (ix2 n x) := by
  pointwise [k0_pay4]

/-- The state's slabs, side by side. -/
theorem slabs (R0 R128 R256 R384 R512 R640 R768 R896 : Vec Ideal S128x128 .f32) (G : Fin 1024 → Fin 128 → EReal)
    (h0 : ∀ n l : Fin 128, R0 (ix2 n l) = G ⟨0 + l.val, by omega⟩ n)
    (h128 : ∀ n l : Fin 128, R128 (ix2 n l) = G ⟨128 + l.val, by omega⟩ n)
    (h256 : ∀ n l : Fin 128, R256 (ix2 n l) = G ⟨256 + l.val, by omega⟩ n)
    (h384 : ∀ n l : Fin 128, R384 (ix2 n l) = G ⟨384 + l.val, by omega⟩ n)
    (h512 : ∀ n l : Fin 128, R512 (ix2 n l) = G ⟨512 + l.val, by omega⟩ n)
    (h640 : ∀ n l : Fin 128, R640 (ix2 n l) = G ⟨640 + l.val, by omega⟩ n)
    (h768 : ∀ n l : Fin 128, R768 (ix2 n l) = G ⟨768 + l.val, by omega⟩ n)
    (h896 : ∀ n l : Fin 128, R896 (ix2 n l) = G ⟨896 + l.val, by omega⟩ n)
    (b0 b128 b256 b384 b512 b640 b768 b896) (q : Fin 1024) (n : Fin 128) :
    View.canon [(⟨(Rect.unit (s := S1x1024x128) ![0, 896, 0] ![1, 128, 128] b896), k0_pay4 R896⟩ : View.Piece (Elt Ideal) S1x1024x128 .f32),
      (⟨(Rect.unit (s := S1x1024x128) ![0, 768, 0] ![1, 128, 128] b768), k0_pay3 R768⟩ : View.Piece (Elt Ideal) S1x1024x128 .f32),
      (⟨(Rect.unit (s := S1x1024x128) ![0, 640, 0] ![1, 128, 128] b640), k0_pay2 (k0_pay10 R640)⟩ : View.Piece (Elt Ideal) S1x1024x128 .f32),
      (⟨(Rect.unit (s := S1x1024x128) ![0, 512, 0] ![1, 128, 128] b512), k0_pay9 R512⟩ : View.Piece (Elt Ideal) S1x1024x128 .f32),
      (⟨(Rect.unit (s := S1x1024x128) ![0, 384, 0] ![1, 128, 128] b384), k0_pay8 R384⟩ : View.Piece (Elt Ideal) S1x1024x128 .f32),
      (⟨(Rect.unit (s := S1x1024x128) ![0, 256, 0] ![1, 128, 128] b256), k0_pay7 R256⟩ : View.Piece (Elt Ideal) S1x1024x128 .f32),
      (⟨(Rect.unit (s := S1x1024x128) ![0, 128, 0] ![1, 128, 128] b128), k0_pay6 R128⟩ : View.Piece (Elt Ideal) S1x1024x128 .f32),
      (⟨(Rect.unit (s := S1x1024x128) ![0, 0, 0] ![1, 128, 128] b0), k0_pay5 R0⟩ : View.Piece (Elt Ideal) S1x1024x128 .f32)] (ix3 0 q n) = G q n := by
  by_cases g896 : 896 ≤ q.val
  · exact ((slab_in b896 _ _ q n ⟨q.val - 896, by omega⟩ (by show q.val = 896 + (q.val - 896); omega)).trans ((turn896 _ _ n).trans ((h896 n _).trans (congrArg (fun k => G k n) (Fin.ext (by show 896 + (q.val - 896) = q.val; omega))))))
  refine (slab_out b896 _ _ q n (.inl (by omega))).trans ?_
  by_cases g768 : 768 ≤ q.val
  · exact ((slab_in b768 _ _ q n ⟨q.val - 768, by omega⟩ (by show q.val = 768 + (q.val - 768); omega)).trans ((turn768 _ _ n).trans ((h768 n _).trans (congrArg (fun k => G k n) (Fin.ext (by show 768 + (q.val - 768) = q.val; omega))))))
  refine (slab_out b768 _ _ q n (.inl (by omega))).trans ?_
  by_cases g640 : 640 ≤ q.val
  · exact ((slab_in b640 _ _ q n ⟨q.val - 640, by omega⟩ (by show q.val = 640 + (q.val - 640); omega)).trans ((turn640 _ _ n).trans ((h640 n _).trans (congrArg (fun k => G k n) (Fin.ext (by show 640 + (q.val - 640) = q.val; omega))))))
  refine (slab_out b640 _ _ q n (.inl (by omega))).trans ?_
  by_cases g512 : 512 ≤ q.val
  · exact ((slab_in b512 _ _ q n ⟨q.val - 512, by omega⟩ (by show q.val = 512 + (q.val - 512); omega)).trans ((turn512 _ _ n).trans ((h512 n _).trans (congrArg (fun k => G k n) (Fin.ext (by show 512 + (q.val - 512) = q.val; omega))))))
  refine (slab_out b512 _ _ q n (.inl (by omega))).trans ?_
  by_cases g384 : 384 ≤ q.val
  · exact ((slab_in b384 _ _ q n ⟨q.val - 384, by omega⟩ (by show q.val = 384 + (q.val - 384); omega)).trans ((turn384 _ _ n).trans ((h384 n _).trans (congrArg (fun k => G k n) (Fin.ext (by show 384 + (q.val - 384) = q.val; omega))))))
  refine (slab_out b384 _ _ q n (.inl (by omega))).trans ?_
  by_cases g256 : 256 ≤ q.val
  · exact ((slab_in b256 _ _ q n ⟨q.val - 256, by omega⟩ (by show q.val = 256 + (q.val - 256); omega)).trans ((turn256 _ _ n).trans ((h256 n _).trans (congrArg (fun k => G k n) (Fin.ext (by show 256 + (q.val - 256) = q.val; omega))))))
  refine (slab_out b256 _ _ q n (.inl (by omega))).trans ?_
  by_cases g128 : 128 ≤ q.val
  · exact ((slab_in b128 _ _ q n ⟨q.val - 128, by omega⟩ (by show q.val = 128 + (q.val - 128); omega)).trans ((turn128 _ _ n).trans ((h128 n _).trans (congrArg (fun k => G k n) (Fin.ext (by show 128 + (q.val - 128) = q.val; omega))))))
  refine (slab_out b128 _ _ q n (.inl (by omega))).trans ?_
  exact ((slab_in b0 _ _ q n ⟨q.val - 0, by omega⟩ (by show q.val = 0 + (q.val - 0); omega)).trans ((turn0 _ _ n).trans ((h0 n _).trans (congrArg (fun k => G k n) (Fin.ext (by show 0 + (q.val - 0) = q.val; omega))))))

/-- The state a sequence's last point hands out. -/
theorem state_out (h2 : t.val % 16 = 15) (q : Fin 1024) (n : Fin 128) :
    (outsAt0 m c t.val t.isLt).2.2.1 (ix3 0 q n) = (S m c t).state q 16 n := by
  have hp : t.val - 1 < cfg0.N := Nat.lt_of_le_of_lt (Nat.sub_le _ _) t.isLt
  have h0 : ¬ t.val % 16 = 0 := by omega
  have hs : ∀ (n : Fin 128) (q : Fin 1024), (S m c t).state q (t.val % 16 + 1) n = (S m c t).state q 16 n := by
    intro n q
    rw [h2]
  rw [outsAt0_C m c t h0 h2 h2]
  frame_out
  refine slabs _ _ _ _ _ _ _ _ (fun q n => (S m c t).state q 16 n) ?_ ?_ ?_ ?_ ?_ ?_ ?_ ?_ _ _ _ _ _ _ _ _ q n
  · intro n l
    refine (cov_box _ _ _ n ⟨0 + l.val, by omega⟩ n l (by omega) rfl).trans (Eq.trans ?_ (hs n ⟨0 + l.val, by omega⟩))
    generalize (⟨0 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨128 + l.val, by omega⟩ n l (by omega) rfl).trans (Eq.trans ?_ (hs n ⟨128 + l.val, by omega⟩))
    generalize (⟨128 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨256 + l.val, by omega⟩ n l (by omega) rfl).trans (Eq.trans ?_ (hs n ⟨256 + l.val, by omega⟩))
    generalize (⟨256 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨384 + l.val, by omega⟩ n l (by omega) rfl).trans (Eq.trans ?_ (hs n ⟨384 + l.val, by omega⟩))
    generalize (⟨384 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨512 + l.val, by omega⟩ n l (by omega) rfl).trans (Eq.trans ?_ (hs n ⟨512 + l.val, by omega⟩))
    generalize (⟨512 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨640 + l.val, by omega⟩ n l (by omega) rfl).trans (Eq.trans ?_ (hs n ⟨640 + l.val, by omega⟩))
    generalize (⟨640 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨768 + l.val, by omega⟩ n l (by omega) rfl).trans (Eq.trans ?_ (hs n ⟨768 + l.val, by omega⟩))
    generalize (⟨768 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _
  · intro n l
    refine (cov_box _ _ _ n ⟨896 + l.val, by omega⟩ n l (by omega) rfl).trans (Eq.trans ?_ (hs n ⟨896 + l.val, by omega⟩))
    generalize (⟨896 + l.val, by omega⟩ : Fin 1024) = q
    refine halves _ _ _ (fun n q => (S m c t).state q (t.val % 16 + 1) n) _ _ ?_ ?_ n q
    · intro n q
      refine (statehalf0 I0 J0 _ _ _ (outsAt0 m c (t.val - 1) hp).2.2.2.2 _ (blk11 m c t) _ ?_ n q).trans (colState_at m c t _ ?_ _ (before m c t h0 hp) n _)
      · intro n q
        exact ld_prev _ _ _ n ⟨0 + q.val, by omega⟩ n q (by omega) rfl
      · exact convB m c t _ (kept m c t h0 hp) _ _ _ _ _ _ _ _ _ _
    · intro n q
      refine (statehalf1 I0 J0 _ _ _ (outsAt0 m c (t.val - 1) hp).2.2.2.2 _ (blk11 m c t) _ ?_ n q).trans (colState_at m c t _ ?_ _ (before m c t h0 hp) n _)
      · intro n q
        exact ld_prev _ _ _ n ⟨512 + q.val, by omega⟩ n q (by omega) rfl
      · exact convB m c t _ (kept m c t h0 hp) _ _ _ _ _ _ _ _ _ _

end Cert.SsdIdeal.Hand

end
-- ==== Proof.SsdKer.lean ====
/- The state-space recurrence: what the kernel's payloads compute, at an index. -/
module

public import proofs.«01_k».proof.Defs
public import proofs.«01_k».proof.Proof.SsdFin
public import proofs.«01_k».proof.Proof.Gen.SsdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdIdeal.Hand

open Cert.SsdIdeal Cert.SsdIdeal.Gen Cert.Spec

variable (m : (ℓ : Loc nD τ sig) → Buf (Elt Ideal) ℓ) (c : Dev nD)

/-- The rows the kernel leaves. -/
theorem final12' : (dats m 0 c).arrAt 12 (cfgs 0).N = rowsAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]
  have hi : (y 1).val < 128 := (y 1).isLt
  have ht : t.val < 128 := t.isLt
  have e : ∀ X : S8x2048x1024.Idx → EReal, X (((cfg0.win 12).blk t).view.emb y)
      = X (ix3 (n0 := 8) (n1 := 2048) (n2 := 1024) (sq t) ⟨128 * (t.val % 16) + (y 1).val, by omega⟩ (y 2)) := by
    intro X
    unfold sq
    blk_ext [idx t]
  refine Eq.trans ?_ (e _).symm
  refine (congrArg _ ((eq_ix3 y).trans (congrArg (fun a => ix3 a (y 1) (y 2)) (Subsingleton.elim (α := Fin 1) (y 0) 0)))).trans ((y_out m c t (y 1) (y 2)).trans ?_)
  have e1 : (128 * (t.val % 16) + (y 1).val) / 128 = t.val % 16 := by omega
  have e2 : (⟨(128 * (t.val % 16) + (y 1).val) % 128, Nat.mod_lt _ (by decide)⟩ : Fin 128) = y 1 := Fin.ext (by show (128 * (t.val % 16) + (y 1).val) % 128 = (y 1).val; omega)
  show _ = nrm ((S m c t).gated (dkOf m c) (zOf m c t (y 1)) ((128 * (t.val % 16) + (y 1).val) / 128)
    ⟨(128 * (t.val % 16) + (y 1).val) % 128, Nat.mod_lt _ (by decide)⟩) (gOf m c) (y 2)
  rw [e1, e2]

/-- The last rows the kernel hands on. -/
theorem final13' : (dats m 0 c).arrAt 13 (cfgs 0).N = tailAll (m ((c : Thread nD τ).loc main_arg0)) := by
  refine (dats m 0 c).arrAt_eq_of_covers 13 _ (by decide +kernel) fun t hf y => ?_
  have h2 : t.val % 16 = 15 := (flush0_13 t).mp hf
  blk_simp
  rw [after0_13]
  have ht : t.val < 128 := t.isLt
  have e : ∀ X : S8x3x1536.Idx → EReal, X (((cfg0.win 13).blk t).view.emb y)
      = X (ix3 (n0 := 8) (n1 := 3) (n2 := 1536) (sq t) (y 1) (y 2)) := by
    intro X
    unfold sq
    blk_ext [idx t]
  refine Eq.trans ?_ (e _).symm
  exact (congrArg _ ((eq_ix3 y).trans (congrArg (fun a => ix3 a (y 1) (y 2)) (Subsingleton.elim (α := Fin 1) (y 0) 0)))).trans (tail_out m c t h2 (y 1) (y 2))

/-- The state the kernel hands on. -/
theorem final14' : (dats m 0 c).arrAt 14 (cfgs 0).N = stateAll (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t hf y => ?_
  have h2 : t.val % 16 = 15 := (flush0_14 t).mp hf
  blk_simp
  rw [after0_14]
  have ht : t.val < 128 := t.isLt
  have e : ∀ X : S8x1024x128.Idx → EReal, X (((cfg0.win 14).blk t).view.emb y)
      = X (ix3 (n0 := 8) (n1 := 1024) (n2 := 128) (sq t) (y 1) (y 2)) := by
    intro X
    unfold sq
    blk_ext [idx t]
  refine Eq.trans ?_ (e _).symm
  exact (congrArg _ ((eq_ix3 y).trans (congrArg (fun a => ix3 a (y 1) (y 2)) (Subsingleton.elim (α := Fin 1) (y 0) 0)))).trans (state_out m c t h2 (y 1) (y 2))

end Cert.SsdIdeal.Hand

end
-- ==== Proof.SsdRef.lean ====
/- The state-space recurrence: what the reference's values are, at an index. -/
module

public import proofs.«01_k».proof.Defs
public import proofs.«01_k».proof.Proof.SsdSpec
public import proofs.«01_k».proof.Proof.Gen.SsdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdRefIdeal.Hand

open Cert.SsdRefIdeal Cert.SsdRefIdeal.Gen Cert.SsdRefIdeal.Read Cert.Spec

variable (x0 : FVec Ideal S16384x1536 .f32) (x1 : FVec Ideal S16384x1024 .f32) (x2 : FVec Ideal S16384x128 .f32)
  (x3 : FVec Ideal S4x1536 .f32) (x4 : FVec Ideal S1536 .f32) (x5 x6 x7 : FVec Ideal S16 .f32) (x8 : FVec Ideal S1024 .f32)

/-- The rows with the zeros before them. -/
theorem v6_at (b : Fin 8) (r : Fin 2051) (q : Fin 1536) :
    val_main_v6 (F := Ideal) x0 (ix3 b r q) = (seqOf x0 x2 x3 x4 x5 x6 b).tap r.val q := by
  refine Eq.trans (b := if h : r.val < 3 then 0 else x0 (ix2 (n0 := 16384) ⟨b.val * 2048 + (r.val - 3), by omega⟩ q)) ?_ ?_
  · pointwise [val_main_v6, val_main_v4, val_main_v1, val_main_cst]
  · unfold Seq.tap
    by_cases h : r.val < 3
    · rw [dif_pos h, if_pos h]
    · rw [dif_neg h, if_neg h]
      refine congrArg x0 (congrArg (fun n => ix2 n q) (Fin.ext ?_))
      show b.val * 2048 + (r.val - 3) = b.val * 2048 + (r.val - 3) % 2048
      omega

/-- The convolution. -/
theorem v36_at (b : Fin 8) (s : Fin 2048) (q : Fin 1536) :
    val_main_v36 (F := Ideal) x0 x3 x4 (ix3 b s q) = (seqOf x0 x2 x3 x4 x5 x6 b).conv s.val q := by
  refine Eq.trans (b := x4 (ix1 q) + val_main_v6 (F := Ideal) x0 (ix3 b ⟨s.val, by omega⟩ q) * x3 (ix2 0 q)
      + val_main_v6 (F := Ideal) x0 (ix3 b ⟨1 + s.val, by omega⟩ q) * x3 (ix2 1 q)
      + val_main_v6 (F := Ideal) x0 (ix3 b ⟨2 + s.val, by omega⟩ q) * x3 (ix2 2 q)
      + val_main_v6 (F := Ideal) x0 (ix3 b ⟨3 + s.val, by omega⟩ q) * x3 (ix2 3 q)) ?_ ?_
  · pointwise [val_main_v36, val_main_v35, val_main_v34, val_main_v33, val_main_v32, val_main_v31, val_main_v30, val_main_v29, val_main_v28,
      val_main_v27, val_main_v26, val_main_v25, val_main_v24, val_main_v23, val_main_v22, val_main_v21, val_main_v20, val_main_v19,
      val_main_v18, val_main_v17, val_main_v16, val_main_v15, val_main_v14, val_main_v13, val_main_v12, val_main_v11, val_main_v10,
      val_main_v9, val_main_v8, val_main_v7]
  · simp only [v6_at x0 x2 x3 x4 x5 x6]
    rw [Nat.add_comm 1, Nat.add_comm 2, Nat.add_comm 3]
    rfl

/-- The nonlinearity as the reference writes it. -/
theorem silu_neg (x : EReal) : x * Ideal.div 1 (1 + Ideal.exp (-x)) = silu x := by
  unfold silu
  rw [zero_sub]

/-- The convolution after its nonlinearity. -/
theorem v37_at (b : Fin 8) (s : Fin 2048) (q : Fin 1536) :
    val_main_v37 (F := Ideal) x0 x3 x4 (ix3 b s q) = (seqOf x0 x2 x3 x4 x5 x6 b).xc s.val q := by
  refine Eq.trans (b := val_main_v36 (F := Ideal) x0 x3 x4 (ix3 b s q)
      * Ideal.div 1 (1 + Ideal.exp (-(val_main_v36 (F := Ideal) x0 x3 x4 (ix3 b s q))))) ?_ ?_
  · pointwise [val_main_v37, val_main_call0_v5, val_main_call0_v4, val_main_call0_v3, val_main_call0_v2, val_main_call0_v1, val_main_call0_v0,
      val_main_call0_cst, val_main_call0_cst_0]
  · rw [silu_neg, v36_at x0 x2 x3 x4 x5 x6]
    rfl

/-- The raw step size with its bias. -/
theorem v51_at (b : Fin 8) (s : Fin 2048) (h : Fin 16) :
    val_main_v51 (F := Ideal) x2 x5 (ix3 b s h) = (seqOf x0 x2 x3 x4 x5 x6 b).dt s.val h + (seqOf x0 x2 x3 x4 x5 x6 b).dtb h := by
  refine Eq.trans (b := x2 (ix2 (n0 := 16384) (n1 := 128) ⟨b.val * 2048 + s.val, by omega⟩ ⟨h.val, by omega⟩) + x5 (ix1 h)) ?_ ?_
  · pointwise [val_main_v51, val_main_v50, val_main_v49, val_main_v3, val_main_v2]
  · refine congrArg (· + x5 (ix1 h)) (congrArg x2 (congrArg (fun n => ix2 n _) (Fin.ext ?_)))
    show b.val * 2048 + s.val = b.val * 2048 + s.val % 2048
    omega

/-- The step size. -/
theorem v52_at (b : Fin 8) (s : Fin 2048) (h : Fin 16) :
    val_main_v52 (F := Ideal) x2 x5 (ix3 b s h) = (seqOf x0 x2 x3 x4 x5 x6 b).step s.val h := by
  unfold Seq.step
  rw [← v51_at x0 x2 x3 x4 x5 x6 b s h]
  pointwise [val_main_v52, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst, softp]
  rw [if_neg (fun h => h rfl), zero_sub]
  rfl

/-- The log-decay. -/
theorem v61_at (b : Fin 8) (c : Fin 16) (j : Fin 128) (h : Fin 16) :
    val_main_v61 (F := Ideal) x2 x5 x6 (ix4 b c j h) = (seqOf x0 x2 x3 x4 x5 x6 b).logd (128 * c.val + j.val) h := by
  refine Eq.trans (b := val_main_v52 (F := Ideal) x2 x5 (ix3 b ⟨c.val * 128 + j.val, by omega⟩ h) * -(Ideal.exp (x6 (ix1 h)))) ?_ ?_
  · pointwise [val_main_v61, val_main_v60, val_main_v59, val_main_v54, val_main_v53, val_main_v56]
  · rw [v52_at x0 x2 x3 x4 x5 x6, ← zero_sub, Nat.mul_comm 128]
    rfl

/-- The causal mask. -/
theorem v64_at (i j : Fin 128) : val_main_v64 (F := Ideal) (ix2 i j) = causal i j := by
  pointwise [val_main_v64, val_main_call3_v5, val_main_call3_v4, val_main_call3_v3, val_main_call3_v2, val_main_call3_v1, val_main_call3_v0,
    val_main_call3_c, val_main_call3_c_0, val_main_v63, val_main_c]
  revert i j
  decide +kernel

/-- The decay between two places. -/
theorem v73_at (b : Fin 8) (c : Fin 16) (i j : Fin 128) (h : Fin 16) :
    val_main_v73 (F := Ideal) x2 x5 x6 (ix5 b c i j h)
      = decay causal (fun j => val_main_v62 (F := Ideal) x2 x5 x6 (ix4 b c j h)) (fun j => val_main_v62 (F := Ideal) x2 x5 x6 (ix4 b c j h)) i j := by
  unfold decay
  rw [← v64_at]
  pointwise [val_main_v73, val_main_call5_v2, val_main_call5_v1, val_main_call5_v0, val_main_v72, val_main_v71, val_main_call4_v2,
    val_main_call4_v1, val_main_call4_v0, val_main_v70, val_main_v69, val_main_v68, val_main_v67, val_main_v66, val_main_v65,
    val_main_cst_1, val_main_cst_2]
  have hz : id (constant (F := Ideal) S_ FTy.f32 0#32) ix0 = 0 := by
    show constant (F := Ideal) S_ FTy.f32 0#32 ix0 = 0
    pointwise
  rw [hz]

/-- A head's inputs. -/
theorem v55_at (b : Fin 8) (c : Fin 16) (j : Fin 128) (h : Fin 16) (p : Fin 64) :
    val_main_v55 (F := Ideal) x0 x3 x4 (ix5 b c j h p) = val_main_v37 (F := Ideal) x0 x3 x4 (ix3 b ⟨c.val * 128 + j.val, by omega⟩ ⟨h.val * 64 + p.val, by omega⟩) := by
  pointwise [val_main_v55, val_main_v40, val_main_v39]

/-- A head's step sizes. -/
theorem v56_at (b : Fin 8) (c : Fin 16) (j : Fin 128) (h : Fin 16) :
    val_main_v56 (F := Ideal) x2 x5 (ix4 b c j h) = val_main_v52 (F := Ideal) x2 x5 (ix3 b ⟨c.val * 128 + j.val, by omega⟩ h) := by
  pointwise [val_main_v56]

/-- A head's input directions. -/
theorem v57_at (b : Fin 8) (c : Fin 16) (j : Fin 128) (h : Fin 16) (n : Fin 128) :
    val_main_v57 (F := Ideal) x0 x3 x4 (ix5 b c j h n) = val_main_v37 (F := Ideal) x0 x3 x4 (ix3 b ⟨c.val * 128 + j.val, by omega⟩ ⟨1024 + (h.val / 8 * 128 + n.val), by omega⟩) := by
  pointwise [val_main_v57, val_main_v44, val_main_v43, val_main_v42, val_main_v41]

/-- A head's output directions. -/
theorem v58_at (b : Fin 8) (c : Fin 16) (j : Fin 128) (h : Fin 16) (n : Fin 128) :
    val_main_v58 (F := Ideal) x0 x3 x4 (ix5 b c j h n) = val_main_v37 (F := Ideal) x0 x3 x4 (ix3 b ⟨c.val * 128 + j.val, by omega⟩ ⟨1280 + (h.val / 8 * 128 + n.val), by omega⟩) := by
  pointwise [val_main_v58, val_main_v48, val_main_v47, val_main_v46, val_main_v45]

end Cert.SsdRefIdeal.Hand

end
-- ==== Proof.SsdCum.lean ====
/- The state-space recurrence: the reference's running sums. -/
module

public import proofs.«01_k».proof.Defs
public import proofs.«01_k».proof.Proof.SsdRef
public import proofs.«01_k».proof.Proof.Gen.SsdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdRefIdeal.Hand

open Cert.SsdRefIdeal Cert.SsdRefIdeal.Gen Cert.SsdRefIdeal.Read Cert.Spec

/-- Adding up along a list. -/
theorem foldl_add {N : Nat} (f : Fin N → EReal) (l : List (Fin N)) (v : EReal) :
    l.foldl (fun r n => r + f n) v = v + (l.map f).sum := by
  induction l generalizing v with
  | nil => simp
  | cons a l ih => rw [List.foldl_cons, ih, List.map_cons, List.sum_cons, add_assoc]

/-- The places of the window are the places of a chunk. -/
def winEquiv : (⟨4, ![1, 1, 128, 1]⟩ : Shape).Idx ≃ Fin 128 where
  toFun w := w 2
  invFun k := ix4 0 0 k 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv k := rfl

/-- What the window adds at a place of its own: the entry there, or nothing where the place lies outside. -/
theorem window_term (x : FVec Ideal S8x16x128x16 .f32) (b : Fin 8) (c : Fin 16) (i : Fin 128) (q : Fin 16)
    (w : (⟨4, ![1, 1, 128, 1]⟩ : Shape).Idx)
    (inst : Decidable (∀ a : Fin 4, (![0, 0, 127, 0] : Fin 4 → Nat) a ≤ (ix4 b c i q a).val * (![1, 1, 1, 1] : Fin 4 → Nat) a + (w a).val
        ∧ (ix4 b c i q a).val * (![1, 1, 1, 1] : Fin 4 → Nat) a + (w a).val - (![0, 0, 127, 0] : Fin 4 → Nat) a < S8x16x128x16.size a)) :
    @dite EReal _ inst (fun hin => x (fun a => ⟨(ix4 b c i q a).val * (![1, 1, 1, 1] : Fin 4 → Nat) a + (w a).val - (![0, 0, 127, 0] : Fin 4 → Nat) a, (hin a).2⟩)) (fun _ => 0)
      = Scalar.select (causal i (winEquiv w + (i + 1))) 1 0 * x (ix4 b c (winEquiv w + (i + 1)) q) := by
  have h0 : (w 0).val = 0 := by have h : (w 0).val < 1 := (w 0).isLt; omega
  have h1 : (w 1).val = 0 := by have h : (w 1).val < 1 := (w 1).isLt; omega
  have h3 : (w 3).val = 0 := by have h : (w 3).val < 1 := (w 3).isLt; omega
  have h2 : (w 2).val < 128 := (w 2).isLt
  have hj : (winEquiv w + (i + 1)).val = ((w 2).val + (i.val + 1) % 128) % 128 := by
    rw [Fin.val_add, Fin.val_add]; rfl
  have hi := i.isLt
  split
  · next hin =>
    obtain ⟨g1, g2⟩ := hin 2
    change 127 ≤ i.val * 1 + (w 2).val at g1
    have hc : causal i (winEquiv w + (i + 1)) = 1#1 := if_pos (by omega)
    rw [hc, select_one, one_mul]
    refine congrArg x (funext fun a => Fin.ext ?_)
    match a with
    | ⟨0, _⟩ => show b.val * 1 + (w 0).val - 0 = b.val; omega
    | ⟨1, _⟩ => show c.val * 1 + (w 1).val - 0 = c.val; omega
    | ⟨2, _⟩ => show i.val * 1 + (w 2).val - 127 = (winEquiv w + (i + 1)).val; omega
    | ⟨3, _⟩ => show q.val * 1 + (w 3).val - 0 = q.val; omega
  · next hin =>
    have hc : causal i (winEquiv w + (i + 1)) = 0#1 := if_neg fun hle => hin fun a => by
      match a with
      | ⟨0, _⟩ => show 0 ≤ b.val * 1 + (w 0).val ∧ b.val * 1 + (w 0).val - 0 < 8; omega
      | ⟨1, _⟩ => show 0 ≤ c.val * 1 + (w 1).val ∧ c.val * 1 + (w 1).val - 0 < 16; omega
      | ⟨2, _⟩ => show 127 ≤ i.val * 1 + (w 2).val ∧ i.val * 1 + (w 2).val - 127 < 128; omega
      | ⟨3, _⟩ => show 0 ≤ q.val * 1 + (w 3).val ∧ q.val * 1 + (w 3).val - 0 < 16; omega
    rw [hc, select_zero, zero_mul]

/-- A window's sum from zero of the entries up to its place is the running sum. -/
theorem window_sum (x : FVec Ideal S8x16x128x16 .f32) (v : FVec Ideal S_ .f32) (hv : ∀ y, v y = 0) (h) (hu) (b : Fin 8) (c : Fin 16) (i : Fin 128) (q : Fin 16) :
    Host.reduceWindowAdd (F := Ideal) (t := S8x16x128x16) ![1, 1, 128, 1] ![1, 1, 1, 1] ![0, 0, 127, 0] ![0, 0, 0, 0] x v h hu (ix4 b c i q)
      = runSum (fun j => x (ix4 b c j q)) i := by
  show Host.reduceWindow (· + ·) ![1, 1, 128, 1] ![1, 1, 1, 1] ![0, 0, 127, 0] ![0, 0, 0, 0] x v h hu (ix4 b c i q) = _
  unfold Host.reduceWindow
  refine (foldl_add _ _ _).trans ?_
  rw [hv, zero_add, ← Fin.sum_univ_def]
  refine Eq.trans (b := ∑ w : (⟨4, ![1, 1, 128, 1]⟩ : Shape).Idx,
    (fun k : Fin 128 => Scalar.select (causal i (k + (i + 1))) 1 0 * x (ix4 b c (k + (i + 1)) q)) (winEquiv w)) ?_ ?_
  · rw [← Equiv.sum_comp ((⟨4, ![1, 1, 128, 1]⟩ : Shape).rowMajor.symm)]
    refine Finset.sum_congr rfl fun n _ => ?_
    exact @window_term x b c i q _ _
  · refine (Equiv.sum_comp winEquiv fun k : Fin 128 => Scalar.select (causal i (k + (i + 1))) 1 0 * x (ix4 b c (k + (i + 1)) q)).trans ?_
    exact Equiv.sum_comp (Equiv.addRight (i + 1)) fun j => Scalar.select (causal i j) 1 0 * x (ix4 b c j q)

variable (x0 : FVec Ideal S16384x1536 .f32) (x1 : FVec Ideal S16384x1024 .f32) (x2 : FVec Ideal S16384x128 .f32)
  (x3 : FVec Ideal S4x1536 .f32) (x4 : FVec Ideal S1536 .f32) (x5 x6 x7 : FVec Ideal S16 .f32) (x8 : FVec Ideal S1024 .f32)

/-- The running sums of the log-decays. -/
theorem v62_at (b : Fin 8) (c : Fin 16) (j : Fin 128) (h : Fin 16) :
    val_main_v62 (F := Ideal) x2 x5 x6 (ix4 b c j h) = (seqOf x0 x2 x3 x4 x5 x6 b).A c.val h j := by
  unfold val_main_v62
  refine (window_sum _ _ (fun y => ?_) _ _ b c j h).trans ?_
  · rw [show y = ix0 from funext fun a => a.elim0]
    pointwise [val_main_call2_call0_v0, val_main_call2_call0_cst]
  · exact congrArg (fun f => runSum f j) (funext fun j => v61_at x0 x2 x3 x4 x5 x6 b c j h)

end Cert.SsdRefIdeal.Hand

end
-- ==== Proof.SsdRefB.lean ====
/- The state-space recurrence: the reference's chunks. -/
module

public import proofs.«01_k».proof.Defs
public import proofs.«01_k».proof.Proof.SsdCum
public import proofs.«01_k».proof.Proof.Gen.SsdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdRefIdeal.Hand

open Cert.SsdRefIdeal Cert.SsdRefIdeal.Gen Cert.SsdRefIdeal.Read Cert.Spec

variable (x0 : FVec Ideal S16384x1536 .f32) (x1 : FVec Ideal S16384x1024 .f32) (x2 : FVec Ideal S16384x128 .f32)
  (x3 : FVec Ideal S4x1536 .f32) (x4 : FVec Ideal S1536 .f32) (x5 x6 x7 : FVec Ideal S16 .f32) (x8 : FVec Ideal S1024 .f32)

/-- The lane of a head's place. -/
def ln (h : Fin 16) (p : Fin 64) : Fin 1024 := ⟨h.val * 64 + p.val, by omega⟩

theorem hd_ln (h : Fin 16) (p : Fin 64) : Seq.hd (ln h p) = h := Fin.ext (by show (h.val * 64 + p.val) / 64 = h.val; omega)

/-- A head's step sizes in a chunk. -/
theorem stepD (b : Fin 8) (c : Fin 16) (j : Fin 128) (h : Fin 16) (p : Fin 64) :
    val_main_v56 (F := Ideal) x2 x5 (ix4 b c j h) = (seqOf x0 x2 x3 x4 x5 x6 b).D c.val (Seq.hd (ln h p)) j := by
  rw [v56_at, v52_at x0 x2 x3 x4 x5 x6, hd_ln]
  exact congrArg ((seqOf x0 x2 x3 x4 x5 x6 b).step · h) (by show c.val * 128 + j.val = 128 * c.val + j.val; omega)

/-- A head's running sums in a chunk. -/
theorem sumA (b : Fin 8) (c : Fin 16) (j : Fin 128) (h : Fin 16) (p : Fin 64) :
    val_main_v62 (F := Ideal) x2 x5 x6 (ix4 b c j h) = (seqOf x0 x2 x3 x4 x5 x6 b).A c.val (Seq.hd (ln h p)) j := by
  rw [v62_at x0 x2 x3 x4 x5 x6, hd_ln]

/-- A head's input directions in a chunk. -/
theorem dirB (b : Fin 8) (c : Fin 16) (j : Fin 128) (h : Fin 16) (p : Fin 64) (n : Fin 128) :
    val_main_v57 (F := Ideal) x0 x3 x4 (ix5 b c j h n) = (seqOf x0 x2 x3 x4 x5 x6 b).B c.val (Seq.gr (ln h p)) j n := by
  rw [v57_at, v37_at x0 x2 x3 x4 x5 x6]
  refine congrArg₂ (seqOf x0 x2 x3 x4 x5 x6 b).xc ?_ (Fin.ext ?_)
  · show c.val * 128 + j.val = 128 * c.val + j.val
    omega
  · show 1024 + (h.val / 8 * 128 + n.val) = 1024 + 128 * ((h.val * 64 + p.val) / 512) + n.val
    omega

/-- A head's output directions in a chunk. -/
theorem dirC (b : Fin 8) (c : Fin 16) (j : Fin 128) (h : Fin 16) (p : Fin 64) (n : Fin 128) :
    val_main_v58 (F := Ideal) x0 x3 x4 (ix5 b c j h n) = (seqOf x0 x2 x3 x4 x5 x6 b).C c.val (Seq.gr (ln h p)) j n := by
  rw [v58_at, v37_at x0 x2 x3 x4 x5 x6]
  refine congrArg₂ (seqOf x0 x2 x3 x4 x5 x6 b).xc ?_ (Fin.ext ?_)
  · show c.val * 128 + j.val = 128 * c.val + j.val
    omega
  · show 1280 + (h.val / 8 * 128 + n.val) = 1280 + 128 * ((h.val * 64 + p.val) / 512) + n.val
    omega

/-- A lane's inputs in a chunk. -/
theorem inX (b : Fin 8) (c : Fin 16) (j : Fin 128) (h : Fin 16) (p : Fin 64) :
    val_main_v55 (F := Ideal) x0 x3 x4 (ix5 b c j h p) = (seqOf x0 x2 x3 x4 x5 x6 b).x c.val (ln h p) j := by
  rw [v55_at, v37_at x0 x2 x3 x4 x5 x6]
  exact congrArg ((seqOf x0 x2 x3 x4 x5 x6 b).xc · _) (by show c.val * 128 + j.val = 128 * c.val + j.val; omega)

/-- What a chunk adds to the state. -/
theorem v90_at (b : Fin 8) (c : Fin 16) (h : Fin 16) (p : Fin 64) (n : Fin 128) :
    val_main_v90 (F := Ideal) x0 x2 x3 x4 x5 x6 (ix5 b c h p n)
      = ∑ j, val_main_v57 (F := Ideal) x0 x3 x4 (ix5 b c j h n) * (val_main_v55 (F := Ideal) x0 x3 x4 (ix5 b c j h p)
        * (Ideal.exp (val_main_v62 (F := Ideal) x2 x5 x6 (ix4 b c 127 h) - val_main_v62 (F := Ideal) x2 x5 x6 (ix4 b c j h)) * val_main_v56 (F := Ideal) x2 x5 (ix4 b c j h))) := by
  refine Eq.trans (b := ∑ j : Fin 128, val_main_v89 (F := Ideal) x0 x2 x3 x4 x5 x6 (ix5 b c j h p) * val_main_v57 (F := Ideal) x0 x3 x4 (ix5 b c j h n)) ?_ ?_
  · pointwise [val_main_v90]
  · refine Finset.sum_congr rfl fun j _ => (mul_comm _ _).trans (congrArg₂ (· * ·) rfl (Eq.trans ?_ (mul_comm _ _)))
    pointwise [val_main_v89, val_main_v88, val_main_v87, val_main_v86, val_main_v85, val_main_v84, val_main_v83, val_main_v82]

/-- A chunk's decay as a whole. -/
theorem v93_at (b : Fin 8) (c : Fin 16) (h : Fin 16) :
    val_main_v93 (F := Ideal) x2 x5 x6 (ix3 b c h) = Ideal.exp (val_main_v62 (F := Ideal) x2 x5 x6 (ix4 b c 127 h)) := by
  pointwise [val_main_v93, val_main_v92, val_main_v91]

/-- The state after a chunk is the decayed state from before it and what the chunk adds. -/
theorem state_step (b : Fin 8) (c : Fin 16) (h : Fin 16) (p : Fin 64) (n : Fin 128) (s : EReal)
    (hs : s = (seqOf x0 x2 x3 x4 x5 x6 b).state (ln h p) c.val n) :
    val_main_v93 (F := Ideal) x2 x5 x6 (ix3 b c h) * s + val_main_v90 (F := Ideal) x0 x2 x3 x4 x5 x6 (ix5 b c h p n)
      = (seqOf x0 x2 x3 x4 x5 x6 b).state (ln h p) (c.val + 1) n := by
  rw [v93_at, v90_at, hs, mul_comm]
  refine Eq.trans ?_ (chunkState_congr (fun j => sumA x0 x2 x3 x4 x5 x6 b c j h p) (fun j => stepD x0 x2 x3 x4 x5 x6 b c j h p)
    (fun j n => dirB x0 x2 x3 x4 x5 x6 b c j h p n) (fun j => inX x0 x2 x3 x4 x5 x6 b c j h p) (fun n => rfl) n)
  rfl

/-- The scores. -/
theorem v75_at (b : Fin 8) (c : Fin 16) (i j : Fin 128) (h : Fin 16) :
    val_main_v75 (F := Ideal) x0 x3 x4 (ix5 b c i j h)
      = ∑ n : Fin 128, val_main_v58 (F := Ideal) x0 x3 x4 (ix5 b c i h n) * val_main_v57 (F := Ideal) x0 x3 x4 (ix5 b c j h n) := by
  refine Eq.trans (b := ∑ n : Fin 128, val_main_v57 (F := Ideal) x0 x3 x4 (ix5 b c j h n) * val_main_v58 (F := Ideal) x0 x3 x4 (ix5 b c i h n)) ?_ ?_
  · pointwise [val_main_v75, val_main_v74]
  · exact Finset.sum_congr rfl fun n _ => mul_comm _ _

/-- What the chunk's own places contribute. -/
theorem v81_at (b : Fin 8) (c : Fin 16) (i : Fin 128) (h : Fin 16) (p : Fin 64) :
    val_main_v81 (F := Ideal) x0 x2 x3 x4 x5 x6 (ix5 b c i h p)
      = ∑ j : Fin 128, (val_main_v56 (F := Ideal) x2 x5 (ix4 b c j h) * val_main_v55 (F := Ideal) x0 x3 x4 (ix5 b c j h p))
        * val_main_v76 (F := Ideal) x0 x2 x3 x4 x5 x6 (ix5 b c i j h) := by
  pointwise [val_main_v81, val_main_v80, val_main_v79, val_main_v78, val_main_v77]

/-- The decayed scores. -/
theorem v76_at (b : Fin 8) (c : Fin 16) (i j : Fin 128) (h : Fin 16) :
    val_main_v76 (F := Ideal) x0 x2 x3 x4 x5 x6 (ix5 b c i j h)
      = val_main_v75 (F := Ideal) x0 x3 x4 (ix5 b c i j h) * val_main_v73 (F := Ideal) x2 x5 x6 (ix5 b c i j h) := by
  pointwise [val_main_v76]

/-- What the state from before contributes. -/
theorem v245_at (b : Fin 8) (c : Fin 16) (i : Fin 128) (h : Fin 16) (p : Fin 64) :
    val_main_v245 (F := Ideal) x0 x2 x3 x4 x5 x6 (ix5 b c i h p)
      = ∑ n : Fin 128, val_main_v239 (F := Ideal) x0 x2 x3 x4 x5 x6 (ix5 b c h p n)
        * (val_main_v58 (F := Ideal) x0 x3 x4 (ix5 b c i h n) * Ideal.exp (val_main_v62 (F := Ideal) x2 x5 x6 (ix4 b c i h))) := by
  pointwise [val_main_v245, val_main_v244, val_main_v243, val_main_v242, val_main_v241, val_main_v240]

/-- A lane's output, where the state from before is known. -/
theorem v246_at (b : Fin 8) (c : Fin 16) (i : Fin 128) (h : Fin 16) (p : Fin 64)
    (hs : ∀ n, val_main_v239 (F := Ideal) x0 x2 x3 x4 x5 x6 (ix5 b c h p n) = (seqOf x0 x2 x3 x4 x5 x6 b).state (ln h p) c.val n) :
    val_main_v246 (F := Ideal) x0 x2 x3 x4 x5 x6 (ix5 b c i h p) = (seqOf x0 x2 x3 x4 x5 x6 b).out c.val i (ln h p) := by
  refine Eq.trans (b := val_main_v81 (F := Ideal) x0 x2 x3 x4 x5 x6 (ix5 b c i h p) + val_main_v245 (F := Ideal) x0 x2 x3 x4 x5 x6 (ix5 b c i h p)) ?_ ?_
  · pointwise [val_main_v246]
  · rw [v81_at, v245_at]
    refine Eq.trans ?_ (chunkOut_congr (fun j => sumA x0 x2 x3 x4 x5 x6 b c j h p) (fun j => stepD x0 x2 x3 x4 x5 x6 b c j h p)
      (fun j n => dirB x0 x2 x3 x4 x5 x6 b c j h p n) (fun j n => dirC x0 x2 x3 x4 x5 x6 b c j h p n)
      (fun j => inX x0 x2 x3 x4 x5 x6 b c j h p) hs i)
    unfold chunkOut headSum
    refine congrArg₂ (· + ·) (Finset.sum_congr rfl fun j _ => ?_) (Finset.sum_congr rfl fun n _ => mul_comm _ _)
    rw [v76_at, v75_at, v73_at, mul_comm, mul_comm (∑ n, _), ← mul_assoc]

end Cert.SsdRefIdeal.Hand

end
-- ==== Proof.SsdRefC.lean ====
/- The state-space recurrence: the reference's states, chunk by chunk. -/
module

public import proofs.«01_k».proof.Defs
public import proofs.«01_k».proof.Proof.SsdRefB
public import proofs.«01_k».proof.Proof.Gen.SsdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdRefIdeal.Hand

open Cert.SsdRefIdeal Cert.SsdRefIdeal.Gen Cert.SsdRefIdeal.Read Cert.Spec

variable (x0 : FVec Ideal S16384x1536 .f32) (x1 : FVec Ideal S16384x1024 .f32) (x2 : FVec Ideal S16384x128 .f32)
  (x3 : FVec Ideal S4x1536 .f32) (x4 : FVec Ideal S1536 .f32) (x5 x6 x7 : FVec Ideal S16 .f32) (x8 : FVec Ideal S1024 .f32)

/-- The state after chunk 0. -/
theorem st0 (b : Fin 8) (h : Fin 16) (p : Fin 64) (n : Fin 128) :
    val_main_v101 (F := Ideal) x0 x2 x3 x4 x5 x6 (ix4 b h p n) = (seqOf x0 x2 x3 x4 x5 x6 b).state (ln h p) 1 n := by
  refine Eq.trans (b := val_main_v93 (F := Ideal) x2 x5 x6 (ix3 b 0 h) * 0
    + val_main_v90 (F := Ideal) x0 x2 x3 x4 x5 x6 (ix5 b 0 h p n)) ?_ (state_step x0 x2 x3 x4 x5 x6 b 0 h p n _ (rfl))
  pointwise [val_main_v101, val_main_v100, val_main_v99, val_main_v98, val_main_v97, val_main_v96, val_main_v95, val_main_v94, val_main_v5, val_main_cst_0]

/-- The state after chunk 1. -/
theorem st1 (b : Fin 8) (h : Fin 16) (p : Fin 64) (n : Fin 128) :
    val_main_v109 (F := Ideal) x0 x2 x3 x4 x5 x6 (ix4 b h p n) = (seqOf x0 x2 x3 x4 x5 x6 b).state (ln h p) 2 n := by
  refine Eq.trans (b := val_main_v93 (F := Ideal) x2 x5 x6 (ix3 b 1 h) * val_main_v101 (F := Ideal) x0 x2 x3 x4 x5 x6 (ix4 b h p n)
    + val_main_v90 (F := Ideal) x0 x2 x3 x4 x5 x6 (ix5 b 1 h p n)) ?_ (state_step x0 x2 x3 x4 x5 x6 b 1 h p n _ (st0 x0 x2 x3 x4 x5 x6 b h p n))
  pointwise [val_main_v109, val_main_v108, val_main_v107, val_main_v106, val_main_v105, val_main_v104, val_main_v103, val_main_v102]

/-- The state after chunk 2. -/
theorem st2 (b : Fin 8) (h : Fin 16) (p : Fin 64) (n : Fin 128) :
    val_main_v117 (F := Ideal) x0 x2 x3 x4 x5 x6 (ix4 b h p n) = (seqOf x0 x2 x3 x4 x5 x6 b).state (ln h p) 3 n := by
  refine Eq.trans (b := val_main_v93 (F := Ideal) x2 x5 x6 (ix3 b 2 h) * val_main_v109 (F := Ideal) x0 x2 x3 x4 x5 x6 (ix4 b h p n)
    + val_main_v90 (F := Ideal) x0 x2 x3 x4 x5 x6 (ix5 b 2 h p n)) ?_ (state_step x0 x2 x3 x4 x5 x6 b 2 h p n _ (st1 x0 x2 x3 x4 x5 x6 b h p n))
  pointwise [val_main_v117, val_main_v116, val_main_v115, val_main_v114, val_main_v113, val_main_v112, val_main_v111, val_main_v110]

/-- The state after chunk 3. -/
theorem st3 (b : Fin 8) (h : Fin 16) (p : Fin 64) (n : Fin 128) :
    val_main_v125 (F := Ideal) x0 x2 x3 x4 x5 x6 (ix4 b h p n) = (seqOf x0 x2 x3 x4 x5 x6 b).state (ln h p) 4 n := by
  refine Eq.trans (b := val_main_v93 (F := Ideal) x2 x5 x6 (ix3 b 3 h) * val_main_v117 (F := Ideal) x0 x2 x3 x4 x5 x6 (ix4 b h p n)
    + val_main_v90 (F := Ideal) x0 x2 x3 x4 x5 x6 (ix5 b 3 h p n)) ?_ (state_step x0 x2 x3 x4 x5 x6 b 3 h p n _ (st2 x0 x2 x3 x4 x5 x6 b h p n))
  pointwise [val_main_v125, val_main_v124, val_main_v123, val_main_v122, val_main_v121, val_main_v120, val_main_v119, val_main_v118]

/-- The state after chunk 4. -/
theorem st4 (b : Fin 8) (h : Fin 16) (p : Fin 64) (n : Fin 128) :
    val_main_v133 (F := Ideal) x0 x2 x3 x4 x5 x6 (ix4 b h p n) = (seqOf x0 x2 x3 x4 x5 x6 b).state (ln h p) 5 n := by
  refine Eq.trans (b := val_main_v93 (F := Ideal) x2 x5 x6 (ix3 b 4 h) * val_main_v125 (F := Ideal) x0 x2 x3 x4 x5 x6 (ix4 b h p n)
    + val_main_v90 (F := Ideal) x0 x2 x3 x4 x5 x6 (ix5 b 4 h p n)) ?_ (state_step x0 x2 x3 x4 x5 x6 b 4 h p n _ (st3 x0 x2 x3 x4 x5 x6 b h p n))
  pointwise [val_main_v133, val_main_v132, val_main_v131, val_main_v130, val_main_v129, val_main_v128, val_main_v127, val_main_v126]

/-- The state after chunk 5. -/
theorem st5 (b : Fin 8) (h : Fin 16) (p : Fin 64) (n : Fin 128) :
    val_main_v141 (F := Ideal) x0 x2 x3 x4 x5 x6 (ix4 b h p n) = (seqOf x0 x2 x3 x4 x5 x6 b).state (ln h p) 6 n := by
  refine Eq.trans (b := val_main_v93 (F := Ideal) x2 x5 x6 (ix3 b 5 h) * val_main_v133 (F := Ideal) x0 x2 x3 x4 x5 x6 (ix4 b h p n)
    + val_main_v90 (F := Ideal) x0 x2 x3 x4 x5 x6 (ix5 b 5 h p n)) ?_ (state_step x0 x2 x3 x4 x5 x6 b 5 h p n _ (st4 x0 x2 x3 x4 x5 x6 b h p n))
  pointwise [val_main_v141, val_main_v140, val_main_v139, val_main_v138, val_main_v137, val_main_v136, val_main_v135, val_main_v134]

/-- The state after chunk 6. -/
theorem st6 (b : Fin 8) (h : Fin 16) (p : Fin 64) (n : Fin 128) :
    val_main_v149 (F := Ideal) x0 x2 x3 x4 x5 x6 (ix4 b h p n) = (seqOf x0 x2 x3 x4 x5 x6 b).state (ln h p) 7 n := by
  refine Eq.trans (b := val_main_v93 (F := Ideal) x2 x5 x6 (ix3 b 6 h) * val_main_v141 (F := Ideal) x0 x2 x3 x4 x5 x6 (ix4 b h p n)
    + val_main_v90 (F := Ideal) x0 x2 x3 x4 x5 x6 (ix5 b 6 h p n)) ?_ (state_step x0 x2 x3 x4 x5 x6 b 6 h p n _ (st5 x0 x2 x3 x4 x5 x6 b h p n))
  pointwise [val_main_v149, val_main_v148, val_main_v147, val_main_v146, val_main_v145, val_main_v144, val_main_v143, val_main_v142]

/-- The state after chunk 7. -/
theorem st7 (b : Fin 8) (h : Fin 16) (p : Fin 64) (n : Fin 128) :
    val_main_v157 (F := Ideal) x0 x2 x3 x4 x5 x6 (ix4 b h p n) = (seqOf x0 x2 x3 x4 x5 x6 b).state (ln h p) 8 n := by
  refine Eq.trans (b := val_main_v93 (F := Ideal) x2 x5 x6 (ix3 b 7 h) * val_main_v149 (F := Ideal) x0 x2 x3 x4 x5 x6 (ix4 b h p n)
    + val_main_v90 (F := Ideal) x0 x2 x3 x4 x5 x6 (ix5 b 7 h p n)) ?_ (state_step x0 x2 x3 x4 x5 x6 b 7 h p n _ (st6 x0 x2 x3 x4 x5 x6 b h p n))
  pointwise [val_main_v157, val_main_v156, val_main_v155, val_main_v154, val_main_v153, val_main_v152, val_main_v151, val_main_v150]

/-- The state after chunk 8. -/
theorem st8 (b : Fin 8) (h : Fin 16) (p : Fin 64) (n : Fin 128) :
    val_main_v165 (F := Ideal) x0 x2 x3 x4 x5 x6 (ix4 b h p n) = (seqOf x0 x2 x3 x4 x5 x6 b).state (ln h p) 9 n := by
  refine Eq.trans (b := val_main_v93 (F := Ideal) x2 x5 x6 (ix3 b 8 h) * val_main_v157 (F := Ideal) x0 x2 x3 x4 x5 x6 (ix4 b h p n)
    + val_main_v90 (F := Ideal) x0 x2 x3 x4 x5 x6 (ix5 b 8 h p n)) ?_ (state_step x0 x2 x3 x4 x5 x6 b 8 h p n _ (st7 x0 x2 x3 x4 x5 x6 b h p n))
  pointwise [val_main_v165, val_main_v164, val_main_v163, val_main_v162, val_main_v161, val_main_v160, val_main_v159, val_main_v158]

/-- The state after chunk 9. -/
theorem st9 (b : Fin 8) (h : Fin 16) (p : Fin 64) (n : Fin 128) :
    val_main_v173 (F := Ideal) x0 x2 x3 x4 x5 x6 (ix4 b h p n) = (seqOf x0 x2 x3 x4 x5 x6 b).state (ln h p) 10 n := by
  refine Eq.trans (b := val_main_v93 (F := Ideal) x2 x5 x6 (ix3 b 9 h) * val_main_v165 (F := Ideal) x0 x2 x3 x4 x5 x6 (ix4 b h p n)
    + val_main_v90 (F := Ideal) x0 x2 x3 x4 x5 x6 (ix5 b 9 h p n)) ?_ (state_step x0 x2 x3 x4 x5 x6 b 9 h p n _ (st8 x0 x2 x3 x4 x5 x6 b h p n))
  pointwise [val_main_v173, val_main_v172, val_main_v171, val_main_v170, val_main_v169, val_main_v168, val_main_v167, val_main_v166]

/-- The state after chunk 10. -/
theorem st10 (b : Fin 8) (h : Fin 16) (p : Fin 64) (n : Fin 128) :
    val_main_v181 (F := Ideal) x0 x2 x3 x4 x5 x6 (ix4 b h p n) = (seqOf x0 x2 x3 x4 x5 x6 b).state (ln h p) 11 n := by
  refine Eq.trans (b := val_main_v93 (F := Ideal) x2 x5 x6 (ix3 b 10 h) * val_main_v173 (F := Ideal) x0 x2 x3 x4 x5 x6 (ix4 b h p n)
    + val_main_v90 (F := Ideal) x0 x2 x3 x4 x5 x6 (ix5 b 10 h p n)) ?_ (state_step x0 x2 x3 x4 x5 x6 b 10 h p n _ (st9 x0 x2 x3 x4 x5 x6 b h p n))
  pointwise [val_main_v181, val_main_v180, val_main_v179, val_main_v178, val_main_v177, val_main_v176, val_main_v175, val_main_v174]

/-- The state after chunk 11. -/
theorem st11 (b : Fin 8) (h : Fin 16) (p : Fin 64) (n : Fin 128) :
    val_main_v189 (F := Ideal) x0 x2 x3 x4 x5 x6 (ix4 b h p n) = (seqOf x0 x2 x3 x4 x5 x6 b).state (ln h p) 12 n := by
  refine Eq.trans (b := val_main_v93 (F := Ideal) x2 x5 x6 (ix3 b 11 h) * val_main_v181 (F := Ideal) x0 x2 x3 x4 x5 x6 (ix4 b h p n)
    + val_main_v90 (F := Ideal) x0 x2 x3 x4 x5 x6 (ix5 b 11 h p n)) ?_ (state_step x0 x2 x3 x4 x5 x6 b 11 h p n _ (st10 x0 x2 x3 x4 x5 x6 b h p n))
  pointwise [val_main_v189, val_main_v188, val_main_v187, val_main_v186, val_main_v185, val_main_v184, val_main_v183, val_main_v182]

/-- The state after chunk 12. -/
theorem st12 (b : Fin 8) (h : Fin 16) (p : Fin 64) (n : Fin 128) :
    val_main_v197 (F := Ideal) x0 x2 x3 x4 x5 x6 (ix4 b h p n) = (seqOf x0 x2 x3 x4 x5 x6 b).state (ln h p) 13 n := by
  refine Eq.trans (b := val_main_v93 (F := Ideal) x2 x5 x6 (ix3 b 12 h) * val_main_v189 (F := Ideal) x0 x2 x3 x4 x5 x6 (ix4 b h p n)
    + val_main_v90 (F := Ideal) x0 x2 x3 x4 x5 x6 (ix5 b 12 h p n)) ?_ (state_step x0 x2 x3 x4 x5 x6 b 12 h p n _ (st11 x0 x2 x3 x4 x5 x6 b h p n))
  pointwise [val_main_v197, val_main_v196, val_main_v195, val_main_v194, val_main_v193, val_main_v192, val_main_v191, val_main_v190]

/-- The state after chunk 13. -/
theorem st13 (b : Fin 8) (h : Fin 16) (p : Fin 64) (n : Fin 128) :
    val_main_v205 (F := Ideal) x0 x2 x3 x4 x5 x6 (ix4 b h p n) = (seqOf x0 x2 x3 x4 x5 x6 b).state (ln h p) 14 n := by
  refine Eq.trans (b := val_main_v93 (F := Ideal) x2 x5 x6 (ix3 b 13 h) * val_main_v197 (F := Ideal) x0 x2 x3 x4 x5 x6 (ix4 b h p n)
    + val_main_v90 (F := Ideal) x0 x2 x3 x4 x5 x6 (ix5 b 13 h p n)) ?_ (state_step x0 x2 x3 x4 x5 x6 b 13 h p n _ (st12 x0 x2 x3 x4 x5 x6 b h p n))
  pointwise [val_main_v205, val_main_v204, val_main_v203, val_main_v202, val_main_v201, val_main_v200, val_main_v199, val_main_v198]

/-- The state after chunk 14. -/
theorem st14 (b : Fin 8) (h : Fin 16) (p : Fin 64) (n : Fin 128) :
    val_main_v213 (F := Ideal) x0 x2 x3 x4 x5 x6 (ix4 b h p n) = (seqOf x0 x2 x3 x4 x5 x6 b).state (ln h p) 15 n := by
  refine Eq.trans (b := val_main_v93 (F := Ideal) x2 x5 x6 (ix3 b 14 h) * val_main_v205 (F := Ideal) x0 x2 x3 x4 x5 x6 (ix4 b h p n)
    + val_main_v90 (F := Ideal) x0 x2 x3 x4 x5 x6 (ix5 b 14 h p n)) ?_ (state_step x0 x2 x3 x4 x5 x6 b 14 h p n _ (st13 x0 x2 x3 x4 x5 x6 b h p n))
  pointwise [val_main_v213, val_main_v212, val_main_v211, val_main_v210, val_main_v209, val_main_v208, val_main_v207, val_main_v206]

/-- The state after chunk 15. -/
theorem st15 (b : Fin 8) (h : Fin 16) (p : Fin 64) (n : Fin 128) :
    val_main_v221 (F := Ideal) x0 x2 x3 x4 x5 x6 (ix4 b h p n) = (seqOf x0 x2 x3 x4 x5 x6 b).state (ln h p) 16 n := by
  refine Eq.trans (b := val_main_v93 (F := Ideal) x2 x5 x6 (ix3 b 15 h) * val_main_v213 (F := Ideal) x0 x2 x3 x4 x5 x6 (ix4 b h p n)
    + val_main_v90 (F := Ideal) x0 x2 x3 x4 x5 x6 (ix5 b 15 h p n)) ?_ (state_step x0 x2 x3 x4 x5 x6 b 15 h p n _ (st14 x0 x2 x3 x4 x5 x6 b h p n))
  pointwise [val_main_v221, val_main_v220, val_main_v219, val_main_v218, val_main_v217, val_main_v216, val_main_v215, val_main_v214]

/-- The state from before chunk 0, as it is stacked. -/
theorem pre0 (b : Fin 8) (h : Fin 16) (p : Fin 64) (n : Fin 128) :
    val_main_v239 (F := Ideal) x0 x2 x3 x4 x5 x6 (ix5 b 0 h p n) = (seqOf x0 x2 x3 x4 x5 x6 b).state (ln h p) 0 n := by
  refine Eq.trans (b := 0) ?_ (rfl)
  pointwise [val_main_v239, val_main_v238, val_main_v222, val_main_v5, val_main_cst_0]

/-- The state from before chunk 1, as it is stacked. -/
theorem pre1 (b : Fin 8) (h : Fin 16) (p : Fin 64) (n : Fin 128) :
    val_main_v239 (F := Ideal) x0 x2 x3 x4 x5 x6 (ix5 b 1 h p n) = (seqOf x0 x2 x3 x4 x5 x6 b).state (ln h p) 1 n := by
  refine Eq.trans (b := val_main_v101 (F := Ideal) x0 x2 x3 x4 x5 x6 (ix4 b h p n)) ?_ (st0 x0 x2 x3 x4 x5 x6 b h p n)
  pointwise [val_main_v239, val_main_v238, val_main_v223]

/-- The state from before chunk 2, as it is stacked. -/
theorem pre2 (b : Fin 8) (h : Fin 16) (p : Fin 64) (n : Fin 128) :
    val_main_v239 (F := Ideal) x0 x2 x3 x4 x5 x6 (ix5 b 2 h p n) = (seqOf x0 x2 x3 x4 x5 x6 b).state (ln h p) 2 n := by
  refine Eq.trans (b := val_main_v109 (F := Ideal) x0 x2 x3 x4 x5 x6 (ix4 b h p n)) ?_ (st1 x0 x2 x3 x4 x5 x6 b h p n)
  pointwise [val_main_v239, val_main_v238, val_main_v224]

/-- The state from before chunk 3, as it is stacked. -/
theorem pre3 (b : Fin 8) (h : Fin 16) (p : Fin 64) (n : Fin 128) :
    val_main_v239 (F := Ideal) x0 x2 x3 x4 x5 x6 (ix5 b 3 h p n) = (seqOf x0 x2 x3 x4 x5 x6 b).state (ln h p) 3 n := by
  refine Eq.trans (b := val_main_v117 (F := Ideal) x0 x2 x3 x4 x5 x6 (ix4 b h p n)) ?_ (st2 x0 x2 x3 x4 x5 x6 b h p n)
  pointwise [val_main_v239, val_main_v238, val_main_v225]

/-- The state from before chunk 4, as it is stacked. -/
theorem pre4 (b : Fin 8) (h : Fin 16) (p : Fin 64) (n : Fin 128) :
    val_main_v239 (F := Ideal) x0 x2 x3 x4 x5 x6 (ix5 b 4 h p n) = (seqOf x0 x2 x3 x4 x5 x6 b).state (ln h p) 4 n := by
  refine Eq.trans (b := val_main_v125 (F := Ideal) x0 x2 x3 x4 x5 x6 (ix4 b h p n)) ?_ (st3 x0 x2 x3 x4 x5 x6 b h p n)
  pointwise [val_main_v239, val_main_v238, val_main_v226]

/-- The state from before chunk 5, as it is stacked. -/
theorem pre5 (b : Fin 8) (h : Fin 16) (p : Fin 64) (n : Fin 128) :
    val_main_v239 (F := Ideal) x0 x2 x3 x4 x5 x6 (ix5 b 5 h p n) = (seqOf x0 x2 x3 x4 x5 x6 b).state (ln h p) 5 n := by
  refine Eq.trans (b := val_main_v133 (F := Ideal) x0 x2 x3 x4 x5 x6 (ix4 b h p n)) ?_ (st4 x0 x2 x3 x4 x5 x6 b h p n)
  pointwise [val_main_v239, val_main_v238, val_main_v227]

/-- The state from before chunk 6, as it is stacked. -/
theorem pre6 (b : Fin 8) (h : Fin 16) (p : Fin 64) (n : Fin 128) :
    val_main_v239 (F := Ideal) x0 x2 x3 x4 x5 x6 (ix5 b 6 h p n) = (seqOf x0 x2 x3 x4 x5 x6 b).state (ln h p) 6 n := by
  refine Eq.trans (b := val_main_v141 (F := Ideal) x0 x2 x3 x4 x5 x6 (ix4 b h p n)) ?_ (st5 x0 x2 x3 x4 x5 x6 b h p n)
  pointwise [val_main_v239, val_main_v238, val_main_v228]

/-- The state from before chunk 7, as it is stacked. -/
theorem pre7 (b : Fin 8) (h : Fin 16) (p : Fin 64) (n : Fin 128) :
    val_main_v239 (F := Ideal) x0 x2 x3 x4 x5 x6 (ix5 b 7 h p n) = (seqOf x0 x2 x3 x4 x5 x6 b).state (ln h p) 7 n := by
  refine Eq.trans (b := val_main_v149 (F := Ideal) x0 x2 x3 x4 x5 x6 (ix4 b h p n)) ?_ (st6 x0 x2 x3 x4 x5 x6 b h p n)
  pointwise [val_main_v239, val_main_v238, val_main_v229]

/-- The state from before chunk 8, as it is stacked. -/
theorem pre8 (b : Fin 8) (h : Fin 16) (p : Fin 64) (n : Fin 128) :
    val_main_v239 (F := Ideal) x0 x2 x3 x4 x5 x6 (ix5 b 8 h p n) = (seqOf x0 x2 x3 x4 x5 x6 b).state (ln h p) 8 n := by
  refine Eq.trans (b := val_main_v157 (F := Ideal) x0 x2 x3 x4 x5 x6 (ix4 b h p n)) ?_ (st7 x0 x2 x3 x4 x5 x6 b h p n)
  pointwise [val_main_v239, val_main_v238, val_main_v230]

/-- The state from before chunk 9, as it is stacked. -/
theorem pre9 (b : Fin 8) (h : Fin 16) (p : Fin 64) (n : Fin 128) :
    val_main_v239 (F := Ideal) x0 x2 x3 x4 x5 x6 (ix5 b 9 h p n) = (seqOf x0 x2 x3 x4 x5 x6 b).state (ln h p) 9 n := by
  refine Eq.trans (b := val_main_v165 (F := Ideal) x0 x2 x3 x4 x5 x6 (ix4 b h p n)) ?_ (st8 x0 x2 x3 x4 x5 x6 b h p n)
  pointwise [val_main_v239, val_main_v238, val_main_v231]

/-- The state from before chunk 10, as it is stacked. -/
theorem pre10 (b : Fin 8) (h : Fin 16) (p : Fin 64) (n : Fin 128) :
    val_main_v239 (F := Ideal) x0 x2 x3 x4 x5 x6 (ix5 b 10 h p n) = (seqOf x0 x2 x3 x4 x5 x6 b).state (ln h p) 10 n := by
  refine Eq.trans (b := val_main_v173 (F := Ideal) x0 x2 x3 x4 x5 x6 (ix4 b h p n)) ?_ (st9 x0 x2 x3 x4 x5 x6 b h p n)
  pointwise [val_main_v239, val_main_v238, val_main_v232]

/-- The state from before chunk 11, as it is stacked. -/
theorem pre11 (b : Fin 8) (h : Fin 16) (p : Fin 64) (n : Fin 128) :
    val_main_v239 (F := Ideal) x0 x2 x3 x4 x5 x6 (ix5 b 11 h p n) = (seqOf x0 x2 x3 x4 x5 x6 b).state (ln h p) 11 n := by
  refine Eq.trans (b := val_main_v181 (F := Ideal) x0 x2 x3 x4 x5 x6 (ix4 b h p n)) ?_ (st10 x0 x2 x3 x4 x5 x6 b h p n)
  pointwise [val_main_v239, val_main_v238, val_main_v233]

/-- The state from before chunk 12, as it is stacked. -/
theorem pre12 (b : Fin 8) (h : Fin 16) (p : Fin 64) (n : Fin 128) :
    val_main_v239 (F := Ideal) x0 x2 x3 x4 x5 x6 (ix5 b 12 h p n) = (seqOf x0 x2 x3 x4 x5 x6 b).state (ln h p) 12 n := by
  refine Eq.trans (b := val_main_v189 (F := Ideal) x0 x2 x3 x4 x5 x6 (ix4 b h p n)) ?_ (st11 x0 x2 x3 x4 x5 x6 b h p n)
  pointwise [val_main_v239, val_main_v238, val_main_v234]

/-- The state from before chunk 13, as it is stacked. -/
theorem pre13 (b : Fin 8) (h : Fin 16) (p : Fin 64) (n : Fin 128) :
    val_main_v239 (F := Ideal) x0 x2 x3 x4 x5 x6 (ix5 b 13 h p n) = (seqOf x0 x2 x3 x4 x5 x6 b).state (ln h p) 13 n := by
  refine Eq.trans (b := val_main_v197 (F := Ideal) x0 x2 x3 x4 x5 x6 (ix4 b h p n)) ?_ (st12 x0 x2 x3 x4 x5 x6 b h p n)
  pointwise [val_main_v239, val_main_v238, val_main_v235]

/-- The state from before chunk 14, as it is stacked. -/
theorem pre14 (b : Fin 8) (h : Fin 16) (p : Fin 64) (n : Fin 128) :
    val_main_v239 (F := Ideal) x0 x2 x3 x4 x5 x6 (ix5 b 14 h p n) = (seqOf x0 x2 x3 x4 x5 x6 b).state (ln h p) 14 n := by
  refine Eq.trans (b := val_main_v205 (F := Ideal) x0 x2 x3 x4 x5 x6 (ix4 b h p n)) ?_ (st13 x0 x2 x3 x4 x5 x6 b h p n)
  pointwise [val_main_v239, val_main_v238, val_main_v236]

/-- The state from before chunk 15, as it is stacked. -/
theorem pre15 (b : Fin 8) (h : Fin 16) (p : Fin 64) (n : Fin 128) :
    val_main_v239 (F := Ideal) x0 x2 x3 x4 x5 x6 (ix5 b 15 h p n) = (seqOf x0 x2 x3 x4 x5 x6 b).state (ln h p) 15 n := by
  refine Eq.trans (b := val_main_v213 (F := Ideal) x0 x2 x3 x4 x5 x6 (ix4 b h p n)) ?_ (st14 x0 x2 x3 x4 x5 x6 b h p n)
  pointwise [val_main_v239, val_main_v238, val_main_v237]

/-- The states from before the chunks, as they are stacked. -/
theorem v239_at (b : Fin 8) (c : Fin 16) (h : Fin 16) (p : Fin 64) (n : Fin 128) :
    val_main_v239 (F := Ideal) x0 x2 x3 x4 x5 x6 (ix5 b c h p n) = (seqOf x0 x2 x3 x4 x5 x6 b).state (ln h p) c.val n := by
  match c with
  | ⟨0, _⟩ => exact pre0 x0 x2 x3 x4 x5 x6 b h p n
  | ⟨1, _⟩ => exact pre1 x0 x2 x3 x4 x5 x6 b h p n
  | ⟨2, _⟩ => exact pre2 x0 x2 x3 x4 x5 x6 b h p n
  | ⟨3, _⟩ => exact pre3 x0 x2 x3 x4 x5 x6 b h p n
  | ⟨4, _⟩ => exact pre4 x0 x2 x3 x4 x5 x6 b h p n
  | ⟨5, _⟩ => exact pre5 x0 x2 x3 x4 x5 x6 b h p n
  | ⟨6, _⟩ => exact pre6 x0 x2 x3 x4 x5 x6 b h p n
  | ⟨7, _⟩ => exact pre7 x0 x2 x3 x4 x5 x6 b h p n
  | ⟨8, _⟩ => exact pre8 x0 x2 x3 x4 x5 x6 b h p n
  | ⟨9, _⟩ => exact pre9 x0 x2 x3 x4 x5 x6 b h p n
  | ⟨10, _⟩ => exact pre10 x0 x2 x3 x4 x5 x6 b h p n
  | ⟨11, _⟩ => exact pre11 x0 x2 x3 x4 x5 x6 b h p n
  | ⟨12, _⟩ => exact pre12 x0 x2 x3 x4 x5 x6 b h p n
  | ⟨13, _⟩ => exact pre13 x0 x2 x3 x4 x5 x6 b h p n
  | ⟨14, _⟩ => exact pre14 x0 x2 x3 x4 x5 x6 b h p n
  | ⟨15, _⟩ => exact pre15 x0 x2 x3 x4 x5 x6 b h p n
  | ⟨k + 16, hk⟩ => exact absurd hk (by omega)

end Cert.SsdRefIdeal.Hand

end
-- ==== Proof.SsdRefD.lean ====
/- The state-space recurrence: the reference's results. -/
module

public import proofs.«01_k».proof.Defs
public import proofs.«01_k».proof.Proof.SsdRefC
public import proofs.«01_k».proof.Proof.Gen.SsdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdRefIdeal.Hand

open Cert.SsdRefIdeal Cert.SsdRefIdeal.Gen Cert.SsdRefIdeal.Read Cert.Spec

variable (x0 : FVec Ideal S16384x1536 .f32) (x1 : FVec Ideal S16384x1024 .f32) (x2 : FVec Ideal S16384x128 .f32)
  (x3 : FVec Ideal S4x1536 .f32) (x4 : FVec Ideal S1536 .f32) (x5 x6 x7 : FVec Ideal S16 .f32) (x8 : FVec Ideal S1024 .f32)

/-- The gate. -/
theorem v254_at (b : Fin 8) (s : Fin 2048) (q : Fin 1024) :
    val_main_v254 (F := Ideal) x1 (ix3 b s q) = silu (x1 (ix2 (flat b s.val) q)) := by
  refine Eq.trans (b := x1 (ix2 (n0 := 16384) ⟨b.val * 2048 + s.val, by omega⟩ q) * Ideal.div 1 (1 + Ideal.exp (-(x1 (ix2 (n0 := 16384) ⟨b.val * 2048 + s.val, by omega⟩ q))))) ?_ ?_
  · pointwise [val_main_v254, val_main_call6_v5, val_main_call6_v4, val_main_call6_v3, val_main_call6_v2, val_main_call6_v1, val_main_call6_v0,
      val_main_call6_cst, val_main_call6_cst_0, val_main_v0]
  · rw [silu_neg]
    refine congrArg (fun r => silu (x1 (ix2 r q))) (Fin.ext ?_)
    show b.val * 2048 + s.val = b.val * 2048 + s.val % 2048
    omega

/-- A lane's output and its skipped input. -/
theorem v253_at (b : Fin 8) (s : Fin 2048) (q : Fin 1024) :
    val_main_v253 (F := Ideal) x0 x2 x3 x4 x5 x6 x7 (ix3 b s q)
      = val_main_v246 (F := Ideal) x0 x2 x3 x4 x5 x6 (ix5 (n1 := 16) (n2 := 128) (n3 := 16) (n4 := 64) b ⟨s.val / 128, by omega⟩ ⟨s.val % 128, by omega⟩ ⟨q.val / 64, by omega⟩ ⟨q.val % 64, by omega⟩)
        + val_main_v37 (F := Ideal) x0 x3 x4 (ix3 b s ⟨q.val, by omega⟩) * x7 (ix1 ⟨q.val / 64, by omega⟩) := by
  refine Eq.trans (b := val_main_v246 (F := Ideal) x0 x2 x3 x4 x5 x6 (ix5 (n1 := 16) (n2 := 128) (n3 := 16) (n4 := 64) b ⟨s.val / 128, by omega⟩ ⟨s.val % 128, by omega⟩ ⟨q.val / 64, by omega⟩ ⟨q.val % 64, by omega⟩)
        + val_main_v40 (F := Ideal) x0 x3 x4 (ix4 (n2 := 16) (n3 := 64) b s ⟨q.val / 64, by omega⟩ ⟨q.val % 64, by omega⟩) * x7 (ix1 ⟨q.val / 64, by omega⟩)) ?_ ?_
  · pointwise [val_main_v253, val_main_v252, val_main_v251, val_main_v250, val_main_v249, val_main_v248, val_main_v247]
  · refine congrArg₂ (· + ·) rfl (congrArg₂ (· * ·) ?_ rfl)
    pointwise [val_main_v40, val_main_v39]

/-- The gated row, before it is normalised. -/
theorem v255_at (b : Fin 8) (s : Fin 2048) (q : Fin 1024) :
    val_main_v255 (F := Ideal) x0 x1 x2 x3 x4 x5 x6 x7 (ix3 b s q)
      = (seqOf x0 x2 x3 x4 x5 x6 b).gated (fun h => x7 (ix1 h)) (fun q => x1 (ix2 (flat b s.val) q)) (s.val / 128) ⟨s.val % 128, Nat.mod_lt _ (by decide)⟩ q := by
  refine Eq.trans (b := val_main_v253 (F := Ideal) x0 x2 x3 x4 x5 x6 x7 (ix3 b s q) * val_main_v254 (F := Ideal) x1 (ix3 b s q)) ?_ ?_
  · pointwise [val_main_v255]
  · rw [v253_at, v254_at, v37_at x0 x2 x3 x4 x5 x6, v246_at x0 x2 x3 x4 x5 x6 _ _ _ _ _ (fun n => v239_at x0 x2 x3 x4 x5 x6 _ _ _ _ n)]
    have hq : ln ⟨q.val / 64, by omega⟩ ⟨q.val % 64, by omega⟩ = q := Fin.ext (by show q.val / 64 * 64 + q.val % 64 = q.val; omega)
    rw [hq]
    refine congrArg₂ (· * ·) (congrArg₂ (· + ·) rfl (congrArg₂ (· * ·) ?_ rfl)) rfl
    exact congrArg ((seqOf x0 x2 x3 x4 x5 x6 b).xc · ⟨q.val, by omega⟩) (by show s.val = 128 * (s.val / 128) + s.val % 128; omega)

/-- The reference's rows are the kernel's. -/
theorem ref_rows : val_main_v268 (F := Ideal) x0 x1 x2 x3 x4 x5 x6 x7 x8 = rowsAll x0 x1 x2 x3 x4 x5 x6 x7 x8 := by
  funext y
  rw [eq_ix3 y]
  refine Eq.trans (b := nrm (fun q => val_main_v255 (F := Ideal) x0 x1 x2 x3 x4 x5 x6 x7 (ix3 (y 0) (y 1) q)) (fun q => x8 (ix1 q)) (y 2)) ?_ ?_
  · pointwise [val_main_v268, val_main_v267, val_main_v266, val_main_v265, val_main_v264, val_main_v263, val_main_v262, val_main_v261, val_main_v260,
      val_main_v259, val_main_v258, val_main_v257, val_main_v256, val_main_cst_3, val_main_cst_4, val_main_cst_5, nrm]
  · exact congrArg (fun f => nrm f (fun q => x8 (ix1 q)) (y 2)) (funext fun q => v255_at x0 x1 x2 x3 x4 x5 x6 x7 (y 0) (y 1) q)

/-- The reference's last rows are the kernel's. -/
theorem ref_tail : val_main_v38 (F := Ideal) x0 = tailAll x0 := by
  funext y
  rw [eq_ix3 y]
  have h1 : (y 1).val < 3 := (y 1).isLt
  have h0 : (y 0).val < 8 := (y 0).isLt
  refine Eq.trans (b := x0 (ix2 (n0 := 16384) ⟨(y 0).val * 2048 + (2048 + (y 1).val - 3), by omega⟩ (y 2))) ?_ ?_
  · refine Eq.trans (b := val_main_v6 (F := Ideal) x0 (ix3 (n1 := 2051) (y 0) ⟨2048 + (y 1).val, by omega⟩ (y 2))) ?_ ?_
    · pointwise [val_main_v38]
    · refine Eq.trans (b := if h : 2048 + (y 1).val < 3 then 0 else x0 (ix2 (n0 := 16384) ⟨(y 0).val * 2048 + (2048 + (y 1).val - 3), by omega⟩ (y 2))) ?_ (dif_neg (by omega))
      pointwise [val_main_v6, val_main_v4, val_main_v1, val_main_cst]
  · refine congrArg (fun r => x0 (ix2 r (y 2))) (Fin.ext ?_)
    show (y 0).val * 2048 + (2048 + (y 1).val - 3) = (y 0).val * 2048 + (2045 + (y 1).val) % 2048
    omega

/-- The reference's states are the kernel's. -/
theorem ref_state : val_main_v269 (F := Ideal) x0 x2 x3 x4 x5 x6 = stateAll x0 x2 x3 x4 x5 x6 := by
  funext y
  rw [eq_ix3 y]
  have h1 : (y 1).val < 1024 := (y 1).isLt
  refine Eq.trans (b := val_main_v221 (F := Ideal) x0 x2 x3 x4 x5 x6 (ix4 (n1 := 16) (n2 := 64) (y 0) ⟨(y 1).val / 64, by omega⟩ ⟨(y 1).val % 64, by omega⟩ (y 2))) ?_ ?_
  · pointwise [val_main_v269]
  · exact (st15 x0 x2 x3 x4 x5 x6 (y 0) _ _ (y 2)).trans (congrArg (fun q => (seqOf x0 x2 x3 x4 x5 x6 (y 0)).state q 16 (y 2)) (Fin.ext (by show (y 1).val / 64 * 64 + (y 1).val % 64 = (y 1).val; omega)))

end Cert.SsdRefIdeal.Hand

end
-- ==== Proof.SsdVal.lean ====
/- The state-space recurrence: over the extended reals the kernel's three results are the reference's. -/
module

public import proofs.«01_k».proof.Defs
public import proofs.«01_k».proof.Proof.SsdKer
public import proofs.«01_k».proof.Proof.SsdRefD
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

/-- The recurrence: kernel and reference end with the same rows, the same last rows and the same states. -/
theorem algebraic_Ssd : Cert.algebraic_SsdIdeal_SsdRefIdeal := by
  pair_intro
  · run_from Cert.SsdIdeal.Value.run_blocks m g
  · run_from Cert.SsdRefIdeal.Value.run m' g'
    · obtain ⟨h0, h1, h2, h3, h4, h5, h6, h7, h8⟩ := hagree c
      rw [← h8]
      refine (Cert.SsdRefIdeal.Read.val_main_v268_eq (F := Ideal) (StableHlo.launchContents m' c)).trans ?_
      show Cert.SsdRefIdeal.Read.val_main_v268 (F := Ideal) (m' (c.tc.loc Cert.SsdRefIdeal.main_arg0)) (m' (c.tc.loc Cert.SsdRefIdeal.main_arg1)) (m' (c.tc.loc Cert.SsdRefIdeal.main_arg2)) (m' (c.tc.loc Cert.SsdRefIdeal.main_arg3)) (m' (c.tc.loc Cert.SsdRefIdeal.main_arg4)) (m' (c.tc.loc Cert.SsdRefIdeal.main_arg5)) (m' (c.tc.loc Cert.SsdRefIdeal.main_arg6)) (m' (c.tc.loc Cert.SsdRefIdeal.main_arg7)) (m' (c.tc.loc Cert.SsdRefIdeal.main_arg8)) = _
      rw [h0, h1, h2, h3, h4, h5, h6, h7, h8]
      exact (Cert.SsdRefIdeal.Hand.ref_rows _ _ _ _ _ _ _ _ _).trans (Cert.SsdIdeal.Hand.final12' m c).symm
    · obtain ⟨h0, h1, h2, h3, h4, h5, h6, h7, h8⟩ := hagree c
      refine (Cert.SsdRefIdeal.Read.val_main_v38_eq (F := Ideal) (StableHlo.launchContents m' c)).trans ?_
      show Cert.SsdRefIdeal.Read.val_main_v38 (F := Ideal) (m' (c.tc.loc Cert.SsdRefIdeal.main_arg0)) = _
      rw [h0]
      exact (Cert.SsdRefIdeal.Hand.ref_tail _).trans (Cert.SsdIdeal.Hand.final13' m c).symm
    · obtain ⟨h0, h1, h2, h3, h4, h5, h6, h7, h8⟩ := hagree c
      refine (Cert.SsdRefIdeal.Read.val_main_v269_eq (F := Ideal) (StableHlo.launchContents m' c)).trans ?_
      show Cert.SsdRefIdeal.Read.val_main_v269 (F := Ideal) (m' (c.tc.loc Cert.SsdRefIdeal.main_arg0)) (m' (c.tc.loc Cert.SsdRefIdeal.main_arg2)) (m' (c.tc.loc Cert.SsdRefIdeal.main_arg3)) (m' (c.tc.loc Cert.SsdRefIdeal.main_arg4)) (m' (c.tc.loc Cert.SsdRefIdeal.main_arg5)) (m' (c.tc.loc Cert.SsdRefIdeal.main_arg6)) = _
      rw [h0, h2, h3, h4, h5, h6]
      exact (Cert.SsdRefIdeal.Hand.ref_state _ _ _ _ _ _).trans (Cert.SsdIdeal.Hand.final14' m c).symm

end Cert.Proof

end
-- ==== Proof.ProjSVal.lean ====
/- The sample group's in-projection: the kernel's six results are the reference's. -/
module

public import proofs.«01_k».proof.Defs
public import proofs.«01_k».proof.Proof.Norm
public import proofs.«01_k».proof.Proof.Gen.ProjSIdeal.Value
public import proofs.«01_k».proof.Proof.Gen.ProjSRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjSIdeal.Hand

open Cert.ProjSIdeal Cert.ProjSIdeal.Gen Cert.Spec

variable (m : (ℓ : Loc nD τ sig) → Buf (Elt Ideal) ℓ)

/-- The result whose columns are the in-projection's columns from `off` on, as one function of the arguments. -/
def cols (off n : Nat) (hn : off + n ≤ 4112) (x : FVec Ideal S32x4x1024 .f32) (g : FVec Ideal S1024 .f32)
    (w : FVec Ideal S1024x4112 .f32) : FVec Ideal ⟨2, ![128, n]⟩ .f32 :=
  fun j => nrmDot (fun k => x (ix3 ⟨(j 0).val / 4, by have h : (j 0).val < 128 := (j 0).isLt; omega⟩
      ⟨(j 0).val % 4, by omega⟩ k)) (fun k => g (ix1 k))
    (fun k => w (ix2 k ⟨off + (j 1).val, by have h : (j 1).val < n := (j 1).isLt; omega⟩))

/-- The step-size result: sixteen columns of the in-projection, then zeros up to a full row of lanes. -/
def steps (x : FVec Ideal S32x4x1024 .f32) (g : FVec Ideal S1024 .f32)
    (w : FVec Ideal S1024x4112 .f32) : FVec Ideal S128x128 .f32 :=
  fun j => if h : (j 1).val < 16 then cols 2560 16 (by omega) x g w (ix2 ⟨(j 0).val, (j 0).isLt⟩ ⟨(j 1).val, h⟩) else 0

/-- Where each window's block sits at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- The row block of the layer's input, read at its place in the argument. -/
theorem blk0 (c : Dev nD) (t : Fin cfg0.N) (r : Fin 128) (k : Fin 1024) :
    (iblk m c 0 t : Vec Ideal S128x1024 .f32) (ix2 r k)
      = m ((c : Thread nD τ).loc main_arg0) (ix3 (n0 := 32) (n1 := 4) ⟨(t.val * 128 + r.val) / 4, by have h : t.val < 1 := t.isLt; omega⟩
          ⟨(t.val * 128 + r.val) % 4, by omega⟩ k) := by
  blk_simp [iblk, idx t]
  entry_read
  pointwise
  blk_ext [idx t]

/-- The gains' block is the gains. -/
theorem blk1 (c : Dev nD) (t : Fin cfg0.N) (k : Fin 1024) :
    (iblk m c 1 t : Vec Ideal S1x1024 .f32) (ix2 0 k) = m ((c : Thread nD τ).loc main_arg1) (ix1 (n0 := 1024) k) := by
  blk_simp [iblk, idx t]
  entry_read
  pointwise
  blk_ext [idx t]

/-- The normalised block, as the last three results name it. -/
theorem pay9 (x0 : Vec Ideal S128x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) :
    k0_pay9 x0 x1 x2 x3 x4 x5 x6 x7 = k0_pay4 x0 x1 := by
  unfold k0_pay9
  rw [View.ld_unit_lit, View.ld_unit_lit] <;> (intro a; fin_cases a <;> rfl)

/-- The normalised block, at an index. -/
theorem norm_at (v0 : Vec Ideal S128x1024 .f32) (v2 : Vec Ideal S1x1024 .f32) (r : Fin 128) (k : Fin 1024) :
    k0_pay4 v0 v2 (ix2 r k) = nrm (fun k => v0 (ix2 r k)) (fun k => v2 (ix2 0 k)) k := by
  pointwise [k0_pay4, nrm]

/-- What the kernel stores in result 1 at an index of a block. -/
theorem pay8_at (v0 : Vec Ideal S128x1024 .f32) (v2 : Vec Ideal S1x1024 .f32) (v17 : Vec Ideal S1024x1024 .bf16) (r : Fin 128) (l : Fin 1024) :
    k0_pay5 v0 v2 v17 (ix2 r l) = nrmDot (fun k => v0 (ix2 r k)) (fun k => v2 (ix2 0 k)) (fun k => v17 (ix2 k l)) := by
  pointwise [k0_pay5, k0_pay8, k0_pay4, nrmDot, nrm]

/-- The weight columns of result 1. -/
theorem blk2 (c : Dev nD) (t : Fin cfg0.N) (k : Fin 1024) (l : Fin 1024) :
    (iblk m c 2 t : Vec Ideal S1024x1024 .bf16) (ix2 k l)
      = m ((c : Thread nD τ).loc main_arg2) (ix2 (n0 := 1024) (n1 := 4112) k ⟨0 + l.val, by omega⟩) := by
  blk_simp [iblk, idx t]
  entry_read
  pointwise
  blk_ext [idx t]

/-- One grid point's block of result 1 is that block of the whole. -/
theorem point8 (c : Dev nD) (t : Fin cfg0.N) (y : S128x1024.Idx) :
    k0_pay5 (iblk m c 0 t) (iblk m c 1 t) (iblk m c 2 t) y
      = cols 0 1024 (by omega) (m ((c : Thread nD τ).loc main_arg0)) (m ((c : Thread nD τ).loc main_arg1)) (m ((c : Thread nD τ).loc main_arg2)) (((cfg0.win 8).blk t).view.emb y) := by
  refine (congrArg _ (eq_ix2 y)).trans ((pay8_at _ _ _ _ _).trans ?_)
  refine nrmDot_congr (fun k => (blk0 m c t _ k).trans ?_) (fun k => blk1 m c t k) (fun k => (blk2 m c t k _).trans ?_)
  all_goals blk_ext [idx t]

/-- The whole array of result 1 the kernel leaves. -/
theorem final8 (c : Dev nD) : (dats m 0 c).arrAt 8 (cfgs 0).N
    = cols 0 1024 (by omega) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  exact point8 m c t y

/-- What the kernel stores in result 2 at an index of a block. -/
theorem pay9_at (v0 : Vec Ideal S128x1024 .f32) (v2 : Vec Ideal S1x1024 .f32) (v17 : Vec Ideal S1024x1536 .bf16) (r : Fin 128) (l : Fin 1536) :
    k0_pay6 v0 v2 v17 (ix2 r l) = nrmDot (fun k => v0 (ix2 r k)) (fun k => v2 (ix2 0 k)) (fun k => v17 (ix2 k l)) := by
  pointwise [k0_pay6, k0_pay8, k0_pay4, nrmDot, nrm]

/-- The weight columns of result 2. -/
theorem blk3 (c : Dev nD) (t : Fin cfg0.N) (k : Fin 1024) (l : Fin 1536) :
    (iblk m c 3 t : Vec Ideal S1024x1536 .bf16) (ix2 k l)
      = m ((c : Thread nD τ).loc main_arg2) (ix2 (n0 := 1024) (n1 := 4112) k ⟨1024 + l.val, by omega⟩) := by
  blk_simp [iblk, idx t]
  entry_read
  pointwise
  blk_ext [idx t]

/-- One grid point's block of result 2 is that block of the whole. -/
theorem point9 (c : Dev nD) (t : Fin cfg0.N) (y : S128x1536.Idx) :
    k0_pay6 (iblk m c 0 t) (iblk m c 1 t) (iblk m c 3 t) y
      = cols 1024 1536 (by omega) (m ((c : Thread nD τ).loc main_arg0)) (m ((c : Thread nD τ).loc main_arg1)) (m ((c : Thread nD τ).loc main_arg2)) (((cfg0.win 9).blk t).view.emb y) := by
  refine (congrArg _ (eq_ix2 y)).trans ((pay9_at _ _ _ _ _).trans ?_)
  refine nrmDot_congr (fun k => (blk0 m c t _ k).trans ?_) (fun k => blk1 m c t k) (fun k => (blk3 m c t k _).trans ?_)
  all_goals blk_ext [idx t]

/-- The whole array of result 2 the kernel leaves. -/
theorem final9 (c : Dev nD) : (dats m 0 c).arrAt 9 (cfgs 0).N
    = cols 1024 1536 (by omega) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  exact point9 m c t y

/-- What the kernel stores in result 3 at an index of a block. -/
theorem pay10_at (v0 : Vec Ideal S128x1024 .f32) (v2 : Vec Ideal S1x1024 .f32) (v17 : Vec Ideal S1024x128 .bf16) (r : Fin 128) (l : Fin 128) :
    k0_pay7 v0 v2 v17 (ix2 r l) = nrmDot (fun k => v0 (ix2 r k)) (fun k => v2 (ix2 0 k)) (fun k => v17 (ix2 k l)) := by
  pointwise [k0_pay7, k0_pay8, k0_pay4, nrmDot, nrm]

/-- A padded weight read at a multi-index whose coordinates are known. -/
theorem dt_read (w : FVec Ideal S1024x4112 .f32) (e : S1024x128.Idx) (k : Fin 1024) (l : Fin 128)
    (h0 : (e 0).val = k.val) (h1 : (e 1).val = l.val) :
    (if h : (e 1).val < 16 then w (ix2 (e 0) ⟨2560 + (e 1).val, by omega⟩) else (0 : EReal))
      = if h : l.val < 16 then w (ix2 k ⟨2560 + l.val, by omega⟩) else 0 := by
  have he : e = ix2 k l := by funext a; fin_cases a <;> exact Fin.ext ‹_›
  subst he
  rfl

/-- The weight columns of result 3, zero past the sixteenth. -/
theorem blk4 (c : Dev nD) (t : Fin cfg0.N) (k : Fin 1024) (l : Fin 128) :
    (iblk m c 4 t : Vec Ideal S1024x128 .bf16) (ix2 k l)
      = if h : l.val < 16 then m ((c : Thread nD τ).loc main_arg2) (ix2 (n0 := 1024) (n1 := 4112) k ⟨2560 + l.val, by omega⟩) else (0 : EReal) := by
  blk_simp [iblk, idx t]
  entry_read
  pointwise
  exact dt_read _ _ _ _ (by blk_simp [idx t]) (by blk_simp [idx t])

/-- One grid point's block of result 3 is that block of the whole. -/
theorem point10 (c : Dev nD) (t : Fin cfg0.N) (y : S128x128.Idx) :
    k0_pay7 (iblk m c 0 t) (iblk m c 1 t) (iblk m c 4 t) y
      = steps (m ((c : Thread nD τ).loc main_arg0)) (m ((c : Thread nD τ).loc main_arg1)) (m ((c : Thread nD τ).loc main_arg2)) (((cfg0.win 10).blk t).view.emb y) := by
  refine (congrArg _ (eq_ix2 y)).trans ((pay10_at _ _ _ _ _).trans ?_)
  refine (nrmDot_congr (fun k => blk0 m c t _ k) (fun k => blk1 m c t k) (fun k => blk4 m c t k _)).trans ?_
  have e1 : ((((cfg0.win 10).blk t).view.emb y) 1).val = (y 1).val := by blk_simp [idx t]
  unfold steps
  by_cases h : (y 1).val < 16
  · rw [dif_pos (e1.trans_lt h)]
    refine nrmDot_congr (fun k => ?_) (fun k => rfl) (fun k => (dif_pos h).trans ?_)
    all_goals blk_ext [idx t]
  · rw [dif_neg (fun h' => h (e1.symm.trans_lt h'))]
    exact Finset.sum_eq_zero fun k _ => (congrArg _ (dif_neg h)).trans (mul_zero _)

/-- The whole array of result 3 the kernel leaves. -/
theorem final10 (c : Dev nD) : (dats m 0 c).arrAt 10 (cfgs 0).N
    = steps (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  frame_out
  exact point10 m c t y

/-- What the kernel stores in result 4 at an index of a block. -/
theorem pay11_at (v0 : Vec Ideal S128x1024 .f32) (v2 : Vec Ideal S1x1024 .f32) (v17 : Vec Ideal S1024x512 .bf16) (r : Fin 128) (l : Fin 512) :
    k0_pay1 (k0_pay4 v0 v2) (k0_pay8 v17) (constant S128x512 .f32 0x00000000#32) (ix2 r l) = nrmDot (fun k => v0 (ix2 r k)) (fun k => v2 (ix2 0 k)) (fun k => v17 (ix2 k l)) := by
  pointwise [k0_pay1, k0_pay8, k0_pay4, nrmDot, nrm]

/-- The same, over all the blocks the kernel holds. -/
theorem all11_at (x0 : Vec Ideal S128x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r : Fin 128) (l : Fin 512) :
    k0_pay1 (k0_pay9 x0 x1 x2 x3 x4 x5 x6 x7) (k0_pay8 x5) (constant S128x512 .f32 0x00000000#32) (ix2 r l)
      = nrmDot (fun k => x0 (ix2 r k)) (fun k => x1 (ix2 0 k)) (fun k => x5 (ix2 k l)) := by
  rw [pay9]
  exact pay11_at x0 x1 x5 r l

/-- The weight columns of result 4. -/
theorem blk5 (c : Dev nD) (t : Fin cfg0.N) (k : Fin 1024) (l : Fin 512) :
    (iblk m c 5 t : Vec Ideal S1024x512 .bf16) (ix2 k l)
      = m ((c : Thread nD τ).loc main_arg2) (ix2 (n0 := 1024) (n1 := 4112) k ⟨2576 + l.val, by omega⟩) := by
  blk_simp [iblk, idx t]
  entry_read
  pointwise
  blk_ext [idx t]

/-- One grid point's block of result 4 is that block of the whole. -/
theorem point11 (c : Dev nD) (t : Fin cfg0.N) (y : S128x512.Idx) :
    k0_pay1 (k0_pay9 (iblk m c 0 t) (iblk m c 1 t) (iblk m c 2 t) (iblk m c 3 t) (iblk m c 4 t) (iblk m c 5 t) (iblk m c 6 t)
        (iblk m c 7 t)) (k0_pay8 (iblk m c 5 t)) (constant S128x512 .f32 0x00000000#32) y
      = cols 2576 512 (by omega) (m ((c : Thread nD τ).loc main_arg0)) (m ((c : Thread nD τ).loc main_arg1)) (m ((c : Thread nD τ).loc main_arg2)) (((cfg0.win 11).blk t).view.emb y) := by
  refine (congrArg _ (eq_ix2 y)).trans ((all11_at _ _ _ _ _ _ _ _ _ _).trans ?_)
  refine nrmDot_congr (fun k => (blk0 m c t _ k).trans ?_) (fun k => blk1 m c t k) (fun k => (blk5 m c t k _).trans ?_)
  all_goals blk_ext [idx t]

/-- The whole array of result 4 the kernel leaves. -/
theorem final11 (c : Dev nD) : (dats m 0 c).arrAt 11 (cfgs 0).N
    = cols 2576 512 (by omega) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  frame_out
  exact point11 m c t y

/-- What the kernel stores in result 5 at an index of a block. -/
theorem pay12_at (v0 : Vec Ideal S128x1024 .f32) (v2 : Vec Ideal S1x1024 .f32) (v17 : Vec Ideal S1024x512 .bf16) (r : Fin 128) (l : Fin 512) :
    k0_pay2 (k0_pay4 v0 v2) v17 (ix2 r l) = nrmDot (fun k => v0 (ix2 r k)) (fun k => v2 (ix2 0 k)) (fun k => v17 (ix2 k l)) := by
  pointwise [k0_pay2, k0_pay8, k0_pay4, nrmDot, nrm]

/-- The same, over all the blocks the kernel holds. -/
theorem all12_at (x0 : Vec Ideal S128x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r : Fin 128) (l : Fin 512) :
    k0_pay2 (k0_pay9 x0 x1 x2 x3 x4 x5 x6 x7) x6 (ix2 r l)
      = nrmDot (fun k => x0 (ix2 r k)) (fun k => x1 (ix2 0 k)) (fun k => x6 (ix2 k l)) := by
  rw [pay9]
  exact pay12_at x0 x1 x6 r l

/-- The weight columns of result 5. -/
theorem blk6 (c : Dev nD) (t : Fin cfg0.N) (k : Fin 1024) (l : Fin 512) :
    (iblk m c 6 t : Vec Ideal S1024x512 .bf16) (ix2 k l)
      = m ((c : Thread nD τ).loc main_arg2) (ix2 (n0 := 1024) (n1 := 4112) k ⟨3088 + l.val, by omega⟩) := by
  blk_simp [iblk, idx t]
  entry_read
  pointwise
  blk_ext [idx t]

/-- One grid point's block of result 5 is that block of the whole. -/
theorem point12 (c : Dev nD) (t : Fin cfg0.N) (y : S128x512.Idx) :
    k0_pay2 (k0_pay9 (iblk m c 0 t) (iblk m c 1 t) (iblk m c 2 t) (iblk m c 3 t) (iblk m c 4 t) (iblk m c 5 t) (iblk m c 6 t)
        (iblk m c 7 t)) (iblk m c 6 t) y
      = cols 3088 512 (by omega) (m ((c : Thread nD τ).loc main_arg0)) (m ((c : Thread nD τ).loc main_arg1)) (m ((c : Thread nD τ).loc main_arg2)) (((cfg0.win 12).blk t).view.emb y) := by
  refine (congrArg _ (eq_ix2 y)).trans ((all12_at _ _ _ _ _ _ _ _ _ _).trans ?_)
  refine nrmDot_congr (fun k => (blk0 m c t _ k).trans ?_) (fun k => blk1 m c t k) (fun k => (blk6 m c t k _).trans ?_)
  all_goals blk_ext [idx t]

/-- The whole array of result 5 the kernel leaves. -/
theorem final12 (c : Dev nD) : (dats m 0 c).arrAt 12 (cfgs 0).N
    = cols 3088 512 (by omega) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  frame_out
  exact point12 m c t y

/-- What the kernel stores in result 6 at an index of a block. -/
theorem pay13_at (v0 : Vec Ideal S128x1024 .f32) (v2 : Vec Ideal S1x1024 .f32) (v17 : Vec Ideal S1024x512 .bf16) (r : Fin 128) (l : Fin 512) :
    k0_pay3 (k0_pay4 v0 v2) v17 (ix2 r l) = nrmDot (fun k => v0 (ix2 r k)) (fun k => v2 (ix2 0 k)) (fun k => v17 (ix2 k l)) := by
  pointwise [k0_pay3, k0_pay8, k0_pay4, nrmDot, nrm]

/-- The same, over all the blocks the kernel holds. -/
theorem all13_at (x0 : Vec Ideal S128x1024 .f32) (x1 : Vec Ideal S1x1024 .f32) (x2 : Vec Ideal S1024x1024 .bf16) (x3 : Vec Ideal S1024x1536 .bf16)
    (x4 : Vec Ideal S1024x128 .bf16) (x5 x6 x7 : Vec Ideal S1024x512 .bf16) (r : Fin 128) (l : Fin 512) :
    k0_pay3 (k0_pay9 x0 x1 x2 x3 x4 x5 x6 x7) x7 (ix2 r l)
      = nrmDot (fun k => x0 (ix2 r k)) (fun k => x1 (ix2 0 k)) (fun k => x7 (ix2 k l)) := by
  rw [pay9]
  exact pay13_at x0 x1 x7 r l

/-- The weight columns of result 6. -/
theorem blk7 (c : Dev nD) (t : Fin cfg0.N) (k : Fin 1024) (l : Fin 512) :
    (iblk m c 7 t : Vec Ideal S1024x512 .bf16) (ix2 k l)
      = m ((c : Thread nD τ).loc main_arg2) (ix2 (n0 := 1024) (n1 := 4112) k ⟨3600 + l.val, by omega⟩) := by
  blk_simp [iblk, idx t]
  entry_read
  pointwise
  blk_ext [idx t]

/-- One grid point's block of result 6 is that block of the whole. -/
theorem point13 (c : Dev nD) (t : Fin cfg0.N) (y : S128x512.Idx) :
    k0_pay3 (k0_pay9 (iblk m c 0 t) (iblk m c 1 t) (iblk m c 2 t) (iblk m c 3 t) (iblk m c 4 t) (iblk m c 5 t) (iblk m c 6 t)
        (iblk m c 7 t)) (iblk m c 7 t) y
      = cols 3600 512 (by omega) (m ((c : Thread nD τ).loc main_arg0)) (m ((c : Thread nD τ).loc main_arg1)) (m ((c : Thread nD τ).loc main_arg2)) (((cfg0.win 13).blk t).view.emb y) := by
  refine (congrArg _ (eq_ix2 y)).trans ((all13_at _ _ _ _ _ _ _ _ _ _).trans ?_)
  refine nrmDot_congr (fun k => (blk0 m c t _ k).trans ?_) (fun k => blk1 m c t k) (fun k => (blk7 m c t k _).trans ?_)
  all_goals blk_ext [idx t]

/-- The whole array of result 6 the kernel leaves. -/
theorem final13 (c : Dev nD) : (dats m 0 c).arrAt 13 (cfgs 0).N
    = cols 3600 512 (by omega) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  frame_out
  exact point13 m c t y

end Cert.ProjSIdeal.Hand

namespace Cert.ProjSRefIdeal.Hand

open Cert.ProjSRefIdeal Cert.ProjSRefIdeal.Gen Cert.ProjSRefIdeal.Read Cert.Spec

/-- The reference's result 1 is the same function. -/
theorem ref8 (x : FVec Ideal S32x4x1024 .f32) (g : FVec Ideal S1024 .f32) (w : FVec Ideal S1024x4112 .f32) :
    val_main_v21 (F := Ideal) x g w = Cert.ProjSIdeal.Hand.cols 0 1024 (by omega) x g w := by
  funext j
  pointwise [val_main_v21, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]

/-- The reference's result 2 is the same function. -/
theorem ref9 (x : FVec Ideal S32x4x1024 .f32) (g : FVec Ideal S1024 .f32) (w : FVec Ideal S1024x4112 .f32) :
    val_main_v22 (F := Ideal) x g w = Cert.ProjSIdeal.Hand.cols 1024 1536 (by omega) x g w := by
  funext j
  pointwise [val_main_v22, val_main_v15, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]

/-- Two conditionals that differ by conditions that hold. -/
theorem dite_and {A B C : Prop} [Decidable (A ∧ B ∧ C)] [Decidable C] (ha : A) (hb : B) (f : A ∧ B ∧ C → EReal)
    (f' : C → EReal) (hf : ∀ h h', f h = f' h') : dite (A ∧ B ∧ C) f (fun _ => 0) = dite C f' (fun _ => 0) := by
  by_cases h : C
  · rw [dif_pos h, dif_pos ⟨ha, hb, h⟩, hf]
  · rw [dif_neg h, dif_neg fun H => h H.2.2]

/-- The reference's result 3 is the same function. -/
theorem ref10 (x : FVec Ideal S32x4x1024 .f32) (g : FVec Ideal S1024 .f32) (w : FVec Ideal S1024x4112 .f32) :
    val_main_v23 (F := Ideal) x g w = Cert.ProjSIdeal.Hand.steps x g w := by
  funext j
  pointwise [val_main_v23, val_main_v16, val_main_v20, val_main_cst_2, Cert.ProjSIdeal.Hand.steps, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]
  have h0 : (j 0).val / 4 < 32 := Nat.div_lt_of_lt_mul (j 0).isLt
  exact dite_and h0 (Nat.mod_lt _ (by decide)) _ _ fun _ _ => rfl

/-- The reference's result 4 is the same function. -/
theorem ref11 (x : FVec Ideal S32x4x1024 .f32) (g : FVec Ideal S1024 .f32) (w : FVec Ideal S1024x4112 .f32) :
    val_main_v24 (F := Ideal) x g w = Cert.ProjSIdeal.Hand.cols 2576 512 (by omega) x g w := by
  funext j
  pointwise [val_main_v24, val_main_v17, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]

/-- The reference's result 5 is the same function. -/
theorem ref12 (x : FVec Ideal S32x4x1024 .f32) (g : FVec Ideal S1024 .f32) (w : FVec Ideal S1024x4112 .f32) :
    val_main_v25 (F := Ideal) x g w = Cert.ProjSIdeal.Hand.cols 3088 512 (by omega) x g w := by
  funext j
  pointwise [val_main_v25, val_main_v18, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]

/-- The reference's result 6 is the same function. -/
theorem ref13 (x : FVec Ideal S32x4x1024 .f32) (g : FVec Ideal S1024 .f32) (w : FVec Ideal S1024x4112 .f32) :
    val_main_v26 (F := Ideal) x g w = Cert.ProjSIdeal.Hand.cols 3600 512 (by omega) x g w := by
  funext j
  pointwise [val_main_v26, val_main_v19, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Cert.ProjSIdeal.Hand.cols, nrmDot, nrm]

end Cert.ProjSRefIdeal.Hand

namespace Cert.Proof

/-- Over the extended reals the sample group's in-projection's six results are the reference's. -/
theorem algebraic_ProjS : Cert.algebraic_ProjSIdeal_ProjSRefIdeal := by
  pair_intro
  · run_from Cert.ProjSIdeal.Value.run_blocks m g
  · run_from Cert.ProjSRefIdeal.Value.run m' g'
    · exact (Cert.ProjSRefIdeal.Read.val_main_v21_eq _ _ _).trans
        ((Cert.ProjSRefIdeal.Hand.ref8 _ _ _).trans (Cert.ProjSIdeal.Hand.final8 m c).symm)
    · exact (Cert.ProjSRefIdeal.Read.val_main_v22_eq _ _ _).trans
        ((Cert.ProjSRefIdeal.Hand.ref9 _ _ _).trans (Cert.ProjSIdeal.Hand.final9 m c).symm)
    · exact (Cert.ProjSRefIdeal.Read.val_main_v23_eq _ _ _).trans
        ((Cert.ProjSRefIdeal.Hand.ref10 _ _ _).trans (Cert.ProjSIdeal.Hand.final10 m c).symm)
    · exact (Cert.ProjSRefIdeal.Read.val_main_v24_eq _ _ _).trans
        ((Cert.ProjSRefIdeal.Hand.ref11 _ _ _).trans (Cert.ProjSIdeal.Hand.final11 m c).symm)
    · exact (Cert.ProjSRefIdeal.Read.val_main_v25_eq _ _ _).trans
        ((Cert.ProjSRefIdeal.Hand.ref12 _ _ _).trans (Cert.ProjSIdeal.Hand.final12 m c).symm)
    · exact (Cert.ProjSRefIdeal.Read.val_main_v26_eq _ _ _).trans
        ((Cert.ProjSRefIdeal.Hand.ref13 _ _ _).trans (Cert.ProjSIdeal.Hand.final13 m c).symm)

end Cert.Proof

end
-- ==== Proof.MlpSVal.lean ====
/- The sample group's MLP with the final normalisation: the kernel's result is the reference's. -/
module

public import proofs.«01_k».proof.Defs
public import proofs.«01_k».proof.Proof.Norm
public import proofs.«01_k».proof.Proof.Gen.MlpSIdeal.Value
public import proofs.«01_k».proof.Proof.Gen.MlpSRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpSIdeal.Hand

open Cert.MlpSIdeal Cert.MlpSIdeal.Gen Cert.Spec

variable (m : (ℓ : Loc nD τ sig) → Buf (Elt Ideal) ℓ)

/-- The normalised block, at an index. -/
theorem pay1_at (v0 : Vec Ideal S128x1024 .f32) (v1 : Vec Ideal S1x1024 .f32) (r : Fin 128) (k : Fin 1024) :
    k0_pay1 v0 v1 (ix2 r k) = nrm (fun k => v0 (ix2 r k)) (fun k => v1 (ix2 0 k)) k := by
  pointwise [k0_pay1, nrm]

/-- The row plus the first half of the hidden units' contributions. -/
theorem pay2_at (v0 : Vec Ideal S128x1024 .f32) (v1 : Vec Ideal S1x1024 .f32) (a b a' b' : Vec Ideal S1024x1024 .bf16)
    (r : Fin 128) (l : Fin 1024) :
    k0_pay2 v0 v1 a b a' b' (ix2 r l) = v0 (ix2 r l)
      + chunk (fun k => k0_pay1 v0 v1 (ix2 r k)) (fun k f => a (ix2 k f)) (fun f k => b (ix2 f k)) l
      + chunk (fun k => k0_pay1 v0 v1 (ix2 r k)) (fun k f => a' (ix2 k f)) (fun f k => b' (ix2 f k)) l := by
  pointwise [k0_pay2, chunk, act]

/-- The second half added, and the sum normalised. -/
theorem pay3_at (n : FVec Ideal S128x1024 .bf16) (v : FVec Ideal S128x1024 .f32) (a b a' b' : Vec Ideal S1024x1024 .bf16)
    (gf : Vec Ideal S1x1024 .f32) (r : Fin 128) (l : Fin 1024) :
    k0_pay3 n v a b a' b' gf (ix2 r l) = nrm (fun l => v (ix2 r l)
      + chunk (fun k => n (ix2 r k)) (fun k f => a (ix2 k f)) (fun f k => b (ix2 f k)) l
      + chunk (fun k => n (ix2 r k)) (fun k f => a' (ix2 k f)) (fun f k => b' (ix2 f k)) l) (fun k => gf (ix2 0 k)) l := by
  pointwise [k0_pay3, chunk, act, nrm]

/-- A piece of the first weight, read in the whole. -/
theorem ld2 (x : Vec Ideal S1024x4096 .bf16) (k f : Fin 1024) :
    (View.ld x r0_2 : Vec Ideal S1024x1024 .bf16) (ix2 k f) = x (ix2 (n0 := 1024) (n1 := 4096) k ⟨0 + f.val, by omega⟩) :=
  View.ld_unit_apply_of x _ _ _ _ _ (by intro a; fin_cases a <;> simp)

/-- A piece of the second weight, read in the whole. -/
theorem ld3 (x : Vec Ideal S4096x1024 .bf16) (k f : Fin 1024) :
    (View.ld x r0_3 : Vec Ideal S1024x1024 .bf16) (ix2 k f) = x (ix2 (n0 := 4096) (n1 := 1024) ⟨0 + k.val, by omega⟩ f) :=
  View.ld_unit_apply_of x _ _ _ _ _ (by intro a; fin_cases a <;> simp)

/-- A piece of the first weight, read in the whole. -/
theorem ld4 (x : Vec Ideal S1024x4096 .bf16) (k f : Fin 1024) :
    (View.ld x r0_4 : Vec Ideal S1024x1024 .bf16) (ix2 k f) = x (ix2 (n0 := 1024) (n1 := 4096) k ⟨1024 + f.val, by omega⟩) :=
  View.ld_unit_apply_of x _ _ _ _ _ (by intro a; fin_cases a <;> simp)

/-- A piece of the second weight, read in the whole. -/
theorem ld5 (x : Vec Ideal S4096x1024 .bf16) (k f : Fin 1024) :
    (View.ld x r0_5 : Vec Ideal S1024x1024 .bf16) (ix2 k f) = x (ix2 (n0 := 4096) (n1 := 1024) ⟨1024 + k.val, by omega⟩ f) :=
  View.ld_unit_apply_of x _ _ _ _ _ (by intro a; fin_cases a <;> simp)

/-- A piece of the first weight, read in the whole. -/
theorem ld6 (x : Vec Ideal S1024x4096 .bf16) (k f : Fin 1024) :
    (View.ld x r0_6 : Vec Ideal S1024x1024 .bf16) (ix2 k f) = x (ix2 (n0 := 1024) (n1 := 4096) k ⟨2048 + f.val, by omega⟩) :=
  View.ld_unit_apply_of x _ _ _ _ _ (by intro a; fin_cases a <;> simp)

/-- A piece of the second weight, read in the whole. -/
theorem ld7 (x : Vec Ideal S4096x1024 .bf16) (k f : Fin 1024) :
    (View.ld x r0_7 : Vec Ideal S1024x1024 .bf16) (ix2 k f) = x (ix2 (n0 := 4096) (n1 := 1024) ⟨2048 + k.val, by omega⟩ f) :=
  View.ld_unit_apply_of x _ _ _ _ _ (by intro a; fin_cases a <;> simp)

/-- A piece of the first weight, read in the whole. -/
theorem ld8 (x : Vec Ideal S1024x4096 .bf16) (k f : Fin 1024) :
    (View.ld x r0_8 : Vec Ideal S1024x1024 .bf16) (ix2 k f) = x (ix2 (n0 := 1024) (n1 := 4096) k ⟨3072 + f.val, by omega⟩) :=
  View.ld_unit_apply_of x _ _ _ _ _ (by intro a; fin_cases a <;> simp)

/-- A piece of the second weight, read in the whole. -/
theorem ld9 (x : Vec Ideal S4096x1024 .bf16) (k f : Fin 1024) :
    (View.ld x r0_9 : Vec Ideal S1024x1024 .bf16) (ix2 k f) = x (ix2 (n0 := 4096) (n1 := 1024) ⟨3072 + k.val, by omega⟩ f) :=
  View.ld_unit_apply_of x _ _ _ _ _ (by intro a; fin_cases a <;> simp)

/-- What the kernel stores at an index of a block is the MLP's output for that row. -/
theorem whole_at (x0 : Vec Ideal S128x1024 .f32) (x1 : Vec Ideal S1x1024 .f32) (x2 : Vec Ideal S1024x4096 .bf16)
    (x3 : Vec Ideal S4096x1024 .bf16) (x4 : Vec Ideal S1x1024 .f32) (r : Fin 128) (l : Fin 1024) :
    k0_pay3 (k0_pay1 x0 x1) (k0_pay2 x0 x1 (View.ld x2 r0_2) (View.ld x3 r0_3) (View.ld x2 r0_4) (View.ld x3 r0_5))
        (View.ld x2 r0_6) (View.ld x3 r0_7) (View.ld x2 r0_8) (View.ld x3 r0_9) x4 (ix2 r l)
      = mlpOut (fun k => x0 (ix2 r k)) (fun k => x1 (ix2 0 k)) (fun k f => x2 (ix2 k f)) (fun f k => x3 (ix2 f k))
          (fun k => x4 (ix2 0 k)) l := by
  rw [pay3_at]
  refine congrArg (fun v => nrm v (fun k => x4 (ix2 0 k)) l) (funext fun l => ?_)
  rw [pay2_at, mlpRow_chunks]
  exact congrArg₂ (· + ·) (congrArg₂ (· + ·) (congrArg₂ (· + ·) (congrArg₂ (· + ·) rfl
    (chunk_congr (pay1_at _ _ _) (ld2 _) (ld3 _))) (chunk_congr (pay1_at _ _ _) (ld4 _) (ld5 _)))
    (chunk_congr (pay1_at _ _ _) (ld6 _) (ld7 _))) (chunk_congr (pay1_at _ _ _) (ld8 _) (ld9 _))

/-- The result as one function of the arguments. -/
def res (x : FVec Ideal S128x1024 .f32) (g : FVec Ideal S1024 .f32) (wu : FVec Ideal S1024x4096 .f32)
    (wd : FVec Ideal S4096x1024 .f32) (gf : FVec Ideal S1024 .f32) : FVec Ideal S128x1024 .f32 :=
  fun j => mlpOut (fun k => x (ix2 ⟨(j 0).val, (j 0).isLt⟩ k)) (fun k => g (ix1 k)) (fun k f => wu (ix2 k f))
    (fun f k => wd (ix2 f k)) (fun k => gf (ix1 k)) ⟨(j 1).val, (j 1).isLt⟩

/-- Where each window's block sits at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row block, read at its place in the argument. -/
theorem blk0 (c : Dev nD) (t : Fin cfg0.N) (r : Fin 128) (k : Fin 1024) :
    (iblk m c 0 t : Vec Ideal S128x1024 .f32) (ix2 r k)
      = m ((c : Thread nD τ).loc main_arg0) (ix2 (n0 := 128) (n1 := 1024) ⟨t.val * 128 + r.val, by have h : t.val < 1 := t.isLt; omega⟩ k) := by
  blk_simp [iblk, idx t]
  entry_read
  pointwise
  blk_ext [idx t]

/-- The gains' block is the gains. -/
theorem blk1 (c : Dev nD) (t : Fin cfg0.N) (k : Fin 1024) :
    (iblk m c 1 t : Vec Ideal S1x1024 .f32) (ix2 0 k) = m ((c : Thread nD τ).loc main_arg1) (ix1 (n0 := 1024) k) := by
  blk_simp [iblk, idx t]
  entry_read
  pointwise
  blk_ext [idx t]

/-- The first weight's block is the whole weight. -/
theorem blk2 (c : Dev nD) (t : Fin cfg0.N) (k : Fin 1024) (f : Fin 4096) :
    (iblk m c 2 t : Vec Ideal S1024x4096 .bf16) (ix2 k f) = m ((c : Thread nD τ).loc main_arg2) (ix2 (n0 := 1024) (n1 := 4096) k f) := by
  blk_simp [iblk, idx t]
  entry_read
  pointwise
  blk_ext [idx t]

/-- The second weight's block is the whole weight. -/
theorem blk3 (c : Dev nD) (t : Fin cfg0.N) (f : Fin 4096) (k : Fin 1024) :
    (iblk m c 3 t : Vec Ideal S4096x1024 .bf16) (ix2 f k) = m ((c : Thread nD τ).loc main_arg3) (ix2 (n0 := 4096) (n1 := 1024) f k) := by
  blk_simp [iblk, idx t]
  entry_read
  pointwise
  blk_ext [idx t]

/-- The final gains' block is the final gains. -/
theorem blk4 (c : Dev nD) (t : Fin cfg0.N) (k : Fin 1024) :
    (iblk m c 4 t : Vec Ideal S1x1024 .f32) (ix2 0 k) = m ((c : Thread nD τ).loc main_arg4) (ix1 (n0 := 1024) k) := by
  blk_simp [iblk, idx t]
  entry_read
  pointwise
  blk_ext [idx t]

/-- One grid point's block is that block of the whole result. -/
theorem point5 (c : Dev nD) (t : Fin cfg0.N) (y : S128x1024.Idx) :
    k0_pay3 (k0_pay1 (iblk m c 0 t) (iblk m c 1 t)) (k0_pay2 (iblk m c 0 t) (iblk m c 1 t) (View.ld (iblk m c 2 t) r0_2)
        (View.ld (iblk m c 3 t) r0_3) (View.ld (iblk m c 2 t) r0_4) (View.ld (iblk m c 3 t) r0_5))
        (View.ld (iblk m c 2 t) r0_6) (View.ld (iblk m c 3 t) r0_7) (View.ld (iblk m c 2 t) r0_8)
        (View.ld (iblk m c 3 t) r0_9) (iblk m c 4 t) y
      = res (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  refine (congrArg _ (eq_ix2 y)).trans ((whole_at _ _ _ _ _ _ _).trans ?_)
  refine mlpOut_congr (fun k => (blk0 m c t _ k).trans ?_) (fun k => blk1 m c t k) (fun k f => blk2 m c t k f)
    (fun f k => blk3 m c t f k) (fun k => blk4 m c t k) ?_
  · blk_ext [idx t]
  · exact Fin.ext (by blk_simp [idx t])

/-- The whole array the kernel leaves. -/
theorem final5 (c : Dev nD) : (dats m 0 c).arrAt 5 (cfgs 0).N
    = res (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point5 m c t y

end Cert.MlpSIdeal.Hand

namespace Cert.MlpSRefIdeal.Hand

open Cert.MlpSRefIdeal Cert.MlpSRefIdeal.Gen Cert.MlpSRefIdeal.Read Cert.Spec

/-- The reference's result is the same function. -/
theorem ref_res (x : FVec Ideal S128x1024 .f32) (g : FVec Ideal S1024 .f32) (wu : FVec Ideal S1024x4096 .f32)
    (wd : FVec Ideal S4096x1024 .f32) (gf : FVec Ideal S1024 .f32) :
    val_main_v30 (F := Ideal) x g wu wd gf = Cert.MlpSIdeal.Hand.res x g wu wd gf := by
  funext j
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst,
    val_main_cst_0, val_main_cst_1, val_main_cst_2, val_main_cst_3, val_main_cst_4, Cert.MlpSIdeal.Hand.res, mlpOut, mlpRow, act, nrm]

end Cert.MlpSRefIdeal.Hand

namespace Cert.Proof

/-- Over the extended reals the sample group's MLP's result is the reference's. -/
theorem algebraic_MlpS : Cert.algebraic_MlpSIdeal_MlpSRefIdeal := by
  pair_intro
  · run_from Cert.MlpSIdeal.Gen.run_main m g
  · run_from Cert.MlpSRefIdeal.Value.run m' g'
    obtain ⟨h0, h1, h2, h3, h4⟩ := hagree c
    refine (Cert.MlpSRefIdeal.Read.val_main_v30_eq m' c).trans ?_
    rw [h0, h1, h2, h3, h4]
    exact (Cert.MlpSRefIdeal.Hand.ref_res _ _ _ _ _).trans (Cert.MlpSIdeal.Hand.final5 m c).symm

end Cert.Proof

end
-- ==== Proof.SsdSSpec.lean ====
/- The sample group's state-space recurrence, four places that go on from a state: the functions both sides compute. -/
module

public import proofs.«01_k».proof.Proof.SsdSpec
public import Idealize.ShloMosaic.Lib.Pipeline.ValueKit
public import Idealize.ShloMosaic.Lib.Claim

@[expose] public section

noncomputable section

namespace Cert.Spec

open Idealize.ShloMosaic

/-- What the recurrence of four places is made from: the rows, the three rows before them, the state before them, the raw step
    sizes, the filter and its bias, the step sizes' bias and the heads' log-rates. -/
structure Seg where
  /-- The rows. -/
  X : Fin 4 → Fin 1536 → EReal
  /-- The rows before them. -/
  cs : Fin 3 → Fin 1536 → EReal
  /-- The state before them. -/
  s0 : Fin 1024 → Fin 128 → EReal
  /-- The raw step sizes. -/
  dt : Fin 4 → Fin 16 → EReal
  /-- The filter. -/
  w : Fin 4 → Fin 1536 → EReal
  /-- The filter's bias. -/
  cb : Fin 1536 → EReal
  /-- The step sizes' bias. -/
  dtb : Fin 16 → EReal
  /-- The heads' log-rates. -/
  al : Fin 16 → EReal

namespace Seg

variable (P : Seg)

/-- The rows after the three before them, and zeros after both. -/
def tap (r : Nat) (q : Fin 1536) : EReal := if h : r < 3 then P.cs ⟨r, h⟩ q else if h : r - 3 < 4 then P.X ⟨r - 3, h⟩ q else 0

/-- The convolution at a place. -/
def conv (s : Nat) (q : Fin 1536) : EReal :=
  P.cb q + P.tap s q * P.w 0 q + P.tap (s + 1) q * P.w 1 q + P.tap (s + 2) q * P.w 2 q + P.tap (s + 3) q * P.w 3 q

/-- The convolution after its nonlinearity. -/
def xc (s : Nat) (q : Fin 1536) : EReal := silu (P.conv s q)

/-- The step size. -/
def step (s : Fin 4) (h : Fin 16) : EReal := softp (P.dt s h + P.dtb h)

/-- The log-decay. -/
def logd (s : Fin 4) (h : Fin 16) : EReal := P.step s h * (0 - Ideal.exp (P.al h))

/-- The running sums of the log-decays. -/
def A (h : Fin 16) (i : Fin 4) : EReal := ∑ j : Fin 4, Scalar.select (if j.val ≤ i.val then 1#1 else 0#1 : BitVec 1) 1 0 * P.logd j h

/-- A lane's state after the four places. -/
def state (q : Fin 1024) (n : Fin 128) : EReal :=
  P.s0 q n * Ideal.exp (P.A (Seq.hd q) 3) + ∑ j : Fin 4, P.xc j.val ⟨1024 + 128 * (Seq.gr q).val + n.val, by omega⟩
    * (P.xc j.val ⟨q.val, by omega⟩ * (Ideal.exp (P.A (Seq.hd q) 3 - P.A (Seq.hd q) j) * P.step j (Seq.hd q)))

/-- The step sizes of a chunk of 128 places whose first four are the segment's. -/
def D (h : Fin 16) (j : Fin 128) : EReal := if hj : j.val < 4 then P.step ⟨j.val, hj⟩ h else 0

/-- The log-decays of that chunk. -/
def L (h : Fin 16) (j : Fin 128) : EReal := P.D h j * (0 - Ideal.exp (P.al h))

end Seg

/-- A sum of 128 terms that are zero from the fifth on. -/
theorem sum_four (f : Fin 128 → EReal) (h : ∀ j : Fin 128, 4 ≤ j.val → f j = 0) : ∑ j, f j = ∑ j : Fin 4, f ⟨j.val, by omega⟩ := by
  refine (Fin.sum_univ_add (a := 4) (b := 124) f).trans ?_
  rw [Finset.sum_eq_zero (s := Finset.univ) (f := fun j : Fin 124 => f (Fin.natAdd 4 j)) (fun j _ => h _ (by show 4 ≤ 4 + j.val; omega)), add_zero]
  rfl

namespace Seg

variable (P : Seg)

/-- After the fourth place there is no step. -/
theorem D_zero (h : Fin 16) (j : Fin 128) (hj : 4 ≤ j.val) : P.D h j = 0 := dif_neg (by omega)

/-- The first four steps. -/
theorem D_four (h : Fin 16) (j : Fin 4) : P.D h ⟨j.val, by omega⟩ = P.step j h := dif_pos j.isLt

/-- The running sums of the chunk, in terms of its first four places. -/
theorem run_four (h : Fin 16) (i : Fin 128) :
    runSum (P.L h) i = ∑ j : Fin 4, Scalar.select (if j.val ≤ i.val then 1#1 else 0#1 : BitVec 1) 1 0 * P.logd j h := by
  unfold runSum
  refine (sum_four _ fun j hj => ?_).trans (Finset.sum_congr rfl fun j _ => ?_)
  · unfold L
    rw [P.D_zero h j hj, zero_mul, mul_zero]
  · unfold L logd
    rw [P.D_four h j]
    rfl

/-- At one of the four places they are the segment's. -/
theorem run_at (h : Fin 16) (i : Fin 4) : runSum (P.L h) ⟨i.val, by omega⟩ = P.A h i := P.run_four h _

/-- At the last place of the chunk they are the segment's last. -/
theorem run_last (h : Fin 16) : runSum (P.L h) 127 = P.A h 3 := by
  refine (P.run_four h _).trans ?_
  unfold A
  refine Finset.sum_congr rfl fun j _ => ?_
  rw [if_pos (show j.val ≤ (127 : Fin 128).val by show j.val ≤ 127; omega), if_pos (show j.val ≤ (3 : Fin 4).val by show j.val ≤ 3; omega)]

/-- The state after a chunk of 128 places whose steps are zero from the fifth on is the state after its first four. -/
theorem chunk_state (q : Fin 1024) (n : Fin 128) :
    chunkState (runSum (P.L (Seq.hd q))) (P.D (Seq.hd q)) (fun j n => P.xc j.val ⟨1024 + 128 * (Seq.gr q).val + n.val, by omega⟩)
      (fun j => P.xc j.val ⟨q.val, by omega⟩) (P.s0 q) n = P.state q n := by
  unfold chunkState state
  rw [P.run_last]
  refine congrArg (_ + ·) ((sum_four _ fun j hj => ?_).trans (Finset.sum_congr rfl fun j _ => ?_))
  · rw [P.D_zero _ j hj, mul_zero, mul_zero, mul_zero]
  · rw [P.run_at, P.D_four]

end Seg

/-- The flat row of place `s` of sequence `b`. -/
def flat4 (b : Fin 32) (s : Fin 4) : Fin 128 := ⟨b.val * 4 + s.val, by omega⟩

/-- What the recurrence of sequence `b` is made from, in the arrays that hold it. -/
def segOf (x0 : (⟨2, ![128, 1536]⟩ : Shape).Idx → EReal) (x2 : (⟨2, ![128, 128]⟩ : Shape).Idx → EReal)
    (x3 : (⟨3, ![32, 3, 1536]⟩ : Shape).Idx → EReal) (x4 : (⟨4, ![32, 16, 64, 128]⟩ : Shape).Idx → EReal)
    (x5 : (⟨2, ![4, 1536]⟩ : Shape).Idx → EReal) (x6 : (⟨1, ![1536]⟩ : Shape).Idx → EReal) (x7 x8 : (⟨1, ![16]⟩ : Shape).Idx → EReal)
    (b : Fin 32) : Seg where
  X s q := x0 (ix2 (flat4 b s) q)
  cs s q := x3 (ix3 b s q)
  s0 q n := x4 (ix4 b (Seq.hd q) ⟨q.val % 64, Nat.mod_lt _ (by decide)⟩ n)
  dt s h := x2 (ix2 (flat4 b s) ⟨h.val, by omega⟩)
  w k q := x5 (ix2 k q)
  cb q := x6 (ix1 q)
  dtb h := x7 (ix1 h)
  al h := x8 (ix1 h)

/-- The last rows the recurrence hands on. -/
def tailAll4 (x0 : (⟨2, ![128, 1536]⟩ : Shape).Idx → EReal) (y : (⟨3, ![32, 3, 1536]⟩ : Shape).Idx) : EReal :=
  x0 (ix2 (flat4 (y 0) ⟨1 + (y 1).val, by have h : (y 1).val < 3 := (y 1).isLt; omega⟩) (y 2))

/-- The state the recurrence hands on. -/
def stateAll4 (x0 : (⟨2, ![128, 1536]⟩ : Shape).Idx → EReal) (x2 : (⟨2, ![128, 128]⟩ : Shape).Idx → EReal)
    (x3 : (⟨3, ![32, 3, 1536]⟩ : Shape).Idx → EReal) (x4 : (⟨4, ![32, 16, 64, 128]⟩ : Shape).Idx → EReal)
    (x5 : (⟨2, ![4, 1536]⟩ : Shape).Idx → EReal) (x6 : (⟨1, ![1536]⟩ : Shape).Idx → EReal) (x7 x8 : (⟨1, ![16]⟩ : Shape).Idx → EReal)
    (y : (⟨3, ![32, 1024, 128]⟩ : Shape).Idx) : EReal :=
  (segOf x0 x2 x3 x4 x5 x6 x7 x8 (y 0)).state (y 1) (y 2)

end Cert.Spec

end
-- ==== Proof.SsdSPay.lean ====
/- The sample group's state-space recurrence: what the kernel's payloads compute, at an index. -/
module

public import proofs.«01_k».proof.Defs
public import proofs.«01_k».proof.Proof.SsdSSpec
public import proofs.«01_k».proof.Proof.SsdBuf
public import proofs.«01_k».proof.Proof.Gen.SsdSIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSIdeal.Hand

open Cert.SsdSIdeal Cert.SsdSIdeal.Gen Cert.Spec

/-- Whether place `j` is not after place `i`, by the machine's comparison. -/
theorem causal_cmp (i j : Fin 128) : IntOp.cmpi CmpIPredicate.sge (BitVec.ofNat 32 i.val) (BitVec.ofNat 32 j.val) = causal i j := by
  revert i j
  decide +kernel

/-- Whether a place is one of the first four, by the machine's comparison. -/
theorem four_cmp (i : Fin 128) : IntOp.cmpi CmpIPredicate.slt (BitVec.ofNat 32 i.val) 4#32 = if i.val < 4 then 1#1 else 0#1 := by
  revert i
  decide +kernel

/-- Whether a lane is one of the first 64, by the machine's comparison. -/
theorem lane_cmp (i : Fin 128) : IntOp.cmpi CmpIPredicate.slt (BitVec.ofNat 32 i.val) 64#32 = if i.val < 64 then 1#1 else 0#1 := by
  revert i
  decide +kernel

/-- The mask of the places not after a place. -/
theorem pay30_at (i j : Fin 128) : k0_pay30 (ix2 i j) = causal i j := by
  rw [← causal_cmp i j]
  pointwise [k0_pay30]

/-- The mask of a pair's first head. -/
theorem pay38_at (j l : Fin 128) : k0_pay38 (ix2 j l) = if l.val < 64 then 1#1 else 0#1 := by
  rw [← lane_cmp l]
  pointwise [k0_pay38]

/-- The log-decays, from the step sizes and the heads' rates. -/
def lg (v65 : FVec Ideal S128x128 .f32) (v68 : FVec Ideal S1x128 .f32) (h j : Fin 128) : EReal := v65 (ix2 j h) * (0 - v68 (ix2 0 h))

/-- The running sums of the log-decays. -/
theorem pay31_at (v65 : FVec Ideal S128x128 .f32) (v68 : FVec Ideal S1x128 .f32) (i h : Fin 128) :
    k0_pay31 v65 v68 (ix2 i h) = runSum (lg v65 v68 h) i := by
  refine Eq.trans (b := ∑ j, Scalar.select (k0_pay30 (ix2 i j)) 1 0 * (v65 (ix2 j h) * (0 - v68 (ix2 0 h)))) ?_ ?_
  · pointwise [k0_pay31]
  · simp only [pay30_at]
    rfl

/-- The weight with which a place enters the state. -/
theorem pay36_at (v65 : FVec Ideal S128x128 .f32) (v68 : FVec Ideal S1x128 .f32) (j h : Fin 128) :
    k0_pay36 v65 v68 (ix2 j h) = Ideal.exp (k0_pay31 v65 v68 (ix2 127 h) - k0_pay31 v65 v68 (ix2 j h)) * v65 (ix2 j h) := by
  pointwise [k0_pay36, k0_pay34]

/-- The whole chunk's decay, spread over the lanes. -/
theorem pay37_at (v65 : FVec Ideal S128x128 .f32) (v68 : FVec Ideal S1x128 .f32) (e : Vec Ideal S128x1024 .f32) (q : Fin 1024) :
    k0_pay37 v65 v68 e (ix2 0 q) = Ideal.exp (∑ k, k0_pay31 v65 v68 (ix2 127 k) * e (ix2 k q)) := by
  pointwise [k0_pay37, k0_pay34]

/-- The input directions of the first group, turned. -/
theorem pay40_at (v : FVec Ideal S128x1536 .f32) (n j : Fin 128) : k0_pay40 v (ix2 n j) = v (ix2 j ⟨1024 + n.val, by omega⟩) := by
  pointwise [k0_pay40]

/-- The input directions of the second group, turned. -/
theorem pay65_at (v : FVec Ideal S128x1536 .f32) (n j : Fin 128) : k0_pay65 v (ix2 n j) = v (ix2 j ⟨1152 + n.val, by omega⟩) := by
  pointwise [k0_pay65]

/-- The convolution's output after its nonlinearity. -/
theorem pay24_at (v : FVec Ideal S128x1536 .f32) (i : Fin 128) (q : Fin 1536) : k0_pay24 v (ix2 i q) = silu (v (ix2 i q)) := by
  pointwise [k0_pay24, silu]

/-- Its first 1024 lanes. -/
theorem pay27_at (v : FVec Ideal S128x1536 .f32) (i : Fin 128) (q : Fin 1024) :
    k0_pay27 v (ix2 i q) = k0_pay24 v (ix2 i ⟨q.val, by omega⟩) := by
  pointwise [k0_pay27]

/-- The convolution before its nonlinearity. -/
theorem pay23_at (b w0 w1 w2 w3 : Vec Ideal S1x1536 .f32) (x0 x1 x2 x3 : Vec Ideal S128x1536 .f32) (i : Fin 128) (q : Fin 1536) :
    k0_pay23 b x0 w0 x1 w1 x2 w2 x3 w3 (ix2 i q)
      = b (ix2 0 q) + x0 (ix2 i q) * w0 (ix2 0 q) + x1 (ix2 i q) * w1 (ix2 0 q) + x2 (ix2 i q) * w2 (ix2 0 q) + x3 (ix2 i q) * w3 (ix2 0 q) := by
  pointwise [k0_pay23]

/-- The step sizes: none after the fourth place. -/
theorem pay28_at (d : Vec Ideal S1x128x128 .f32) (b : Vec Ideal S1x128 .f32) (i h : Fin 128) :
    k0_pay28 d b (ix2 i h) = Scalar.select (if i.val < 4 then 1#1 else 0#1 : BitVec 1) (softp (d (ix3 0 i h) + b (ix2 0 h))) 0 := by
  rw [← four_cmp i]
  pointwise [k0_pay28, softp]
  rfl

/-- The heads' rates. -/
theorem pay29_at (a : Vec Ideal S1x128 .f32) (h : Fin 128) : k0_pay29 a (ix2 0 h) = Ideal.exp (a (ix2 0 h)) := by
  pointwise [k0_pay29]

/-- The block's rows. -/
theorem pay22_at (v : Vec Ideal S1x128x1536 .f32) (i : Fin 128) (q : Fin 1536) : k0_pay22 v (ix2 i q) = v (ix3 0 i q) := by
  pointwise [k0_pay22]

/-- The rows before the four. -/
theorem pay6_at (v : Vec Ideal S1x3x1536 .f32) (i : Fin 3) (q : Fin 1536) : k0_pay6 v (ix2 i q) = v (ix3 0 i q) := by
  pointwise [k0_pay6]

/-- The last rows, as they are handed out. -/
theorem pay25_at (v : Vec Ideal S3x1536 .f32) (i : Fin 3) (q : Fin 1536) : k0_pay25 v (ix3 0 i q) = v (ix2 i q) := by
  pointwise [k0_pay25]

/-- Half of the state after the chunk, at an index. -/
theorem half0 (v87 v100 : FVec Ideal S128x128 .f32) (v94 : FVec Ideal S1x1024 .f32) (v97 : IVec S128x128 1) (v46 : FVec Ideal S128x1024 .f32)
    (st : Vec Ideal S128x512 .f32) (n : Fin 128) (q : Fin 512) :
    k0_pay63 (k0_pay62 v87 v94 v97 v100 (k0_pay46 v87 v97 (k0_pay42 v46)) (k0_pay51 v87 v97 (k0_pay47 v46)) (k0_pay56 v87 v97 (k0_pay52 v46)) (k0_pay57 v46) st) (ix2 n q)
      = st (ix2 n q) * v94 (ix2 0 ⟨0 + q.val, by omega⟩) + ∑ j, v100 (ix2 n j) * (
          if h : q.val < 128 then v46 (ix2 j ⟨0 + (q.val), by omega⟩) * Scalar.select (v97 (ix2 j ⟨q.val, h⟩)) (v87 (ix2 j 0)) (v87 (ix2 j 1))
          else if h : q.val - 128 < 128 then v46 (ix2 j ⟨128 + (q.val - 128), by omega⟩) * Scalar.select (v97 (ix2 j ⟨q.val - 128, h⟩)) (v87 (ix2 j 2)) (v87 (ix2 j 3))
          else if h : q.val - 128 - 128 < 128 then v46 (ix2 j ⟨256 + (q.val - 128 - 128), by omega⟩) * Scalar.select (v97 (ix2 j ⟨q.val - 128 - 128, h⟩)) (v87 (ix2 j 4)) (v87 (ix2 j 5))
          else v46 (ix2 j ⟨384 + (q.val - 128 - 128 - 128), by omega⟩) * Scalar.select (v97 (ix2 j ⟨q.val - 128 - 128 - 128, by omega⟩)) (v87 (ix2 j 6)) (v87 (ix2 j 7))) := by
  pointwise [k0_pay63, k0_pay62, k0_pay46, k0_pay42, k0_pay51, k0_pay47, k0_pay56, k0_pay52, k0_pay57]

/-- Half of the state after the chunk, at an index. -/
theorem half1 (v87 v100 : FVec Ideal S128x128 .f32) (v94 : FVec Ideal S1x1024 .f32) (v97 : IVec S128x128 1) (v46 : FVec Ideal S128x1024 .f32)
    (st : Vec Ideal S128x512 .f32) (n : Fin 128) (q : Fin 512) :
    k0_pay92 v87 v94 v97 v100 (k0_pay73 v87 v97 (k0_pay67 v46)) (k0_pay80 v87 v97 (k0_pay74 v46)) (k0_pay86 v87 v97 (k0_pay81 v46)) (k0_pay87 v46) st (ix2 n q)
      = st (ix2 n q) * v94 (ix2 0 ⟨512 + q.val, by omega⟩) + ∑ j, v100 (ix2 n j) * (
          if h : q.val < 128 then v46 (ix2 j ⟨512 + (q.val), by omega⟩) * Scalar.select (v97 (ix2 j ⟨q.val, h⟩)) (v87 (ix2 j 8)) (v87 (ix2 j 9))
          else if h : q.val - 128 < 128 then v46 (ix2 j ⟨640 + (q.val - 128), by omega⟩) * Scalar.select (v97 (ix2 j ⟨q.val - 128, h⟩)) (v87 (ix2 j 10)) (v87 (ix2 j 11))
          else if h : q.val - 128 - 128 < 128 then v46 (ix2 j ⟨768 + (q.val - 128 - 128), by omega⟩) * Scalar.select (v97 (ix2 j ⟨q.val - 128 - 128, h⟩)) (v87 (ix2 j 12)) (v87 (ix2 j 13))
          else v46 (ix2 j ⟨896 + (q.val - 128 - 128 - 128), by omega⟩) * Scalar.select (v97 (ix2 j ⟨q.val - 128 - 128 - 128, by omega⟩)) (v87 (ix2 j 14)) (v87 (ix2 j 15))) := by
  pointwise [k0_pay92, k0_pay73, k0_pay67, k0_pay80, k0_pay74, k0_pay86, k0_pay81, k0_pay87]

/-- One lane's state after the chunk, from the arrays the kernel holds. -/
def colState (A D : FVec Ideal S128x128 .f32) (V : FVec Ideal S128x1536 .f32) (T : FVec Ideal S128x1024 .f32) (n : Fin 128) (q : Fin 1024) : EReal :=
  chunkState (fun j => A (ix2 j ⟨q.val / 64, by omega⟩)) (fun j => D (ix2 j ⟨q.val / 64, by omega⟩))
    (fun j n => V (ix2 j ⟨1024 + 128 * (q.val / 512) + n.val, by omega⟩)) (fun j => V (ix2 j ⟨q.val, by omega⟩)) (fun n => T (ix2 n q)) n

/-- The whole chunk's decay of a lane is its head's. -/
theorem decay_at (V65 : FVec Ideal S128x128 .f32) (V68 : FVec Ideal S1x128 .f32) (e : Vec Ideal S128x1024 .f32)
    (he : ∀ (k : Fin 128) (q : Fin 1024), e (ix2 k q) = if k.val = q.val / 64 then 1 else 0) (q : Fin 1024) :
    k0_pay37 V65 V68 e (ix2 0 q) = Ideal.exp (k0_pay31 V65 V68 (ix2 127 ⟨q.val / 64, by omega⟩)) := by
  rw [pay37_at]
  refine congrArg Ideal.exp ?_
  refine (Finset.sum_eq_single (⟨q.val / 64, by omega⟩ : Fin 128) (fun k _ hk => ?_) (fun h => absurd (Finset.mem_univ _) h)).trans ?_
  · rw [he, if_neg (fun h => hk (Fin.ext h)), mul_zero]
  · rw [he, if_pos rfl, mul_one]

/-- A pair's weights, lane by lane, are the weights of the lane's head. -/
theorem pick (W : FVec Ideal S128x128 .f32) (j l h h1 hq : Fin 128) (e0 : l.val < 64 → hq = h) (e1 : ¬ l.val < 64 → hq = h1) :
    Scalar.select (k0_pay38 (ix2 j l)) (W (ix2 j h)) (W (ix2 j h1)) = W (ix2 j hq) := by
  rw [pay38_at]
  by_cases hl : l.val < 64
  · rw [if_pos hl, e0 hl]
    rfl
  · rw [if_neg hl, e1 hl]
    rfl

/-- A lane's state after the chunk, from what the kernel adds up. -/
theorem state_of (V30 : FVec Ideal S128x1536 .f32) (V65 : FVec Ideal S128x128 .f32) (V68 : FVec Ideal S1x128 .f32) (T : FVec Ideal S128x1024 .f32) (e : Vec Ideal S128x1024 .f32)
    (he : ∀ (k : Fin 128) (q : Fin 1024), e (ix2 k q) = if k.val = q.val / 64 then 1 else 0) (n : Fin 128) (q : Fin 1024)
    (s d : EReal) (b f : Fin 128 → EReal) (hs : s = T (ix2 n q)) (hd : d = k0_pay37 V65 V68 e (ix2 0 q))
    (hb : ∀ j, b j = k0_pay24 V30 (ix2 j ⟨1024 + 128 * (q.val / 512) + n.val, by omega⟩))
    (hf : ∀ j, f j = k0_pay27 V30 (ix2 j q) * k0_pay36 V65 V68 (ix2 j ⟨q.val / 64, by omega⟩)) :
    s * d + ∑ j, b j * f j = colState (k0_pay31 V65 V68) V65 (k0_pay24 V30) T n q := by
  rw [hs, hd, decay_at V65 V68 e he]
  unfold colState chunkState
  refine congrArg (_ + ·) (Finset.sum_congr rfl fun j _ => ?_)
  rw [hb, hf, pay27_at, pay36_at]

/-- Half of the state after the chunk, from what the kernel holds. -/
theorem statehalf0 (V30 : FVec Ideal S128x1536 .f32) (V65 : FVec Ideal S128x128 .f32) (V68 : FVec Ideal S1x128 .f32) (T : FVec Ideal S128x1024 .f32) (e : Vec Ideal S128x1024 .f32)
    (he : ∀ (k : Fin 128) (q : Fin 1024), e (ix2 k q) = if k.val = q.val / 64 then 1 else 0) (st : Vec Ideal S128x512 .f32)
    (hst : ∀ (n : Fin 128) (q : Fin 512), st (ix2 n q) = T (ix2 n ⟨0 + q.val, by omega⟩)) (n : Fin 128) (q : Fin 512) :
    k0_pay63 (k0_pay62 (k0_pay36 V65 V68) (k0_pay37 V65 V68 e) k0_pay38 (k0_pay40 (k0_pay24 V30)) (k0_pay46 (k0_pay36 V65 V68) k0_pay38 (k0_pay42 (k0_pay27 V30))) (k0_pay51 (k0_pay36 V65 V68) k0_pay38 (k0_pay47 (k0_pay27 V30))) (k0_pay56 (k0_pay36 V65 V68) k0_pay38 (k0_pay52 (k0_pay27 V30))) (k0_pay57 (k0_pay27 V30)) st) (ix2 n q)
      = colState (k0_pay31 V65 V68) V65 (k0_pay24 V30) T n ⟨0 + q.val, by omega⟩ := by
  refine (half0 _ _ _ _ _ st n q).trans ?_
  refine state_of V30 V65 V68 T e he n ⟨0 + q.val, by omega⟩ _ _ _ _ (hst n q) rfl
    (fun j => (pay40_at _ n j).trans (congrArg (k0_pay24 V30) (congrArg (ix2 j) (Fin.ext (by show 1024 + n.val = 1024 + 128 * ((0 + q.val) / 512) + n.val; omega)))))
    (fun j => ?_)
  · show _ = k0_pay27 V30 (ix2 j ⟨0 + q.val, by omega⟩) * k0_pay36 V65 V68 (ix2 j ⟨(0 + q.val) / 64, by omega⟩)
    by_cases g0 : q.val < 128
    · exact (dif_pos g0).trans (congrArg₂ (· * ·) (congrArg (k0_pay27 V30) (congrArg (ix2 j) (Fin.ext (by show 0 + (q.val) = 0 + q.val; omega))))
        (pick _ j ⟨q.val, g0⟩ 0 1 _ (fun hl => Fin.ext (by have hl : q.val < 64 := hl; show (0 + q.val) / 64 = 0; omega)) (fun hl => Fin.ext (by have hl : ¬ q.val < 64 := hl; show (0 + q.val) / 64 = 1; omega))))
    refine (dif_neg g0).trans ?_
    by_cases g1 : q.val - 128 < 128
    · exact (dif_pos g1).trans (congrArg₂ (· * ·) (congrArg (k0_pay27 V30) (congrArg (ix2 j) (Fin.ext (by show 128 + (q.val - 128) = 0 + q.val; omega))))
        (pick _ j ⟨q.val - 128, g1⟩ 2 3 _ (fun hl => Fin.ext (by have hl : q.val - 128 < 64 := hl; show (0 + q.val) / 64 = 2; omega)) (fun hl => Fin.ext (by have hl : ¬ q.val - 128 < 64 := hl; show (0 + q.val) / 64 = 3; omega))))
    refine (dif_neg g1).trans ?_
    by_cases g2 : q.val - 128 - 128 < 128
    · exact (dif_pos g2).trans (congrArg₂ (· * ·) (congrArg (k0_pay27 V30) (congrArg (ix2 j) (Fin.ext (by show 256 + (q.val - 128 - 128) = 0 + q.val; omega))))
        (pick _ j ⟨q.val - 128 - 128, g2⟩ 4 5 _ (fun hl => Fin.ext (by have hl : q.val - 128 - 128 < 64 := hl; show (0 + q.val) / 64 = 4; omega)) (fun hl => Fin.ext (by have hl : ¬ q.val - 128 - 128 < 64 := hl; show (0 + q.val) / 64 = 5; omega))))
    refine (dif_neg g2).trans ?_
    exact congrArg₂ (· * ·) (congrArg (k0_pay27 V30) (congrArg (ix2 j) (Fin.ext (by show 384 + (q.val - 128 - 128 - 128) = 0 + q.val; omega))))
        (pick _ j ⟨q.val - 128 - 128 - 128, by omega⟩ 6 7 _ (fun hl => Fin.ext (by have hl : q.val - 128 - 128 - 128 < 64 := hl; show (0 + q.val) / 64 = 6; omega)) (fun hl => Fin.ext (by have hl : ¬ q.val - 128 - 128 - 128 < 64 := hl; show (0 + q.val) / 64 = 7; omega)))

/-- Half of the state after the chunk, from what the kernel holds. -/
theorem statehalf1 (V30 : FVec Ideal S128x1536 .f32) (V65 : FVec Ideal S128x128 .f32) (V68 : FVec Ideal S1x128 .f32) (T : FVec Ideal S128x1024 .f32) (e : Vec Ideal S128x1024 .f32)
    (he : ∀ (k : Fin 128) (q : Fin 1024), e (ix2 k q) = if k.val = q.val / 64 then 1 else 0) (st : Vec Ideal S128x512 .f32)
    (hst : ∀ (n : Fin 128) (q : Fin 512), st (ix2 n q) = T (ix2 n ⟨512 + q.val, by omega⟩)) (n : Fin 128) (q : Fin 512) :
    k0_pay92 (k0_pay36 V65 V68) (k0_pay37 V65 V68 e) k0_pay38 (k0_pay65 (k0_pay24 V30)) (k0_pay73 (k0_pay36 V65 V68) k0_pay38 (k0_pay67 (k0_pay27 V30))) (k0_pay80 (k0_pay36 V65 V68) k0_pay38 (k0_pay74 (k0_pay27 V30))) (k0_pay86 (k0_pay36 V65 V68) k0_pay38 (k0_pay81 (k0_pay27 V30))) (k0_pay87 (k0_pay27 V30)) st (ix2 n q)
      = colState (k0_pay31 V65 V68) V65 (k0_pay24 V30) T n ⟨512 + q.val, by omega⟩ := by
  refine (half1 _ _ _ _ _ st n q).trans ?_
  refine state_of V30 V65 V68 T e he n ⟨512 + q.val, by omega⟩ _ _ _ _ (hst n q) rfl
    (fun j => (pay65_at _ n j).trans (congrArg (k0_pay24 V30) (congrArg (ix2 j) (Fin.ext (by show 1152 + n.val = 1024 + 128 * ((512 + q.val) / 512) + n.val; omega)))))
    (fun j => ?_)
  · show _ = k0_pay27 V30 (ix2 j ⟨512 + q.val, by omega⟩) * k0_pay36 V65 V68 (ix2 j ⟨(512 + q.val) / 64, by omega⟩)
    by_cases g0 : q.val < 128
    · exact (dif_pos g0).trans (congrArg₂ (· * ·) (congrArg (k0_pay27 V30) (congrArg (ix2 j) (Fin.ext (by show 512 + (q.val) = 512 + q.val; omega))))
        (pick _ j ⟨q.val, g0⟩ 8 9 _ (fun hl => Fin.ext (by have hl : q.val < 64 := hl; show (512 + q.val) / 64 = 8; omega)) (fun hl => Fin.ext (by have hl : ¬ q.val < 64 := hl; show (512 + q.val) / 64 = 9; omega))))
    refine (dif_neg g0).trans ?_
    by_cases g1 : q.val - 128 < 128
    · exact (dif_pos g1).trans (congrArg₂ (· * ·) (congrArg (k0_pay27 V30) (congrArg (ix2 j) (Fin.ext (by show 640 + (q.val - 128) = 512 + q.val; omega))))
        (pick _ j ⟨q.val - 128, g1⟩ 10 11 _ (fun hl => Fin.ext (by have hl : q.val - 128 < 64 := hl; show (512 + q.val) / 64 = 10; omega)) (fun hl => Fin.ext (by have hl : ¬ q.val - 128 < 64 := hl; show (512 + q.val) / 64 = 11; omega))))
    refine (dif_neg g1).trans ?_
    by_cases g2 : q.val - 128 - 128 < 128
    · exact (dif_pos g2).trans (congrArg₂ (· * ·) (congrArg (k0_pay27 V30) (congrArg (ix2 j) (Fin.ext (by show 768 + (q.val - 128 - 128) = 512 + q.val; omega))))
        (pick _ j ⟨q.val - 128 - 128, g2⟩ 12 13 _ (fun hl => Fin.ext (by have hl : q.val - 128 - 128 < 64 := hl; show (512 + q.val) / 64 = 12; omega)) (fun hl => Fin.ext (by have hl : ¬ q.val - 128 - 128 < 64 := hl; show (512 + q.val) / 64 = 13; omega))))
    refine (dif_neg g2).trans ?_
    exact congrArg₂ (· * ·) (congrArg (k0_pay27 V30) (congrArg (ix2 j) (Fin.ext (by show 896 + (q.val - 128 - 128 - 128) = 512 + q.val; omega))))
        (pick _ j ⟨q.val - 128 - 128 - 128, by omega⟩ 14 15 _ (fun hl => Fin.ext (by have hl : q.val - 128 - 128 - 128 < 64 := hl; show (512 + q.val) / 64 = 14; omega)) (fun hl => Fin.ext (by have hl : ¬ q.val - 128 - 128 - 128 < 64 := hl; show (512 + q.val) / 64 = 15; omega)))

end Cert.SsdSIdeal.Hand

end
-- ==== Proof.SsdSBlk.lean ====
/- The sample group's state-space recurrence: what the kernel's payloads compute, at an index. -/
module

public import proofs.«01_k».proof.Defs
public import proofs.«01_k».proof.Proof.SsdSPay
public import proofs.«01_k».proof.Proof.Gen.SsdSIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSIdeal.Hand

open Cert.SsdSIdeal Cert.SsdSIdeal.Gen Cert.Spec

variable (m : (ℓ : Loc nD τ sig) → Buf (Elt Ideal) ℓ)

/-- Where each window's block lies, at every grid point. -/
theorem idx : ∀ t : Fin cfg0.N, win0_0.index t = ![t.val, 0, 0] ∧ win0_2.index t = ![t.val, 0, 0] ∧ win0_3.index t = ![t.val, 0, 0]
    ∧ win0_4.index t = ![t.val, 0, 0] ∧ win0_5.index t = ![0, 0] ∧ win0_6.index t = ![0, 0] ∧ win0_7.index t = ![0, 0]
    ∧ win0_8.index t = ![0, 0] ∧ win0_11.index t = ![0, 0]
    ∧ win0_13.index t = ![t.val, 0, 0] ∧ win0_14.index t = ![t.val, 0, 0] := by
  decide +kernel

variable (c : Dev nD) (t : Fin cfg0.N)

/-- The sequence a grid point works on. -/
def sq (t : Fin cfg0.N) : Fin 32 := ⟨t.val, t.isLt⟩

/-- That sequence's part of the arguments. -/
def S (t : Fin cfg0.N) : Seg :=
  segOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (sq t)

/-- The block of rows: the four rows, and zeros after them. -/
theorem blk0 (i : Fin 128) (q : Fin 1536) :
    (iblk m c 0 t : Vec Ideal S1x128x1536 .f32) (ix3 0 i q) = if h : i.val < 4 then (S m c t).X ⟨i.val, h⟩ q else 0 := by
  have ht : t.val < 32 := t.isLt
  have e : ∀ X : S32x128x1536.Idx → EReal, X (((View.whole main_v17).slice (win0_0.rect t)).emb (ix3 0 i q)) = X (ix3 ⟨t.val, ht⟩ i q) := by
    intro X
    blk_ext [idx t]
  blk_simp [iblk, idx t]
  refine (e _).trans ?_
  clear e
  entry_read
  pointwise
  rfl

/-- The block of the raw step sizes. -/
theorem blk2 (i : Fin 128) (hi : i.val < 4) (h : Fin 16) :
    (iblk m c 2 t : Vec Ideal S1x128x128 .f32) (ix3 0 i ⟨h.val, by omega⟩) = (S m c t).dt ⟨i.val, hi⟩ h := by
  have ht : t.val < 32 := t.isLt
  have e : ∀ X : S32x128x128.Idx → EReal, X (((View.whole main_v19).slice (win0_2.rect t)).emb (ix3 0 i ⟨h.val, by omega⟩)) = X (ix3 ⟨t.val, ht⟩ i ⟨h.val, by omega⟩) := by
    intro X
    blk_ext [idx t]
  blk_simp [iblk, idx t]
  refine (e _).trans ?_
  clear e
  entry_read
  pointwise
  exact dif_pos ⟨hi, by omega⟩

/-- The block of the rows before the four. -/
theorem blk3 (i : Fin 3) (q : Fin 1536) : (iblk m c 3 t : Vec Ideal S1x3x1536 .f32) (ix3 0 i q) = (S m c t).cs i q := by
  show _ = m ((c : Thread nD τ).loc main_arg3) (ix3 (n0 := 32) (n1 := 3) (n2 := 1536) (sq t) i q)
  unfold sq
  blk_simp [iblk, idx t]
  entry_read
  pointwise
  blk_ext [idx t]

/-- The block of the state before the four places. -/
theorem blk4 (q : Fin 1024) (n : Fin 128) : (iblk m c 4 t : Vec Ideal S1x1024x128 .f32) (ix3 0 q n) = (S m c t).s0 q n := by
  show _ = m ((c : Thread nD τ).loc main_arg4) (ix4 (n0 := 32) (n1 := 16) (n2 := 64) (n3 := 128) (sq t) (Seq.hd q) ⟨q.val % 64, Nat.mod_lt _ (by decide)⟩ n)
  unfold sq Seq.hd
  blk_simp [iblk, idx t]
  entry_read
  pointwise
  blk_ext [idx t]

/-- The filter. -/
theorem blk5 (k : Fin 4) (q : Fin 1536) : (iblk m c 5 t : Vec Ideal S4x1536 .f32) (ix2 k q) = (S m c t).w k q := by
  show _ = m ((c : Thread nD τ).loc main_arg5) (ix2 (n0 := 4) (n1 := 1536) k q)
  blk_simp [iblk, idx t]
  entry_read
  pointwise
  blk_ext [idx t]

/-- The filter's bias. -/
theorem blk6 (q : Fin 1536) : (iblk m c 6 t : Vec Ideal S1x1536 .f32) (ix2 0 q) = (S m c t).cb q := by
  show _ = m ((c : Thread nD τ).loc main_arg6) (ix1 (n0 := 1536) q)
  blk_simp [iblk, idx t]
  entry_read
  pointwise
  blk_ext [idx t]

/-- The step sizes' bias. -/
theorem blk7 (h : Fin 16) : (iblk m c 7 t : Vec Ideal S1x128 .f32) (ix2 0 ⟨h.val, by omega⟩) = (S m c t).dtb h := by
  show _ = m ((c : Thread nD τ).loc main_arg7) (ix1 (n0 := 16) h)
  blk_simp [iblk, idx t]
  entry_read
  pointwise
  have e : ∀ X : S1x128.Idx → Nat, X (((View.whole main_v2).slice (win0_7.rect t)).emb (ix2 0 ⟨h.val, by omega⟩)) = X (ix2 0 ⟨h.val, by omega⟩) := by
    intro X
    blk_ext [idx t]
  have e1 : (((View.whole main_v2).slice (win0_7.rect t)).emb (ix2 0 ⟨h.val, by omega⟩) 1).val = h.val := e fun i => (i 1).val
  rw [dif_pos (by omega)]
  exact congrArg (m ((c : Thread nD τ).loc main_arg7)) (congrArg (ix1 (n0 := 16)) (Fin.ext e1))

/-- The heads' log-rates. -/
theorem blk8 (h : Fin 16) : (iblk m c 8 t : Vec Ideal S1x128 .f32) (ix2 0 ⟨h.val, by omega⟩) = (S m c t).al h := by
  show _ = m ((c : Thread nD τ).loc main_arg8) (ix1 (n0 := 16) h)
  blk_simp [iblk, idx t]
  entry_read
  pointwise
  have e : ∀ X : S1x128.Idx → Nat, X (((View.whole main_v4).slice (win0_8.rect t)).emb (ix2 0 ⟨h.val, by omega⟩)) = X (ix2 0 ⟨h.val, by omega⟩) := by
    intro X
    blk_ext [idx t]
  have e1 : (((View.whole main_v4).slice (win0_8.rect t)).emb (ix2 0 ⟨h.val, by omega⟩) 1).val = h.val := e fun i => (i 1).val
  rw [dif_pos (by omega)]
  exact congrArg (m ((c : Thread nD τ).loc main_arg8)) (congrArg (ix1 (n0 := 16)) (Fin.ext e1))

/-- A lane's head, by the machine's division. -/
theorem div_lane (q : Fin 1024) : IntOp.divsi ArithUnit.host (BitVec.ofNat 32 q.val) 64#32 = BitVec.ofNat 32 (q.val / 64) := by
  revert q
  decide +kernel

/-- Two heads compared. -/
theorem eq_lane (k : Fin 128) (h : Fin 16) :
    IntOp.cmpi CmpIPredicate.eq (BitVec.ofNat 32 k.val) (BitVec.ofNat 32 h.val) = if k.val = h.val then 1#1 else 0#1 := by
  revert k h
  decide +kernel

/-- The matrix that spreads the heads over their lanes. -/
theorem blk11 (k : Fin 128) (q : Fin 1024) : (iblk m c 11 t : Vec Ideal S128x1024 .f32) (ix2 k q) = (if k.val = q.val / 64 then 1 else 0 : EReal) := by
  blk_simp [iblk, idx t]
  entry_read
  pointwise
  have e : ∀ X : S128x1024.Idx → Nat, X (((View.whole main_v13).slice (win0_11.rect t)).emb (ix2 k q)) = X (ix2 k q) := by
    intro X
    blk_ext [idx t]
  have e0 : (((View.whole main_v13).slice (win0_11.rect t)).emb (ix2 k q) 0).val = k.val := e fun i => (i 0).val
  have e1 : (((View.whole main_v13).slice (win0_11.rect t)).emb (ix2 k q) 1).val = q.val := e fun i => (i 1).val
  rw [e0, e1, div_lane, eq_lane k ⟨q.val / 64, by omega⟩]
  by_cases h : k.val = q.val / 64
  · rw [if_pos h, if_pos h]
    show ((((1#1 : BitVec 1).toNat : ℝ)) : EReal) = 1
    norm_num
  · rw [if_neg h, if_neg h]
    show ((((0#1 : BitVec 1).toNat : ℝ)) : EReal) = 0
    norm_num

end Cert.SsdSIdeal.Hand

end
-- ==== Proof.SsdSRun.lean ====
/- The sample group's state-space recurrence: what the kernel's payloads compute, at an index. -/
module

public import proofs.«01_k».proof.Defs
public import proofs.«01_k».proof.Proof.SsdSBlk
public import proofs.«01_k».proof.Proof.Gen.SsdSIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSIdeal.Hand

open Cert.SsdSIdeal Cert.SsdSIdeal.Gen Cert.Spec

variable (m : (ℓ : Loc nD τ sig) → Buf (Elt Ideal) ℓ) (c : Dev nD) (t : Fin cfg0.N)

/-- The step sizes the kernel holds. -/
abbrev V65 : FVec Ideal S128x128 .f32 := k0_pay28 (iblk m c 2 t) (iblk m c 7 t)

/-- The heads' rates the kernel holds. -/
abbrev V68 : FVec Ideal S1x128 .f32 := k0_pay29 (iblk m c 8 t)

/-- The step sizes are the segment's, and none after its four places. -/
theorem V65_at (j : Fin 128) (h : Fin 16) : V65 m c t (ix2 j ⟨h.val, by omega⟩) = (S m c t).D h j := by
  refine (pay28_at _ _ j _).trans ?_
  unfold Seg.D
  by_cases hj : j.val < 4
  · rw [if_pos hj, dif_pos hj, select_one, blk2 m c t j hj h, blk7]
    rfl
  · rw [if_neg hj, dif_neg hj, select_zero]

/-- The log-decays are the segment's. -/
theorem lg_at (j : Fin 128) (h : Fin 16) : lg (V65 m c t) (V68 m c t) ⟨h.val, by omega⟩ j = (S m c t).L h j := by
  unfold lg Seg.L
  rw [V65_at]
  refine congrArg (fun x => (S m c t).D h j * (0 - x)) ((pay29_at _ _).trans ?_)
  rw [blk8]

/-- Their running sums are the segment's. -/
theorem A_at (i : Fin 128) (h : Fin 16) : k0_pay31 (V65 m c t) (V68 m c t) (ix2 i ⟨h.val, by omega⟩) = runSum ((S m c t).L h) i :=
  (pay31_at _ _ i _).trans (congrArg (fun f => runSum f i) (funext fun j => lg_at m c t j h))

/-- The state after the four places is the segment's. -/
theorem colState_at (V30 : FVec Ideal S128x1536 .f32) (hV : ∀ i q, V30 (ix2 i q) = (S m c t).conv i.val q)
    (T : FVec Ideal S128x1024 .f32) (hT : ∀ n q, T (ix2 n q) = (S m c t).s0 q n) (n : Fin 128) (q : Fin 1024) :
    colState (k0_pay31 (V65 m c t) (V68 m c t)) (V65 m c t) (k0_pay24 V30) T n q = (S m c t).state q n := by
  have hx : ∀ (i : Fin 128) q, k0_pay24 V30 (ix2 i q) = (S m c t).xc i.val q := fun i q => (pay24_at _ i q).trans (congrArg silu (hV i q))
  unfold colState
  refine Eq.trans ?_ ((S m c t).chunk_state q n)
  exact chunkState_congr (fun j => A_at m c t j (Seq.hd q)) (fun j => V65_at m c t j (Seq.hd q))
    (fun j n => hx j _) (fun j => hx j _) (fun n => hT n q) n

/-- The convolution from the rows it is made of. -/
theorem conv_of (b w0 w1 w2 w3 : Vec Ideal S1x1536 .f32) (x0 x1 x2 x3 : Vec Ideal S128x1536 .f32) (P : Seg) (s : Nat) (i : Fin 128)
    (q : Fin 1536) (hb : b (ix2 0 q) = P.cb q) (h0 : x0 (ix2 i q) = P.tap s q) (h1 : x1 (ix2 i q) = P.tap (s + 1) q)
    (h2 : x2 (ix2 i q) = P.tap (s + 2) q) (h3 : x3 (ix2 i q) = P.tap (s + 3) q) (e0 : w0 (ix2 0 q) = P.w 0 q)
    (e1 : w1 (ix2 0 q) = P.w 1 q) (e2 : w2 (ix2 0 q) = P.w 2 q) (e3 : w3 (ix2 0 q) = P.w 3 q) :
    k0_pay23 b x0 w0 x1 w1 x2 w2 x3 w3 (ix2 i q) = P.conv s q := by
  rw [pay23_at, hb, h0, h1, h2, h3, e0, e1, e2, e3]
  rfl

/-- A row of the filter, loaded. -/
theorem wrow (o : Nat) (ho : o < 4) (inb) (q : Fin 1536) :
    View.ld (iblk m c 5 t : Vec Ideal S4x1536 .f32) (box (N := 4) (K := 1536) (n := 1) (k := 1536) (o := o) (p := 0) inb) (ix2 0 q) = (S m c t).w ⟨o, ho⟩ q :=
  (ld_box inb _ ⟨o, ho⟩ q 0 q (by show o = o + 0; omega) (by omega)).trans (blk5 m c t ⟨o, ho⟩ q)

/-- The stored rows: the three before, and the four with zeros after them. -/
theorem padA (r : Fin 136) (q : Fin 1536) (k : Nat) (hk : r.val = 5 + k) (i1 i2) (L) :
    View.canon ((⟨box (N := 136) (K := 1536) (n := 128) (k := 1536) (o := 8) (p := 0) i1, k0_pay22 (iblk m c 0 t)⟩ : View.Piece (Elt Ideal) S136x1536 .f32) ::
      ⟨box (N := 136) (K := 1536) (n := 3) (k := 1536) (o := 5) (p := 0) i2, k0_pay6 (iblk m c 3 t)⟩ :: L) (ix2 r q) = (S m c t).tap k q := by
  unfold Seg.tap
  by_cases h : k < 3
  · refine (canon_out i1 _ _ r q (.inl (by omega))).trans ?_
    refine (canon_in i2 _ _ r q ⟨k, h⟩ q hk (by omega)).trans ?_
    rw [dif_pos h, pay6_at, blk3]
  · refine (canon_in i1 _ _ r q ⟨k - 3, by omega⟩ q (by show r.val = 8 + (k - 3); omega) (by omega)).trans ?_
    rw [dif_neg h, pay22_at, blk0]

/-- A slab of the state before, turned. -/
theorem in0 (V : Vec Ideal S1x128x128 .f32) (n l : Fin 128) : k0_pay7 V (ix2 n l) = V (ix3 0 l n) := by
  pointwise [k0_pay7]

/-- A slab of the state before, turned. -/
theorem in128 (V : Vec Ideal S1x128x128 .f32) (n l : Fin 128) : k0_pay8 V (ix2 n l) = V (ix3 0 l n) := by
  pointwise [k0_pay8]

/-- A slab of the state before, turned. -/
theorem in256 (V : Vec Ideal S1x128x128 .f32) (n l : Fin 128) : k0_pay9 V (ix2 n l) = V (ix3 0 l n) := by
  pointwise [k0_pay9]

/-- A slab of the state before, turned. -/
theorem in384 (V : Vec Ideal S1x128x128 .f32) (n l : Fin 128) : k0_pay17 (k0_pay10 V) (ix2 n l) = V (ix3 0 l n) := by
  pointwise [k0_pay17, k0_pay10]

/-- A slab of the state before, turned. -/
theorem in512 (V : Vec Ideal S1x128x128 .f32) (n l : Fin 128) : k0_pay18 V (ix2 n l) = V (ix3 0 l n) := by
  pointwise [k0_pay18]

/-- A slab of the state before, turned. -/
theorem in640 (V : Vec Ideal S1x128x128 .f32) (n l : Fin 128) : k0_pay19 V (ix2 n l) = V (ix3 0 l n) := by
  pointwise [k0_pay19]

/-- A slab of the state before, turned. -/
theorem in768 (V : Vec Ideal S1x128x128 .f32) (n l : Fin 128) : k0_pay20 V (ix2 n l) = V (ix3 0 l n) := by
  pointwise [k0_pay20]

/-- A slab of the state before, turned. -/
theorem in896 (V : Vec Ideal S1x128x128 .f32) (n l : Fin 128) : k0_pay21 V (ix2 n l) = V (ix3 0 l n) := by
  pointwise [k0_pay21]

/-- A slab of the state before, loaded. -/
theorem ld_slab {o : Nat} (inb) (X : Vec Ideal S1x1024x128 .f32) (q : Fin 1024) (l n : Fin 128) (hq : q.val = o + l.val) :
    View.ld X (Rect.unit (s := S1x1024x128) ![0, o, 0] ![1, 128, 128] inb) (ix3 0 l n) = X (ix3 0 q n) := by
  refine congrArg X ?_
  funext a
  refine Fin.ext ?_
  fin_cases a
  · rfl
  · show o + 1 * l.val = q.val
    omega
  · show 0 + 1 * n.val = n.val
    omega

/-- The slabs of the state before, laid side by side. -/
theorem slabsIn (R0 R128 R256 R384 R512 R640 R768 R896 : Vec Ideal S128x128 .f32) (G : Fin 128 → Fin 1024 → EReal)
    (h0 : ∀ n l : Fin 128, R0 (ix2 n l) = G n ⟨0 + l.val, by omega⟩)
    (h128 : ∀ n l : Fin 128, R128 (ix2 n l) = G n ⟨128 + l.val, by omega⟩)
    (h256 : ∀ n l : Fin 128, R256 (ix2 n l) = G n ⟨256 + l.val, by omega⟩)
    (h384 : ∀ n l : Fin 128, R384 (ix2 n l) = G n ⟨384 + l.val, by omega⟩)
    (h512 : ∀ n l : Fin 128, R512 (ix2 n l) = G n ⟨512 + l.val, by omega⟩)
    (h640 : ∀ n l : Fin 128, R640 (ix2 n l) = G n ⟨640 + l.val, by omega⟩)
    (h768 : ∀ n l : Fin 128, R768 (ix2 n l) = G n ⟨768 + l.val, by omega⟩)
    (h896 : ∀ n l : Fin 128, R896 (ix2 n l) = G n ⟨896 + l.val, by omega⟩)
    (b0 b128 b256 b384 b512 b640 b768 b896) (n : Fin 128) (q : Fin 1024) :
    View.canon [(⟨box (N := 128) (K := 1024) (n := 128) (k := 128) (o := 0) (p := 896) b896, R896⟩ : View.Piece (Elt Ideal) S128x1024 .f32),
      (⟨box (N := 128) (K := 1024) (n := 128) (k := 128) (o := 0) (p := 768) b768, R768⟩ : View.Piece (Elt Ideal) S128x1024 .f32),
      (⟨box (N := 128) (K := 1024) (n := 128) (k := 128) (o := 0) (p := 640) b640, R640⟩ : View.Piece (Elt Ideal) S128x1024 .f32),
      (⟨box (N := 128) (K := 1024) (n := 128) (k := 128) (o := 0) (p := 512) b512, R512⟩ : View.Piece (Elt Ideal) S128x1024 .f32),
      (⟨box (N := 128) (K := 1024) (n := 128) (k := 128) (o := 0) (p := 384) b384, R384⟩ : View.Piece (Elt Ideal) S128x1024 .f32),
      (⟨box (N := 128) (K := 1024) (n := 128) (k := 128) (o := 0) (p := 256) b256, R256⟩ : View.Piece (Elt Ideal) S128x1024 .f32),
      (⟨box (N := 128) (K := 1024) (n := 128) (k := 128) (o := 0) (p := 128) b128, R128⟩ : View.Piece (Elt Ideal) S128x1024 .f32),
      (⟨box (N := 128) (K := 1024) (n := 128) (k := 128) (o := 0) (p := 0) b0, R0⟩ : View.Piece (Elt Ideal) S128x1024 .f32)] (ix2 n q) = G n q := by
  by_cases g896 : 896 ≤ q.val
  · exact (canon_in b896 _ _ n q n ⟨q.val - 896, by omega⟩ (by omega) (by show q.val = 896 + (q.val - 896); omega)).trans ((h896 n _).trans (congrArg (G n) (Fin.ext (by show 896 + (q.val - 896) = q.val; omega))))
  refine (canon_out b896 _ _ n q (.inr (.inr (.inl (by omega))))).trans ?_
  by_cases g768 : 768 ≤ q.val
  · exact (canon_in b768 _ _ n q n ⟨q.val - 768, by omega⟩ (by omega) (by show q.val = 768 + (q.val - 768); omega)).trans ((h768 n _).trans (congrArg (G n) (Fin.ext (by show 768 + (q.val - 768) = q.val; omega))))
  refine (canon_out b768 _ _ n q (.inr (.inr (.inl (by omega))))).trans ?_
  by_cases g640 : 640 ≤ q.val
  · exact (canon_in b640 _ _ n q n ⟨q.val - 640, by omega⟩ (by omega) (by show q.val = 640 + (q.val - 640); omega)).trans ((h640 n _).trans (congrArg (G n) (Fin.ext (by show 640 + (q.val - 640) = q.val; omega))))
  refine (canon_out b640 _ _ n q (.inr (.inr (.inl (by omega))))).trans ?_
  by_cases g512 : 512 ≤ q.val
  · exact (canon_in b512 _ _ n q n ⟨q.val - 512, by omega⟩ (by omega) (by show q.val = 512 + (q.val - 512); omega)).trans ((h512 n _).trans (congrArg (G n) (Fin.ext (by show 512 + (q.val - 512) = q.val; omega))))
  refine (canon_out b512 _ _ n q (.inr (.inr (.inl (by omega))))).trans ?_
  by_cases g384 : 384 ≤ q.val
  · exact (canon_in b384 _ _ n q n ⟨q.val - 384, by omega⟩ (by omega) (by show q.val = 384 + (q.val - 384); omega)).trans ((h384 n _).trans (congrArg (G n) (Fin.ext (by show 384 + (q.val - 384) = q.val; omega))))
  refine (canon_out b384 _ _ n q (.inr (.inr (.inl (by omega))))).trans ?_
  by_cases g256 : 256 ≤ q.val
  · exact (canon_in b256 _ _ n q n ⟨q.val - 256, by omega⟩ (by omega) (by show q.val = 256 + (q.val - 256); omega)).trans ((h256 n _).trans (congrArg (G n) (Fin.ext (by show 256 + (q.val - 256) = q.val; omega))))
  refine (canon_out b256 _ _ n q (.inr (.inr (.inl (by omega))))).trans ?_
  by_cases g128 : 128 ≤ q.val
  · exact (canon_in b128 _ _ n q n ⟨q.val - 128, by omega⟩ (by omega) (by show q.val = 128 + (q.val - 128); omega)).trans ((h128 n _).trans (congrArg (G n) (Fin.ext (by show 128 + (q.val - 128) = q.val; omega))))
  refine (canon_out b128 _ _ n q (.inr (.inr (.inl (by omega))))).trans ?_
  exact (canon_in b0 _ _ n q n ⟨q.val - 0, by omega⟩ (by omega) (by show q.val = 0 + (q.val - 0); omega)).trans ((h0 n _).trans (congrArg (G n) (Fin.ext (by show 0 + (q.val - 0) = q.val; omega))))

/-- The two halves of the state, stored one after the other. -/
theorem halves (P0 P1 : Vec Ideal S128x512 .f32) (L : List (View.Piece (Elt Ideal) S128x1024 .f32)) (G : Fin 128 → Fin 1024 → EReal) (i0 i1)
    (h0 : ∀ n (q : Fin 512), P0 (ix2 n q) = G n ⟨0 + q.val, by omega⟩) (h1 : ∀ n (q : Fin 512), P1 (ix2 n q) = G n ⟨512 + q.val, by omega⟩)
    (n : Fin 128) (q : Fin 1024) :
    View.canon ((⟨box (N := 128) (K := 1024) (n := 128) (k := 512) (o := 0) (p := 512) i1, P1⟩ : View.Piece (Elt Ideal) S128x1024 .f32)
      :: ⟨box (N := 128) (K := 1024) (n := 128) (k := 512) (o := 0) (p := 0) i0, P0⟩ :: L) (ix2 n q) = G n q := by
  by_cases h : q.val < 512
  · refine (canon_out i1 _ _ n q (.inr (.inr (.inl h)))).trans ?_
    refine (canon_in i0 _ _ n q n ⟨q.val, h⟩ (by omega) (by show q.val = 0 + q.val; omega)).trans ((h0 _ _).trans ?_)
    exact congrArg (G n) (Fin.ext (by show 0 + q.val = q.val; omega))
  · refine (canon_in i1 _ _ n q n ⟨q.val - 512, by omega⟩ (by omega) (by show q.val = 512 + (q.val - 512); omega)).trans ((h1 _ _).trans ?_)
    exact congrArg (G n) (Fin.ext (by show 512 + (q.val - 512) = q.val; omega))

/-- An index of a slab of the state's block. -/
theorem slab_in {o : Nat} (inb) (w : S1x128x128.Idx → Elt Ideal .f32) (L : List (View.Piece (Elt Ideal) S1x1024x128 .f32)) (q : Fin 1024) (n : Fin 128) (x : Fin 128)
    (hx : q.val = o + x.val) :
    View.canon ((⟨Rect.unit (s := S1x1024x128) ![0, o, 0] ![1, 128, 128] inb, w⟩ : View.Piece (Elt Ideal) S1x1024x128 .f32) :: L) (ix3 0 q n) = w (ix3 0 x n) := by
  have e : (Rect.unit (s := S1x1024x128) ![0, o, 0] ![1, 128, 128] inb).emb (ix3 0 x n) = ix3 0 q n := by
    funext a
    refine Fin.ext ?_
    fin_cases a
    · rfl
    · show o + 1 * x.val = q.val
      omega
    · show 0 + 1 * n.val = n.val
      omega
  rw [← e]
  exact View.canon_cons_emb _ _ _ _

/-- An index outside a slab of the state's block. -/
theorem slab_out {o : Nat} (inb) (w : S1x128x128.Idx → Elt Ideal .f32) (L : List (View.Piece (Elt Ideal) S1x1024x128 .f32)) (q : Fin 1024) (n : Fin 128)
    (h : q.val < o ∨ o + 128 ≤ q.val) :
    View.canon ((⟨Rect.unit (s := S1x1024x128) ![0, o, 0] ![1, 128, 128] inb, w⟩ : View.Piece (Elt Ideal) S1x1024x128 .f32) :: L) (ix3 0 q n) = View.canon L (ix3 0 q n) := by
  refine View.canon_cons_of_not_mem _ _ ?_
  rw [Rect.mem_set_unit]
  intro hall
  have e0 : o ≤ q.val ∧ q.val < o + 128 := hall 1
  omega

/-- A slab of the state, turned. -/
theorem turn0 (v : Vec Ideal S128x128 .f32) (x n : Fin 128) : k0_pay11 v (ix3 0 x n) = v (ix2 n x) := by
  pointwise [k0_pay11]

/-- A slab of the state, turned. -/
theorem turn128 (v : Vec Ideal S128x128 .f32) (x n : Fin 128) : k0_pay12 v (ix3 0 x n) = v (ix2 n x) := by
  pointwise [k0_pay12]

/-- A slab of the state, turned. -/
theorem turn256 (v : Vec Ideal S128x128 .f32) (x n : Fin 128) : k0_pay13 v (ix3 0 x n) = v (ix2 n x) := by
  pointwise [k0_pay13]

/-- A slab of the state, turned. -/
theorem turn384 (v : Vec Ideal S128x128 .f32) (x n : Fin 128) : k0_pay14 v (ix3 0 x n) = v (ix2 n x) := by
  pointwise [k0_pay14]

/-- A slab of the state, turned. -/
theorem turn512 (v : Vec Ideal S128x128 .f32) (x n : Fin 128) : k0_pay15 v (ix3 0 x n) = v (ix2 n x) := by
  pointwise [k0_pay15]

/-- A slab of the state, turned. -/
theorem turn640 (v : Vec Ideal S128x128 .f32) (x n : Fin 128) : k0_pay2 (k0_pay16 v) (ix3 0 x n) = v (ix2 n x) := by
  pointwise [k0_pay2, k0_pay16]

/-- A slab of the state, turned. -/
theorem turn768 (v : Vec Ideal S128x128 .f32) (x n : Fin 128) : k0_pay3 v (ix3 0 x n) = v (ix2 n x) := by
  pointwise [k0_pay3]

/-- A slab of the state, turned. -/
theorem turn896 (v : Vec Ideal S128x128 .f32) (x n : Fin 128) : k0_pay4 v (ix3 0 x n) = v (ix2 n x) := by
  pointwise [k0_pay4]

/-- The state's slabs, side by side. -/
theorem slabs (R0 R128 R256 R384 R512 R640 R768 R896 : Vec Ideal S128x128 .f32) (G : Fin 1024 → Fin 128 → EReal)
    (h0 : ∀ n l : Fin 128, R0 (ix2 n l) = G ⟨0 + l.val, by omega⟩ n)
    (h128 : ∀ n l : Fin 128, R128 (ix2 n l) = G ⟨128 + l.val, by omega⟩ n)
    (h256 : ∀ n l : Fin 128, R256 (ix2 n l) = G ⟨256 + l.val, by omega⟩ n)
    (h384 : ∀ n l : Fin 128, R384 (ix2 n l) = G ⟨384 + l.val, by omega⟩ n)
    (h512 : ∀ n l : Fin 128, R512 (ix2 n l) = G ⟨512 + l.val, by omega⟩ n)
    (h640 : ∀ n l : Fin 128, R640 (ix2 n l) = G ⟨640 + l.val, by omega⟩ n)
    (h768 : ∀ n l : Fin 128, R768 (ix2 n l) = G ⟨768 + l.val, by omega⟩ n)
    (h896 : ∀ n l : Fin 128, R896 (ix2 n l) = G ⟨896 + l.val, by omega⟩ n)
    (b0 b128 b256 b384 b512 b640 b768 b896) (q : Fin 1024) (n : Fin 128) :
    View.canon [(⟨(Rect.unit (s := S1x1024x128) ![0, 896, 0] ![1, 128, 128] b896), k0_pay4 R896⟩ : View.Piece (Elt Ideal) S1x1024x128 .f32),
      (⟨(Rect.unit (s := S1x1024x128) ![0, 768, 0] ![1, 128, 128] b768), k0_pay3 R768⟩ : View.Piece (Elt Ideal) S1x1024x128 .f32),
      (⟨(Rect.unit (s := S1x1024x128) ![0, 640, 0] ![1, 128, 128] b640), k0_pay2 (k0_pay16 R640)⟩ : View.Piece (Elt Ideal) S1x1024x128 .f32),
      (⟨(Rect.unit (s := S1x1024x128) ![0, 512, 0] ![1, 128, 128] b512), k0_pay15 R512⟩ : View.Piece (Elt Ideal) S1x1024x128 .f32),
      (⟨(Rect.unit (s := S1x1024x128) ![0, 384, 0] ![1, 128, 128] b384), k0_pay14 R384⟩ : View.Piece (Elt Ideal) S1x1024x128 .f32),
      (⟨(Rect.unit (s := S1x1024x128) ![0, 256, 0] ![1, 128, 128] b256), k0_pay13 R256⟩ : View.Piece (Elt Ideal) S1x1024x128 .f32),
      (⟨(Rect.unit (s := S1x1024x128) ![0, 128, 0] ![1, 128, 128] b128), k0_pay12 R128⟩ : View.Piece (Elt Ideal) S1x1024x128 .f32),
      (⟨(Rect.unit (s := S1x1024x128) ![0, 0, 0] ![1, 128, 128] b0), k0_pay11 R0⟩ : View.Piece (Elt Ideal) S1x1024x128 .f32)] (ix3 0 q n) = G q n := by
  by_cases g896 : 896 ≤ q.val
  · exact ((slab_in b896 _ _ q n ⟨q.val - 896, by omega⟩ (by show q.val = 896 + (q.val - 896); omega)).trans ((turn896 _ _ n).trans ((h896 n _).trans (congrArg (fun k => G k n) (Fin.ext (by show 896 + (q.val - 896) = q.val; omega))))))
  refine (slab_out b896 _ _ q n (.inl (by omega))).trans ?_
  by_cases g768 : 768 ≤ q.val
  · exact ((slab_in b768 _ _ q n ⟨q.val - 768, by omega⟩ (by show q.val = 768 + (q.val - 768); omega)).trans ((turn768 _ _ n).trans ((h768 n _).trans (congrArg (fun k => G k n) (Fin.ext (by show 768 + (q.val - 768) = q.val; omega))))))
  refine (slab_out b768 _ _ q n (.inl (by omega))).trans ?_
  by_cases g640 : 640 ≤ q.val
  · exact ((slab_in b640 _ _ q n ⟨q.val - 640, by omega⟩ (by show q.val = 640 + (q.val - 640); omega)).trans ((turn640 _ _ n).trans ((h640 n _).trans (congrArg (fun k => G k n) (Fin.ext (by show 640 + (q.val - 640) = q.val; omega))))))
  refine (slab_out b640 _ _ q n (.inl (by omega))).trans ?_
  by_cases g512 : 512 ≤ q.val
  · exact ((slab_in b512 _ _ q n ⟨q.val - 512, by omega⟩ (by show q.val = 512 + (q.val - 512); omega)).trans ((turn512 _ _ n).trans ((h512 n _).trans (congrArg (fun k => G k n) (Fin.ext (by show 512 + (q.val - 512) = q.val; omega))))))
  refine (slab_out b512 _ _ q n (.inl (by omega))).trans ?_
  by_cases g384 : 384 ≤ q.val
  · exact ((slab_in b384 _ _ q n ⟨q.val - 384, by omega⟩ (by show q.val = 384 + (q.val - 384); omega)).trans ((turn384 _ _ n).trans ((h384 n _).trans (congrArg (fun k => G k n) (Fin.ext (by show 384 + (q.val - 384) = q.val; omega))))))
  refine (slab_out b384 _ _ q n (.inl (by omega))).trans ?_
  by_cases g256 : 256 ≤ q.val
  · exact ((slab_in b256 _ _ q n ⟨q.val - 256, by omega⟩ (by show q.val = 256 + (q.val - 256); omega)).trans ((turn256 _ _ n).trans ((h256 n _).trans (congrArg (fun k => G k n) (Fin.ext (by show 256 + (q.val - 256) = q.val; omega))))))
  refine (slab_out b256 _ _ q n (.inl (by omega))).trans ?_
  by_cases g128 : 128 ≤ q.val
  · exact ((slab_in b128 _ _ q n ⟨q.val - 128, by omega⟩ (by show q.val = 128 + (q.val - 128); omega)).trans ((turn128 _ _ n).trans ((h128 n _).trans (congrArg (fun k => G k n) (Fin.ext (by show 128 + (q.val - 128) = q.val; omega))))))
  refine (slab_out b128 _ _ q n (.inl (by omega))).trans ?_
  exact ((slab_in b0 _ _ q n ⟨q.val - 0, by omega⟩ (by show q.val = 0 + (q.val - 0); omega)).trans ((turn0 _ _ n).trans ((h0 n _).trans (congrArg (fun k => G k n) (Fin.ext (by show 0 + (q.val - 0) = q.val; omega))))))

end Cert.SsdSIdeal.Hand

end
-- ==== Proof.SsdSOut.lean ====
/- The sample group's state-space recurrence: what the kernel's payloads compute, at an index. -/
module

public import proofs.«01_k».proof.Defs
public import proofs.«01_k».proof.Proof.SsdSRun
public import proofs.«01_k».proof.Proof.Gen.SsdSIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSIdeal.Hand

open Cert.SsdSIdeal Cert.SsdSIdeal.Gen Cert.Spec

variable (m : (ℓ : Loc nD τ sig) → Buf (Elt Ideal) ℓ) (c : Dev nD) (t : Fin cfg0.N)

/-- The convolution. -/
theorem convA (i8 i5 i0 j0 j1 j2 j3 w0 w1 w2 w3) (i : Fin 128) (q : Fin 1536) :
    k0_pay23 (iblk m c 6 t) ((View.whole cc0_scratch0).readCov [(⟨(box (N := 136) (K := 1536) (n := 128) (k := 1536) (o := 8) (p := 0) i8), k0_pay22 (iblk m c 0 t)⟩ : View.Piece (Elt Ideal) S136x1536 .f32), ⟨(box (N := 136) (K := 1536) (n := 3) (k := 1536) (o := 5) (p := 0) i5), k0_pay6 (iblk m c 3 t)⟩, ⟨(box (N := 136) (K := 1536) (n := 8) (k := 1536) (o := 0) (p := 0) i0), k0_pay5 (F := Ideal)⟩] (box (N := 136) (K := 1536) (n := 128) (k := 1536) (o := 5) (p := 0) j0).toLoadRect) (View.ld (iblk m c 5 t : Vec Ideal S4x1536 .f32) (box (N := 4) (K := 1536) (n := 1) (k := 1536) (o := 0) (p := 0) w0)) ((View.whole cc0_scratch0).readCov [(⟨(box (N := 136) (K := 1536) (n := 128) (k := 1536) (o := 8) (p := 0) i8), k0_pay22 (iblk m c 0 t)⟩ : View.Piece (Elt Ideal) S136x1536 .f32), ⟨(box (N := 136) (K := 1536) (n := 3) (k := 1536) (o := 5) (p := 0) i5), k0_pay6 (iblk m c 3 t)⟩, ⟨(box (N := 136) (K := 1536) (n := 8) (k := 1536) (o := 0) (p := 0) i0), k0_pay5 (F := Ideal)⟩] (box (N := 136) (K := 1536) (n := 128) (k := 1536) (o := 6) (p := 0) j1).toLoadRect) (View.ld (iblk m c 5 t : Vec Ideal S4x1536 .f32) (box (N := 4) (K := 1536) (n := 1) (k := 1536) (o := 1) (p := 0) w1)) ((View.whole cc0_scratch0).readCov [(⟨(box (N := 136) (K := 1536) (n := 128) (k := 1536) (o := 8) (p := 0) i8), k0_pay22 (iblk m c 0 t)⟩ : View.Piece (Elt Ideal) S136x1536 .f32), ⟨(box (N := 136) (K := 1536) (n := 3) (k := 1536) (o := 5) (p := 0) i5), k0_pay6 (iblk m c 3 t)⟩, ⟨(box (N := 136) (K := 1536) (n := 8) (k := 1536) (o := 0) (p := 0) i0), k0_pay5 (F := Ideal)⟩] (box (N := 136) (K := 1536) (n := 128) (k := 1536) (o := 7) (p := 0) j2).toLoadRect) (View.ld (iblk m c 5 t : Vec Ideal S4x1536 .f32) (box (N := 4) (K := 1536) (n := 1) (k := 1536) (o := 2) (p := 0) w2)) ((View.whole cc0_scratch0).readCov [(⟨(box (N := 136) (K := 1536) (n := 128) (k := 1536) (o := 8) (p := 0) i8), k0_pay22 (iblk m c 0 t)⟩ : View.Piece (Elt Ideal) S136x1536 .f32), ⟨(box (N := 136) (K := 1536) (n := 3) (k := 1536) (o := 5) (p := 0) i5), k0_pay6 (iblk m c 3 t)⟩, ⟨(box (N := 136) (K := 1536) (n := 8) (k := 1536) (o := 0) (p := 0) i0), k0_pay5 (F := Ideal)⟩] (box (N := 136) (K := 1536) (n := 128) (k := 1536) (o := 8) (p := 0) j3).toLoadRect) (View.ld (iblk m c 5 t : Vec Ideal S4x1536 .f32) (box (N := 4) (K := 1536) (n := 1) (k := 1536) (o := 3) (p := 0) w3)) (ix2 i q)
      = (S m c t).conv i.val q := by
  refine conv_of _ _ _ _ _ _ _ _ _ (S m c t) i.val i q (blk6 m c t q) ?_ ?_ ?_ ?_ (wrow m c t 0 (by omega) w0 q) (wrow m c t 1 (by omega) w1 q)
    (wrow m c t 2 (by omega) w2 q) (wrow m c t 3 (by omega) w3 q)
  · exact (cov_box j0 _ (View.whole cc0_scratch0) ⟨5 + i.val, by omega⟩ q i q rfl (by omega)).trans (padA m c t ⟨5 + i.val, by omega⟩ q i.val (by show 5 + i.val = 5 + i.val; omega) i8 i5 _)
  · exact (cov_box j1 _ (View.whole cc0_scratch0) ⟨6 + i.val, by omega⟩ q i q rfl (by omega)).trans (padA m c t ⟨6 + i.val, by omega⟩ q (i.val + 1) (by show 6 + i.val = 5 + (i.val + 1); omega) i8 i5 _)
  · exact (cov_box j2 _ (View.whole cc0_scratch0) ⟨7 + i.val, by omega⟩ q i q rfl (by omega)).trans (padA m c t ⟨7 + i.val, by omega⟩ q (i.val + 2) (by show 7 + i.val = 5 + (i.val + 2); omega) i8 i5 _)
  · exact (cov_box j3 _ (View.whole cc0_scratch0) ⟨8 + i.val, by omega⟩ q i q rfl (by omega)).trans (padA m c t ⟨8 + i.val, by omega⟩ q (i.val + 3) (by show 8 + i.val = 5 + (i.val + 3); omega) i8 i5 _)

/-- The state before, as the kernel lays it out. -/
def T0 : FVec Ideal S128x1024 .f32 := fun y => (S m c t).s0 (y 1) (y 0)

/-- The last rows a point hands out. -/
theorem tail_out (i : Fin 3) (q : Fin 1536) :
    (outsAt0 m c t).2.1 (ix3 0 i q) = (S m c t).X ⟨1 + i.val, by omega⟩ q := by
  simp only [outsAt0]
  frame_out
  refine (pay25_at _ i q).trans ?_
  refine (cov_box _ _ _ ⟨9 + i.val, by omega⟩ q i q rfl (by omega)).trans ?_
  refine (padA m c t ⟨9 + i.val, by omega⟩ q (4 + i.val) (by show 9 + i.val = 5 + (4 + i.val); omega) _ _ _).trans ?_
  unfold Seg.tap
  rw [dif_neg (by omega), dif_pos (show 4 + i.val - 3 < 4 by omega)]
  exact congrArg ((S m c t).X · q) (Fin.ext (by show 4 + i.val - 3 = 1 + i.val; omega))

/-- The state before, read back from its slabs. -/
theorem T0_at (n : Fin 128) (q : Fin 1024) : T0 m c t (ix2 n q) = (S m c t).s0 q n := rfl

/-- The state a point hands out. -/
theorem state_out (q : Fin 1024) (n : Fin 128) : (outsAt0 m c t).2.2 (ix3 0 q n) = (S m c t).state q n := by
  simp only [outsAt0]
  frame_out
  refine slabs _ _ _ _ _ _ _ _ (fun q n => (S m c t).state q n) ?_ ?_ ?_ ?_ ?_ ?_ ?_ ?_ _ _ _ _ _ _ _ _ q n
  · intro n l
    refine (cov_box _ _ _ n ⟨0 + l.val, by omega⟩ n l (by omega) rfl).trans ?_
    generalize (⟨0 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨128 + l.val, by omega⟩ n l (by omega) rfl).trans ?_
    generalize (⟨128 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨256 + l.val, by omega⟩ n l (by omega) rfl).trans ?_
    generalize (⟨256 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨384 + l.val, by omega⟩ n l (by omega) rfl).trans ?_
    generalize (⟨384 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨512 + l.val, by omega⟩ n l (by omega) rfl).trans ?_
    generalize (⟨512 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨640 + l.val, by omega⟩ n l (by omega) rfl).trans ?_
    generalize (⟨640 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨768 + l.val, by omega⟩ n l (by omega) rfl).trans ?_
    generalize (⟨768 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
  · intro n l
    refine (cov_box _ _ _ n ⟨896 + l.val, by omega⟩ n l (by omega) rfl).trans ?_
    generalize (⟨896 + l.val, by omega⟩ : Fin 1024) = q
    refine halves _ _ _ (fun n q => (S m c t).state q n) _ _ ?_ ?_ n q
    · intro n q
      refine (statehalf0 _ _ _ (T0 m c t) _ (blk11 m c t) _ ?_ n q).trans (colState_at m c t _ ?_ _ (T0_at m c t) n _)
      · intro n q
        refine (cov_box _ _ _ n ⟨0 + q.val, by omega⟩ n q (by omega) rfl).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _
    · intro n q
      refine (statehalf1 _ _ _ (T0 m c t) _ (blk11 m c t) _ ?_ n q).trans (colState_at m c t _ ?_ _ (T0_at m c t) n _)
      · intro n q
        refine (cov_box _ _ _ n ⟨512 + q.val, by omega⟩ n q (by omega) rfl).trans ?_
        refine (canon_out _ _ _ n _ (.inr (.inr (.inr (by show 0 + 512 ≤ 512 + q.val; omega))))).trans ?_
        · refine slabsIn _ _ _ _ _ _ _ _ (fun n q => (S m c t).s0 q n) ?_ ?_ ?_ ?_ ?_ ?_ ?_ ?_ _ _ _ _ _ _ _ _ n _
          · exact fun n l => (in0 _ n l).trans ((ld_slab _ _ ⟨0 + l.val, by omega⟩ l n rfl).trans (blk4 m c t _ n))
          · exact fun n l => (in128 _ n l).trans ((ld_slab _ _ ⟨128 + l.val, by omega⟩ l n rfl).trans (blk4 m c t _ n))
          · exact fun n l => (in256 _ n l).trans ((ld_slab _ _ ⟨256 + l.val, by omega⟩ l n rfl).trans (blk4 m c t _ n))
          · exact fun n l => (in384 _ n l).trans ((ld_slab _ _ ⟨384 + l.val, by omega⟩ l n rfl).trans (blk4 m c t _ n))
          · exact fun n l => (in512 _ n l).trans ((ld_slab _ _ ⟨512 + l.val, by omega⟩ l n rfl).trans (blk4 m c t _ n))
          · exact fun n l => (in640 _ n l).trans ((ld_slab _ _ ⟨640 + l.val, by omega⟩ l n rfl).trans (blk4 m c t _ n))
          · exact fun n l => (in768 _ n l).trans ((ld_slab _ _ ⟨768 + l.val, by omega⟩ l n rfl).trans (blk4 m c t _ n))
          · exact fun n l => (in896 _ n l).trans ((ld_slab _ _ ⟨896 + l.val, by omega⟩ l n rfl).trans (blk4 m c t _ n))
      · exact convA m c t _ _ _ _ _ _ _ _ _ _ _

end Cert.SsdSIdeal.Hand

end
-- ==== Proof.SsdSKer.lean ====
/- The sample group's state-space recurrence: what the kernel's payloads compute, at an index. -/
module

public import proofs.«01_k».proof.Defs
public import proofs.«01_k».proof.Proof.SsdSOut
public import proofs.«01_k».proof.Proof.Gen.SsdSIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSIdeal.Hand

open Cert.SsdSIdeal Cert.SsdSIdeal.Gen Cert.Spec

variable (m : (ℓ : Loc nD τ sig) → Buf (Elt Ideal) ℓ) (c : Dev nD)

/-- The last rows the kernel hands on. -/
theorem final13' : (dats m 0 c).arrAt 13 (cfgs 0).N = tailAll4 (m ((c : Thread nD τ).loc main_arg0)) := by
  refine (dats m 0 c).arrAt_eq_of_covers 13 _ (by decide +kernel) fun t _ y => ?_
  blk_simp
  rw [after0_13]
  have ht : t.val < 32 := t.isLt
  have e : ∀ X : S32x3x1536.Idx → EReal, X (((cfg0.win 13).blk t).view.emb y)
      = X (ix3 (n0 := 32) (n1 := 3) (n2 := 1536) (sq t) (y 1) (y 2)) := by
    intro X
    unfold sq
    blk_ext [idx t]
  refine Eq.trans ?_ (e _).symm
  exact (congrArg _ ((eq_ix3 y).trans (congrArg (fun a => ix3 a (y 1) (y 2)) (Subsingleton.elim (α := Fin 1) (y 0) 0)))).trans (tail_out m c t (y 1) (y 2))

/-- The state the kernel hands on. -/
theorem final14' : (dats m 0 c).arrAt 14 (cfgs 0).N = stateAll4 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]
  have ht : t.val < 32 := t.isLt
  have e : ∀ X : S32x1024x128.Idx → EReal, X (((cfg0.win 14).blk t).view.emb y)
      = X (ix3 (n0 := 32) (n1 := 1024) (n2 := 128) (sq t) (y 1) (y 2)) := by
    intro X
    unfold sq
    blk_ext [idx t]
  refine Eq.trans ?_ (e _).symm
  exact (congrArg _ ((eq_ix3 y).trans (congrArg (fun a => ix3 a (y 1) (y 2)) (Subsingleton.elim (α := Fin 1) (y 0) 0)))).trans (state_out m c t (y 1) (y 2))

end Cert.SsdSIdeal.Hand

end
-- ==== Proof.SsdSRef.lean ====
/- The sample group's state-space recurrence: what the reference's values are, at an index. -/
module

public import proofs.«01_k».proof.Defs
public import proofs.«01_k».proof.Proof.SsdSSpec
public import proofs.«01_k».proof.Proof.Gen.SsdSRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSRefIdeal.Hand

open Cert.SsdSRefIdeal Cert.SsdSRefIdeal.Gen Cert.SsdSRefIdeal.Read Cert.Spec

variable (x0 : FVec Ideal S128x1536 .f32) (x2 : FVec Ideal S128x128 .f32) (x3 : FVec Ideal S32x3x1536 .f32) (x4 : FVec Ideal S32x16x64x128 .f32)
  (x5 : FVec Ideal S4x1536 .f32) (x6 : FVec Ideal S1536 .f32) (x7 x8 : FVec Ideal S16 .f32)

/-- The rows after the three before them. -/
theorem v4_at (b : Fin 32) (r : Fin 7) (q : Fin 1536) :
    val_main_v4 (F := Ideal) x0 x3 (ix3 b r q) = (segOf x0 x2 x3 x4 x5 x6 x7 x8 b).tap r.val q := by
  refine Eq.trans (b := if h : r.val < 3 then x3 (ix3 b ⟨r.val, h⟩ q) else x0 (ix2 (n0 := 128) ⟨b.val * 4 + (r.val - 3), by omega⟩ q)) ?_ ?_
  · pointwise [val_main_v4, val_main_v1]
  · unfold Seg.tap
    by_cases h : r.val < 3
    · rw [dif_pos h, dif_pos h]
      rfl
    · rw [dif_neg h, dif_neg h, dif_pos (show r.val - 3 < 4 by omega)]
      rfl

/-- The last rows. -/
theorem v36_at (b : Fin 32) (i : Fin 3) (q : Fin 1536) :
    val_main_v36 (F := Ideal) x0 x3 (ix3 b i q) = x0 (ix2 (flat4 b ⟨1 + i.val, by omega⟩) q) := by
  refine Eq.trans (b := val_main_v4 (F := Ideal) x0 x3 (ix3 b ⟨4 + i.val, by omega⟩ q)) ?_ ?_
  · pointwise [val_main_v36]
  · refine Eq.trans (b := if h : 4 + i.val < 3 then x3 (ix3 b ⟨4 + i.val, h⟩ q) else x0 (ix2 (n0 := 128) ⟨b.val * 4 + (4 + i.val - 3), by omega⟩ q)) ?_ ?_
    · pointwise [val_main_v4, val_main_v1]
    · rw [dif_neg (by omega)]
      refine congrArg x0 (congrArg (fun n => ix2 n q) (Fin.ext ?_))
      show b.val * 4 + (4 + i.val - 3) = b.val * 4 + (1 + i.val)
      omega

/-- The convolution. -/
theorem v34_at (b : Fin 32) (s : Fin 4) (q : Fin 1536) :
    val_main_v34 (F := Ideal) x0 x3 x5 x6 (ix3 b s q) = (segOf x0 x2 x3 x4 x5 x6 x7 x8 b).conv s.val q := by
  refine Eq.trans (b := x6 (ix1 q) + val_main_v4 (F := Ideal) x0 x3 (ix3 b ⟨s.val, by omega⟩ q) * x5 (ix2 0 q)
      + val_main_v4 (F := Ideal) x0 x3 (ix3 b ⟨1 + s.val, by omega⟩ q) * x5 (ix2 1 q)
      + val_main_v4 (F := Ideal) x0 x3 (ix3 b ⟨2 + s.val, by omega⟩ q) * x5 (ix2 2 q)
      + val_main_v4 (F := Ideal) x0 x3 (ix3 b ⟨3 + s.val, by omega⟩ q) * x5 (ix2 3 q)) ?_ ?_
  · pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  · simp only [v4_at x0 x2 x3 x4 x5 x6 x7 x8]
    rw [Nat.add_comm 1, Nat.add_comm 2, Nat.add_comm 3]
    rfl

/-- The nonlinearity as the reference writes it. -/
theorem silu_neg (x : EReal) : x * Ideal.div 1 (1 + Ideal.exp (-x)) = silu x := by
  unfold silu
  rw [zero_sub]

/-- The convolution after its nonlinearity. -/
theorem v35_at (b : Fin 32) (s : Fin 4) (q : Fin 1536) :
    val_main_v35 (F := Ideal) x0 x3 x5 x6 (ix3 b s q) = (segOf x0 x2 x3 x4 x5 x6 x7 x8 b).xc s.val q := by
  refine Eq.trans (b := val_main_v34 (F := Ideal) x0 x3 x5 x6 (ix3 b s q)
      * Ideal.div 1 (1 + Ideal.exp (-(val_main_v34 (F := Ideal) x0 x3 x5 x6 (ix3 b s q))))) ?_ ?_
  · pointwise [val_main_v35, val_main_call0_v5, val_main_call0_v4, val_main_call0_v3, val_main_call0_v2, val_main_call0_v1, val_main_call0_v0,
      val_main_call0_cst, val_main_call0_cst_0]
  · rw [silu_neg, v34_at x0 x2 x3 x4 x5 x6 x7 x8]
    rfl

/-- The raw step size with its bias. -/
theorem v49_at (b : Fin 32) (s : Fin 4) (h : Fin 16) :
    val_main_v49 (F := Ideal) x2 x7 (ix3 b s h) = (segOf x0 x2 x3 x4 x5 x6 x7 x8 b).dt s h + (segOf x0 x2 x3 x4 x5 x6 x7 x8 b).dtb h := by
  refine Eq.trans (b := x2 (ix2 (n0 := 128) (n1 := 128) ⟨b.val * 4 + s.val, by omega⟩ ⟨h.val, by omega⟩) + x7 (ix1 h)) ?_ rfl
  pointwise [val_main_v49, val_main_v48, val_main_v47, val_main_v3, val_main_v2]

/-- The step size. -/
theorem v50_at (b : Fin 32) (s : Fin 4) (h : Fin 16) :
    val_main_v50 (F := Ideal) x2 x7 (ix3 b s h) = (segOf x0 x2 x3 x4 x5 x6 x7 x8 b).step s h := by
  unfold Seg.step
  rw [← v49_at x0 x2 x3 x4 x5 x6 x7 x8 b s h]
  pointwise [val_main_v50, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst, softp]
  rw [if_neg (fun h => h rfl), zero_sub]
  rfl

/-- The log-decay. -/
theorem v59_at (b : Fin 32) (j : Fin 4) (h : Fin 16) :
    val_main_v59 (F := Ideal) x2 x7 x8 (ix4 b 0 j h) = (segOf x0 x2 x3 x4 x5 x6 x7 x8 b).logd j h := by
  refine Eq.trans (b := val_main_v50 (F := Ideal) x2 x7 (ix3 b j h) * -(Ideal.exp (x8 (ix1 h)))) ?_ ?_
  · pointwise [val_main_v59, val_main_v58, val_main_v57, val_main_v52, val_main_v51, val_main_v54]
  · rw [v50_at x0 x2 x3 x4 x5 x6 x7 x8, ← zero_sub]
    rfl

/-- A head's inputs. -/
theorem v53_at (b : Fin 32) (j : Fin 4) (h : Fin 16) (p : Fin 64) :
    val_main_v53 (F := Ideal) x0 x3 x5 x6 (ix5 b 0 j h p) = val_main_v35 (F := Ideal) x0 x3 x5 x6 (ix3 b j ⟨h.val * 64 + p.val, by omega⟩) := by
  pointwise [val_main_v53, val_main_v38, val_main_v37]

/-- A head's step sizes. -/
theorem v54_at (b : Fin 32) (j : Fin 4) (h : Fin 16) :
    val_main_v54 (F := Ideal) x2 x7 (ix4 b 0 j h) = val_main_v50 (F := Ideal) x2 x7 (ix3 b j h) := by
  pointwise [val_main_v54]

/-- A head's input directions. -/
theorem v55_at (b : Fin 32) (j : Fin 4) (h : Fin 16) (n : Fin 128) :
    val_main_v55 (F := Ideal) x0 x3 x5 x6 (ix5 b 0 j h n) = val_main_v35 (F := Ideal) x0 x3 x5 x6 (ix3 b j ⟨1024 + (h.val / 8 * 128 + n.val), by omega⟩) := by
  pointwise [val_main_v55, val_main_v42, val_main_v41, val_main_v40, val_main_v39]

end Cert.SsdSRefIdeal.Hand

end
-- ==== Proof.SsdSCum.lean ====
/- The sample group's state-space recurrence: the reference's running sums and its state. -/
module

public import proofs.«01_k».proof.Defs
public import proofs.«01_k».proof.Proof.SsdSRef
public import proofs.«01_k».proof.Proof.Gen.SsdSRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSRefIdeal.Hand

open Cert.SsdSRefIdeal Cert.SsdSRefIdeal.Gen Cert.SsdSRefIdeal.Read Cert.Spec

/-- Adding up along a list. -/
theorem foldl_add {N : Nat} (f : Fin N → EReal) (l : List (Fin N)) (v : EReal) :
    l.foldl (fun r n => r + f n) v = v + (l.map f).sum := by
  induction l generalizing v with
  | nil => simp
  | cons a l ih => rw [List.foldl_cons, ih, List.map_cons, List.sum_cons, add_assoc]

/-- The places of the window are the four places. -/
def winEquiv : (⟨4, ![1, 1, 4, 1]⟩ : Shape).Idx ≃ Fin 4 where
  toFun w := w 2
  invFun k := ix4 0 0 k 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv k := rfl

/-- What the window adds at a place of its own: the entry there, or nothing where the place lies outside. -/
theorem window_term (x : FVec Ideal S32x1x4x16 .f32) (b : Fin 32) (c : Fin 1) (i : Fin 4) (q : Fin 16)
    (w : (⟨4, ![1, 1, 4, 1]⟩ : Shape).Idx)
    (inst : Decidable (∀ a : Fin 4, (![0, 0, 3, 0] : Fin 4 → Nat) a ≤ (ix4 b c i q a).val * (![1, 1, 1, 1] : Fin 4 → Nat) a + (w a).val
        ∧ (ix4 b c i q a).val * (![1, 1, 1, 1] : Fin 4 → Nat) a + (w a).val - (![0, 0, 3, 0] : Fin 4 → Nat) a < S32x1x4x16.size a)) :
    @dite EReal _ inst (fun hin => x (fun a => ⟨(ix4 b c i q a).val * (![1, 1, 1, 1] : Fin 4 → Nat) a + (w a).val - (![0, 0, 3, 0] : Fin 4 → Nat) a, (hin a).2⟩)) (fun _ => 0)
      = Scalar.select (if (winEquiv w + (i + 1)).val ≤ i.val then 1#1 else 0#1 : BitVec 1) 1 0 * x (ix4 b c (winEquiv w + (i + 1)) q) := by
  have h0 : (w 0).val = 0 := by have h : (w 0).val < 1 := (w 0).isLt; omega
  have h1 : (w 1).val = 0 := by have h : (w 1).val < 1 := (w 1).isLt; omega
  have h3 : (w 3).val = 0 := by have h : (w 3).val < 1 := (w 3).isLt; omega
  have h2 : (w 2).val < 4 := (w 2).isLt
  have hj : (winEquiv w + (i + 1)).val = ((w 2).val + (i.val + 1) % 4) % 4 := by
    rw [Fin.val_add, Fin.val_add]; rfl
  have hi := i.isLt
  split
  · next hin =>
    obtain ⟨g1, g2⟩ := hin 2
    change 3 ≤ i.val * 1 + (w 2).val at g1
    have hc : (if (winEquiv w + (i + 1)).val ≤ i.val then 1#1 else 0#1 : BitVec 1) = 1#1 := if_pos (by omega)
    rw [hc, select_one, one_mul]
    refine congrArg x (funext fun a => Fin.ext ?_)
    match a with
    | ⟨0, _⟩ => show b.val * 1 + (w 0).val - 0 = b.val; omega
    | ⟨1, _⟩ => show c.val * 1 + (w 1).val - 0 = c.val; omega
    | ⟨2, _⟩ => show i.val * 1 + (w 2).val - 3 = (winEquiv w + (i + 1)).val; omega
    | ⟨3, _⟩ => show q.val * 1 + (w 3).val - 0 = q.val; omega
  · next hin =>
    have hc : (if (winEquiv w + (i + 1)).val ≤ i.val then 1#1 else 0#1 : BitVec 1) = 0#1 := if_neg fun hle => hin fun a => by
      match a with
      | ⟨0, _⟩ => show 0 ≤ b.val * 1 + (w 0).val ∧ b.val * 1 + (w 0).val - 0 < 32; omega
      | ⟨1, _⟩ => show 0 ≤ c.val * 1 + (w 1).val ∧ c.val * 1 + (w 1).val - 0 < 1; omega
      | ⟨2, _⟩ => show 3 ≤ i.val * 1 + (w 2).val ∧ i.val * 1 + (w 2).val - 3 < 4; omega
      | ⟨3, _⟩ => show 0 ≤ q.val * 1 + (w 3).val ∧ q.val * 1 + (w 3).val - 0 < 16; omega
    rw [hc, select_zero, zero_mul]

/-- A window's sum from zero of the entries up to its place is the running sum. -/
theorem window_sum (x : FVec Ideal S32x1x4x16 .f32) (v : FVec Ideal S_ .f32) (hv : ∀ y, v y = 0) (h) (hu) (b : Fin 32) (c : Fin 1) (i : Fin 4) (q : Fin 16) :
    Host.reduceWindowAdd (F := Ideal) (t := S32x1x4x16) ![1, 1, 4, 1] ![1, 1, 1, 1] ![0, 0, 3, 0] ![0, 0, 0, 0] x v h hu (ix4 b c i q)
      = ∑ j : Fin 4, Scalar.select (if j.val ≤ i.val then 1#1 else 0#1 : BitVec 1) 1 0 * x (ix4 b c j q) := by
  show Host.reduceWindow (· + ·) ![1, 1, 4, 1] ![1, 1, 1, 1] ![0, 0, 3, 0] ![0, 0, 0, 0] x v h hu (ix4 b c i q) = _
  unfold Host.reduceWindow
  refine (foldl_add _ _ _).trans ?_
  rw [hv, zero_add, ← Fin.sum_univ_def]
  refine Eq.trans (b := ∑ w : (⟨4, ![1, 1, 4, 1]⟩ : Shape).Idx,
    (fun k : Fin 4 => Scalar.select (if (k + (i + 1)).val ≤ i.val then 1#1 else 0#1 : BitVec 1) 1 0 * x (ix4 b c (k + (i + 1)) q)) (winEquiv w)) ?_ ?_
  · rw [← Equiv.sum_comp ((⟨4, ![1, 1, 4, 1]⟩ : Shape).rowMajor.symm)]
    refine Finset.sum_congr rfl fun n _ => ?_
    exact @window_term x b c i q _ _
  · refine (Equiv.sum_comp winEquiv fun k : Fin 4 => Scalar.select (if (k + (i + 1)).val ≤ i.val then 1#1 else 0#1 : BitVec 1) 1 0 * x (ix4 b c (k + (i + 1)) q)).trans ?_
    exact Equiv.sum_comp (Equiv.addRight (i + 1)) fun j => Scalar.select (if j.val ≤ i.val then 1#1 else 0#1 : BitVec 1) 1 0 * x (ix4 b c j q)

variable (x0 : FVec Ideal S128x1536 .f32) (x2 : FVec Ideal S128x128 .f32) (x3 : FVec Ideal S32x3x1536 .f32) (x4 : FVec Ideal S32x16x64x128 .f32)
  (x5 : FVec Ideal S4x1536 .f32) (x6 : FVec Ideal S1536 .f32) (x7 x8 : FVec Ideal S16 .f32)

/-- The running sums of the log-decays. -/
theorem v60_at (b : Fin 32) (j : Fin 4) (h : Fin 16) :
    val_main_v60 (F := Ideal) x2 x7 x8 (ix4 b 0 j h) = (segOf x0 x2 x3 x4 x5 x6 x7 x8 b).A h j := by
  unfold val_main_v60
  refine (window_sum _ _ (fun y => ?_) _ _ b 0 j h).trans ?_
  · rw [show y = ix0 from funext fun a => a.elim0]
    pointwise [val_main_call2_call0_v0, val_main_call2_call0_cst]
  · exact Finset.sum_congr rfl fun k _ => congrArg (_ * ·) (v59_at x0 x2 x3 x4 x5 x6 x7 x8 b k h)

/-- The lane of a head's place. -/
def ln (h : Fin 16) (p : Fin 64) : Fin 1024 := ⟨h.val * 64 + p.val, by omega⟩

theorem hd_ln (h : Fin 16) (p : Fin 64) : Seq.hd (ln h p) = h := Fin.ext (by show (h.val * 64 + p.val) / 64 = h.val; omega)

/-- What the four places add to the state. -/
theorem v88_at (b : Fin 32) (h : Fin 16) (p : Fin 64) (n : Fin 128) :
    val_main_v88 (F := Ideal) x0 x2 x3 x5 x6 x7 x8 (ix5 b 0 h p n)
      = ∑ j : Fin 4, val_main_v55 (F := Ideal) x0 x3 x5 x6 (ix5 b 0 j h n) * (val_main_v53 (F := Ideal) x0 x3 x5 x6 (ix5 b 0 j h p)
        * (Ideal.exp (val_main_v60 (F := Ideal) x2 x7 x8 (ix4 b 0 3 h) - val_main_v60 (F := Ideal) x2 x7 x8 (ix4 b 0 j h)) * val_main_v54 (F := Ideal) x2 x7 (ix4 b 0 j h))) := by
  refine Eq.trans (b := ∑ j : Fin 4, val_main_v87 (F := Ideal) x0 x2 x3 x5 x6 x7 x8 (ix5 b 0 j h p) * val_main_v55 (F := Ideal) x0 x3 x5 x6 (ix5 b 0 j h n)) ?_ ?_
  · pointwise [val_main_v88]
  · refine Finset.sum_congr rfl fun j _ => (mul_comm _ _).trans (congrArg₂ (· * ·) rfl (Eq.trans ?_ (mul_comm _ _)))
    pointwise [val_main_v87, val_main_v86, val_main_v85, val_main_v84, val_main_v83, val_main_v82, val_main_v81, val_main_v80]

/-- The four places' decay as a whole. -/
theorem v91_at (b : Fin 32) (h : Fin 16) :
    val_main_v91 (F := Ideal) x2 x7 x8 (ix3 b 0 h) = Ideal.exp (val_main_v60 (F := Ideal) x2 x7 x8 (ix4 b 0 3 h)) := by
  pointwise [val_main_v91, val_main_v90, val_main_v89]

/-- The state after the four places, from what they add. -/
theorem v97_at (b : Fin 32) (h : Fin 16) (p : Fin 64) (n : Fin 128) :
    val_main_v97 (F := Ideal) x0 x2 x3 x4 x5 x6 x7 x8 (ix4 b h p n)
      = val_main_v91 (F := Ideal) x2 x7 x8 (ix3 b 0 h) * x4 (ix4 b h p n) + val_main_v88 (F := Ideal) x0 x2 x3 x5 x6 x7 x8 (ix5 b 0 h p n) := by
  pointwise [val_main_v97, val_main_v96, val_main_v95, val_main_v94, val_main_v93, val_main_v92]

/-- The state after the four places is the recurrence's. -/
theorem state_at (b : Fin 32) (h : Fin 16) (p : Fin 64) (n : Fin 128) :
    val_main_v97 (F := Ideal) x0 x2 x3 x4 x5 x6 x7 x8 (ix4 b h p n) = (segOf x0 x2 x3 x4 x5 x6 x7 x8 b).state (ln h p) n := by
  rw [v97_at, v91_at, v88_at, mul_comm]
  unfold Seg.state
  rw [hd_ln]
  refine congrArg₂ (· + ·) (congrArg₂ (· * ·) ?_ (congrArg Ideal.exp (v60_at x0 x2 x3 x4 x5 x6 x7 x8 b 3 h))) (Finset.sum_congr rfl fun j _ => ?_)
  · show _ = x4 (ix4 b (Seq.hd (ln h p)) ⟨(h.val * 64 + p.val) % 64, Nat.mod_lt _ (by decide)⟩ n)
    rw [hd_ln]
    exact congrArg x4 (congrArg (fun k => ix4 b h k n) (Fin.ext (by show p.val = (h.val * 64 + p.val) % 64; omega)))
  · rw [v55_at, v53_at, v54_at, v35_at x0 x2 x3 x4 x5 x6 x7 x8, v35_at x0 x2 x3 x4 x5 x6 x7 x8, v50_at x0 x2 x3 x4 x5 x6 x7 x8, v60_at x0 x2 x3 x4 x5 x6 x7 x8, v60_at x0 x2 x3 x4 x5 x6 x7 x8]
    refine congrArg₂ (· * ·) (congrArg ((segOf x0 x2 x3 x4 x5 x6 x7 x8 b).xc j.val) (Fin.ext ?_)) rfl
    show 1024 + (h.val / 8 * 128 + n.val) = 1024 + 128 * ((h.val * 64 + p.val) / 512) + n.val
    omega

/-- The reference's last rows. -/
theorem ref_tail : val_main_v36 (F := Ideal) x0 x3 = tailAll4 x0 := by
  funext y
  exact (congrArg _ (eq_ix3 y)).trans (v36_at x0 x3 (y 0) (y 1) (y 2))

/-- The reference's state, its heads and their places side by side. -/
theorem v129_at (b : Fin 32) (q : Fin 1024) (n : Fin 128) :
    val_main_v129 (F := Ideal) x0 x2 x3 x4 x5 x6 x7 x8 (ix3 b q n)
      = val_main_v97 (F := Ideal) x0 x2 x3 x4 x5 x6 x7 x8 (ix4 b (Seq.hd q) ⟨q.val % 64, Nat.mod_lt _ (by decide)⟩ n) := by
  unfold Seq.hd
  pointwise [val_main_v129]

/-- The reference's state. -/
theorem ref_state : val_main_v129 (F := Ideal) x0 x2 x3 x4 x5 x6 x7 x8 = stateAll4 x0 x2 x3 x4 x5 x6 x7 x8 := by
  funext y
  refine (congrArg _ (eq_ix3 y)).trans ((v129_at x0 x2 x3 x4 x5 x6 x7 x8 (y 0) (y 1) (y 2)).trans ((state_at x0 x2 x3 x4 x5 x6 x7 x8 (y 0) _ _ (y 2)).trans ?_))
  refine congrArg (fun q => (segOf x0 x2 x3 x4 x5 x6 x7 x8 (y 0)).state q (y 2)) (Fin.ext ?_)
  show (y 1).val / 64 * 64 + (y 1).val % 64 = (y 1).val
  omega

end Cert.SsdSRefIdeal.Hand

end
-- ==== Proof.SsdSVal.lean ====
/- The sample group's state-space recurrence: over the extended reals the kernel's two results are the reference's. -/
module

public import proofs.«01_k».proof.Defs
public import proofs.«01_k».proof.Proof.SsdSKer
public import proofs.«01_k».proof.Proof.SsdSCum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

/-- The sample group's recurrence: kernel and reference end with the same last rows and the same states. -/
theorem algebraic_SsdS : Cert.algebraic_SsdSIdeal_SsdSRefIdeal := by
  pair_intro
  · run_from Cert.SsdSIdeal.Value.run_blocks m g
  · run_from Cert.SsdSRefIdeal.Value.run m' g'
    · obtain ⟨h0, h1, h2, h3, h4, h5, h6, h7, h8, h9, h10⟩ := hagree c
      refine (Cert.SsdSRefIdeal.Read.val_main_v36_eq (F := Ideal) (StableHlo.launchContents m' c)).trans ?_
      show Cert.SsdSRefIdeal.Read.val_main_v36 (F := Ideal) (m' (c.tc.loc Cert.SsdSRefIdeal.main_arg0)) (m' (c.tc.loc Cert.SsdSRefIdeal.main_arg3)) = _
      rw [h0]
      exact (Cert.SsdSRefIdeal.Hand.ref_tail _ _).trans (Cert.SsdSIdeal.Hand.final13' m c).symm
    · obtain ⟨h0, h1, h2, h3, h4, h5, h6, h7, h8, h9, h10⟩ := hagree c
      rw [← h4]
      refine (Cert.SsdSRefIdeal.Read.val_main_v129_eq (F := Ideal) (StableHlo.launchContents m' c)).trans ?_
      show Cert.SsdSRefIdeal.Read.val_main_v129 (F := Ideal) (m' (c.tc.loc Cert.SsdSRefIdeal.main_arg0)) (m' (c.tc.loc Cert.SsdSRefIdeal.main_arg2)) (m' (c.tc.loc Cert.SsdSRefIdeal.main_arg3)) (m' (c.tc.loc Cert.SsdSRefIdeal.main_arg4)) (m' (c.tc.loc Cert.SsdSRefIdeal.main_arg5)) (m' (c.tc.loc Cert.SsdSRefIdeal.main_arg6)) (m' (c.tc.loc Cert.SsdSRefIdeal.main_arg7)) (m' (c.tc.loc Cert.SsdSRefIdeal.main_arg8)) = _
      rw [h0, h2, h3, h4, h5, h6, h7, h8]
      exact (Cert.SsdSRefIdeal.Hand.ref_state _ _ _ _ _ _ _ _).trans (Cert.SsdSIdeal.Hand.final14' m c).symm

end Cert.Proof

end
-- ==== Proof.lean ====
/- The claim: for each call, the kernel as printed, its idealized form and the idealized reference run to the end with
   every semaphore counter at zero; the idealized form has no rewrites; and the kernel's results are the reference's. -/
module

public import proofs.«01_k».proof.Defs
public import proofs.«01_k».proof.Proof.ProjVal
public import proofs.«01_k».proof.Proof.Gen.Proj.Frame
public import proofs.«01_k».proof.Proof.Gen.ProjIdeal.Frame
public import proofs.«01_k».proof.Proof.Gen.ProjRefIdeal.Run
public import proofs.«01_k».proof.Proof.MemKvVal
public import proofs.«01_k».proof.Proof.Gen.MemKv.Frame
public import proofs.«01_k».proof.Proof.Gen.MemKvIdeal.Frame
public import proofs.«01_k».proof.Proof.Gen.MemKvRefIdeal.Run
public import proofs.«01_k».proof.Proof.MlpFVal
public import proofs.«01_k».proof.Proof.Gen.MlpF.Frame
public import proofs.«01_k».proof.Proof.Gen.MlpFIdeal.Frame
public import proofs.«01_k».proof.Proof.Gen.MlpFRefIdeal.Run
public import proofs.«01_k».proof.Proof.MixVal
public import proofs.«01_k».proof.Proof.Gen.Mix.Frame
public import proofs.«01_k».proof.Proof.Gen.MixIdeal.Frame
public import proofs.«01_k».proof.Proof.Gen.MixRefIdeal.Run
public import proofs.«01_k».proof.Proof.SsdVal
public import proofs.«01_k».proof.Proof.Gen.Ssd.Frame
public import proofs.«01_k».proof.Proof.Gen.SsdIdeal.Frame
public import proofs.«01_k».proof.Proof.Gen.SsdRefIdeal.Run
public import proofs.«01_k».proof.Proof.ProjSVal
public import proofs.«01_k».proof.Proof.Gen.ProjS.Frame
public import proofs.«01_k».proof.Proof.Gen.ProjSIdeal.Frame
public import proofs.«01_k».proof.Proof.Gen.ProjSRefIdeal.Run
public import proofs.«01_k».proof.Proof.MlpSVal
public import proofs.«01_k».proof.Proof.Gen.MlpS.Frame
public import proofs.«01_k».proof.Proof.Gen.MlpSIdeal.Frame
public import proofs.«01_k».proof.Proof.Gen.MlpSRefIdeal.Run
public import proofs.«01_k».proof.Proof.SsdSVal
public import proofs.«01_k».proof.Proof.Gen.SsdS.Frame
public import proofs.«01_k».proof.Proof.Gen.SsdSIdeal.Frame
public import proofs.«01_k».proof.Proof.Gen.SsdSRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The call `Proj` runs to the end and leaves its arguments and its semaphores as they were. -/
theorem frame_Proj : Cert.quiescent_Proj := fun m ρ _ => Cert.Proj.Gen.frame m ρ

/-- The call `ProjIdeal` runs to the end and leaves its arguments and its semaphores as they were. -/
theorem frame_ProjIdeal : Cert.quiescent_ProjIdeal := fun m ρ _ => Cert.ProjIdeal.Gen.frame m ρ

/-- The reference of `Proj` runs to the end and leaves its arguments and its semaphores as they were. -/
theorem frame_ProjRefIdeal : Cert.quiescent_ProjRefIdeal := fun m ρ _ =>
  Idealize.ShloMosaic.θ_run_mono (Cert.ProjRefIdeal.Value.run m ρ) fun r h =>
    ⟨fun c => by have hc := h c; simp [hc], sem_eq_zero_of_no_sems (by decide) r.2⟩

/-- The call `MemKv` runs to the end and leaves its arguments and its semaphores as they were. -/
theorem frame_MemKv : Cert.quiescent_MemKv := fun m ρ _ => Cert.MemKv.Gen.frame m ρ

/-- The call `MemKvIdeal` runs to the end and leaves its arguments and its semaphores as they were. -/
theorem frame_MemKvIdeal : Cert.quiescent_MemKvIdeal := fun m ρ _ => Cert.MemKvIdeal.Gen.frame m ρ

/-- The reference of `MemKv` runs to the end and leaves its arguments and its semaphores as they were. -/
theorem frame_MemKvRefIdeal : Cert.quiescent_MemKvRefIdeal := fun m ρ _ =>
  Idealize.ShloMosaic.θ_run_mono (Cert.MemKvRefIdeal.Value.run m ρ) fun r h =>
    ⟨fun c => by have hc := h c; simp [hc], sem_eq_zero_of_no_sems (by decide) r.2⟩

/-- The call `MlpF` runs to the end and leaves its arguments and its semaphores as they were. -/
theorem frame_MlpF : Cert.quiescent_MlpF := fun m ρ _ => Cert.MlpF.Gen.frame m ρ

/-- The call `MlpFIdeal` runs to the end and leaves its arguments and its semaphores as they were. -/
theorem frame_MlpFIdeal : Cert.quiescent_MlpFIdeal := fun m ρ _ => Cert.MlpFIdeal.Gen.frame m ρ

/-- The reference of `MlpF` runs to the end and leaves its arguments and its semaphores as they were. -/
theorem frame_MlpFRefIdeal : Cert.quiescent_MlpFRefIdeal := fun m ρ _ =>
  Idealize.ShloMosaic.θ_run_mono (Cert.MlpFRefIdeal.Value.run m ρ) fun r h =>
    ⟨fun c => by have hc := h c; simp [hc], sem_eq_zero_of_no_sems (by decide) r.2⟩

/-- The call `Mix` runs to the end and leaves its arguments and its semaphores as they were. -/
theorem frame_Mix : Cert.quiescent_Mix := fun m ρ _ => Cert.Mix.Gen.frame m ρ

/-- The call `MixIdeal` runs to the end and leaves its arguments and its semaphores as they were. -/
theorem frame_MixIdeal : Cert.quiescent_MixIdeal := fun m ρ _ => Cert.MixIdeal.Gen.frame m ρ

/-- The reference of `Mix` runs to the end and leaves its arguments and its semaphores as they were. -/
theorem frame_MixRefIdeal : Cert.quiescent_MixRefIdeal := fun m ρ _ =>
  Idealize.ShloMosaic.θ_run_mono (Cert.MixRefIdeal.Value.run m ρ) fun r h =>
    ⟨fun c => by have hc := h c; simp [hc], sem_eq_zero_of_no_sems (by decide) r.2⟩

/-- The call `Ssd` runs to the end and leaves its arguments and its semaphores as they were. -/
theorem frame_Ssd : Cert.quiescent_Ssd := fun m ρ _ => Cert.Ssd.Gen.frame m ρ

/-- The call `SsdIdeal` runs to the end and leaves its arguments and its semaphores as they were. -/
theorem frame_SsdIdeal : Cert.quiescent_SsdIdeal := fun m ρ _ => Cert.SsdIdeal.Gen.frame m ρ

/-- The reference of `Ssd` runs to the end and leaves its arguments and its semaphores as they were. -/
theorem frame_SsdRefIdeal : Cert.quiescent_SsdRefIdeal := fun m ρ _ =>
  Idealize.ShloMosaic.θ_run_mono (Cert.SsdRefIdeal.Value.run m ρ) fun r h =>
    ⟨fun c => by have hc := h c; simp [hc], sem_eq_zero_of_no_sems (by decide) r.2⟩

/-- The call `ProjS` runs to the end and leaves its arguments and its semaphores as they were. -/
theorem frame_ProjS : Cert.quiescent_ProjS := fun m ρ _ => Cert.ProjS.Gen.frame m ρ

/-- The call `ProjSIdeal` runs to the end and leaves its arguments and its semaphores as they were. -/
theorem frame_ProjSIdeal : Cert.quiescent_ProjSIdeal := fun m ρ _ => Cert.ProjSIdeal.Gen.frame m ρ

/-- The reference of `ProjS` runs to the end and leaves its arguments and its semaphores as they were. -/
theorem frame_ProjSRefIdeal : Cert.quiescent_ProjSRefIdeal := fun m ρ _ =>
  Idealize.ShloMosaic.θ_run_mono (Cert.ProjSRefIdeal.Value.run m ρ) fun r h =>
    ⟨fun c => by have hc := h c; simp [hc], sem_eq_zero_of_no_sems (by decide) r.2⟩

/-- The call `MlpS` runs to the end and leaves its arguments and its semaphores as they were. -/
theorem frame_MlpS : Cert.quiescent_MlpS := fun m ρ _ => Cert.MlpS.Gen.frame m ρ

/-- The call `MlpSIdeal` runs to the end and leaves its arguments and its semaphores as they were. -/
theorem frame_MlpSIdeal : Cert.quiescent_MlpSIdeal := fun m ρ _ => Cert.MlpSIdeal.Gen.frame m ρ

/-- The reference of `MlpS` runs to the end and leaves its arguments and its semaphores as they were. -/
theorem frame_MlpSRefIdeal : Cert.quiescent_MlpSRefIdeal := fun m ρ _ =>
  Idealize.ShloMosaic.θ_run_mono (Cert.MlpSRefIdeal.Value.run m ρ) fun r h =>
    ⟨fun c => by have hc := h c; simp [hc], sem_eq_zero_of_no_sems (by decide) r.2⟩

/-- The call `SsdS` runs to the end and leaves its arguments and its semaphores as they were. -/
theorem frame_SsdS : Cert.quiescent_SsdS := fun m ρ _ => Cert.SsdS.Gen.frame m ρ

/-- The call `SsdSIdeal` runs to the end and leaves its arguments and its semaphores as they were. -/
theorem frame_SsdSIdeal : Cert.quiescent_SsdSIdeal := fun m ρ _ => Cert.SsdSIdeal.Gen.frame m ρ

/-- The reference of `SsdS` runs to the end and leaves its arguments and its semaphores as they were. -/
theorem frame_SsdSRefIdeal : Cert.quiescent_SsdSRefIdeal := fun m ρ _ =>
  Idealize.ShloMosaic.θ_run_mono (Cert.SsdSRefIdeal.Value.run m ρ) fun r h =>
    ⟨fun c => by have hc := h c; simp [hc], sem_eq_zero_of_no_sems (by decide) r.2⟩

/-- Every claim of this proof, together. -/
theorem claim : Cert.Claim :=
  ⟨Cert.Proj.Gen.facts, Cert.ProjIdeal.Gen.facts, Cert.ProjRefIdeal.Gen.facts,
   Cert.MemKv.Gen.facts, Cert.MemKvIdeal.Gen.facts, Cert.MemKvRefIdeal.Gen.facts,
   Cert.MlpF.Gen.facts, Cert.MlpFIdeal.Gen.facts, Cert.MlpFRefIdeal.Gen.facts,
   Cert.Mix.Gen.facts, Cert.MixIdeal.Gen.facts, Cert.MixRefIdeal.Gen.facts,
   Cert.Ssd.Gen.facts, Cert.SsdIdeal.Gen.facts, Cert.SsdRefIdeal.Gen.facts,
   Cert.ProjS.Gen.facts, Cert.ProjSIdeal.Gen.facts, Cert.ProjSRefIdeal.Gen.facts,
   Cert.MlpS.Gen.facts, Cert.MlpSIdeal.Gen.facts, Cert.MlpSRefIdeal.Gen.facts,
   Cert.SsdS.Gen.facts, Cert.SsdSIdeal.Gen.facts, Cert.SsdSRefIdeal.Gen.facts,
   frame_Proj, frame_ProjIdeal, frame_ProjRefIdeal,
   frame_MemKv, frame_MemKvIdeal, frame_MemKvRefIdeal,
   frame_MlpF, frame_MlpFIdeal, frame_MlpFRefIdeal,
   frame_Mix, frame_MixIdeal, frame_MixRefIdeal,
   frame_Ssd, frame_SsdIdeal, frame_SsdRefIdeal,
   frame_ProjS, frame_ProjSIdeal, frame_ProjSRefIdeal,
   frame_MlpS, frame_MlpSIdeal, frame_MlpSRefIdeal,
   frame_SsdS, frame_SsdSIdeal, frame_SsdSRefIdeal,
   trivial, algebraic_Proj,
   trivial, algebraic_MemKv,
   trivial, algebraic_MlpF,
   trivial, algebraic_Mix,
   trivial, algebraic_Ssd,
   trivial, algebraic_ProjS,
   trivial, algebraic_MlpS,
   trivial, algebraic_SsdS⟩

end Cert.Proof

end
